-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)) (v3 : (c : Dev Cert.KernelIdeal.nD) → Buf (Elt Ideal) ((c.tc : Thread Cert.KernelIdeal.nD Cert.KernelIdeal.τ).loc Cert.KernelIdeal.main_v91_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_v91_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v99_0)) (v1 : (c : Dev Cert.Kernel9Ideal.nD) → Buf (Elt Ideal) ((c.tc : Thread Cert.Kernel9Ideal.nD Cert.Kernel9Ideal.τ).loc Cert.Kernel9Ideal.main_v99_1)) (v2 : (c : Dev Cert.Kernel9Ideal.nD) → Buf (Elt Ideal) ((c.tc : Thread Cert.Kernel9Ideal.nD Cert.Kernel9Ideal.τ).loc Cert.Kernel9Ideal.main_v99_2)) (v3 : (c : Dev Cert.Kernel9Ideal.nD) → Buf (Elt Ideal) ((c.tc : Thread Cert.Kernel9Ideal.nD Cert.Kernel9Ideal.τ).loc Cert.Kernel9Ideal.main_v99_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v99_0) = v0 c
          ∧ r.2.mem ((c.tc : Thread Cert.Kernel9Ideal.nD Cert.Kernel9Ideal.τ).loc Cert.Kernel9Ideal.main_v99_1) = v1 c
          ∧ r.2.mem ((c.tc : Thread Cert.Kernel9Ideal.nD Cert.Kernel9Ideal.τ).loc Cert.Kernel9Ideal.main_v99_2) = v2 c
          ∧ r.2.mem ((c.tc : Thread Cert.Kernel9Ideal.nD Cert.Kernel9Ideal.τ).loc Cert.Kernel9Ideal.main_v99_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v146) = v0 c
          ∧ r.2.mem ((c.tc : Thread Cert.Reference9Ideal.nD Cert.Reference9Ideal.τ).loc Cert.Reference9Ideal.main_v200) = v1 c
          ∧ r.2.mem ((c.tc : Thread Cert.Reference9Ideal.nD Cert.Reference9Ideal.τ).loc Cert.Reference9Ideal.main_v128) = v2 c
          ∧ r.2.mem ((c.tc : Thread Cert.Reference9Ideal.nD Cert.Reference9Ideal.τ).loc Cert.Reference9Ideal.main_v185) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v31_0)) (v1 : (c : Dev Cert.Kernel11Ideal.nD) → Buf (Elt Ideal) ((c.tc : Thread Cert.Kernel11Ideal.nD Cert.Kernel11Ideal.τ).loc Cert.Kernel11Ideal.main_v31_1)) (v2 : (c : Dev Cert.Kernel11Ideal.nD) → Buf (Elt Ideal) ((c.tc : Thread Cert.Kernel11Ideal.nD Cert.Kernel11Ideal.τ).loc Cert.Kernel11Ideal.main_v31_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v31_0) = v0 c
          ∧ r.2.mem ((c.tc : Thread Cert.Kernel11Ideal.nD Cert.Kernel11Ideal.τ).loc Cert.Kernel11Ideal.main_v31_1) = v1 c
          ∧ r.2.mem ((c.tc : Thread Cert.Kernel11Ideal.nD Cert.Kernel11Ideal.τ).loc Cert.Kernel11Ideal.main_v31_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v48) = v1 c
          ∧ r.2.mem ((c.tc : Thread Cert.Reference11Ideal.nD Cert.Reference11Ideal.τ).loc Cert.Reference11Ideal.main_v51) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite5 : Cert.Pre_finite5.Facts) (hPre_finite15 : Cert.Pre_finite15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite15.lean ====
abbrev S32x512 : Shape := ⟨2, ![32, 512]⟩
abbrev S32x256x4x128 : Shape := ⟨4, ![32, 256, 4, 128]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x256x4x128 : S_.BroadcastsInDim S32x256x4x128 (![] : Fin 0 → Fin S32x256x4x128.rank)
  reducesTo_S32x256x4x128_S_d0_1_2_3 : S32x256x4x128.ReducesTo [0, 1, 2, 3] S_

variable [Facts]

def fn {F : FTy → Type} [FloatOps F] (main_arg0 : FVec F S32x512 .f32) (main_arg1 : FVec F S32x256x4x128 .f32) (main_arg2 : FVec F S32x256x4x128 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x256x4x128 .f32 := Host.absf main_arg1
  let main_cst_0 : FVec F S_ .f32 := constant S_ .f32 0x7F800000#32
  let main_v5 : FVec F S32x256x4x128 .f32 := broadcastInDim S32x256x4x128 ![] bcast_S_S32x256x4x128 main_cst_0
  let main_v6 : IVec S32x256x4x128 1 := cmpf .olt main_v4 main_v5
  let main_c_1 : IVec S_ 1 := constantI S_ 1 1#1
  let main_v7 : IVec S_ 1 := (fun x v => Host.reduce IntOp.andi x v reducesTo_S32x256x4x128_S_d0_1_2_3 h_S_) main_v6 main_c_1
  let main_v8 : IVec S_ 1 := andi main_v3 main_v7
  main_v8
-- ==== Pre_finite5.lean ====
abbrev S8192x2048 : Shape := ⟨2, ![8192, 2048]⟩
abbrev S2048 : Shape := ⟨1, ![2048]⟩
abbrev S2048x512 : Shape := ⟨2, ![2048, 512]⟩
abbrev S256x512 : Shape := ⟨2, ![256, 512]⟩
abbrev S512x2048 : Shape := ⟨2, ![512, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x2048 .f32) (main_arg1 : FVec F S2048 .f32) (main_arg2 : FVec F S2048x512 .f32) (main_arg3 : FVec F S256x512 .f32) (main_arg4 : FVec F S256x512 .f32) (main_arg5 : FVec F S512x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S8192x7168 : Shape := ⟨2, ![8192, 7168]⟩
abbrev S4x256 : Shape := ⟨2, ![4, 256]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S_ : Shape := ⟨0, ![]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x1 : Shape := ⟨2, ![4, 1]⟩
abbrev S4x128x1 : Shape := ⟨3, ![4, 128, 1]⟩
abbrev S4x128x256 : Shape := ⟨3, ![4, 128, 256]⟩
abbrev S1 : Shape := ⟨1, ![1]⟩
abbrev S1x1 : Shape := ⟨2, ![1, 1]⟩
abbrev S64x1 : Shape := ⟨2, ![64, 1]⟩
abbrev S4x1x256 : Shape := ⟨3, ![4, 1, 256]⟩
abbrev S1x1024 : Shape := ⟨2, ![1, 1024]⟩
abbrev S1x512 : Shape := ⟨2, ![1, 512]⟩
abbrev S8192x1024 : Shape := ⟨2, ![8192, 1024]⟩
abbrev S8192x512 : Shape := ⟨2, ![8192, 512]⟩
abbrev S128x512 : Shape := ⟨2, ![128, 512]⟩
abbrev S128x1024 : Shape := ⟨2, ![128, 1024]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 131
  | .vmem => 31
  | .smem => 0
  | _ => 0

abbrev hbmTy0_0 (i : Nat) : BufTy := match i % 128 with
  | 0 => ⟨S8192x7168, .f32⟩
  | 1 => ⟨S4x256, .f32⟩
  | 2 => ⟨S512, .f32⟩
  | 3 => ⟨S4x128x128, .f32⟩
  | 4 => ⟨S4x128, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S8192, .i32⟩
  | 25 => ⟨S8192, .f32⟩
  | 26 => ⟨S8192x1, .f32⟩
  | 27 => ⟨S1x64, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S8192x128, .f32⟩
  | 34 => ⟨S8192x64, .f32⟩
  | 35 => ⟨S8192x128, .f32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S1x128x128, .i1⟩
  | 46 => ⟨S4x1x1, .f32⟩
  | 47 => ⟨S_, .f32⟩
  | 48 => ⟨S_, .f32⟩
  | 49 => ⟨S128x128, .f32⟩
  | 50 => ⟨S128x128, .f32⟩
  | 51 => ⟨S1x128x128, .f32⟩
  | 52 => ⟨S4x128x128, .f32⟩
  | 53 => ⟨S4x128x128, .f32⟩
  | 54 => ⟨S4x128x128, .f32⟩
  | 55 => ⟨S4x128x128, .f32⟩
  | 56 => ⟨S_, .f32⟩
  | 57 => ⟨S_, .f32⟩
  | 58 => ⟨S4x128x128, .i1⟩
  | 59 => ⟨S4x128x128, .f32⟩
  | 60 => ⟨S4x128x128, .f32⟩
  | 61 => ⟨S4x1, .f32⟩
  | 62 => ⟨S1x128, .f32⟩
  | 63 => ⟨S_, .f32⟩
  | 64 => ⟨S1x128, .f32⟩
  | 65 => ⟨S1x128, .f32⟩
  | 66 => ⟨S4x128, .f32⟩
  | 67 => ⟨S4x128, .f32⟩
  | 68 => ⟨S4x128, .f32⟩
  | 69 => ⟨S4x128, .f32⟩
  | 70 => ⟨S4x128x1, .f32⟩
  | 71 => ⟨S4x128x256, .f32⟩
  | 72 => ⟨S4x1, .f32⟩
  | 73 => ⟨S1x128, .f32⟩
  | 74 => ⟨S_, .f32⟩
  | 75 => ⟨S1x128, .f32⟩
  | 76 => ⟨S1x128, .f32⟩
  | 77 => ⟨S4x128, .f32⟩
  | 78 => ⟨S4x128, .f32⟩
  | 79 => ⟨S4x128, .f32⟩
  | 80 => ⟨S4x128, .f32⟩
  | 81 => ⟨S4x128x1, .f32⟩
  | 82 => ⟨S4x128x128, .f32⟩
  | 83 => ⟨S_, .f32⟩
  | 84 => ⟨S4, .f32⟩
  | 85 => ⟨S4, .f32⟩
  | 86 => ⟨S4, .f32⟩
  | 87 => ⟨S4x1x1, .f32⟩
  | 88 => ⟨S4x128x256, .f32⟩
  | 89 => ⟨S_, .f32⟩
  | 90 => ⟨S1, .f32⟩
  | 91 => ⟨S1x1, .f32⟩
  | 92 => ⟨S1x64, .f32⟩
  | 93 => ⟨S1x64, .f32⟩
  | 94 => ⟨S1x64, .f32⟩
  | 95 => ⟨S1x64, .f32⟩
  | 96 => ⟨S64x1, .f32⟩
  | 97 => ⟨S1x64, .f32⟩
  | 98 => ⟨S64x1, .f32⟩
  | 99 => ⟨S_, .f32⟩
  | 100 => ⟨S4, .f32⟩
  | 101 => ⟨S4, .f32⟩
  | 102 => ⟨S4, .f32⟩
  | 103 => ⟨S4x1x1, .f32⟩
  | 104 => ⟨S4x1x256, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S_, .f32⟩
  | 119 => ⟨S4x128x128, .i1⟩
  | 120 => ⟨S4x128x128, .f32⟩
  | 121 => ⟨S4x128x128, .f32⟩
  | 122 => ⟨S4x128x128, .bf16⟩
  | 123 => ⟨S4x128x1, .f32⟩
  | 124 => ⟨S4x128x128, .f32⟩
  | 125 => ⟨S1x1024, .f32⟩
  | 126 => ⟨S1x512, .f32⟩
  | 127 => ⟨S8192x1024, .bf16⟩
  | _ => ⟨S8192x7168, .f32⟩

abbrev hbmTy0_1 (i : Nat) : BufTy := match i % 128 with
  | 0 => ⟨S8192x512, .bf16⟩
  | 1 => ⟨S4x128x256, .f32⟩
  | 2 => ⟨S128x512, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S4x128x128, .f32⟩
  | .local _ .vmem, ⟨17, _⟩ => ⟨S4x128x256, .f32⟩
  | .local _ .vmem, ⟨18, _⟩ => ⟨S4x128x128, .f32⟩
  | .local _ .vmem, ⟨19, _⟩ => ⟨S4x128x256, .f32⟩
  | .local _ .vmem, ⟨20, _⟩ => ⟨S1x1024, .f32⟩
  | .local _ .vmem, ⟨21, _⟩ => ⟨S1x512, .f32⟩
  | .local _ .vmem, ⟨22, _⟩ => ⟨S4x128x128, .bf16⟩
  | .local _ .vmem, ⟨23, _⟩ => ⟨S4x128x128, .f32⟩
  | .local _ .vmem, ⟨24, _⟩ => ⟨S128x1024, .bf16⟩
  | .local _ .vmem, ⟨25, _⟩ => ⟨S128x1024, .bf16⟩
  | .local _ .vmem, ⟨26, _⟩ => ⟨S128x512, .bf16⟩
  | .local _ .vmem, ⟨27, _⟩ => ⟨S128x512, .bf16⟩
  | .local _ .vmem, ⟨28, _⟩ => ⟨S4x128x256, .f32⟩
  | .local _ .vmem, ⟨29, _⟩ => ⟨S128x512, .f32⟩
  | .local _ .vmem, ⟨30, _⟩ => ⟨S4x128x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c : Ref sig .tc := ⟨.hbm, 105, rfl⟩
abbrev main_v82 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_c_0 : Ref sig .tc := ⟨.hbm, 113, rfl⟩
abbrev main_call2_v5 : Ref sig .tc := ⟨.hbm, 114, rfl⟩
abbrev main_v83 : Ref sig .tc := ⟨.hbm, 115, rfl⟩
abbrev main_v84 : Ref sig .tc := ⟨.hbm, 116, rfl⟩
abbrev main_cst_12 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91_0 : Ref sig .tc := ⟨.hbm, 127, rfl⟩
abbrev main_v91_1 : Ref sig .tc := ⟨.hbm, 128, rfl⟩
abbrev main_v91_2 : Ref sig .tc := ⟨.hbm, 129, rfl⟩
abbrev main_v91_3 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v346 : BitVec 1 := Scalar.cmpi .eq arg0 c63_i32
  let v347 : BitVec 32 := Scalar.extui v346
  let c0_i32_207 : BitVec 32 := 0#32
  let v348 : BitVec 1 := Scalar.cmpi .ne v347 c0_i32_207
  v348

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x7168 : Shape := ⟨2, ![8192, 7168]⟩
abbrev S4x256 : Shape := ⟨2, ![4, 256]⟩
abbrev S512 : Shape := ⟨1, ![512]⟩
abbrev S4x128x128 : Shape := ⟨3, ![4, 128, 128]⟩
abbrev S4x128 : Shape := ⟨2, ![4, 128]⟩
abbrev S1x8192x7168 : Shape := ⟨3, ![1, 8192, 7168]⟩
abbrev S1x8192x512 : Shape := ⟨3, ![1, 8192, 512]⟩
abbrev S1x8192x1024 : Shape := ⟨3, ![1, 8192, 1024]⟩
abbrev S_ : Shape := ⟨0, ![]⟩
abbrev S1x4x128x256 : Shape := ⟨4, ![1, 4, 128, 256]⟩
abbrev S1x8192x4x128 : Shape := ⟨4, ![1, 8192, 4, 128]⟩
abbrev S1x8192x4x256 : Shape := ⟨4, ![1, 8192, 4, 256]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S4 : Shape := ⟨1, ![4]⟩
abbrev S1x64x128x4x128 : Shape := ⟨5, ![1, 64, 128, 4, 128]⟩
abbrev S64x1x128x4x128 : Shape := ⟨5, ![64, 1, 128, 4, 128]⟩
abbrev S1x64x128x4x256 : Shape := ⟨5, ![1, 64, 128, 4, 256]⟩
abbrev S64x1x128x4x256 : Shape := ⟨5, ![64, 1, 128, 4, 256]⟩
abbrev S1x1x128x4x128 : Shape := ⟨5, ![1, 1, 128, 4, 128]⟩
abbrev S1x128x4x128 : Shape := ⟨4, ![1, 128, 4, 128]⟩
abbrev S1x1x128x4x256 : Shape := ⟨5, ![1, 1, 128, 4, 256]⟩
abbrev S1x128x4x256 : Shape := ⟨4, ![1, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S1x4x128x128 : Shape := ⟨4, ![1, 4, 128, 128]⟩
abbrev S1x4x256x128 : Shape := ⟨4, ![1, 4, 256, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S1x8192x4 : Shape := ⟨3, ![1, 8192, 4]⟩
abbrev S1x8192x4x1 : Shape := ⟨4, ![1, 8192, 4, 1]⟩
abbrev S1x1x4x256 : Shape := ⟨4, ![1, 1, 4, 256]⟩
abbrev S8192x1024 : Shape := ⟨2, ![8192, 1024]⟩
abbrev S1x8192 : Shape := ⟨2, ![1, 8192]⟩
abbrev S1x8192x1 : Shape := ⟨3, ![1, 8192, 1]⟩
abbrev S1x1x512 : Shape := ⟨3, ![1, 1, 512]⟩
abbrev S4x1x64x128x128 : Shape := ⟨5, ![4, 1, 64, 128, 128]⟩
abbrev S1x1x128x4x1 : Shape := ⟨5, ![1, 1, 128, 4, 1]⟩
abbrev S8192x512 : Shape := ⟨2, ![8192, 512]⟩
abbrev S4x128x256 : Shape := ⟨3, ![4, 128, 256]⟩
abbrev S1x128x512 : Shape := ⟨3, ![1, 128, 512]⟩
abbrev S128x512 : Shape := ⟨2, ![128, 512]⟩

abbrev nBuf : Space → Nat
  | .hbm => 317
  | .vmem => 0
  | .smem => 0
  | _ => 0

abbrev hbmTy0_0 (i : Nat) : BufTy := match i % 128 with
  | 0 => ⟨S8192x7168, .f32⟩
  | 1 => ⟨S4x256, .f32⟩
  | 2 => ⟨S512, .f32⟩
  | 3 => ⟨S4x128x128, .f32⟩
  | 4 => ⟨S4x128, .f32⟩
  | 5 => ⟨S1x8192x7168, .f32⟩
  | 6 => ⟨S1x8192x512, .f32⟩
  | 7 => ⟨S1x8192x512, .f32⟩
  | 8 => ⟨S1x8192x1024, .f32⟩
  | 9 => ⟨S_, .f32⟩
  | 10 => ⟨S1x4x128x256, .f32⟩
  | 11 => ⟨S1x8192x4x128, .f32⟩
  | 12 => ⟨S1x8192x4x128, .f32⟩
  | 13 => ⟨S1x8192x4x256, .f32⟩
  | 14 => ⟨S8192, .i32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S8192, .f32⟩
  | 24 => ⟨S8192x1, .f32⟩
  | 25 => ⟨S1x64, .f32⟩
  | 26 => ⟨S8192x64, .f32⟩
  | 27 => ⟨S8192x64, .f32⟩
  | 28 => ⟨S8192x64, .f32⟩
  | 29 => ⟨S8192x64, .f32⟩
  | 30 => ⟨S1x8192x1x64, .f32⟩
  | 31 => ⟨S8192x64, .f32⟩
  | 32 => ⟨S1x8192x1x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x64, .f32⟩
  | 41 => ⟨S1x8192x4x64, .f32⟩
  | 42 => ⟨S1x8192x4x64, .f32⟩
  | 43 => ⟨S1x8192x4x64, .f32⟩
  | 44 => ⟨S1x8192x4x64, .f32⟩
  | 45 => ⟨S1x8192x4x128, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8192, .f32⟩
  | 55 => ⟨S8192x1, .f32⟩
  | 56 => ⟨S1x64, .f32⟩
  | 57 => ⟨S8192x64, .f32⟩
  | 58 => ⟨S8192x64, .f32⟩
  | 59 => ⟨S8192x64, .f32⟩
  | 60 => ⟨S8192x64, .f32⟩
  | 61 => ⟨S1x8192x1x64, .f32⟩
  | 62 => ⟨S8192x64, .f32⟩
  | 63 => ⟨S1x8192x1x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x64, .f32⟩
  | 73 => ⟨S1x8192x4x64, .f32⟩
  | 74 => ⟨S1x8192x4x64, .f32⟩
  | 75 => ⟨S1x8192x4x64, .f32⟩
  | 76 => ⟨S1x8192x4x128, .f32⟩
  | 77 => ⟨S_, .f32⟩
  | 78 => ⟨S1x8192x4x128, .f32⟩
  | 79 => ⟨S1x8192x4x128, .f32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S4, .f32⟩
  | 91 => ⟨S1x64x128x4x128, .f32⟩
  | 92 => ⟨S64x1x128x4x128, .f32⟩
  | 93 => ⟨S1x64x128x4x128, .f32⟩
  | 94 => ⟨S64x1x128x4x128, .f32⟩
  | 95 => ⟨S1x64x128x4x256, .f32⟩
  | 96 => ⟨S64x1x128x4x256, .f32⟩
  | 97 => ⟨S_, .f32⟩
  | 98 => ⟨S64x1x128x4x256, .f32⟩
  | 99 => ⟨S_, .i32⟩
  | 100 => ⟨S64x1x128x4x128, .f32⟩
  | 101 => ⟨S64x1x128x4x128, .f32⟩
  | 102 => ⟨S64x1x128x4x256, .f32⟩
  | 103 => ⟨S4, .f32⟩
  | 104 => ⟨S_, .i32⟩
  | 105 => ⟨S1x4x128x256, .f32⟩
  | 106 => ⟨S64x1x128x4x256, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S1x1x128x4x128, .f32⟩
  | 114 => ⟨S1x128x4x128, .f32⟩
  | 115 => ⟨S_, .i32⟩
  | 116 => ⟨S_, .i32⟩
  | 117 => ⟨S_, .i32⟩
  | 118 => ⟨S_, .i32⟩
  | 119 => ⟨S1x1x128x4x128, .f32⟩
  | 120 => ⟨S1x128x4x128, .f32⟩
  | 121 => ⟨S_, .i32⟩
  | 122 => ⟨S_, .i32⟩
  | 123 => ⟨S_, .i32⟩
  | 124 => ⟨S_, .i32⟩
  | 125 => ⟨S1x1x128x4x256, .f32⟩
  | 126 => ⟨S1x128x4x256, .f32⟩
  | 127 => ⟨S128, .f32⟩
  | _ => ⟨S8192x7168, .f32⟩

abbrev hbmTy0_1 (i : Nat) : BufTy := match i % 128 with
  | 0 => ⟨S128x1, .f32⟩
  | 1 => ⟨S1x128, .f32⟩
  | 2 => ⟨S128x128, .f32⟩
  | 3 => ⟨S128x128, .f32⟩
  | 4 => ⟨S128x128, .f32⟩
  | 5 => ⟨S_, .f32⟩
  | 6 => ⟨S128x128, .f32⟩
  | 7 => ⟨S128x128, .i1⟩
  | 8 => ⟨S1x128x128, .i1⟩
  | 9 => ⟨S4x1x1, .f32⟩
  | 10 => ⟨S_, .f32⟩
  | 11 => ⟨S_, .f32⟩
  | 12 => ⟨S128x128, .f32⟩
  | 13 => ⟨S128x128, .f32⟩
  | 14 => ⟨S1x128x128, .f32⟩
  | 15 => ⟨S4x128x128, .f32⟩
  | 16 => ⟨S4x128x128, .f32⟩
  | 17 => ⟨S4x128x128, .f32⟩
  | 18 => ⟨S4x128x128, .f32⟩
  | 19 => ⟨S_, .f32⟩
  | 20 => ⟨S_, .f32⟩
  | 21 => ⟨S4x128x128, .i1⟩
  | 22 => ⟨S4x128x128, .f32⟩
  | 23 => ⟨S4x128x128, .f32⟩
  | 24 => ⟨S1x4x128x128, .f32⟩
  | 25 => ⟨S1x4x128x128, .f32⟩
  | 26 => ⟨S1x4x128x128, .f32⟩
  | 27 => ⟨S1x4x256x128, .f32⟩
  | 28 => ⟨S1x128x4x256, .f32⟩
  | 29 => ⟨S1x4x256x128, .f32⟩
  | 30 => ⟨S1x128x4x256, .f32⟩
  | 31 => ⟨S1x4, .f32⟩
  | 32 => ⟨S128x1, .f32⟩
  | 33 => ⟨S_, .f32⟩
  | 34 => ⟨S128x1, .f32⟩
  | 35 => ⟨S128x1, .f32⟩
  | 36 => ⟨S128x4, .f32⟩
  | 37 => ⟨S128x4, .f32⟩
  | 38 => ⟨S128x4, .f32⟩
  | 39 => ⟨S128x4, .f32⟩
  | 40 => ⟨S1x128x4x1, .f32⟩
  | 41 => ⟨S1x128x4x256, .f32⟩
  | 42 => ⟨S1x128x4x256, .f32⟩
  | 43 => ⟨S1x4, .f32⟩
  | 44 => ⟨S128x1, .f32⟩
  | 45 => ⟨S_, .f32⟩
  | 46 => ⟨S128x1, .f32⟩
  | 47 => ⟨S128x1, .f32⟩
  | 48 => ⟨S128x4, .f32⟩
  | 49 => ⟨S128x4, .f32⟩
  | 50 => ⟨S128x4, .f32⟩
  | 51 => ⟨S128x4, .f32⟩
  | 52 => ⟨S1x128x4x1, .f32⟩
  | 53 => ⟨S1x128x4x128, .f32⟩
  | 54 => ⟨S1x128x4x128, .f32⟩
  | 55 => ⟨S_, .f32⟩
  | 56 => ⟨S4, .f32⟩
  | 57 => ⟨S4, .f32⟩
  | 58 => ⟨S4, .f32⟩
  | 59 => ⟨S1x4x1x1, .f32⟩
  | 60 => ⟨S1x4x128x256, .f32⟩
  | 61 => ⟨S1x4x128x256, .f32⟩
  | 62 => ⟨S1x4x128x256, .f32⟩
  | 63 => ⟨S1x4x128x256, .f32⟩
  | 64 => ⟨S1x128x4x256, .f32⟩
  | 65 => ⟨S1x1x128x4x256, .f32⟩
  | 66 => ⟨S_, .i32⟩
  | 67 => ⟨S_, .i32⟩
  | 68 => ⟨S_, .i32⟩
  | 69 => ⟨S_, .i32⟩
  | 70 => ⟨S64x1x128x4x256, .f32⟩
  | 71 => ⟨S_, .i32⟩
  | 72 => ⟨S_, .i32⟩
  | 73 => ⟨S1x64x128x4x256, .f32⟩
  | 74 => ⟨S1x8192x4x256, .f32⟩
  | 75 => ⟨S1x8192x7168, .f32⟩
  | 76 => ⟨S1x8192x1024, .f32⟩
  | 77 => ⟨S1x8192x512, .f32⟩
  | 78 => ⟨S1x8192x512, .f32⟩
  | 79 => ⟨S1x8192x4x256, .f32⟩
  | 80 => ⟨S_, .f32⟩
  | 81 => ⟨S1x8192x4, .f32⟩
  | 82 => ⟨S1x8192x4x1, .f32⟩
  | 83 => ⟨S_, .f32⟩
  | 84 => ⟨S1x8192x4x1, .f32⟩
  | 85 => ⟨S1x8192x4x1, .f32⟩
  | 86 => ⟨S_, .f32⟩
  | 87 => ⟨S1x8192x4x1, .f32⟩
  | 88 => ⟨S1x8192x4x1, .f32⟩
  | 89 => ⟨S1x8192x4x1, .f32⟩
  | 90 => ⟨S1x8192x4x256, .f32⟩
  | 91 => ⟨S1x8192x4x256, .f32⟩
  | 92 => ⟨S1x1x4x256, .f32⟩
  | 93 => ⟨S1x8192x4x256, .f32⟩
  | 94 => ⟨S1x8192x4x256, .f32⟩
  | 95 => ⟨S1x8192x4x256, .f32⟩
  | 96 => ⟨S1x8192x4x256, .f32⟩
  | 97 => ⟨S1x8192x4x256, .f32⟩
  | 98 => ⟨S_, .f32⟩
  | 99 => ⟨S1x8192x4x256, .f32⟩
  | 100 => ⟨S1x8192x4x256, .f32⟩
  | 101 => ⟨S_, .f32⟩
  | 102 => ⟨S1x8192x4x256, .f32⟩
  | 103 => ⟨S1x8192x4x256, .f32⟩
  | 104 => ⟨S1x8192x4x256, .f32⟩
  | 105 => ⟨S1x8192x4x256, .f32⟩
  | 106 => ⟨S8192x1024, .f32⟩
  | 107 => ⟨S1x8192x512, .f32⟩
  | 108 => ⟨S1x8192x512, .f32⟩
  | 109 => ⟨S_, .f32⟩
  | 110 => ⟨S1x8192x512, .f32⟩
  | 111 => ⟨S1x8192x512, .f32⟩
  | 112 => ⟨S1x8192x512, .f32⟩
  | 113 => ⟨S_, .f32⟩
  | 114 => ⟨S1x8192x512, .f32⟩
  | 115 => ⟨S1x8192x512, .f32⟩
  | 116 => ⟨S1x8192x512, .f32⟩
  | 117 => ⟨S_, .f32⟩
  | 118 => ⟨S1x8192x512, .f32⟩
  | 119 => ⟨S1x8192x512, .f32⟩
  | 120 => ⟨S_, .f32⟩
  | 121 => ⟨S1x8192x512, .f32⟩
  | 122 => ⟨S1x8192x512, .f32⟩
  | 123 => ⟨S1x8192x512, .f32⟩
  | 124 => ⟨S1x8192x512, .f32⟩
  | 125 => ⟨S1x8192x512, .f32⟩
  | 126 => ⟨S_, .f32⟩
  | 127 => ⟨S1x8192x512, .f32⟩
  | _ => ⟨S8192x7168, .f32⟩

abbrev hbmTy0_2 (i : Nat) : BufTy := match i % 128 with
  | 0 => ⟨S1x8192x512, .f32⟩
  | 1 => ⟨S1x8192x512, .f32⟩
  | 2 => ⟨S_, .f32⟩
  | 3 => ⟨S1x8192x512, .f32⟩
  | 4 => ⟨S1x8192x512, .f32⟩
  | 5 => ⟨S1x8192x512, .f32⟩
  | 6 => ⟨S_, .f32⟩
  | 7 => ⟨S1x8192x512, .f32⟩
  | 8 => ⟨S1x8192x512, .f32⟩
  | 9 => ⟨S_, .f32⟩
  | 10 => ⟨S1x8192x512, .f32⟩
  | 11 => ⟨S1x8192x512, .f32⟩
  | 12 => ⟨S1x8192x512, .f32⟩
  | 13 => ⟨S1x8192x512, .f32⟩
  | 14 => ⟨S_, .f32⟩
  | 15 => ⟨S1x8192, .f32⟩
  | 16 => ⟨S1x8192x1, .f32⟩
  | 17 => ⟨S_, .f32⟩
  | 18 => ⟨S1x8192x1, .f32⟩
  | 19 => ⟨S1x8192x1, .f32⟩
  | 20 => ⟨S_, .f32⟩
  | 21 => ⟨S1x8192x1, .f32⟩
  | 22 => ⟨S1x8192x1, .f32⟩
  | 23 => ⟨S1x8192x1, .f32⟩
  | 24 => ⟨S1x8192x512, .f32⟩
  | 25 => ⟨S1x8192x512, .f32⟩
  | 26 => ⟨S1x1x512, .f32⟩
  | 27 => ⟨S1x8192x512, .f32⟩
  | 28 => ⟨S1x8192x512, .f32⟩
  | 29 => ⟨S_, .i1⟩
  | 30 => ⟨S128x128, .i1⟩
  | 31 => ⟨S128x128, .i32⟩
  | 32 => ⟨S_, .i32⟩
  | 33 => ⟨S128x128, .i32⟩
  | 34 => ⟨S128x128, .i32⟩
  | 35 => ⟨S128x128, .i32⟩
  | 36 => ⟨S128x128, .i1⟩
  | 37 => ⟨S_, .i1⟩
  | 38 => ⟨S128x128, .i1⟩
  | 39 => ⟨S128x128, .i1⟩
  | 40 => ⟨S1x128x128, .i1⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S1x64x128x4x128, .f32⟩
  | 47 => ⟨S4x1x64x128x128, .f32⟩
  | 48 => ⟨S1x64x128x4x128, .f32⟩
  | 49 => ⟨S128x4, .f32⟩
  | 50 => ⟨S1x1x128x4x1, .f32⟩
  | 51 => ⟨S1x64x128x4x128, .f32⟩
  | 52 => ⟨S1x64x128x4x128, .f32⟩
  | 53 => ⟨S1x8192x512, .f32⟩
  | 54 => ⟨S1x8192x512, .f32⟩
  | 55 => ⟨S8192x1024, .bf16⟩
  | 56 => ⟨S8192x512, .f32⟩
  | 57 => ⟨S8192x512, .bf16⟩
  | 58 => ⟨S4x128x256, .f32⟩
  | 59 => ⟨S1x128x512, .f32⟩
  | 60 => ⟨S128x512, .f32⟩
  | _ => ⟨S8192x7168, .f32⟩

abbrev hbmTy (i : Nat) : BufTy := match i / 128 with
  | 0 => hbmTy0_0 i
  | 1 => hbmTy0_1 i
  | 2 => hbmTy0_2 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_cst_6 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_c : Ref sig .tc := ⟨.hbm, 99, rfl⟩
abbrev main_v84_0 : Ref sig .tc := ⟨.hbm, 100, rfl⟩
abbrev main_v84_1 : Ref sig .tc := ⟨.hbm, 101, rfl⟩
abbrev main_v84_2 : Ref sig .tc := ⟨.hbm, 102, rfl⟩
abbrev main_v84_3 : Ref sig .tc := ⟨.hbm, 103, rfl⟩
abbrev main_v84_4 : Ref sig .tc := ⟨.hbm, 104, rfl⟩
abbrev main_v84_5 : Ref sig .tc := ⟨.hbm, 105, rfl⟩
abbrev main_v84_6 : Ref sig .tc := ⟨.hbm, 106, rfl⟩
abbrev main_while0c_c_31 : Ref sig .tc := ⟨.hbm, 107, rfl⟩
abbrev main_while0c_v166 : Ref sig .tc := ⟨.hbm, 108, rfl⟩
abbrev main_while0b_call0_c : Ref sig .tc := ⟨.hbm, 109, rfl⟩
abbrev main_while0b_call0_c_0 : Ref sig .tc := ⟨.hbm, 110, rfl⟩
abbrev main_while0b_call0_c_1 : Ref sig .tc := ⟨.hbm, 111, rfl⟩
abbrev main_while0b_call0_c_2 : Ref sig .tc := ⟨.hbm, 112, rfl⟩
abbrev main_while0b_call0_v0 : Ref sig .tc := ⟨.hbm, 113, rfl⟩
abbrev main_while0b_v166 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_c_1 : Ref sig .tc := ⟨.hbm, 117, rfl⟩
abbrev main_while0b_call1_c_2 : Ref sig .tc := ⟨.hbm, 118, rfl⟩
abbrev main_while0b_call1_v0 : Ref sig .tc := ⟨.hbm, 119, rfl⟩
abbrev main_while0b_v167 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_c_1 : Ref sig .tc := ⟨.hbm, 123, rfl⟩
abbrev main_while0b_call2_c_2 : Ref sig .tc := ⟨.hbm, 124, rfl⟩
abbrev main_while0b_call2_v0 : Ref sig .tc := ⟨.hbm, 125, rfl⟩
abbrev main_while0b_v168 : Ref sig .tc := ⟨.hbm, 126, rfl⟩
abbrev main_while0b_v169 : Ref sig .tc := ⟨.hbm, 127, rfl⟩
abbrev main_while0b_v170 : Ref sig .tc := ⟨.hbm, 128, rfl⟩
abbrev main_while0b_v171 : Ref sig .tc := ⟨.hbm, 129, rfl⟩
abbrev main_while0b_v172 : Ref sig .tc := ⟨.hbm, 130, rfl⟩
abbrev main_while0b_v173 : Ref sig .tc := ⟨.hbm, 131, rfl⟩
abbrev main_while0b_v174 : Ref sig .tc := ⟨.hbm, 132, rfl⟩
abbrev main_while0b_cst_31 : Ref sig .tc := ⟨.hbm, 133, rfl⟩
abbrev main_while0b_v175 : Ref sig .tc := ⟨.hbm, 134, rfl⟩
abbrev main_while0b_v176 : Ref sig .tc := ⟨.hbm, 135, rfl⟩
abbrev main_while0b_v177 : Ref sig .tc := ⟨.hbm, 136, rfl⟩
abbrev main_while0b_v178 : Ref sig .tc := ⟨.hbm, 137, rfl⟩
abbrev main_while0b_cst_32 : Ref sig .tc := ⟨.hbm, 138, rfl⟩
abbrev main_while0b_call3_v0 : Ref sig .tc := ⟨.hbm, 139, rfl⟩
abbrev main_while0b_call3_v1 : Ref sig .tc := ⟨.hbm, 140, rfl⟩
abbrev main_while0b_v179 : Ref sig .tc := ⟨.hbm, 141, rfl⟩
abbrev main_while0b_v180 : Ref sig .tc := ⟨.hbm, 142, rfl⟩
abbrev main_while0b_v181 : Ref sig .tc := ⟨.hbm, 143, rfl⟩
abbrev main_while0b_v182 : Ref sig .tc := ⟨.hbm, 144, rfl⟩
abbrev main_while0b_v183 : Ref sig .tc := ⟨.hbm, 145, rfl⟩
abbrev main_while0b_v184 : Ref sig .tc := ⟨.hbm, 146, rfl⟩
abbrev main_while0b_cst_33 : Ref sig .tc := ⟨.hbm, 147, rfl⟩
abbrev main_while0b_call4_v0 : Ref sig .tc := ⟨.hbm, 148, rfl⟩
abbrev main_while0b_call4_v1 : Ref sig .tc := ⟨.hbm, 149, rfl⟩
abbrev main_while0b_call4_v2 : Ref sig .tc := ⟨.hbm, 150, rfl⟩
abbrev main_while0b_v185 : Ref sig .tc := ⟨.hbm, 151, rfl⟩
abbrev main_while0b_v186 : Ref sig .tc := ⟨.hbm, 152, rfl⟩
abbrev main_while0b_v187 : Ref sig .tc := ⟨.hbm, 153, rfl⟩
abbrev main_while0b_v188 : Ref sig .tc := ⟨.hbm, 154, rfl⟩
abbrev main_while0b_v189 : Ref sig .tc := ⟨.hbm, 155, rfl⟩
abbrev main_while0b_v190 : Ref sig .tc := ⟨.hbm, 156, rfl⟩
abbrev main_while0b_v191 : Ref sig .tc := ⟨.hbm, 157, rfl⟩
abbrev main_while0b_v192 : Ref sig .tc := ⟨.hbm, 158, rfl⟩
abbrev main_while0b_v193 : Ref sig .tc := ⟨.hbm, 159, rfl⟩
abbrev main_while0b_v194 : Ref sig .tc := ⟨.hbm, 160, rfl⟩
abbrev main_while0b_cst_34 : Ref sig .tc := ⟨.hbm, 161, rfl⟩
abbrev main_while0b_v195 : Ref sig .tc := ⟨.hbm, 162, rfl⟩
abbrev main_while0b_v196 : Ref sig .tc := ⟨.hbm, 163, rfl⟩
abbrev main_while0b_v197 : Ref sig .tc := ⟨.hbm, 164, rfl⟩
abbrev main_while0b_v198 : Ref sig .tc := ⟨.hbm, 165, rfl⟩
abbrev main_while0b_v199 : Ref sig .tc := ⟨.hbm, 166, rfl⟩
abbrev main_while0b_v200 : Ref sig .tc := ⟨.hbm, 167, rfl⟩
abbrev main_while0b_v201 : Ref sig .tc := ⟨.hbm, 168, rfl⟩
abbrev main_while0b_v202 : Ref sig .tc := ⟨.hbm, 169, rfl⟩
abbrev main_while0b_v203 : Ref sig .tc := ⟨.hbm, 170, rfl⟩
abbrev main_while0b_v204 : Ref sig .tc := ⟨.hbm, 171, rfl⟩
abbrev main_while0b_v205 : Ref sig .tc := ⟨.hbm, 172, rfl⟩
abbrev main_while0b_cst_35 : Ref sig .tc := ⟨.hbm, 173, rfl⟩
abbrev main_while0b_v206 : Ref sig .tc := ⟨.hbm, 174, rfl⟩
abbrev main_while0b_v207 : Ref sig .tc := ⟨.hbm, 175, rfl⟩
abbrev main_while0b_v208 : Ref sig .tc := ⟨.hbm, 176, rfl⟩
abbrev main_while0b_v209 : Ref sig .tc := ⟨.hbm, 177, rfl⟩
abbrev main_while0b_v210 : Ref sig .tc := ⟨.hbm, 178, rfl⟩
abbrev main_while0b_v211 : Ref sig .tc := ⟨.hbm, 179, rfl⟩
abbrev main_while0b_v212 : Ref sig .tc := ⟨.hbm, 180, rfl⟩
abbrev main_while0b_v213 : Ref sig .tc := ⟨.hbm, 181, rfl⟩
abbrev main_while0b_v214 : Ref sig .tc := ⟨.hbm, 182, rfl⟩
abbrev main_while0b_cst_36 : Ref sig .tc := ⟨.hbm, 183, rfl⟩
abbrev main_while0b_v215 : Ref sig .tc := ⟨.hbm, 184, rfl⟩
abbrev main_while0b_v216 : Ref sig .tc := ⟨.hbm, 185, rfl⟩
abbrev main_while0b_v217 : Ref sig .tc := ⟨.hbm, 186, rfl⟩
abbrev main_while0b_v218 : Ref sig .tc := ⟨.hbm, 187, rfl⟩
abbrev main_while0b_v219 : Ref sig .tc := ⟨.hbm, 188, rfl⟩
abbrev main_while0b_v220 : Ref sig .tc := ⟨.hbm, 189, rfl⟩
abbrev main_while0b_v221 : Ref sig .tc := ⟨.hbm, 190, rfl⟩
abbrev main_while0b_v222 : Ref sig .tc := ⟨.hbm, 191, rfl⟩
abbrev main_while0b_v223 : Ref sig .tc := ⟨.hbm, 192, rfl⟩
abbrev main_while0b_call5_v0 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_call5_c_1 : Ref sig .tc := ⟨.hbm, 196, rfl⟩
abbrev main_while0b_call5_c_2 : Ref sig .tc := ⟨.hbm, 197, rfl⟩
abbrev main_while0b_v224 : Ref sig .tc := ⟨.hbm, 198, rfl⟩
abbrev main_while0b_c_37 : Ref sig .tc := ⟨.hbm, 199, rfl⟩
abbrev main_while0b_v225 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_cst_9 : Ref sig .tc := ⟨.hbm, 208, rfl⟩
abbrev main_v92 : Ref sig .tc := ⟨.hbm, 209, rfl⟩
abbrev main_v93 : Ref sig .tc := ⟨.hbm, 210, rfl⟩
abbrev main_cst_10 : Ref sig .tc := ⟨.hbm, 211, rfl⟩
abbrev main_v94 : Ref sig .tc := ⟨.hbm, 212, rfl⟩
abbrev main_v95 : Ref sig .tc := ⟨.hbm, 213, rfl⟩
abbrev main_cst_11 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_call6_v0 : Ref sig .tc := ⟨.hbm, 224, rfl⟩
abbrev main_call6_v1 : Ref sig .tc := ⟨.hbm, 225, rfl⟩
abbrev main_call6_cst : Ref sig .tc := ⟨.hbm, 226, rfl⟩
abbrev main_call6_v2 : Ref sig .tc := ⟨.hbm, 227, rfl⟩
abbrev main_call6_v3 : Ref sig .tc := ⟨.hbm, 228, rfl⟩
abbrev main_call6_cst_0 : Ref sig .tc := ⟨.hbm, 229, rfl⟩
abbrev main_call6_v4 : Ref sig .tc := ⟨.hbm, 230, rfl⟩
abbrev main_call6_v5 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_cst_12 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_cst_13 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_cst_14 : Ref sig .tc := ⟨.hbm, 245, rfl⟩
abbrev main_v116 : Ref sig .tc := ⟨.hbm, 246, rfl⟩
abbrev main_v117 : Ref sig .tc := ⟨.hbm, 247, rfl⟩
abbrev main_cst_15 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_cst_16 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_cst_17 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_cst_18 : Ref sig .tc := ⟨.hbm, 262, rfl⟩
abbrev main_v129 : Ref sig .tc := ⟨.hbm, 263, rfl⟩
abbrev main_v130 : Ref sig .tc := ⟨.hbm, 264, rfl⟩
abbrev main_cst_19 : Ref sig .tc := ⟨.hbm, 265, rfl⟩
abbrev main_v131 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_cst_20 : Ref sig .tc := ⟨.hbm, 270, rfl⟩
abbrev main_v135 : Ref sig .tc := ⟨.hbm, 271, rfl⟩
abbrev main_v136 : Ref sig .tc := ⟨.hbm, 272, rfl⟩
abbrev main_cst_21 : Ref sig .tc := ⟨.hbm, 273, rfl⟩
abbrev main_v137 : Ref sig .tc := ⟨.hbm, 274, rfl⟩
abbrev main_v138 : Ref sig .tc := ⟨.hbm, 275, rfl⟩
abbrev main_cst_22 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_c_23 : Ref sig .tc := ⟨.hbm, 285, rfl⟩
abbrev main_v147 : Ref sig .tc := ⟨.hbm, 286, rfl⟩
abbrev main_call7_v0 : Ref sig .tc := ⟨.hbm, 287, rfl⟩
abbrev main_call7_c : Ref sig .tc := ⟨.hbm, 288, rfl⟩
abbrev main_call7_v1 : Ref sig .tc := ⟨.hbm, 289, rfl⟩
abbrev main_call7_v2 : Ref sig .tc := ⟨.hbm, 290, rfl⟩
abbrev main_call7_v3 : Ref sig .tc := ⟨.hbm, 291, rfl⟩
abbrev main_call7_v4 : Ref sig .tc := ⟨.hbm, 292, rfl⟩
abbrev main_call7_c_0 : Ref sig .tc := ⟨.hbm, 293, rfl⟩
abbrev main_call7_v5 : Ref sig .tc := ⟨.hbm, 294, rfl⟩
abbrev main_v148 : Ref sig .tc := ⟨.hbm, 295, rfl⟩
abbrev main_v149 : Ref sig .tc := ⟨.hbm, 296, rfl⟩
abbrev main_cst_24 : Ref sig .tc := ⟨.hbm, 297, rfl⟩
abbrev main_call8_v0 : Ref sig .tc := ⟨.hbm, 298, rfl⟩
abbrev main_call8_v1 : Ref sig .tc := ⟨.hbm, 299, rfl⟩
abbrev main_call8_v2 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S3x5504 : Shape := ⟨2, ![3, 5504]⟩
abbrev S3x5632 : Shape := ⟨2, ![3, 5632]⟩
abbrev S5504 : Shape := ⟨1, ![5504]⟩
abbrev S1x5504 : Shape := ⟨2, ![1, 5504]⟩
abbrev S1x5632 : Shape := ⟨2, ![1, 5632]⟩
abbrev S5632x2048 : Shape := ⟨2, ![5632, 2048]⟩
abbrev S1x2048 : Shape := ⟨2, ![1, 2048]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x8x512 : Shape := ⟨3, ![1, 8, 512]⟩
abbrev S11x2x8x512 : Shape := ⟨4, ![11, 2, 8, 512]⟩
abbrev S512x1 : Shape := ⟨2, ![512, 1]⟩
abbrev S512 : Shape := ⟨1, ![512]⟩
abbrev S2x8x512 : Shape := ⟨3, ![2, 8, 512]⟩
abbrev S1x2x8x512 : Shape := ⟨4, ![1, 2, 8, 512]⟩
abbrev S512x512 : Shape := ⟨2, ![512, 512]⟩
abbrev S8x512 : Shape := ⟨2, ![8, 512]⟩
abbrev S1x1x8x512 : Shape := ⟨4, ![1, 1, 8, 512]⟩

abbrev nBuf : Space → Nat
  | .hbm => 42
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S2048x5504, .f32⟩
  | .hbm, ⟨7, _⟩ => ⟨S_, .i32⟩
  | .hbm, ⟨8, _⟩ => ⟨S_, .f32⟩
  | .hbm, ⟨9, _⟩ => ⟨S2048x5632, .f32⟩
  | .hbm, ⟨10, _⟩ => ⟨S2048x5632, .bf16⟩
  | .hbm, ⟨11, _⟩ => ⟨S2048x5504, .f32⟩
  | .hbm, ⟨12, _⟩ => ⟨S_, .i32⟩
  | .hbm, ⟨13, _⟩ => ⟨S_, .f32⟩
  | .hbm, ⟨14, _⟩ => ⟨S2048x5632, .f32⟩
  | .hbm, ⟨15, _⟩ => ⟨S2048x5632, .bf16⟩
  | .hbm, ⟨16, _⟩ => ⟨S3x5504, .f32⟩
  | .hbm, ⟨17, _⟩ => ⟨S_, .i32⟩
  | .hbm, ⟨18, _⟩ => ⟨S_, .f32⟩
  | .hbm, ⟨19, _⟩ => ⟨S3x5632, .f32⟩
  | .hbm, ⟨20, _⟩ => ⟨S3x5504, .f32⟩
  | .hbm, ⟨21, _⟩ => ⟨S_, .i32⟩
  | .hbm, ⟨22, _⟩ => ⟨S_, .f32⟩
  | .hbm, ⟨23, _⟩ => ⟨S3x5632, .f32⟩
  | .hbm, ⟨24, _⟩ => ⟨S5504, .f32⟩
  | .hbm, ⟨25, _⟩ => ⟨S1x5504, .f32⟩
  | .hbm, ⟨26, _⟩ => ⟨S_, .i32⟩
  | .hbm, ⟨27, _⟩ => ⟨S_, .f32⟩
  | .hbm, ⟨28, _⟩ => ⟨S1x5632, .f32⟩
  | .hbm, ⟨29, _⟩ => ⟨S5504, .f32⟩
  | .hbm, ⟨30, _⟩ => ⟨S1x5504, .f32⟩
  | .hbm, ⟨31, _⟩ => ⟨S_, .i32⟩
  | .hbm, ⟨32, _⟩ => ⟨S_, .f32⟩
  | .hbm, ⟨33, _⟩ => ⟨S1x5632, .f32⟩
  | .hbm, ⟨34, _⟩ => ⟨S_, .i32⟩
  | .hbm, ⟨35, _⟩ => ⟨S_, .f32⟩
  | .hbm, ⟨36, _⟩ => ⟨S5632x2048, .f32⟩
  | .hbm, ⟨37, _⟩ => ⟨S5632x2048, .bf16⟩
  | .hbm, ⟨38, _⟩ => ⟨S1x2048, .f32⟩
  | .hbm, ⟨39, _⟩ => ⟨S8192x2048, .f32⟩
  | .hbm, ⟨40, _⟩ => ⟨S16x8x5632, .f32⟩
  | .hbm, ⟨41, _⟩ => ⟨S16x8x5632, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .vmem, ⟨18, _⟩ => ⟨S512x2048, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S11x2x8x512, .f32⟩
  | .local _ .vmem, ⟨24, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_call4_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_call5_v0 : Ref sig .tc := ⟨.hbm, 32, rfl⟩
abbrev main_v15 : Ref sig .tc := ⟨.hbm, 33, rfl⟩
abbrev main_c_5 : Ref sig .tc := ⟨.hbm, 34, rfl⟩
abbrev main_call6_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_off1 (i : grid0.Coords) : Fin 4 → Nat :=
  let arg1 : BitVec 32 := BitVec.ofNat 32 (i 1).val
  let v134 : Index := Scalar.indexCast arg1
  let c0_50 : Index := 0#32
  let c0_51 : Index := 0#32
  let c0_52 : Index := 0#32
  ![v134.toNat, 0, 0, 0]
def k0_off2 (i : grid0.Coords) : Fin 4 → Nat :=
  let arg1 : BitVec 32 := BitVec.ofNat 32 (i 1).val
  let v22 : Index := Scalar.indexCast arg1
  let c0_15 : Index := 0#32
  let c0_16 : Index := 0#32
  let c0_17 : Index := 0#32
  ![v22.toNat, 0, 0, 0]
def k0_off3 (i : grid0.Coords) : Fin 4 → Nat :=
  let arg1 : BitVec 32 := BitVec.ofNat 32 (i 1).val
  let v67 : Index := Scalar.indexCast arg1
  let c1 : Index := 1#32
  let c0_25 : Index := 0#32
  let c0_26 : Index := 0#32
  ![v67.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8192x2048 : Shape := ⟨2, ![8192, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S1x8192x2048 : Shape := ⟨3, ![1, 8192, 2048]⟩
abbrev S_ : Shape := ⟨0, ![]⟩
abbrev S1x2x11008 : Shape := ⟨3, ![1, 2, 11008]⟩
abbrev S1x8192 : Shape := ⟨2, ![1, 8192]⟩
abbrev S1x8192x1 : Shape := ⟨3, ![1, 8192, 1]⟩
abbrev S1x1x2048 : Shape := ⟨3, ![1, 1, 2048]⟩
abbrev S1x8192x11008 : Shape := ⟨3, ![1, 8192, 11008]⟩
abbrev S1x8194x11008 : Shape := ⟨3, ![1, 8194, 11008]⟩
abbrev S1x11008 : Shape := ⟨2, ![1, 11008]⟩
abbrev S1x1x11008 : Shape := ⟨3, ![1, 1, 11008]⟩
abbrev S1x8192x5504 : Shape := ⟨3, ![1, 8192, 5504]⟩
abbrev S16x512x11008 : Shape := ⟨3, ![16, 512, 11008]⟩
abbrev S16x8x11008 : Shape := ⟨3, ![16, 8, 11008]⟩
abbrev S16x8x5504 : Shape := ⟨3, ![16, 8, 5504]⟩
abbrev S16x8x5632 : Shape := ⟨3, ![16, 8, 5632]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S1x8192x2048, .f32⟩
  | .hbm, ⟨7, _⟩ => ⟨S_, .f32⟩
  | .hbm, ⟨8, _⟩ => ⟨S1x2x11008, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S1x8192x11008, .f32⟩
  | .hbm, ⟨26, _⟩ => ⟨S1x8194x11008, .f32⟩
  | .hbm, ⟨27, _⟩ => ⟨S1x11008, .f32⟩
  | .hbm, ⟨28, _⟩ => ⟨S11008, .f32⟩
  | .hbm, ⟨29, _⟩ => ⟨S1x8192x11008, .f32⟩
  | .hbm, ⟨30, _⟩ => ⟨S1x1x11008, .f32⟩
  | .hbm, ⟨31, _⟩ => ⟨S1x8192x11008, .f32⟩
  | .hbm, ⟨32, _⟩ => ⟨S1x8192x11008, .f32⟩
  | .hbm, ⟨33, _⟩ => ⟨S1x1x11008, .f32⟩
  | .hbm, ⟨34, _⟩ => ⟨S1x8192x11008, .f32⟩
  | .hbm, ⟨35, _⟩ => ⟨S1x8192x11008, .f32⟩
  | .hbm, ⟨36, _⟩ => ⟨S1x11008, .f32⟩
  | .hbm, ⟨37, _⟩ => ⟨S11008, .f32⟩
  | .hbm, ⟨38, _⟩ => ⟨S1x8192x11008, .f32⟩
  | .hbm, ⟨39, _⟩ => ⟨S1x1x11008, .f32⟩
  | .hbm, ⟨40, _⟩ => ⟨S1x8192x11008, .f32⟩
  | .hbm, ⟨41, _⟩ => ⟨S1x8192x11008, .f32⟩
  | .hbm, ⟨42, _⟩ => ⟨S1x8192x11008, .f32⟩
  | .hbm, ⟨43, _⟩ => ⟨S1x11008, .f32⟩
  | .hbm, ⟨44, _⟩ => ⟨S11008, .f32⟩
  | .hbm, ⟨45, _⟩ => ⟨S1x8192x11008, .f32⟩
  | .hbm, ⟨46, _⟩ => ⟨S1x1x11008, .f32⟩
  | .hbm, ⟨47, _⟩ => ⟨S1x8192x11008, .f32⟩
  | .hbm, ⟨48, _⟩ => ⟨S1x8192x11008, .f32⟩
  | .hbm, ⟨49, _⟩ => ⟨S1x8192x11008, .f32⟩
  | .hbm, ⟨50, _⟩ => ⟨S1x8192x5504, .f32⟩
  | .hbm, ⟨51, _⟩ => ⟨S1x8192x5504, .f32⟩
  | .hbm, ⟨52, _⟩ => ⟨S1x8192x5504, .f32⟩
  | .hbm, ⟨53, _⟩ => ⟨S1x8192x5504, .f32⟩
  | .hbm, ⟨54, _⟩ => ⟨S_, .f32⟩
  | .hbm, ⟨55, _⟩ => ⟨S1x8192x5504, .f32⟩
  | .hbm, ⟨56, _⟩ => ⟨S1x8192x5504, .f32⟩
  | .hbm, ⟨57, _⟩ => ⟨S_, .f32⟩
  | .hbm, ⟨58, _⟩ => ⟨S1x8192x5504, .f32⟩
  | .hbm, ⟨59, _⟩ => ⟨S1x8192x5504, .f32⟩
  | .hbm, ⟨60, _⟩ => ⟨S1x8192x5504, .f32⟩
  | .hbm, ⟨61, _⟩ => ⟨S1x8192x5504, .f32⟩
  | .hbm, ⟨62, _⟩ => ⟨S1x8192x2048, .f32⟩
  | .hbm, ⟨63, _⟩ => ⟨S16x512x11008, .f32⟩
  | .hbm, ⟨64, _⟩ => ⟨S16x8x11008, .f32⟩
  | .hbm, ⟨65, _⟩ => ⟨S1x8192x2048, .f32⟩
  | .hbm, ⟨66, _⟩ => ⟨S8192x2048, .f32⟩
  | .hbm, ⟨67, _⟩ => ⟨S16x8x5504, .f32⟩
  | .hbm, ⟨68, _⟩ => ⟨S_, .i32⟩
  | .hbm, ⟨69, _⟩ => ⟨S_, .f32⟩
  | .hbm, ⟨70, _⟩ => ⟨S16x8x5632, .f32⟩
  | .hbm, ⟨71, _⟩ => ⟨S16x8x5504, .f32⟩
  | .hbm, ⟨72, _⟩ => ⟨S_, .i32⟩
  | .hbm, ⟨73, _⟩ => ⟨S_, .f32⟩
  | .hbm, ⟨74, _⟩ => ⟨S16x8x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_c_3 : Ref sig .tc := ⟨.hbm, 72, rfl⟩
abbrev main_call2_v0 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x6736 : Shape := ⟨2, ![2048, 6736]⟩
abbrev S2048x5632 : Shape := ⟨2, ![2048, 5632]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x432 : Shape := ⟨2, ![2048, 432]⟩
abbrev S2048x7168 : Shape := ⟨2, ![2048, 7168]⟩
abbrev S1x2048 : Shape := ⟨2, ![1, 2048]⟩
abbrev S8192x7168 : Shape := ⟨2, ![8192, 7168]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6736, .f32⟩
  | .hbm, ⟨3, _⟩ => ⟨S2048x5632, .f32⟩
  | .hbm, ⟨4, _⟩ => ⟨S2048x1024, .f32⟩
  | .hbm, ⟨5, _⟩ => ⟨S2048x64, .f32⟩
  | .hbm, ⟨6, _⟩ => ⟨S2048x16, .f32⟩
  | .hbm, ⟨7, _⟩ => ⟨S_, .f32⟩
  | .hbm, ⟨8, _⟩ => ⟨S2048x432, .f32⟩
  | .hbm, ⟨9, _⟩ => ⟨S2048x7168, .f32⟩
  | .hbm, ⟨10, _⟩ => ⟨S2048x7168, .bf16⟩
  | .hbm, ⟨11, _⟩ => ⟨S1x2048, .f32⟩
  | .hbm, ⟨12, _⟩ => ⟨S8192x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2048 : Shape := ⟨1, ![2048]⟩
abbrev S2048x6736 : Shape := ⟨2, ![2048, 6736]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6736 : Shape := ⟨2, ![8192, 6736]⟩
abbrev S8192x512 : Shape := ⟨2, ![8192, 512]⟩
abbrev S8192x1024 : Shape := ⟨2, ![8192, 1024]⟩
abbrev S8192x16 : Shape := ⟨2, ![8192, 16]⟩
abbrev S8192x64 : Shape := ⟨2, ![8192, 64]⟩
abbrev S8192x432 : Shape := ⟨2, ![8192, 432]⟩
abbrev S8192x7168 : Shape := ⟨2, ![8192, 7168]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6736, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6736, .f32⟩
  | .hbm, ⟨20, _⟩ => ⟨S8192x512, .f32⟩
  | .hbm, ⟨21, _⟩ => ⟨S8192x512, .f32⟩
  | .hbm, ⟨22, _⟩ => ⟨S8192x1024, .f32⟩
  | .hbm, ⟨23, _⟩ => ⟨S8192x1024, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x1024, .f32⟩
  | .hbm, ⟨28, _⟩ => ⟨S8192x16, .f32⟩
  | .hbm, ⟨29, _⟩ => ⟨S8192x64, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x432, .f32⟩
  | .hbm, ⟨34, _⟩ => ⟨S8192x7168, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048x2048, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8192x1024, .f32⟩
  | .hbm, ⟨6, _⟩ => ⟨S8192x512, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x512 : Shape := ⟨2, ![2048, 512]⟩
abbrev S256x512 : Shape := ⟨2, ![256, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x512, .f32⟩
  | .hbm, ⟨3, _⟩ => ⟨S256x512, .f32⟩
  | .hbm, ⟨4, _⟩ => ⟨S256x512, .f32⟩
  | .hbm, ⟨5, _⟩ => ⟨S512x2048, .f32⟩
  | .hbm, ⟨6, _⟩ => ⟨S2048x512, .bf16⟩
  | .hbm, ⟨7, _⟩ => ⟨S256x512, .bf16⟩
  | .hbm, ⟨8, _⟩ => ⟨S256x512, .bf16⟩
  | .hbm, ⟨9, _⟩ => ⟨S512x2048, .bf16⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S2048 : Shape := ⟨1, ![2048]⟩
abbrev S2048x512 : Shape := ⟨2, ![2048, 512]⟩
abbrev S256x512 : Shape := ⟨2, ![256, 512]⟩
abbrev S512x2048 : Shape := ⟨2, ![512, 2048]⟩
abbrev S1x8192x2048 : Shape := ⟨3, ![1, 8192, 2048]⟩
abbrev S1x256x4x128 : Shape := ⟨4, ![1, 256, 4, 128]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x512 : Shape := ⟨3, ![1, 8192, 512]⟩
abbrev S1x8192x4x128 : Shape := ⟨4, ![1, 8192, 4, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x512, .f32⟩
  | .hbm, ⟨3, _⟩ => ⟨S256x512, .f32⟩
  | .hbm, ⟨4, _⟩ => ⟨S256x512, .f32⟩
  | .hbm, ⟨5, _⟩ => ⟨S512x2048, .f32⟩
  | .hbm, ⟨6, _⟩ => ⟨S1x8192x2048, .f32⟩
  | .hbm, ⟨7, _⟩ => ⟨S1x256x4x128, .f32⟩
  | .hbm, ⟨8, _⟩ => ⟨S1x256x4x128, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S1x8192x512, .f32⟩
  | .hbm, ⟨26, _⟩ => ⟨S1x8192x4x128, .f32⟩
  | .hbm, ⟨27, _⟩ => ⟨S1x4x8192x256, .f32⟩
  | .hbm, ⟨28, _⟩ => ⟨S_, .f32⟩
  | .hbm, ⟨29, _⟩ => ⟨S1x4x8192x256, .f32⟩
  | .hbm, ⟨30, _⟩ => ⟨S1x4x8192x256, .f32⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S1x4x8192, .f32⟩
  | .hbm, ⟨36, _⟩ => ⟨S1x4x8192x1, .f32⟩
  | .hbm, ⟨37, _⟩ => ⟨S1x4x8192x256, .f32⟩
  | .hbm, ⟨38, _⟩ => ⟨S1x4x8192x256, .f32⟩
  | .hbm, ⟨39, _⟩ => ⟨S1x4x8192x256, .f32⟩
  | .hbm, ⟨40, _⟩ => ⟨S_, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x128x8192, .f32⟩
  | .hbm, ⟨46, _⟩ => ⟨S1x8192x4x128, .f32⟩
  | .hbm, ⟨47, _⟩ => ⟨S1x8192x512, .f32⟩
  | .hbm, ⟨48, _⟩ => ⟨S1x8192x2048, .f32⟩
  | .hbm, ⟨49, _⟩ => ⟨S1x8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S1x256x2048 : Shape := ⟨3, ![1, 256, 2048]⟩
abbrev S2048 : Shape := ⟨1, ![2048]⟩
abbrev S2048x512 : Shape := ⟨2, ![2048, 512]⟩
abbrev S2048x1024 : Shape := ⟨2, ![2048, 1024]⟩
abbrev S256x2048 : Shape := ⟨2, ![256, 2048]⟩
abbrev S1x2048 : Shape := ⟨2, ![1, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S256x2048, .f32⟩
  | .hbm, ⟨7, _⟩ => ⟨S1x2048, .f32⟩
  | .hbm, ⟨8, _⟩ => ⟨S256x1024, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x256x2048 : Shape := ⟨3, ![1, 256, 2048]⟩
abbrev S2048 : Shape := ⟨1, ![2048]⟩
abbrev S2048x512 : Shape := ⟨2, ![2048, 512]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S1x256x512 : Shape := ⟨3, ![1, 256, 512]⟩
abbrev S1x256x4x128 : Shape := ⟨4, ![1, 256, 4, 128]⟩
abbrev S256x512 : Shape := ⟨2, ![256, 512]⟩
abbrev S256x1024 : Shape := ⟨2, ![256, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S1x256x2048, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x2048, .f32⟩
  | .hbm, ⟨16, _⟩ => ⟨S1x256x2048, .f32⟩
  | .hbm, ⟨17, _⟩ => ⟨S1x1x2048, .f32⟩
  | .hbm, ⟨18, _⟩ => ⟨S1x256x2048, .f32⟩
  | .hbm, ⟨19, _⟩ => ⟨S1x256x2048, .f32⟩
  | .hbm, ⟨20, _⟩ => ⟨S1x256x512, .f32⟩
  | .hbm, ⟨21, _⟩ => ⟨S1x256x4x128, .f32⟩
  | .hbm, ⟨22, _⟩ => ⟨S1x256x512, .f32⟩
  | .hbm, ⟨23, _⟩ => ⟨S1x256x4x128, .f32⟩
  | .hbm, ⟨24, _⟩ => ⟨S256x512, .f32⟩
  | .hbm, ⟨25, _⟩ => ⟨S256x512, .f32⟩
  | .hbm, ⟨26, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S32x2048 : Shape := ⟨2, ![32, 2048]⟩
abbrev S2048 : Shape := ⟨1, ![2048]⟩
abbrev S2048x6736 : Shape := ⟨2, ![2048, 6736]⟩
abbrev S2048x5632 : Shape := ⟨2, ![2048, 5632]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x432 : Shape := ⟨2, ![2048, 432]⟩
abbrev S2048x7168 : Shape := ⟨2, ![2048, 7168]⟩
abbrev S1x2048 : Shape := ⟨2, ![1, 2048]⟩
abbrev S32x7168 : Shape := ⟨2, ![32, 7168]⟩
abbrev S2048x512 : Shape := ⟨2, ![2048, 512]⟩
abbrev S32x512 : Shape := ⟨2, ![32, 512]⟩
abbrev S32 : Shape := ⟨1, ![32]⟩
abbrev S32x1 : Shape := ⟨2, ![32, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x6736, .f32⟩
  | .hbm, ⟨3, _⟩ => ⟨S2048x5632, .f32⟩
  | .hbm, ⟨4, _⟩ => ⟨S2048x1024, .f32⟩
  | .hbm, ⟨5, _⟩ => ⟨S2048x64, .f32⟩
  | .hbm, ⟨6, _⟩ => ⟨S2048x16, .f32⟩
  | .hbm, ⟨7, _⟩ => ⟨S_, .f32⟩
  | .hbm, ⟨8, _⟩ => ⟨S2048x432, .f32⟩
  | .hbm, ⟨9, _⟩ => ⟨S2048x7168, .f32⟩
  | .hbm, ⟨10, _⟩ => ⟨S2048x7168, .bf16⟩
  | .hbm, ⟨11, _⟩ => ⟨S1x2048, .f32⟩
  | .hbm, ⟨12, _⟩ => ⟨S32x7168, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x512, .f32⟩
  | .local _ .vmem, ⟨5, _⟩ => ⟨S32x512, .f32⟩
  | .local _ .vmem, ⟨6, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S32x2048 : Shape := ⟨2, ![32, 2048]⟩
abbrev S2048 : Shape := ⟨1, ![2048]⟩
abbrev S2048x6736 : Shape := ⟨2, ![2048, 6736]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x6736 : Shape := ⟨2, ![32, 6736]⟩
abbrev S32x512 : Shape := ⟨2, ![32, 512]⟩
abbrev S32x1024 : Shape := ⟨2, ![32, 1024]⟩
abbrev S32x16 : Shape := ⟨2, ![32, 16]⟩
abbrev S32x64 : Shape := ⟨2, ![32, 64]⟩
abbrev S32x432 : Shape := ⟨2, ![32, 432]⟩
abbrev S32x7168 : Shape := ⟨2, ![32, 7168]⟩

abbrev nBuf : Space → Nat
  | .hbm => 35
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x6736, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S32x6736, .f32⟩
  | .hbm, ⟨20, _⟩ => ⟨S32x512, .f32⟩
  | .hbm, ⟨21, _⟩ => ⟨S32x512, .f32⟩
  | .hbm, ⟨22, _⟩ => ⟨S32x1024, .f32⟩
  | .hbm, ⟨23, _⟩ => ⟨S32x1024, .f32⟩
  | .hbm, ⟨24, _⟩ => ⟨S32x512, .f32⟩
  | .hbm, ⟨25, _⟩ => ⟨S32x512, .f32⟩
  | .hbm, ⟨26, _⟩ => ⟨S32x512, .f32⟩
  | .hbm, ⟨27, _⟩ => ⟨S32x1024, .f32⟩
  | .hbm, ⟨28, _⟩ => ⟨S32x16, .f32⟩
  | .hbm, ⟨29, _⟩ => ⟨S32x64, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S32x432, .f32⟩
  | .hbm, ⟨34, _⟩ => ⟨S32x7168, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel9.lean ====
abbrev S32x7168 : Shape := ⟨2, ![32, 7168]⟩
abbrev S32x4x128x256 : Shape := ⟨4, ![32, 4, 128, 256]⟩
abbrev S4x256 : Shape := ⟨2, ![4, 256]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S_ : Shape := ⟨0, ![]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x1 : Shape := ⟨2, ![4, 1]⟩
abbrev S4x128x1 : Shape := ⟨3, ![4, 128, 1]⟩
abbrev S4x128x256 : Shape := ⟨3, ![4, 128, 256]⟩
abbrev S1 : Shape := ⟨1, ![1]⟩
abbrev S1x1 : Shape := ⟨2, ![1, 1]⟩
abbrev S64x1 : Shape := ⟨2, ![64, 1]⟩
abbrev S4x1x256 : Shape := ⟨3, ![4, 1, 256]⟩
abbrev S1x512 : Shape := ⟨2, ![1, 512]⟩
abbrev S1x1024 : Shape := ⟨2, ![1, 1024]⟩
abbrev S32x512 : Shape := ⟨2, ![32, 512]⟩
abbrev S32x4x128x1 : Shape := ⟨4, ![32, 4, 128, 1]⟩
abbrev S32x1x7168 : Shape := ⟨3, ![32, 1, 7168]⟩
abbrev S32x1x1024 : Shape := ⟨3, ![32, 1, 1024]⟩
abbrev S32x1x512 : Shape := ⟨3, ![32, 1, 512]⟩
abbrev S1x4x128x1 : Shape := ⟨4, ![1, 4, 128, 1]⟩
abbrev S1x1x1024 : Shape := ⟨3, ![1, 1, 1024]⟩
abbrev S1x1x512 : Shape := ⟨3, ![1, 1, 512]⟩
abbrev S1x4x128x256 : Shape := ⟨4, ![1, 4, 128, 256]⟩
abbrev S1x1x128x1 : Shape := ⟨4, ![1, 1, 128, 1]⟩
abbrev S1x1x256 : Shape := ⟨3, ![1, 1, 256]⟩
abbrev S1x256 : Shape := ⟨2, ![1, 256]⟩
abbrev S1x1x128x256 : Shape := ⟨4, ![1, 1, 128, 256]⟩
abbrev S128x256 : Shape := ⟨2, ![128, 256]⟩
abbrev S256 : Shape := ⟨1, ![256]⟩

abbrev nBuf : Space → Nat
  | .hbm => 127
  | .vmem => 29
  | .smem => 0
  | _ => 0

abbrev bufTy : (tb : Table) → Fin (tcTables nBuf tb) → BufTy
  | .hbm, ⟨0, _⟩ => ⟨S32x7168, .f32⟩
  | .hbm, ⟨1, _⟩ => ⟨S32x4x128x256, .f32⟩
  | .hbm, ⟨2, _⟩ => ⟨S4x256, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S8192, .i32⟩
  | .hbm, ⟨26, _⟩ => ⟨S8192, .f32⟩
  | .hbm, ⟨27, _⟩ => ⟨S8192x1, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x128, .f32⟩
  | .hbm, ⟨35, _⟩ => ⟨S8192x64, .f32⟩
  | .hbm, ⟨36, _⟩ => ⟨S8192x128, .f32⟩
  | .hbm, ⟨37, _⟩ => ⟨S128, .f32⟩
  | .hbm, ⟨38, _⟩ => ⟨S128x1, .f32⟩
  | .hbm, ⟨39, _⟩ => ⟨S1x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .i1⟩
  | .hbm, ⟨46, _⟩ => ⟨S1x128x128, .i1⟩
  | .hbm, ⟨47, _⟩ => ⟨S4x1x1, .f32⟩
  | .hbm, ⟨48, _⟩ => ⟨S_, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S4x128x128, .f32⟩
  | .hbm, ⟨54, _⟩ => ⟨S4x128x128, .f32⟩
  | .hbm, ⟨55, _⟩ => ⟨S4x128x128, .f32⟩
  | .hbm, ⟨56, _⟩ => ⟨S4x128x128, .f32⟩
  | .hbm, ⟨57, _⟩ => ⟨S_, .f32⟩
  | .hbm, ⟨58, _⟩ => ⟨S_, .f32⟩
  | .hbm, ⟨59, _⟩ => ⟨S4x128x128, .i1⟩
  | .hbm, ⟨60, _⟩ => ⟨S4x128x128, .f32⟩
  | .hbm, ⟨61, _⟩ => ⟨S4x128x128, .f32⟩
  | .hbm, ⟨62, _⟩ => ⟨S4x1, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S4x128x1, .f32⟩
  | .hbm, ⟨72, _⟩ => ⟨S4x128x256, .f32⟩
  | .hbm, ⟨73, _⟩ => ⟨S4x1, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S4x128x1, .f32⟩
  | .hbm, ⟨83, _⟩ => ⟨S4x128x128, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S4x1x1, .f32⟩
  | .hbm, ⟨89, _⟩ => ⟨S4x128x256, .f32⟩
  | .hbm, ⟨90, _⟩ => ⟨S_, .f32⟩
  | .hbm, ⟨91, _⟩ => ⟨S1, .f32⟩
  | .hbm, ⟨92, _⟩ => ⟨S1x1, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S64x1, .f32⟩
  | .hbm, ⟨98, _⟩ => ⟨S1x64, .f32⟩
  | .hbm, ⟨99, _⟩ => ⟨S64x1, .f32⟩
  | .hbm, ⟨100, _⟩ => ⟨S_, .f32⟩
  | .hbm, ⟨101, _⟩ => ⟨S4, .f32⟩
  | .hbm, ⟨102, _⟩ => ⟨S4, .f32⟩
  | .hbm, ⟨103, _⟩ => ⟨S4, .f32⟩
  | .hbm, ⟨104, _⟩ => ⟨S4x1x1, .f32⟩
  | .hbm, ⟨105, _⟩ => ⟨S4x1x256, .f32⟩
  | .hbm, ⟨106, _⟩ => ⟨S4x1x1, .f32⟩
  | .hbm, ⟨107, _⟩ => ⟨S4, .f32⟩
  | .hbm, ⟨108, _⟩ => ⟨S4x128, .f32⟩
  | .hbm, ⟨109, _⟩ => ⟨S512, .f32⟩
  | .hbm, ⟨110, _⟩ => ⟨S1x512, .f32⟩
  | .hbm, ⟨111, _⟩ => ⟨S4x1, .f32⟩
  | .hbm, ⟨112, _⟩ => ⟨S4, .f32⟩
  | .hbm, ⟨113, _⟩ => ⟨S4x128, .f32⟩
  | .hbm, ⟨114, _⟩ => ⟨S512, .f32⟩
  | .hbm, ⟨115, _⟩ => ⟨S1x512, .f32⟩
  | .hbm, ⟨116, _⟩ => ⟨S1x1024, .f32⟩
  | .hbm, ⟨117, _⟩ => ⟨S1x512, .f32⟩
  | .hbm, ⟨118, _⟩ => ⟨S32x512, .f32⟩
  | .hbm, ⟨119, _⟩ => ⟨S32x4x128x1, .f32⟩
  | .hbm, ⟨120, _⟩ => ⟨S32x512, .f32⟩
  | .hbm, ⟨121, _⟩ => ⟨S32x4x128x1, .f32⟩
  | .hbm, ⟨122, _⟩ => ⟨S32x1x7168, .f32⟩
  | .hbm, ⟨123, _⟩ => ⟨S32x1x1024, .f32⟩
  | .hbm, ⟨124, _⟩ => ⟨S32x1x512, .f32⟩
  | .hbm, ⟨125, _⟩ => ⟨S32x4x128x256, .f32⟩
  | .hbm, ⟨126, _⟩ => ⟨S32x1x512, .f32⟩
  | .local _ .vmem, ⟨0, _⟩ => ⟨S1x4x128x1, .f32⟩
  | .local _ .vmem, ⟨1, _⟩ => ⟨S1x4x128x1, .f32⟩
  | .local _ .vmem, ⟨2, _⟩ => ⟨S1x4x128x1, .f32⟩
  | .local _ .vmem, ⟨3, _⟩ => ⟨S1x4x128x1, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x4x128x256, .f32⟩
  | .local _ .vmem, ⟨13, _⟩ => ⟨S1x4x128x256, .f32⟩
  | .local _ .vmem, ⟨14, _⟩ => ⟨S64x1, .f32⟩
  | .local _ .vmem, ⟨15, _⟩ => ⟨S64x1, .f32⟩
  | .local _ .vmem, ⟨16, _⟩ => ⟨S4x1x256, .f32⟩
  | .local _ .vmem, ⟨17, _⟩ => ⟨S1x1024, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x1x1024, .f32⟩
  | .local _ .vmem, ⟨22, _⟩ => ⟨S1x1x1024, .f32⟩
  | .local _ .vmem, ⟨23, _⟩ => ⟨S1x1x512, .f32⟩
  | .local _ .vmem, ⟨24, _⟩ => ⟨S1x1x512, .f32⟩
  | .local _ .vmem, ⟨25, _⟩ => ⟨S1x4x128x256, .f32⟩
  | .local _ .vmem, ⟨26, _⟩ => ⟨S1x4x128x256, .f32⟩
  | .local _ .vmem, ⟨27, _⟩ => ⟨S1x1x512, .f32⟩
  | .local _ .vmem, ⟨28, _⟩ => ⟨S1x1x512, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99_0 : Ref sig .tc := ⟨.hbm, 123, rfl⟩
abbrev main_v99_1 : Ref sig .tc := ⟨.hbm, 124, rfl⟩
abbrev main_v99_2 : Ref sig .tc := ⟨.hbm, 125, rfl⟩
abbrev main_v99_3 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let c0_i32 : BitVec 32 := 0#32
  let c11_i32 : BitVec 32 := 11#32
  let c0_i32_0 : BitVec 32 := 0#32
  ![arg0.toNat, c0_i32.toNat, c11_i32.toNat]

def cc0_transform_5 (i : grid0.Coords) : Fin 3 → Nat :=
  let arg0 : BitVec 32 := BitVec.ofNat 32 (i 0).val
  let c0_i32 : BitVec 32 := 0#32
  let c12_i32 : BitVec 32 := 12#32
  let c0_i32_0 : BitVec 32 := 0#32
  ![arg0.toNat, c0_i32.toNat, c12_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference9Ideal.lean ====
abbrev S32x7168 : Shape := ⟨2, ![32, 7168]⟩
abbrev S32x4x128x256 : Shape := ⟨4, ![32, 4, 128, 256]⟩
abbrev S4x256 : Shape := ⟨2, ![4, 256]⟩
abbrev S512 : Shape := ⟨1, ![512]⟩
abbrev S4x128x128 : Shape := ⟨3, ![4, 128, 128]⟩
abbrev S4x128 : Shape := ⟨2, ![4, 128]⟩
abbrev S32x1x7168 : Shape := ⟨3, ![32, 1, 7168]⟩
abbrev S32x1x512 : Shape := ⟨3, ![32, 1, 512]⟩
abbrev S32x1x1024 : Shape := ⟨3, ![32, 1, 1024]⟩
abbrev S32x1x4x128 : Shape := ⟨4, ![32, 1, 4, 128]⟩
abbrev S32x1x4x256 : Shape := ⟨4, ![32, 1, 4, 256]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x4x64 : Shape := ⟨4, ![32, 1, 4, 64]⟩
abbrev S4 : Shape := ⟨1, ![4]⟩
abbrev S1x1x1 : Shape := ⟨3, ![1, 1, 1]⟩
abbrev S4x1x1 : Shape := ⟨3, ![4, 1, 1]⟩
abbrev S32x4x1x1 : Shape := ⟨4, ![32, 4, 1, 1]⟩
abbrev S1x4x1x1 : Shape := ⟨4, ![1, 4, 1, 1]⟩
abbrev S32x4x256x1 : Shape := ⟨4, ![32, 4, 256, 1]⟩
abbrev S1x4 : Shape := ⟨2, ![1, 4]⟩
abbrev S1x1x4x1 : Shape := ⟨4, ![1, 1, 4, 1]⟩
abbrev S32x1x4 : Shape := ⟨3, ![32, 1, 4]⟩
abbrev S32x1x4x1 : Shape := ⟨4, ![32, 1, 4, 1]⟩
abbrev S1x1x4x256 : Shape := ⟨4, ![1, 1, 4, 256]⟩
abbrev S32x1 : Shape := ⟨2, ![32, 1]⟩
abbrev S32x1x1 : Shape := ⟨3, ![32, 1, 1]⟩
abbrev S1x1x512 : Shape := ⟨3, ![1, 1, 512]⟩
abbrev S32x1x1x4x128 : Shape := ⟨5, ![32, 1, 1, 4, 128]⟩
abbrev S4x32x1x128x1 : Shape := ⟨5, ![4, 32, 1, 128, 1]⟩
abbrev S4x1 : Shape := ⟨2, ![4, 1]⟩
abbrev S1x1x1x4x1 : Shape := ⟨5, ![1, 1, 1, 4, 1]⟩

abbrev nBuf : Space → Nat
  | .hbm => 262
  | .vmem => 0
  | .smem => 0
  | _ => 0

abbrev hbmTy0_0 (i : Nat) : BufTy := match i % 128 with
  | 0 => ⟨S32x7168, .f32⟩
  | 1 => ⟨S32x4x128x256, .f32⟩
  | 2 => ⟨S4x256, .f32⟩
  | 3 => ⟨S512, .f32⟩
  | 4 => ⟨S4x128x128, .f32⟩
  | 5 => ⟨S4x128, .f32⟩
  | 6 => ⟨S32x1x7168, .f32⟩
  | 7 => ⟨S32x1x512, .f32⟩
  | 8 => ⟨S32x1x512, .f32⟩
  | 9 => ⟨S32x1x1024, .f32⟩
  | 10 => ⟨S32x1x1024, .f32⟩
  | 11 => ⟨S32x1x512, .f32⟩
  | 12 => ⟨S32x1x512, .f32⟩
  | 13 => ⟨S32x1x4x128, .f32⟩
  | 14 => ⟨S32x1x4x128, .f32⟩
  | 15 => ⟨S32x1x4x256, .f32⟩
  | 16 => ⟨S1, .i32⟩
  | 17 => ⟨S_, .i32⟩
  | 18 => ⟨S1, .i32⟩
  | 19 => ⟨S1, .i32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S1, .f32⟩
  | 29 => ⟨S1x1, .f32⟩
  | 30 => ⟨S1x64, .f32⟩
  | 31 => ⟨S1x64, .f32⟩
  | 32 => ⟨S1x64, .f32⟩
  | 33 => ⟨S1x64, .f32⟩
  | 34 => ⟨S1x1x1x64, .f32⟩
  | 35 => ⟨S1x64, .f32⟩
  | 36 => ⟨S1x1x1x64, .f32⟩
  | 37 => ⟨S32x1x4x64, .f32⟩
  | 38 => ⟨S32x1x4x64, .f32⟩
  | 39 => ⟨S32x1x4x64, .f32⟩
  | 40 => ⟨S32x1x4x64, .f32⟩
  | 41 => ⟨S32x1x4x64, .f32⟩
  | 42 => ⟨S32x1x4x64, .f32⟩
  | 43 => ⟨S32x1x4x64, .f32⟩
  | 44 => ⟨S32x1x4x64, .f32⟩
  | 45 => ⟨S32x1x4x64, .f32⟩
  | 46 => ⟨S32x1x4x64, .f32⟩
  | 47 => ⟨S32x1x4x64, .f32⟩
  | 48 => ⟨S32x1x4x64, .f32⟩
  | 49 => ⟨S32x1x4x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S1, .f32⟩
  | 59 => ⟨S1x1, .f32⟩
  | 60 => ⟨S1x64, .f32⟩
  | 61 => ⟨S1x64, .f32⟩
  | 62 => ⟨S1x64, .f32⟩
  | 63 => ⟨S1x64, .f32⟩
  | 64 => ⟨S1x1x1x64, .f32⟩
  | 65 => ⟨S1x64, .f32⟩
  | 66 => ⟨S1x1x1x64, .f32⟩
  | 67 => ⟨S32x1x4x64, .f32⟩
  | 68 => ⟨S32x1x4x64, .f32⟩
  | 69 => ⟨S32x1x4x64, .f32⟩
  | 70 => ⟨S32x1x4x64, .f32⟩
  | 71 => ⟨S32x1x4x64, .f32⟩
  | 72 => ⟨S32x1x4x64, .f32⟩
  | 73 => ⟨S32x1x4x64, .f32⟩
  | 74 => ⟨S32x1x4x64, .f32⟩
  | 75 => ⟨S32x1x4x64, .f32⟩
  | 76 => ⟨S32x1x4x64, .f32⟩
  | 77 => ⟨S32x1x4x64, .f32⟩
  | 78 => ⟨S32x1x4x64, .f32⟩
  | 79 => ⟨S32x1x4x128, .f32⟩
  | 80 => ⟨S_, .f32⟩
  | 81 => ⟨S32x1x4x128, .f32⟩
  | 82 => ⟨S32x1x4x128, .f32⟩
  | 83 => ⟨S4, .f32⟩
  | 84 => ⟨S_, .f32⟩
  | 85 => ⟨S4, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S1, .f32⟩
  | 95 => ⟨S1x1, .f32⟩
  | 96 => ⟨S1x1, .f32⟩
  | 97 => ⟨S1x1, .f32⟩
  | 98 => ⟨S_, .f32⟩
  | 99 => ⟨S1x1, .f32⟩
  | 100 => ⟨S1x1, .i1⟩
  | 101 => ⟨S1x1x1, .i1⟩
  | 102 => ⟨S4x1x1, .f32⟩
  | 103 => ⟨S_, .f32⟩
  | 104 => ⟨S_, .f32⟩
  | 105 => ⟨S1x1, .f32⟩
  | 106 => ⟨S1x1, .f32⟩
  | 107 => ⟨S1x1x1, .f32⟩
  | 108 => ⟨S4x1x1, .f32⟩
  | 109 => ⟨S4x1x1, .f32⟩
  | 110 => ⟨S4x1x1, .f32⟩
  | 111 => ⟨S_, .f32⟩
  | 112 => ⟨S_, .f32⟩
  | 113 => ⟨S4x1x1, .i1⟩
  | 114 => ⟨S4x1x1, .f32⟩
  | 115 => ⟨S4x1x1, .f32⟩
  | 116 => ⟨S32x4x1x1, .f32⟩
  | 117 => ⟨S1x4x1x1, .f32⟩
  | 118 => ⟨S32x4x1x1, .f32⟩
  | 119 => ⟨S32x4x1x1, .f32⟩
  | 120 => ⟨S32x4x256x1, .f32⟩
  | 121 => ⟨S32x1x4x256, .f32⟩
  | 122 => ⟨S32x4x256x1, .f32⟩
  | 123 => ⟨S32x1x4x256, .f32⟩
  | 124 => ⟨S1x4, .f32⟩
  | 125 => ⟨S1x1, .f32⟩
  | 126 => ⟨S_, .f32⟩
  | 127 => ⟨S1x1, .f32⟩
  | _ => ⟨S32x7168, .f32⟩

abbrev hbmTy0_1 (i : Nat) : BufTy := match i % 128 with
  | 0 => ⟨S1x1, .f32⟩
  | 1 => ⟨S1x4, .f32⟩
  | 2 => ⟨S1x4, .f32⟩
  | 3 => ⟨S1x4, .f32⟩
  | 4 => ⟨S1x1x4x1, .f32⟩
  | 5 => ⟨S32x1x4x256, .f32⟩
  | 6 => ⟨S32x1x4x256, .f32⟩
  | 7 => ⟨S1x4, .f32⟩
  | 8 => ⟨S1x1, .f32⟩
  | 9 => ⟨S_, .f32⟩
  | 10 => ⟨S1x1, .f32⟩
  | 11 => ⟨S1x1, .f32⟩
  | 12 => ⟨S1x4, .f32⟩
  | 13 => ⟨S1x4, .f32⟩
  | 14 => ⟨S1x4, .f32⟩
  | 15 => ⟨S1x1x4x1, .f32⟩
  | 16 => ⟨S32x1x4x128, .f32⟩
  | 17 => ⟨S32x1x4x128, .f32⟩
  | 18 => ⟨S_, .f32⟩
  | 19 => ⟨S4, .f32⟩
  | 20 => ⟨S4, .f32⟩
  | 21 => ⟨S4, .f32⟩
  | 22 => ⟨S1x4x1x1, .f32⟩
  | 23 => ⟨S32x4x128x256, .f32⟩
  | 24 => ⟨S32x4x128x256, .f32⟩
  | 25 => ⟨S32x4x128x256, .f32⟩
  | 26 => ⟨S32x4x128x256, .f32⟩
  | 27 => ⟨S32x1x4x256, .f32⟩
  | 28 => ⟨S32x1x4x256, .f32⟩
  | 29 => ⟨S_, .f32⟩
  | 30 => ⟨S32x1x4, .f32⟩
  | 31 => ⟨S32x1x4x1, .f32⟩
  | 32 => ⟨S_, .f32⟩
  | 33 => ⟨S32x1x4x1, .f32⟩
  | 34 => ⟨S32x1x4x1, .f32⟩
  | 35 => ⟨S_, .f32⟩
  | 36 => ⟨S32x1x4x1, .f32⟩
  | 37 => ⟨S32x1x4x1, .f32⟩
  | 38 => ⟨S32x1x4x1, .f32⟩
  | 39 => ⟨S32x1x4x256, .f32⟩
  | 40 => ⟨S32x1x4x256, .f32⟩
  | 41 => ⟨S1x1x4x256, .f32⟩
  | 42 => ⟨S32x1x4x256, .f32⟩
  | 43 => ⟨S32x1x4x256, .f32⟩
  | 44 => ⟨S32x1x4x256, .f32⟩
  | 45 => ⟨S32x1x4x256, .f32⟩
  | 46 => ⟨S32x1x4x256, .f32⟩
  | 47 => ⟨S_, .f32⟩
  | 48 => ⟨S32x1x4x256, .f32⟩
  | 49 => ⟨S32x1x4x256, .f32⟩
  | 50 => ⟨S_, .f32⟩
  | 51 => ⟨S32x1x4x256, .f32⟩
  | 52 => ⟨S32x1x4x256, .f32⟩
  | 53 => ⟨S32x1x4x256, .f32⟩
  | 54 => ⟨S32x1x4x256, .f32⟩
  | 55 => ⟨S32x1x1024, .f32⟩
  | 56 => ⟨S32x1x512, .f32⟩
  | 57 => ⟨S32x1x512, .f32⟩
  | 58 => ⟨S_, .f32⟩
  | 59 => ⟨S32x1x512, .f32⟩
  | 60 => ⟨S32x1x512, .f32⟩
  | 61 => ⟨S32x1x512, .f32⟩
  | 62 => ⟨S_, .f32⟩
  | 63 => ⟨S32x1x512, .f32⟩
  | 64 => ⟨S32x1x512, .f32⟩
  | 65 => ⟨S32x1x512, .f32⟩
  | 66 => ⟨S_, .f32⟩
  | 67 => ⟨S32x1x512, .f32⟩
  | 68 => ⟨S32x1x512, .f32⟩
  | 69 => ⟨S_, .f32⟩
  | 70 => ⟨S32x1x512, .f32⟩
  | 71 => ⟨S32x1x512, .f32⟩
  | 72 => ⟨S32x1x512, .f32⟩
  | 73 => ⟨S32x1x512, .f32⟩
  | 74 => ⟨S32x1x512, .f32⟩
  | 75 => ⟨S_, .f32⟩
  | 76 => ⟨S32x1x512, .f32⟩
  | 77 => ⟨S32x1x512, .f32⟩
  | 78 => ⟨S32x1x512, .f32⟩
  | 79 => ⟨S_, .f32⟩
  | 80 => ⟨S32x1x512, .f32⟩
  | 81 => ⟨S32x1x512, .f32⟩
  | 82 => ⟨S32x1x512, .f32⟩
  | 83 => ⟨S_, .f32⟩
  | 84 => ⟨S32x1x512, .f32⟩
  | 85 => ⟨S32x1x512, .f32⟩
  | 86 => ⟨S_, .f32⟩
  | 87 => ⟨S32x1x512, .f32⟩
  | 88 => ⟨S32x1x512, .f32⟩
  | 89 => ⟨S32x1x512, .f32⟩
  | 90 => ⟨S32x1x512, .f32⟩
  | 91 => ⟨S_, .f32⟩
  | 92 => ⟨S32x1, .f32⟩
  | 93 => ⟨S32x1x1, .f32⟩
  | 94 => ⟨S_, .f32⟩
  | 95 => ⟨S32x1x1, .f32⟩
  | 96 => ⟨S32x1x1, .f32⟩
  | 97 => ⟨S_, .f32⟩
  | 98 => ⟨S32x1x1, .f32⟩
  | 99 => ⟨S32x1x1, .f32⟩
  | 100 => ⟨S32x1x1, .f32⟩
  | 101 => ⟨S32x1x512, .f32⟩
  | 102 => ⟨S32x1x512, .f32⟩
  | 103 => ⟨S1x1x512, .f32⟩
  | 104 => ⟨S32x1x512, .f32⟩
  | 105 => ⟨S32x1x512, .f32⟩
  | 106 => ⟨S_, .i1⟩
  | 107 => ⟨S1x1, .i1⟩
  | 108 => ⟨S1x1, .i32⟩
  | 109 => ⟨S_, .i32⟩
  | 110 => ⟨S1x1, .i32⟩
  | 111 => ⟨S1x1, .i32⟩
  | 112 => ⟨S1x1, .i32⟩
  | 113 => ⟨S1x1, .i1⟩
  | 114 => ⟨S_, .i1⟩
  | 115 => ⟨S1x1, .i1⟩
  | 116 => ⟨S1x1, .i1⟩
  | 117 => ⟨S1x1x1, .i1⟩
  | 118 => ⟨S4x1x1, .f32⟩
  | 119 => ⟨S_, .f32⟩
  | 120 => ⟨S_, .f32⟩
  | 121 => ⟨S4x1x1, .i1⟩
  | 122 => ⟨S4x1x1, .f32⟩
  | 123 => ⟨S4x1x1, .f32⟩
  | 124 => ⟨S32x1x1x4x128, .f32⟩
  | 125 => ⟨S4x32x1x128x1, .f32⟩
  | 126 => ⟨S32x1x1x4x128, .f32⟩
  | 127 => ⟨S4x1, .f32⟩
  | _ => ⟨S32x7168, .f32⟩

abbrev hbmTy0_2 (i : Nat) : BufTy := match i % 128 with
  | 0 => ⟨S1x4, .f32⟩
  | 1 => ⟨S1x1x1x4x1, .f32⟩
  | 2 => ⟨S32x1x1x4x128, .f32⟩
  | 3 => ⟨S32x1x1x4x128, .f32⟩
  | 4 => ⟨S32x1x512, .f32⟩
  | 5 => ⟨S32x1x512, .f32⟩
  | _ => ⟨S32x7168, .f32⟩

abbrev hbmTy (i : Nat) : BufTy := match i / 128 with
  | 0 => hbmTy0_0 i
  | 1 => hbmTy0_1 i
  | 2 => hbmTy0_2 i
  | _ => ⟨S32x7168, .f32⟩

abbrev bufTy : (tb : Table) → Fin (tcTables nBuf tb) → BufTy
  | .hbm, ⟨i, _⟩ => hbmTy i
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_1 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_3 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_4 : Ref sig .tc := ⟨.hbm, 84, rfl⟩
abbrev main_v72 : Ref sig .tc := ⟨.hbm, 85, rfl⟩
abbrev main_v73 : Ref sig .tc := ⟨.hbm, 86, rfl⟩
abbrev main_cst_5 : Ref sig .tc := ⟨.hbm, 87, rfl⟩
abbrev main_v74 : Ref sig .tc := ⟨.hbm, 88, rfl⟩
abbrev main_v75 : Ref sig .tc := ⟨.hbm, 89, rfl⟩
abbrev main_cst_6 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_8 : Ref sig .tc := ⟨.hbm, 103, rfl⟩
abbrev main_call0_v0 : Ref sig .tc := ⟨.hbm, 104, rfl⟩
abbrev main_call0_v1 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_9 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_11 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_12 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_13 : Ref sig .tc := ⟨.hbm, 157, rfl⟩
abbrev main_v131 : Ref sig .tc := ⟨.hbm, 158, rfl⟩
abbrev main_v132 : Ref sig .tc := ⟨.hbm, 159, rfl⟩
abbrev main_cst_14 : Ref sig .tc := ⟨.hbm, 160, rfl⟩
abbrev main_v133 : Ref sig .tc := ⟨.hbm, 161, rfl⟩
abbrev main_v134 : Ref sig .tc := ⟨.hbm, 162, rfl⟩
abbrev main_cst_15 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_call2_v0 : Ref sig .tc := ⟨.hbm, 173, rfl⟩
abbrev main_call2_v1 : Ref sig .tc := ⟨.hbm, 174, rfl⟩
abbrev main_call2_cst : Ref sig .tc := ⟨.hbm, 175, rfl⟩
abbrev main_call2_v2 : Ref sig .tc := ⟨.hbm, 176, rfl⟩
abbrev main_call2_v3 : Ref sig .tc := ⟨.hbm, 177, rfl⟩
abbrev main_call2_cst_0 : Ref sig .tc := ⟨.hbm, 178, rfl⟩
abbrev main_call2_v4 : Ref sig .tc := ⟨.hbm, 179, rfl⟩
abbrev main_call2_v5 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_16 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_17 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_18 : Ref sig .tc := ⟨.hbm, 194, rfl⟩
abbrev main_v155 : Ref sig .tc := ⟨.hbm, 195, rfl⟩
abbrev main_v156 : Ref sig .tc := ⟨.hbm, 196, rfl⟩
abbrev main_cst_19 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_20 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_21 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_22 : Ref sig .tc := ⟨.hbm, 211, rfl⟩
abbrev main_v168 : Ref sig .tc := ⟨.hbm, 212, rfl⟩
abbrev main_v169 : Ref sig .tc := ⟨.hbm, 213, rfl⟩
abbrev main_cst_23 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_24 : Ref sig .tc := ⟨.hbm, 219, rfl⟩
abbrev main_v174 : Ref sig .tc := ⟨.hbm, 220, rfl⟩
abbrev main_v175 : Ref sig .tc := ⟨.hbm, 221, rfl⟩
abbrev main_cst_25 : Ref sig .tc := ⟨.hbm, 222, rfl⟩
abbrev main_v176 : Ref sig .tc := ⟨.hbm, 223, rfl⟩
abbrev main_v177 : Ref sig .tc := ⟨.hbm, 224, rfl⟩
abbrev main_cst_26 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_c_27 : Ref sig .tc := ⟨.hbm, 234, rfl⟩
abbrev main_v186 : Ref sig .tc := ⟨.hbm, 235, rfl⟩
abbrev main_call3_v0 : Ref sig .tc := ⟨.hbm, 236, rfl⟩
abbrev main_call3_c : Ref sig .tc := ⟨.hbm, 237, rfl⟩
abbrev main_call3_v1 : Ref sig .tc := ⟨.hbm, 238, rfl⟩
abbrev main_call3_v2 : Ref sig .tc := ⟨.hbm, 239, rfl⟩
abbrev main_call3_v3 : Ref sig .tc := ⟨.hbm, 240, rfl⟩
abbrev main_call3_v4 : Ref sig .tc := ⟨.hbm, 241, rfl⟩
abbrev main_call3_c_0 : Ref sig .tc := ⟨.hbm, 242, rfl⟩
abbrev main_call3_v5 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_28 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩

abbrev nD : Nat := 1
abbrev τ : Topo := Topo.v7x

variable {F : FTy → Type} [FloatOps F]
-- ==== Kernel10.lean ====
abbrev S32x2048 : Shape := ⟨2, ![32, 2048]⟩
abbrev S2048 : Shape := ⟨1, ![2048]⟩
abbrev S1x2048 : Shape := ⟨2, ![1, 2048]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S1x2048, .f32⟩
  | .hbm, ⟨3, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference10Ideal.lean ====
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x2048, .f32⟩
  | .hbm, ⟨14, _⟩ => ⟨S32x2048, .f32⟩
  | .hbm, ⟨15, _⟩ => ⟨S1x2048, .f32⟩
  | .hbm, ⟨16, _⟩ => ⟨S32x2048, .f32⟩
  | .hbm, ⟨17, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S32x2048 : Shape := ⟨2, ![32, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S32x2x11008 : Shape := ⟨3, ![32, 2, 11008]⟩
abbrev S2048x5504 : Shape := ⟨2, ![2048, 5504]⟩
abbrev S_ : Shape := ⟨0, ![]⟩
abbrev S2048x5632 : Shape := ⟨2, ![2048, 5632]⟩
abbrev S3x5504 : Shape := ⟨2, ![3, 5504]⟩
abbrev S3x5632 : Shape := ⟨2, ![3, 5632]⟩
abbrev S5504 : Shape := ⟨1, ![5504]⟩
abbrev S1x5504 : Shape := ⟨2, ![1, 5504]⟩
abbrev S1x5632 : Shape := ⟨2, ![1, 5632]⟩
abbrev S5632x2048 : Shape := ⟨2, ![5632, 2048]⟩
abbrev S32x1x5504 : Shape := ⟨3, ![32, 1, 5504]⟩
abbrev S32x5504 : Shape := ⟨2, ![32, 5504]⟩
abbrev S32x5632 : Shape := ⟨2, ![32, 5632]⟩
abbrev S1x2048 : Shape := ⟨2, ![1, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S32x512 : Shape := ⟨2, ![32, 512]⟩
abbrev S32 : Shape := ⟨1, ![32]⟩
abbrev S32x1 : Shape := ⟨2, ![32, 1]⟩

abbrev nBuf : Space → Nat
  | .hbm => 63
  | .vmem => 30
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S32x2x11008, .f32⟩
  | .hbm, ⟨7, _⟩ => ⟨S2048x5504, .f32⟩
  | .hbm, ⟨8, _⟩ => ⟨S_, .i32⟩
  | .hbm, ⟨9, _⟩ => ⟨S_, .f32⟩
  | .hbm, ⟨10, _⟩ => ⟨S2048x5632, .f32⟩
  | .hbm, ⟨11, _⟩ => ⟨S2048x5632, .bf16⟩
  | .hbm, ⟨12, _⟩ => ⟨S2048x5504, .f32⟩
  | .hbm, ⟨13, _⟩ => ⟨S_, .i32⟩
  | .hbm, ⟨14, _⟩ => ⟨S_, .f32⟩
  | .hbm, ⟨15, _⟩ => ⟨S2048x5632, .f32⟩
  | .hbm, ⟨16, _⟩ => ⟨S2048x5632, .bf16⟩
  | .hbm, ⟨17, _⟩ => ⟨S3x5504, .f32⟩
  | .hbm, ⟨18, _⟩ => ⟨S_, .i32⟩
  | .hbm, ⟨19, _⟩ => ⟨S_, .f32⟩
  | .hbm, ⟨20, _⟩ => ⟨S3x5632, .f32⟩
  | .hbm, ⟨21, _⟩ => ⟨S3x5504, .f32⟩
  | .hbm, ⟨22, _⟩ => ⟨S_, .i32⟩
  | .hbm, ⟨23, _⟩ => ⟨S_, .f32⟩
  | .hbm, ⟨24, _⟩ => ⟨S3x5632, .f32⟩
  | .hbm, ⟨25, _⟩ => ⟨S5504, .f32⟩
  | .hbm, ⟨26, _⟩ => ⟨S1x5504, .f32⟩
  | .hbm, ⟨27, _⟩ => ⟨S_, .i32⟩
  | .hbm, ⟨28, _⟩ => ⟨S_, .f32⟩
  | .hbm, ⟨29, _⟩ => ⟨S1x5632, .f32⟩
  | .hbm, ⟨30, _⟩ => ⟨S5504, .f32⟩
  | .hbm, ⟨31, _⟩ => ⟨S1x5504, .f32⟩
  | .hbm, ⟨32, _⟩ => ⟨S_, .i32⟩
  | .hbm, ⟨33, _⟩ => ⟨S_, .f32⟩
  | .hbm, ⟨34, _⟩ => ⟨S1x5632, .f32⟩
  | .hbm, ⟨35, _⟩ => ⟨S_, .i32⟩
  | .hbm, ⟨36, _⟩ => ⟨S_, .f32⟩
  | .hbm, ⟨37, _⟩ => ⟨S5632x2048, .f32⟩
  | .hbm, ⟨38, _⟩ => ⟨S5632x2048, .bf16⟩
  | .hbm, ⟨39, _⟩ => ⟨S32x1x5504, .f32⟩
  | .hbm, ⟨40, _⟩ => ⟨S32x5504, .f32⟩
  | .hbm, ⟨41, _⟩ => ⟨S_, .i32⟩
  | .hbm, ⟨42, _⟩ => ⟨S_, .f32⟩
  | .hbm, ⟨43, _⟩ => ⟨S32x5632, .f32⟩
  | .hbm, ⟨44, _⟩ => ⟨S32x1x5504, .f32⟩
  | .hbm, ⟨45, _⟩ => ⟨S32x5504, .f32⟩
  | .hbm, ⟨46, _⟩ => ⟨S_, .i32⟩
  | .hbm, ⟨47, _⟩ => ⟨S_, .f32⟩
  | .hbm, ⟨48, _⟩ => ⟨S32x5632, .f32⟩
  | .hbm, ⟨49, _⟩ => ⟨S32x1x5504, .f32⟩
  | .hbm, ⟨50, _⟩ => ⟨S32x5504, .f32⟩
  | .hbm, ⟨51, _⟩ => ⟨S_, .i32⟩
  | .hbm, ⟨52, _⟩ => ⟨S_, .f32⟩
  | .hbm, ⟨53, _⟩ => ⟨S32x5632, .f32⟩
  | .hbm, ⟨54, _⟩ => ⟨S32x1x5504, .f32⟩
  | .hbm, ⟨55, _⟩ => ⟨S32x5504, .f32⟩
  | .hbm, ⟨56, _⟩ => ⟨S_, .i32⟩
  | .hbm, ⟨57, _⟩ => ⟨S_, .f32⟩
  | .hbm, ⟨58, _⟩ => ⟨S32x5632, .f32⟩
  | .hbm, ⟨59, _⟩ => ⟨S1x2048, .f32⟩
  | .hbm, ⟨60, _⟩ => ⟨S32x2048, .f32⟩
  | .hbm, ⟨61, _⟩ => ⟨S32x5632, .f32⟩
  | .hbm, ⟨62, _⟩ => ⟨S32x5632, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S32x512, .f32⟩
  | .local _ .vmem, ⟨23, _⟩ => ⟨S32x512, .f32⟩
  | .local _ .vmem, ⟨24, _⟩ => ⟨S32x2048, .f32⟩
  | .local _ .vmem, ⟨25, _⟩ => ⟨S32x512, .f32⟩
  | .local _ .vmem, ⟨26, _⟩ => ⟨S32x512, .f32⟩
  | .local _ .vmem, ⟨27, _⟩ => ⟨S32x512, .f32⟩
  | .local _ .vmem, ⟨28, _⟩ => ⟨S32x512, .f32⟩
  | .local _ .vmem, ⟨29, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call4_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_call5_v0 : Ref sig .tc := ⟨.hbm, 33, rfl⟩
abbrev main_v15 : Ref sig .tc := ⟨.hbm, 34, rfl⟩
abbrev main_c_5 : Ref sig .tc := ⟨.hbm, 35, rfl⟩
abbrev main_call6_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_call7_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_call8_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_8 : Ref sig .tc := ⟨.hbm, 51, rfl⟩
abbrev main_call9_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_9 : Ref sig .tc := ⟨.hbm, 56, rfl⟩
abbrev main_call10_v0 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S32x2048 : Shape := ⟨2, ![32, 2048]⟩
abbrev S2048 : Shape := ⟨1, ![2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S32x2x11008 : Shape := ⟨3, ![32, 2, 11008]⟩
abbrev S32x1x2048 : Shape := ⟨3, ![32, 1, 2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x1x11008 : Shape := ⟨3, ![32, 1, 11008]⟩
abbrev S32x3x11008 : Shape := ⟨3, ![32, 3, 11008]⟩
abbrev S1x11008 : Shape := ⟨2, ![1, 11008]⟩
abbrev S1x1x11008 : Shape := ⟨3, ![1, 1, 11008]⟩
abbrev S32x1x5504 : Shape := ⟨3, ![32, 1, 5504]⟩
abbrev S32x5504 : Shape := ⟨2, ![32, 5504]⟩
abbrev S32x5632 : Shape := ⟨2, ![32, 5632]⟩

abbrev nBuf : Space → Nat
  | .hbm => 74
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S32x2x11008, .f32⟩
  | .hbm, ⟨7, _⟩ => ⟨S32x1x2048, .f32⟩
  | .hbm, ⟨8, _⟩ => ⟨S32x1x2048, .f32⟩
  | .hbm, ⟨9, _⟩ => ⟨S_, .f32⟩
  | .hbm, ⟨10, _⟩ => ⟨S32x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S32x1x1, .f32⟩
  | .hbm, ⟨19, _⟩ => ⟨S32x1x2048, .f32⟩
  | .hbm, ⟨20, _⟩ => ⟨S32x1x2048, .f32⟩
  | .hbm, ⟨21, _⟩ => ⟨S1x1x2048, .f32⟩
  | .hbm, ⟨22, _⟩ => ⟨S32x1x2048, .f32⟩
  | .hbm, ⟨23, _⟩ => ⟨S32x1x2048, .f32⟩
  | .hbm, ⟨24, _⟩ => ⟨S32x1x11008, .f32⟩
  | .hbm, ⟨25, _⟩ => ⟨S32x3x11008, .f32⟩
  | .hbm, ⟨26, _⟩ => ⟨S1x11008, .f32⟩
  | .hbm, ⟨27, _⟩ => ⟨S11008, .f32⟩
  | .hbm, ⟨28, _⟩ => ⟨S32x1x11008, .f32⟩
  | .hbm, ⟨29, _⟩ => ⟨S1x1x11008, .f32⟩
  | .hbm, ⟨30, _⟩ => ⟨S32x1x11008, .f32⟩
  | .hbm, ⟨31, _⟩ => ⟨S32x1x11008, .f32⟩
  | .hbm, ⟨32, _⟩ => ⟨S1x1x11008, .f32⟩
  | .hbm, ⟨33, _⟩ => ⟨S32x1x11008, .f32⟩
  | .hbm, ⟨34, _⟩ => ⟨S32x1x11008, .f32⟩
  | .hbm, ⟨35, _⟩ => ⟨S1x11008, .f32⟩
  | .hbm, ⟨36, _⟩ => ⟨S11008, .f32⟩
  | .hbm, ⟨37, _⟩ => ⟨S32x1x11008, .f32⟩
  | .hbm, ⟨38, _⟩ => ⟨S1x1x11008, .f32⟩
  | .hbm, ⟨39, _⟩ => ⟨S32x1x11008, .f32⟩
  | .hbm, ⟨40, _⟩ => ⟨S32x1x11008, .f32⟩
  | .hbm, ⟨41, _⟩ => ⟨S32x1x11008, .f32⟩
  | .hbm, ⟨42, _⟩ => ⟨S1x11008, .f32⟩
  | .hbm, ⟨43, _⟩ => ⟨S11008, .f32⟩
  | .hbm, ⟨44, _⟩ => ⟨S32x1x11008, .f32⟩
  | .hbm, ⟨45, _⟩ => ⟨S1x1x11008, .f32⟩
  | .hbm, ⟨46, _⟩ => ⟨S32x1x11008, .f32⟩
  | .hbm, ⟨47, _⟩ => ⟨S32x1x11008, .f32⟩
  | .hbm, ⟨48, _⟩ => ⟨S32x1x11008, .f32⟩
  | .hbm, ⟨49, _⟩ => ⟨S32x1x5504, .f32⟩
  | .hbm, ⟨50, _⟩ => ⟨S32x1x5504, .f32⟩
  | .hbm, ⟨51, _⟩ => ⟨S32x1x5504, .f32⟩
  | .hbm, ⟨52, _⟩ => ⟨S32x1x5504, .f32⟩
  | .hbm, ⟨53, _⟩ => ⟨S_, .f32⟩
  | .hbm, ⟨54, _⟩ => ⟨S32x1x5504, .f32⟩
  | .hbm, ⟨55, _⟩ => ⟨S32x1x5504, .f32⟩
  | .hbm, ⟨56, _⟩ => ⟨S_, .f32⟩
  | .hbm, ⟨57, _⟩ => ⟨S32x1x5504, .f32⟩
  | .hbm, ⟨58, _⟩ => ⟨S32x1x5504, .f32⟩
  | .hbm, ⟨59, _⟩ => ⟨S32x1x5504, .f32⟩
  | .hbm, ⟨60, _⟩ => ⟨S32x1x5504, .f32⟩
  | .hbm, ⟨61, _⟩ => ⟨S32x1x2048, .f32⟩
  | .hbm, ⟨62, _⟩ => ⟨S32x1x2048, .f32⟩
  | .hbm, ⟨63, _⟩ => ⟨S32x2048, .f32⟩
  | .hbm, ⟨64, _⟩ => ⟨S32x1x5504, .f32⟩
  | .hbm, ⟨65, _⟩ => ⟨S32x5504, .f32⟩
  | .hbm, ⟨66, _⟩ => ⟨S_, .i32⟩
  | .hbm, ⟨67, _⟩ => ⟨S_, .f32⟩
  | .hbm, ⟨68, _⟩ => ⟨S32x5632, .f32⟩
  | .hbm, ⟨69, _⟩ => ⟨S32x1x5504, .f32⟩
  | .hbm, ⟨70, _⟩ => ⟨S32x5504, .f32⟩
  | .hbm, ⟨71, _⟩ => ⟨S_, .i32⟩
  | .hbm, ⟨72, _⟩ => ⟨S_, .f32⟩
  | .hbm, ⟨73, _⟩ => ⟨S32x5632, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_call1_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_2 : Ref sig .tc := ⟨.hbm, 71, rfl⟩
abbrev main_call2_v0 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel12.lean ====
abbrev S32x1024 : Shape := ⟨2, ![32, 1024]⟩
abbrev S32x512 : Shape := ⟨2, ![32, 512]⟩
abbrev S2048x2048 : Shape := ⟨2, ![2048, 2048]⟩
abbrev S32x2048 : Shape := ⟨2, ![32, 2048]⟩
abbrev S1024x512 : Shape := ⟨2, ![1024, 512]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S2048x2048, .f32⟩
  | .hbm, ⟨4, _⟩ => ⟨S32x2048, .f32⟩
  | .hbm, ⟨5, _⟩ => ⟨S2048x2048, .bf16⟩
  | .hbm, ⟨6, _⟩ => ⟨S32x2048, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S1024x512, .bf16⟩
  | .local _ .vmem, ⟨4, _⟩ => ⟨S1024x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S32x1024 : Shape := ⟨2, ![32, 1024]⟩
abbrev S32x512 : Shape := ⟨2, ![32, 512]⟩
abbrev S2048x2048 : Shape := ⟨2, ![2048, 2048]⟩
abbrev S32x2048 : Shape := ⟨2, ![32, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S2048x2048, .f32⟩
  | .hbm, ⟨4, _⟩ => ⟨S32x2048, .f32⟩
  | .hbm, ⟨5, _⟩ => ⟨S32x2048, .f32⟩
  | .hbm, ⟨6, _⟩ => ⟨S32x2048, .f32⟩
  | .hbm, ⟨7, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel13.lean ====
abbrev S32x2048 : Shape := ⟨2, ![32, 2048]⟩
abbrev S2048 : Shape := ⟨1, ![2048]⟩
abbrev S2048x512 : Shape := ⟨2, ![2048, 512]⟩
abbrev S1x2048 : Shape := ⟨2, ![1, 2048]⟩
abbrev S32x512 : Shape := ⟨2, ![32, 512]⟩
abbrev S32 : Shape := ⟨1, ![32]⟩
abbrev S32x1 : Shape := ⟨2, ![32, 1]⟩

abbrev nBuf : Space → Nat
  | .hbm => 6
  | .vmem => 5
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x512, .f32⟩
  | .hbm, ⟨3, _⟩ => ⟨S2048x512, .bf16⟩
  | .hbm, ⟨4, _⟩ => ⟨S1x2048, .f32⟩
  | .hbm, ⟨5, _⟩ => ⟨S32x512, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S32x512, .f32⟩
  | .local _ .vmem, ⟨4, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference13Ideal.lean ====
abbrev S32x2048 : Shape := ⟨2, ![32, 2048]⟩
abbrev S2048 : Shape := ⟨1, ![2048]⟩
abbrev S2048x512 : Shape := ⟨2, ![2048, 512]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x512 : Shape := ⟨2, ![32, 512]⟩

abbrev nBuf : Space → Nat
  | .hbm => 20
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x512, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S32x512, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel14.lean ====
abbrev S32x512 : Shape := ⟨2, ![32, 512]⟩
abbrev S512x2048 : Shape := ⟨2, ![512, 2048]⟩
abbrev S32x2048 : Shape := ⟨2, ![32, 2048]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S32x512, .f32⟩
  | .hbm, ⟨1, _⟩ => ⟨S512x2048, .f32⟩
  | .hbm, ⟨2, _⟩ => ⟨S32x2048, .f32⟩
  | .hbm, ⟨3, _⟩ => ⟨S32x512, .bf16⟩
  | .hbm, ⟨4, _⟩ => ⟨S512x2048, .bf16⟩
  | .hbm, ⟨5, _⟩ => ⟨S32x2048, .f32⟩
  | .local _ .vmem, ⟨0, _⟩ => ⟨S32x512, .bf16⟩
  | .local _ .vmem, ⟨1, _⟩ => ⟨S512x512, .bf16⟩
  | .local _ .vmem, ⟨2, _⟩ => ⟨S512x512, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S32x512 : Shape := ⟨2, ![32, 512]⟩
abbrev S512x2048 : Shape := ⟨2, ![512, 2048]⟩
abbrev S32x2048 : Shape := ⟨2, ![32, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S512x2048, .f32⟩
  | .hbm, ⟨2, _⟩ => ⟨S32x2048, .f32⟩
  | .hbm, ⟨3, _⟩ => ⟨S32x2048, .f32⟩
  | .hbm, ⟨4, _⟩ => ⟨S32x2048, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S32x512 : Shape := ⟨2, ![32, 512]⟩
abbrev S32x256x4x128 : Shape := ⟨4, ![32, 256, 4, 128]⟩
abbrev S32x1024x128 : Shape := ⟨3, ![32, 1024, 128]⟩
abbrev S_ : Shape := ⟨0, ![]⟩
abbrev S32x4x128 : Shape := ⟨3, ![32, 4, 128]⟩
abbrev S32x8x128 : Shape := ⟨3, ![32, 8, 128]⟩
abbrev S8x8x128 : Shape := ⟨3, ![8, 8, 128]⟩
abbrev S8x1024x128 : Shape := ⟨3, ![8, 1024, 128]⟩
abbrev S8x1024 : Shape := ⟨2, ![8, 1024]⟩
abbrev S1x8x128 : Shape := ⟨3, ![1, 8, 128]⟩
abbrev S8x128 : Shape := ⟨2, ![8, 128]⟩
abbrev S1x1024x128 : Shape := ⟨3, ![1, 1024, 128]⟩
abbrev S1024x128 : Shape := ⟨2, ![1024, 128]⟩
abbrev S8 : Shape := ⟨1, ![8]⟩
abbrev S8x1 : Shape := ⟨2, ![8, 1]⟩

abbrev nBuf : Space → Nat
  | .hbm => 14
  | .vmem => 8
  | .smem => 0
  | _ => 0

abbrev bufTy : (tb : Table) → Fin (tcTables nBuf tb) → BufTy
  | .hbm, ⟨0, _⟩ => ⟨S32x512, .f32⟩
  | .hbm, ⟨1, _⟩ => ⟨S32x256x4x128, .f32⟩
  | .hbm, ⟨2, _⟩ => ⟨S32x256x4x128, .f32⟩
  | .hbm, ⟨3, _⟩ => ⟨S32x1024x128, .f32⟩
  | .hbm, ⟨4, _⟩ => ⟨S32x1024x128, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x4x128, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S32x8x128, .bf16⟩
  | .hbm, ⟨13, _⟩ => ⟨S32x8x128, .f32⟩
  | .local _ .vmem, ⟨0, _⟩ => ⟨S8x8x128, .bf16⟩
  | .local _ .vmem, ⟨1, _⟩ => ⟨S8x8x128, .bf16⟩
  | .local _ .vmem, ⟨2, _⟩ => ⟨S8x1024x128, .f32⟩
  | .local _ .vmem, ⟨3, _⟩ => ⟨S8x1024x128, .f32⟩
  | .local _ .vmem, ⟨4, _⟩ => ⟨S8x1024x128, .f32⟩
  | .local _ .vmem, ⟨5, _⟩ => ⟨S8x1024x128, .f32⟩
  | .local _ .vmem, ⟨6, _⟩ => ⟨S8x8x128, .f32⟩
  | .local _ .vmem, ⟨7, _⟩ => ⟨S8x8x128, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S32x512 : Shape := ⟨2, ![32, 512]⟩
abbrev S32x256x4x128 : Shape := ⟨4, ![32, 256, 4, 128]⟩
abbrev S32x1x4x128 : Shape := ⟨4, ![32, 1, 4, 128]⟩
abbrev S_ : Shape := ⟨0, ![]⟩
abbrev S32x1x8x128 : Shape := ⟨4, ![32, 1, 8, 128]⟩
abbrev S32x256x8x128 : Shape := ⟨4, ![32, 256, 8, 128]⟩
abbrev S32x8x1x256 : Shape := ⟨4, ![32, 8, 1, 256]⟩
abbrev S32x8x1 : Shape := ⟨3, ![32, 8, 1]⟩
abbrev S32x8x1x1 : Shape := ⟨4, ![32, 8, 1, 1]⟩
abbrev S32x8x128x1 : Shape := ⟨4, ![32, 8, 128, 1]⟩
abbrev S32x8x128 : Shape := ⟨3, ![32, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x256x4x128, .f32⟩
  | .hbm, ⟨2, _⟩ => ⟨S32x256x4x128, .f32⟩
  | .hbm, ⟨3, _⟩ => ⟨S32x1x4x128, .f32⟩
  | .hbm, ⟨4, _⟩ => ⟨S_, .i32⟩
  | .hbm, ⟨5, _⟩ => ⟨S_, .f32⟩
  | .hbm, ⟨6, _⟩ => ⟨S32x1x8x128, .f32⟩
  | .hbm, ⟨7, _⟩ => ⟨S32x256x8x128, .f32⟩
  | .hbm, ⟨8, _⟩ => ⟨S32x256x8x128, .f32⟩
  | .hbm, ⟨9, _⟩ => ⟨S32x8x1x256, .f32⟩
  | .hbm, ⟨10, _⟩ => ⟨S_, .f32⟩
  | .hbm, ⟨11, _⟩ => ⟨S32x8x1x256, .f32⟩
  | .hbm, ⟨12, _⟩ => ⟨S32x8x1x256, .f32⟩
  | .hbm, ⟨13, _⟩ => ⟨S_, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1x1, .f32⟩
  | .hbm, ⟨19, _⟩ => ⟨S32x8x1x256, .f32⟩
  | .hbm, ⟨20, _⟩ => ⟨S32x8x1x256, .f32⟩
  | .hbm, ⟨21, _⟩ => ⟨S32x8x1x256, .f32⟩
  | .hbm, ⟨22, _⟩ => ⟨S_, .f32⟩
  | .hbm, ⟨23, _⟩ => ⟨S32x8x1, .f32⟩
  | .hbm, ⟨24, _⟩ => ⟨S32x8x1x1, .f32⟩
  | .hbm, ⟨25, _⟩ => ⟨S32x8x1x256, .f32⟩
  | .hbm, ⟨26, _⟩ => ⟨S32x8x1x256, .f32⟩
  | .hbm, ⟨27, _⟩ => ⟨S32x8x128x1, .f32⟩
  | .hbm, ⟨28, _⟩ => ⟨S32x1x8x128, .f32⟩
  | .hbm, ⟨29, _⟩ => ⟨S32x8x128, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.MixHead.lean ====
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.Mix

/-- An element of a rotated row: the element times the cosine factor plus its partner half a row away times the signed
    sine factor. -/
def rot (x cs sn : Fin 128 → EReal) (d : Fin 128) : EReal :=
  x d * cs d + x ⟨(d.val + 128 - 64) % 128, Nat.mod_lt _ (by decide)⟩ * sn d

/-- An element of one head's retention output in a chunk: the decayed causal attention inside the chunk plus the decayed
    product of the query with the incoming state. -/
def retO (q k : Fin 128 → Fin 128 → EReal) (v s : Fin 128 → Fin 256 → EReal) (dm : Fin 128 → Fin 128 → EReal)
    (cd : Fin 128 → EReal) (n : Fin 128) (e : Fin 256) : EReal :=
  (∑ j : Fin 128, (∑ d : Fin 128, q n d * k j d) * dm n j * v j e) + (∑ d : Fin 128, q n d * s d e) * cd n

/-- An element of one head's state after a chunk: the decayed incoming state plus the decayed keys times the values. -/
def retS (k : Fin 128 → Fin 128 → EReal) (v s : Fin 128 → Fin 256 → EReal) (kd : Fin 128 → EReal) (gc : EReal)
    (d : Fin 128) (e : Fin 256) : EReal :=
  gc * s d e + ∑ j : Fin 128, k j d * kd j * v j e

/-- An element of one head's normalised and gated output. -/
def retY (o : Fin 256 → EReal) (gain g : Fin 256 → EReal) (e : Fin 256) : EReal :=
  o e * Ideal.rsqrt (Ideal.div (∑ x : Fin 256, o x * o x) (Ideal.ofBits .f32 0x43800000#32)
    + Ideal.ofBits .f32 0x358637BD#32) * gain e * (g e * Ideal.logistic (g e))

open Cert.KernelIdeal Cert.KernelIdeal.Gen

/-- Column `128 h + d` of a row of 512. -/
def col (h : Fin 4) (d : Fin 128) : Fin 512 := ⟨128 * h.val + d.val, by omega⟩

/-- Column `256 h + e` of a row of 1024. -/
def wide (h : Fin 4) (e : Fin 256) : Fin 1024 := ⟨256 * h.val + e.val, by omega⟩

/-- The head of a column of 1024, and the column inside the head. -/
def headOf (l : Fin 1024) : Fin 4 := ⟨l.val / 256, by omega⟩
def inHead (l : Fin 1024) : Fin 256 := ⟨l.val % 256, by omega⟩

/-- The group of a column of 512, and the column inside the group. -/
def groupOf (l : Fin 512) : Fin 4 := ⟨l.val / 128, by omega⟩
def inGroup (l : Fin 512) : Fin 128 := ⟨l.val % 128, by omega⟩

/-- Head `h`'s rotated queries of a chunk. -/
def hq (X : FVec Ideal S128x512 .f32) (cs sn : FVec Ideal S128x128 .f32) (h : Fin 4) (n d : Fin 128) : EReal :=
  rot (fun d => X (ix2 n (col h d))) (fun d => cs (ix2 n d)) (fun d => sn (ix2 n d)) d

/-- Head `h`'s rotated and scaled keys of a chunk. -/
def hk (X : FVec Ideal S128x512 .f32) (cs sn : FVec Ideal S128x128 .f32) (h : Fin 4) (n d : Fin 128) : EReal :=
  hq X cs sn h n d * Ideal.ofBits .f32 0x3DB504F3#32

/-- The state after a chunk, at head `h`. -/
def nextS (X1 : FVec Ideal S128x512 .f32) (X2 : FVec Ideal S128x1024 .f32) (cs sn : FVec Ideal S128x128 .f32)
    (kd : FVec Ideal S4x128x128 .f32) (gc : FVec Ideal S4x128x256 .f32) (s : Fin 4 → Fin 128 → Fin 256 → EReal)
    (h : Fin 4) (d : Fin 128) (e : Fin 256) : EReal :=
  retS (hk X1 cs sn h) (fun j e => X2 (ix2 j (wide h e))) (s h) (fun j => kd (ix3 h j d)) (gc (ix3 h d e)) d e

/-- The retention output of a chunk, at head `h`. -/
def chunkO (X0 X1 : FVec Ideal S128x512 .f32) (X2 : FVec Ideal S128x1024 .f32) (cs sn : FVec Ideal S128x128 .f32)
    (dm : FVec Ideal S4x128x128 .f32) (cd : FVec Ideal S4x128x256 .f32) (s : Fin 4 → Fin 128 → Fin 256 → EReal)
    (h : Fin 4) (n : Fin 128) (e : Fin 256) : EReal :=
  retO (hq X0 cs sn h) (hk X1 cs sn h) (fun j e => X2 (ix2 j (wide h e))) (s h) (fun n j => dm (ix3 h n j))
    (fun n => cd (ix3 h n e)) n e

/-- The normalised, gated output of a chunk, at head `h`. -/
def chunkA (X0 X1 : FVec Ideal S128x512 .f32) (X2 X3 : FVec Ideal S128x1024 .f32) (cs sn : FVec Ideal S128x128 .f32)
    (dm : FVec Ideal S4x128x128 .f32) (cd : FVec Ideal S4x128x256 .f32) (gain : FVec Ideal S1x1024 .f32)
    (s : Fin 4 → Fin 128 → Fin 256 → EReal) (h : Fin 4) (n : Fin 128) (e : Fin 256) : EReal :=
  retY (fun e => chunkO X0 X1 X2 cs sn dm cd s h n e) (fun e => gain (ix2 0 (wide h e))) (fun e => X3 (ix2 n (wide h e))) e

/-- The tanh form of the gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The normalised gate half of a chunk. -/
def vnorm (v gain : Fin 512 → EReal) (l : Fin 512) : EReal :=
  gelu (v l) * Ideal.rsqrt (Ideal.div (∑ x : Fin 512, gelu (v x) * gelu (v x)) (Ideal.ofBits .f32 0x44000000#32)
    + Ideal.ofBits .f32 0x358637BD#32) * gain l

/-- The gMLP output of a chunk, at group `h`. -/
def chunkC (X4 X5 : FVec Ideal S128x512 .f32) (gain : FVec Ideal S1x512 .f32) (w : FVec Ideal S4x128x128 .bf16)
    (b : FVec Ideal S4x128x128 .f32) (h : Fin 4) (n d : Fin 128) : EReal :=
  gelu (X4 (ix2 n (col h d))) * ((∑ j : Fin 128, w (ix3 h n j)
    * vnorm (fun l => X5 (ix2 j l)) (fun l => gain (ix2 0 l)) (col h d)) + b (ix3 h n d))

/-- The gate half's gelu, its mean square and its normalisation, read off the body's values. -/
theorem gelu_u_at (x : FVec Ideal S128x512 .f32) (n : Fin 128) (l : Fin 512) :
    k0_pay38 (F := Ideal) x (ix2 n l) = gelu (x (ix2 n l)) := by
  pointwise [k0_pay38, gelu]

theorem gelu_v_at (x : FVec Ideal S128x512 .f32) (n : Fin 128) (l : Fin 512) :
    k0_pay39 (F := Ideal) x (ix2 n l) = gelu (x (ix2 n l)) := by
  pointwise [k0_pay39, gelu]

theorem square_at (x : FVec Ideal S128x512 .f32) (n : Fin 128) (z : Fin 1) :
    k0_pay40 (F := Ideal) x (ix2 n z) = ∑ l : Fin 512, gelu (x (ix2 n l)) * gelu (x (ix2 n l)) := by
  pointwise [k0_pay40, gelu_v_at]

theorem vnorm_at (x : FVec Ideal S128x512 .f32) (gain : FVec Ideal S1x512 .f32) (n : Fin 128) (l : Fin 512) :
    k0_pay41 (F := Ideal) (k0_pay39 (F := Ideal) x) (k0_pay40 (F := Ideal) x) (Ideal.ofBits .f32 0x44000000#32) gain (ix2 n l)
      = vnorm (fun l => x (ix2 n l)) (fun l => gain (ix2 0 l)) l := by
  pointwise [k0_pay41, gelu_v_at, square_at]
  rfl

end Cert.Mix
-- ==== Proof.MixConst.lean ====
module

public import proofs.«01_k».proof.Proof.MixHead

@[expose] public section

set_option maxRecDepth 16384

noncomputable section

open Idealize.ShloMosaic

namespace Cert.Mix

/-- A counter's value as a number. -/
def num (n : Nat) : EReal := FloatOps.sitofp (F := Ideal) .f32 (BitVec.ofNat 32 n)

/-- The logarithm of a head's decay. -/
def logg (h : Fin 4) : EReal :=
  Ideal.log (1 - Ideal.pow (Ideal.ofBits .f32 0x40000000#32) (Ideal.ofBits .f32 0xC0A00000#32 - num h.val))

/-- The rotation angle of a position, for one frequency. -/
def angle (p d : Nat) : EReal :=
  num p * Ideal.pow (Ideal.ofBits .f32 0x461C4000#32) (Ideal.div (-(num d)) (Ideal.ofBits .f32 0x42800000#32))

/-- The cosine factor of column `d` at a position. -/
def cosS (p : Fin 8192) (d : Fin 128) : EReal := Ideal.cos (angle p.val (d.val % 64))

/-- The signed sine factor of column `d` at a position. -/
def sinS (p : Fin 8192) (d : Fin 128) : EReal :=
  if d.val < 64 then -(Ideal.sin (angle p.val d.val)) else Ideal.sin (angle p.val (d.val - 64))

/-- The decay of the incoming state at a row. -/
def cdecS (h : Fin 4) (n : Fin 128) : EReal := Ideal.exp (logg h * (num n.val + 1))

/-- The decay of a key. -/
def kdecS (h : Fin 4) (n : Fin 128) : EReal := Ideal.exp (logg h * (Ideal.ofBits .f32 0x42FE0000#32 - num n.val))

/-- The decay of the state over a chunk. -/
def gcS (h : Fin 4) : EReal := Ideal.exp (logg h * Ideal.ofBits .f32 0x43000000#32)

/-- The causal decay between two rows of a chunk. -/
def dmatS (h : Fin 4) (n j : Fin 128) : EReal :=
  if 0 ≤ num n.val - num j.val then Ideal.exp (logg h * (num n.val - num j.val)) else 0

/-- Row `n` of chunk `t`. -/
def pos (t : Fin 64) (n : Fin 128) : Fin 8192 := ⟨128 * t.val + n.val, by omega⟩

variable (X : Fin 8192 → Fin 7168 → EReal)

/-- Head `h`'s rotated query rows of chunk `t`. -/
def qry (t : Fin 64) (h : Fin 4) (n d : Fin 128) : EReal :=
  rot (fun d => X (pos t n) ⟨(col h d).val, by omega⟩) (cosS (pos t n)) (sinS (pos t n)) d

/-- Head `h`'s rotated, scaled key rows of chunk `t`. -/
def key (t : Fin 64) (h : Fin 4) (n d : Fin 128) : EReal :=
  rot (fun d => X (pos t n) ⟨512 + (col h d).val, by omega⟩) (cosS (pos t n)) (sinS (pos t n)) d
    * Ideal.ofBits .f32 0x3DB504F3#32

/-- Head `h`'s value rows of chunk `t`. -/
def val (t : Fin 64) (h : Fin 4) (n : Fin 128) (e : Fin 256) : EReal :=
  X (pos t n) ⟨1024 + (wide h e).val, by omega⟩

/-- The state after chunk `t`, over the state before it. -/
def stepS (t : Fin 64) (s : Fin 4 → Fin 128 → Fin 256 → EReal) (h : Fin 4) (d : Fin 128) (e : Fin 256) : EReal :=
  retS (key X t h) (val X t h) (s h) (kdecS h) (gcS h) d e

/-- The retention output of chunk `t`, over the state before it. -/
def stepO (t : Fin 64) (s : Fin 4 → Fin 128 → Fin 256 → EReal) (h : Fin 4) (n : Fin 128) (e : Fin 256) : EReal :=
  retO (qry X t h) (key X t h) (val X t h) (s h) (dmatS h) (cdecS h) n e

/-- The state after the first `k` chunks, from zero. -/
def stateS : Nat → Fin 4 → Fin 128 → Fin 256 → EReal
  | 0 => fun _ _ _ => 0
  | k + 1 => if hk : k < 64 then stepS X ⟨k, hk⟩ (stateS k) else stateS k

/-- The retention heads' normalised and gated output of chunk `t`. -/
def outA (G : Fin 4 → Fin 256 → EReal) (t : Fin 64) (h : Fin 4) (n : Fin 128) (e : Fin 256) : EReal :=
  retY (fun e => stepO X t (stateS X t.val) h n e) (G h)
    (fun e => X (pos t n) ⟨2048 + (wide h e).val, by omega⟩) e

/-- The normalised gate half of the gMLP at row `n` of chunk `t`. -/
def gateV (G : Fin 512 → EReal) (t : Fin 64) (n : Fin 128) (l : Fin 512) : EReal :=
  vnorm (fun l => X (pos t n) ⟨6144 + l.val, by omega⟩) G l

/-- The mixing weight of the gMLP: its causal half. -/
def tri (w : Fin 4 → Fin 128 → Fin 128 → EReal) (h : Fin 4) (n j : Fin 128) : EReal :=
  if j.val ≤ n.val then w h n j else 0

/-- The gMLP's output of chunk `t`. -/
def outC (G : Fin 512 → EReal) (w : Fin 4 → Fin 128 → Fin 128 → EReal) (b : Fin 4 → Fin 128 → EReal)
    (t : Fin 64) (h : Fin 4) (n d : Fin 128) : EReal :=
  gelu (X (pos t n) ⟨5632 + (col h d).val, by omega⟩)
    * ((∑ j : Fin 128, tri w h n j * gateV X G t j (col h d)) + b h n)

/-- The chunk of a position, and the row inside it. -/
def chunkOf (p : Fin 8192) : Fin 64 := ⟨p.val / 128, by omega⟩
def rowOf (p : Fin 8192) : Fin 128 := ⟨p.val % 128, by omega⟩

/-- The four results, as arrays: the retention output, the gMLP output, the final state, the last chunk's gate rows. -/
def specA (G : Fin 4 → Fin 256 → EReal) (i : Cert.KernelIdeal.S8192x1024.Idx) : EReal :=
  outA X G (chunkOf (i 0)) (headOf (i 1)) (rowOf (i 0)) (inHead (i 1))
def specC (G : Fin 512 → EReal) (w : Fin 4 → Fin 128 → Fin 128 → EReal) (b : Fin 4 → Fin 128 → EReal)
    (i : Cert.KernelIdeal.S8192x512.Idx) : EReal :=
  outC X G w b (chunkOf (i 0)) (groupOf (i 1)) (rowOf (i 0)) (inGroup (i 1))
def specS (i : Cert.KernelIdeal.S4x128x256.Idx) : EReal := stateS X 64 (i 0) (i 1) (i 2)
def specV (G : Fin 512 → EReal) (i : Cert.KernelIdeal.S128x512.Idx) : EReal := gateV X G 63 (i 0) (i 1)

/-- The specification's functions depend on the values of their operands only. -/
theorem rot_congr {x x' cs cs' sn sn' : Fin 128 → EReal} (hx : ∀ d, x d = x' d) (hc : ∀ d, cs d = cs' d)
    (hs : ∀ d, sn d = sn' d) (d : Fin 128) : rot x cs sn d = rot x' cs' sn' d := by
  rw [funext hx, funext hc, funext hs]

theorem retS_congr {k k' : Fin 128 → Fin 128 → EReal} {v v' s s' : Fin 128 → Fin 256 → EReal} {kd kd' : Fin 128 → EReal}
    {g g' : EReal} (hk : ∀ j d, k j d = k' j d) (hv : ∀ j e, v j e = v' j e) (hs : ∀ d e, s d e = s' d e)
    (hd : ∀ j, kd j = kd' j) (hg : g = g') (d : Fin 128) (e : Fin 256) : retS k v s kd g d e = retS k' v' s' kd' g' d e := by
  rw [funext fun j => funext (hk j), funext fun j => funext (hv j), funext fun j => funext (hs j), funext hd, hg]

theorem retO_congr {q q' k k' dm dm' : Fin 128 → Fin 128 → EReal} {v v' s s' : Fin 128 → Fin 256 → EReal}
    {cd cd' : Fin 128 → EReal} (hq : ∀ j d, q j d = q' j d) (hk : ∀ j d, k j d = k' j d) (hv : ∀ j e, v j e = v' j e)
    (hs : ∀ d e, s d e = s' d e) (hm : ∀ n j, dm n j = dm' n j) (hc : ∀ n, cd n = cd' n) (n : Fin 128) (e : Fin 256) :
    retO q k v s dm cd n e = retO q' k' v' s' dm' cd' n e := by
  rw [funext fun j => funext (hq j), funext fun j => funext (hk j), funext fun j => funext (hv j),
    funext fun j => funext (hs j), funext fun j => funext (hm j), funext hc]

theorem retY_congr {o o' gain gain' g g' : Fin 256 → EReal} (ho : ∀ e, o e = o' e) (hn : ∀ e, gain e = gain' e)
    (hg : ∀ e, g e = g' e) (e : Fin 256) : retY o gain g e = retY o' gain' g' e := by
  rw [funext ho, funext hn, funext hg]

theorem vnorm_congr {v v' gain gain' : Fin 512 → EReal} (hv : ∀ e, v e = v' e) (hn : ∀ e, gain e = gain' e)
    (l : Fin 512) : vnorm v gain l = vnorm v' gain' l := by
  rw [funext hv, funext hn]

/-- Two pieces side by side depend on the pieces only. -/
theorem concat2 {α : Type} {s1 s2 t : Shape} {d : Fin t.rank} {a a' : s1.Idx → α} {b b' : s2.Idx → α}
    (h : Shape.Concatenates [s1, s2] t d) (ha : a = a') (hb : b = b') :
    concatenate t d [⟨s1, a⟩, ⟨s2, b⟩] h = concatenate t d [⟨s1, a'⟩, ⟨s2, b'⟩] h := by
  subst ha; subst hb; rfl

end Cert.Mix
-- ==== Proof.MixHost.lean ====
module

public import proofs.«01_k».proof.Proof.MixConst
public import Idealize.ShloMosaic.Lib.StableHlo.RunRead

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

/-- The table of angles that the host stages. -/
def angleT : FVec Ideal S8192x64 .f32 :=
  mulf (broadcastInDim S8192x64 ![0, 1] bcast_S8192x1_S8192x64_0_1
      (broadcastInDim S8192x1 ![0] bcast_S8192_S8192x1_0 (sitofp .f32 (iotaInDim S8192 32 0))))
    (broadcastInDim S8192x64 ![0, 1] bcast_S1x64_S8192x64_0_1
      (broadcastInDim S1x64 ![1] bcast_S64_S1x64_1
        (Host.powf (broadcastInDim S64 ![] bcast_S_S64 (constant S_ .f32 0x461C4000#32))
          (Host.divf (Host.negf (sitofp .f32 (iotaInDim S64 32 0)))
            (broadcastInDim S64 ![] bcast_S_S64 (constant S_ .f32 0x42800000#32))))))

theorem angleT_at (p : Fin 8192) (d : Fin 64) : angleT (ix2 p d) = angle p.val d.val := by
  pointwise [angleT, angle, num]

/-- The cosine factors the call is given. -/
theorem cos_at (c : Dev nD) (p : Fin 8192) (d : Fin 128) :
    (show FVec Ideal S8192x128 .f32 from V m c main_v23) (ix2 p d) = cosS p d := by
  simp only [V, List.flatten_cons, List.flatten_nil, List.append_nil, StableHlo.after_append]
  after_reads_simp
  refine (congrFun (concat2 (a' := Host.cos angleT) (b' := Host.cos angleT) _ ?_ ?_) _).trans ?_
  · rfl
  · rfl
  pointwise [angleT_at, cosS]
  split
  · rw [Nat.mod_eq_of_lt (by assumption)]
  · rw [show d.val % 64 = d.val - 64 by omega]

/-- The sine factors the call is given. -/
theorem sin_at (c : Dev nD) (p : Fin 8192) (d : Fin 128) :
    (show FVec Ideal S8192x128 .f32 from V m c main_v25) (ix2 p d) = sinS p d := by
  simp only [V, List.flatten_cons, List.flatten_nil, List.append_nil, StableHlo.after_append]
  after_reads_simp
  refine (congrFun (concat2 (a' := Host.negf (Host.sin angleT)) (b' := Host.sin angleT) _ ?_ ?_) _).trans ?_
  · rfl
  · rfl
  pointwise [angleT_at, sinS]
  split <;> rfl

/-- The state's decay at a row, as the call is given it. -/
theorem cdec_at (c : Dev nD) (h : Fin 4) (n : Fin 128) (e : Fin 256) :
    (show FVec Ideal S4x128x256 .f32 from V m c main_v52) (ix3 h n e) = cdecS h n := by
  simp only [V, List.flatten_cons, List.flatten_nil, List.append_nil, StableHlo.after_append]
  after_reads_simp
  pointwise [cdecS, logg, num]

/-- The keys' decay, as the call is given it. -/
theorem kdec_at (c : Dev nD) (h : Fin 4) (n : Fin 128) (e : Fin 128) :
    (show FVec Ideal S4x128x128 .f32 from V m c main_v62) (ix3 h n e) = kdecS h n := by
  simp only [V, List.flatten_cons, List.flatten_nil, List.append_nil, StableHlo.after_append]
  after_reads_simp
  pointwise [kdecS, logg, num]

/-- The state's decay over a chunk, as the call is given it. -/
theorem gc_at (c : Dev nD) (h : Fin 4) (d : Fin 128) (e : Fin 256) :
    (show FVec Ideal S4x128x256 .f32 from V m c main_v67) (ix3 h d e) = gcS h := by
  simp only [V, List.flatten_cons, List.flatten_nil, List.append_nil, StableHlo.after_append]
  after_reads_simp
  pointwise [gcS, logg, num]

/-- The difference of two rows' counters. -/
def diffT : FVec Ideal S128x128 .f32 :=
  subf (broadcastInDim S128x128 ![0, 1] bcast_S128x1_S128x128_0_1
      (broadcastInDim S128x1 ![0] bcast_S128_S128x1_0 (sitofp .f32 (iotaInDim S128 32 0))))
    (broadcastInDim S128x128 ![0, 1] bcast_S1x128_S128x128_0_1
      (broadcastInDim S1x128 ![1] bcast_S128_S1x128_1 (sitofp .f32 (iotaInDim S128 32 0))))

/-- Whether a row does not precede another. -/
def causalT : IVec S128x128 1 := cmpf .oge diffT (broadcastInDim S128x128 ![] bcast_S_S128x128 (constant S_ .f32 0x00000000#32))

/-- The logarithms of the heads' decays. -/
def loggT : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The decay table that the host stages. -/
def dmatT : FVec Ideal S4x128x128 .f32 :=
  select (broadcastInDim S4x128x128 ![0, 1, 2] bcast_S1x128x128_S4x128x128_0_1_2
      (broadcastInDim S1x128x128 ![1, 2] bcast_S128x128_S1x128x128_1_2 causalT))
    (Host.exp (mulf (broadcastInDim S4x128x128 ![0, 1, 2] bcast_S4x1x1_S4x128x128_0_1_2
        (broadcastInDim S4x1x1 ![0] bcast_S4_S4x1x1_0 loggT))
      (broadcastInDim S4x128x128 ![0, 1, 2] bcast_S1x128x128_S4x128x128_0_1_2
        (broadcastInDim S1x128x128 ![1, 2] bcast_S128x128_S1x128x128_1_2
          (select causalT diffT (broadcastInDim S128x128 ![] bcast_S_S128x128 (constant S_ .f32 0x00000000#32)))))))
    (broadcastInDim S4x128x128 ![] bcast_S_S4x128x128 (constant S_ .f32 0x00000000#32))

/-- The decay between two rows, as the call is given it. -/
theorem dmat_at (c : Dev nD) (h : Fin 4) (n j : Fin 128) :
    (show FVec Ideal S4x128x128 .f32 from V m c main_v42) (ix3 h n j) = dmatS h n j := by
  have e : (show FVec Ideal S4x128x128 .f32 from V m c main_v42) = dmatT := by
    simp only [V, List.flatten_cons, List.flatten_nil, List.append_nil, StableHlo.after_append]
    after_reads_simp
    rfl
  rw [e]
  pointwise [dmatT, causalT, diffT, loggT, dmatS, logg, num]
  split <;> rfl

/-- The head gain, as the call is given it. -/
theorem retg_at (c : Dev nD) (l : Fin 1024) :
    (show FVec Ideal S1x1024 .f32 from V m c main_v89) (ix2 0 l)
      = (show FVec Ideal S4x256 .f32 from m ((c : Thread nD τ).loc main_arg1)) (ix2 (headOf l) (inHead l)) := by
  simp only [V, List.flatten_cons, List.flatten_nil, List.append_nil, StableHlo.after_append]
  after_reads_simp
  pointwise [headOf, inHead]

/-- The gate gain, as the call is given it. -/
theorem gmg_at (c : Dev nD) (l : Fin 512) :
    (show FVec Ideal S1x512 .f32 from V m c main_v90) (ix2 0 l)
      = (show FVec Ideal S512 .f32 from m ((c : Thread nD τ).loc main_arg2)) (ix1 l) := by
  simp only [V, List.flatten_cons, List.flatten_nil, List.append_nil, StableHlo.after_append]
  after_reads_simp
  pointwise []

/-- The mixing bias, as the call is given it. -/
theorem bias_at (c : Dev nD) (h : Fin 4) (n d : Fin 128) :
    (show FVec Ideal S4x128x128 .f32 from V m c main_v88) (ix3 h n d)
      = (show FVec Ideal S4x128 .f32 from m ((c : Thread nD τ).loc main_arg4)) (ix2 h n) := by
  simp only [V, List.flatten_cons, List.flatten_nil, List.append_nil, StableHlo.after_append]
  after_reads_simp
  pointwise []

/-- Whether a column does not exceed a row, as the host writes it. -/
def trilT : IVec S128x128 1 :=
  select (cmpi .sge (addi (iotaInDim S128x128 32 0) (broadcastInDim S128x128 ![] bcast_S_S128x128 (constantI S_ 32 0#32)))
      (iotaInDim S128x128 32 1))
    (broadcastInDim S128x128 ![] bcast_S_S128x128 (constantI S_ 1 1#1))
    (broadcastInDim S128x128 ![] bcast_S_S128x128 (constantI S_ 1 0#1))

/-- The mixing weight that the host stages. -/
def wtrilT (w : FVec Ideal S4x128x128 .f32) : FVec Ideal S4x128x128 .bf16 :=
  truncf .bf16 (select (broadcastInDim S4x128x128 ![0, 1, 2] bcast_S1x128x128_S4x128x128_0_1_2
      (broadcastInDim S1x128x128 ![1, 2] bcast_S128x128_S1x128x128_1_2 trilT)) w
    (broadcastInDim S4x128x128 ![] bcast_S_S4x128x128 (constant S_ .f32 0x00000000#32)) : FVec Ideal S4x128x128 .f32)
    bitsLt_bf16_f32

/-- The mixing weight, as the call is given it. -/
theorem tril_at (c : Dev nD) (h : Fin 4) (n j : Fin 128) :
    (show FVec Ideal S4x128x128 .bf16 from V m c main_v86) (ix3 h n j)
      = tri (fun h n j => (show FVec Ideal S4x128x128 .f32 from m ((c : Thread nD τ).loc main_arg3)) (ix3 h n j)) h n j := by
  have e : (show FVec Ideal S4x128x128 .bf16 from V m c main_v86) = wtrilT (m ((c : Thread nD τ).loc main_arg3)) := by
    simp only [V, List.flatten_cons, List.flatten_nil, List.append_nil, StableHlo.after_append]
    after_reads_simp
    rfl
  rw [e]
  pointwise [wtrilT, trilT, tri]
  rw [show IntOp.addi (BitVec.ofNat 32 n.val) 0#32 = BitVec.ofNat 32 n.val from BitVec.add_zero _]
  word_cmp
  split <;> rfl

end Cert.Mix
-- ==== Proof.MixPoint.lean ====
module

public import proofs.«01_k».proof.Proof.MixHead
public import Idealize.ShloMosaic.Lib.Pipeline.ReadBack

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

/-- The state block after a point, over the state before it. -/
def nextBlk (c : Dev nD) (t : Fin cfg0.N) (s : FVec Ideal S4x128x256 .f32) (h : Fin 4) (d : Fin 128) (e : Fin 256) : EReal :=
  nextS (iblk m c 1 t) (iblk m c 2 t) (iblk m c 6 t) (iblk m c 7 t) (iblk m c 10 t) (iblk m c 11 t)
    (fun h d e => s (ix3 h d e)) h d e

/-- The output block of a point, over the state before it. -/
def outBlk (c : Dev nD) (t : Fin cfg0.N) (s : FVec Ideal S4x128x256 .f32) (h : Fin 4) (n : Fin 128) (e : Fin 256) : EReal :=
  chunkA (iblk m c 0 t) (iblk m c 1 t) (iblk m c 2 t) (iblk m c 3 t) (iblk m c 6 t) (iblk m c 7 t) (iblk m c 8 t)
    (iblk m c 9 t) (iblk m c 12 t) (fun h d e => s (ix3 h d e)) h n e

/-- The gMLP block of a point. -/
def gmlpBlk (c : Dev nD) (t : Fin cfg0.N) (h : Fin 4) (n d : Fin 128) : EReal :=
  chunkC (iblk m c 4 t) (iblk m c 5 t) (iblk m c 13 t) (iblk m c 14 t) (iblk m c 15 t) h n d

theorem state_B (c : Dev nD) (t : Fin cfg0.N) (h0 : ¬ t.val % 64 = 0) (h1 : ¬ t.val % 64 = 63) (y : S4x128x256.Idx)
   (hp : t.val - 1 < cfg0.N) :
    (outsAt0 m c t.val t.isLt).2.2.2.2 y = nextBlk m c t (outsAt0 m c (t.val - 1) hp).2.2.2.2 (y 0) (y 1) (y 2) := by
  rw [outsAt0_B m c t h0 h1]
  frame_out
  clear h0 h1
  generalize (outsAt0 m c (t.val - 1) _).2.2.2.2 = s
  simp only [read_unread_whole]
  canon_tiles x h
  all_goals
    open_payloads
    pointwise [nextBlk, nextS, retS, hk, hq, rot, col, wide]
    blk_point []

theorem out_B (c : Dev nD) (t : Fin cfg0.N) (h0 : ¬ t.val % 64 = 0) (h1 : ¬ t.val % 64 = 63) (y : S128x1024.Idx)
    (hp : t.val - 1 < cfg0.N) :
    (outsAt0 m c t.val t.isLt).1 y
      = outBlk m c t (outsAt0 m c (t.val - 1) hp).2.2.2.2 (headOf (y 1)) (y 0) (inHead (y 1)) := by
  rw [outsAt0_B m c t h0 h1]
  frame_out
  clear h0 h1
  generalize (outsAt0 m c (t.val - 1) _).2.2.2.2 = s
  simp only [read_unread_whole]
  canon_tiles x h
  all_goals
    open_payloads
    pointwise [outBlk, chunkA, chunkO, retO, retY, hk, hq, rot, col, wide, headOf, inHead]
    blk_point []

end Cert.Mix
-- ==== Proof.MixBlock.lean ====
module

public import proofs.«01_k».proof.Proof.MixHost
public import proofs.«01_k».proof.Proof.MixPoint

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

/-- The projected columns that the call is given. -/
def Xof (c : Dev nD) (p : Fin 8192) (l : Fin 7168) : EReal :=
  (show FVec Ideal S8192x7168 .f32 from m ((c : Thread nD τ).loc main_arg0)) (ix2 p l)

/-- The call's other arguments, at an index. -/
def gainOf (c : Dev nD) (h : Fin 4) (e : Fin 256) : EReal :=
  (show FVec Ideal S4x256 .f32 from m ((c : Thread nD τ).loc main_arg1)) (ix2 h e)
def gateGain (c : Dev nD) (l : Fin 512) : EReal :=
  (show FVec Ideal S512 .f32 from m ((c : Thread nD τ).loc main_arg2)) (ix1 l)
def wOf (c : Dev nD) (h : Fin 4) (n j : Fin 128) : EReal :=
  (show FVec Ideal S4x128x128 .f32 from m ((c : Thread nD τ).loc main_arg3)) (ix3 h n j)
def biasOf (c : Dev nD) (h : Fin 4) (n : Fin 128) : EReal :=
  (show FVec Ideal S4x128 .f32 from m ((c : Thread nD τ).loc main_arg4)) (ix2 h n)

theorem headOf_wide (h : Fin 4) (e : Fin 256) : headOf (wide h e) = h := Fin.ext (by simp only [headOf, wide]; omega)
theorem inHead_wide (h : Fin 4) (e : Fin 256) : inHead (wide h e) = e := Fin.ext (by simp only [inHead, wide]; omega)

/-- A point of the launch as a chunk. -/
def chk (t : Fin cfg0.N) : Fin 64 := t.cast (by decide +kernel)

theorem chk_val (t : Fin cfg0.N) : (chk t).val = t.val := rfl

/-- Where each window's block of a point starts, in blocks. -/
theorem idx_rows : ∀ t : Fin cfg0.N, win0_0.index t = ![t.val, 0] ∧ win0_1.index t = ![t.val, 1] ∧ win0_2.index t = ![t.val, 1]
    ∧ win0_3.index t = ![t.val, 2] ∧ win0_4.index t = ![t.val, 11] ∧ win0_5.index t = ![t.val, 12]
    ∧ win0_6.index t = ![t.val, 0] ∧ win0_7.index t = ![t.val, 0] ∧ win0_16.index t = ![t.val, 0] ∧ win0_17.index t = ![t.val, 0] :=
  (by decide +kernel : ∀ t : Fin grid0.N, _)

theorem idx_whole : ∀ t : Fin cfg0.N, win0_8.index t = ![0, 0, 0] ∧ win0_9.index t = ![0, 0, 0] ∧ win0_10.index t = ![0, 0, 0]
    ∧ win0_11.index t = ![0, 0, 0] ∧ win0_12.index t = ![0, 0] ∧ win0_13.index t = ![0, 0] ∧ win0_14.index t = ![0, 0, 0]
    ∧ win0_15.index t = ![0, 0, 0] :=
  (by decide +kernel : ∀ t : Fin grid0.N, _)

/-- Each window's block, at an index. -/
theorem q_read (c : Dev nD) (t : Fin cfg0.N) (n : Fin 128) (l : Fin 512) :
    (show FVec Ideal S128x512 .f32 from iblk m c 0 t) (ix2 n l) = Xof m c (pos (chk t) n) ⟨l.val, by omega⟩ := by
  unfold Xof
  rw [← V_main_arg0 m c]
  blk_ext [iblk, idx_rows t, pos, chk_val]

theorem k_read (c : Dev nD) (t : Fin cfg0.N) (n : Fin 128) (l : Fin 512) :
    (show FVec Ideal S128x512 .f32 from iblk m c 1 t) (ix2 n l) = Xof m c (pos (chk t) n) ⟨512 + l.val, by omega⟩ := by
  unfold Xof
  rw [← V_main_arg0 m c]
  blk_ext [iblk, idx_rows t, pos, chk_val]

theorem v_read (c : Dev nD) (t : Fin cfg0.N) (n : Fin 128) (l : Fin 1024) :
    (show FVec Ideal S128x1024 .f32 from iblk m c 2 t) (ix2 n l) = Xof m c (pos (chk t) n) ⟨1024 + l.val, by omega⟩ := by
  unfold Xof
  rw [← V_main_arg0 m c]
  blk_ext [iblk, idx_rows t, pos, chk_val]

theorem g_read (c : Dev nD) (t : Fin cfg0.N) (n : Fin 128) (l : Fin 1024) :
    (show FVec Ideal S128x1024 .f32 from iblk m c 3 t) (ix2 n l) = Xof m c (pos (chk t) n) ⟨2048 + l.val, by omega⟩ := by
  unfold Xof
  rw [← V_main_arg0 m c]
  blk_ext [iblk, idx_rows t, pos, chk_val]

theorem gu_read (c : Dev nD) (t : Fin cfg0.N) (n : Fin 128) (l : Fin 512) :
    (show FVec Ideal S128x512 .f32 from iblk m c 4 t) (ix2 n l) = Xof m c (pos (chk t) n) ⟨5632 + l.val, by omega⟩ := by
  unfold Xof
  rw [← V_main_arg0 m c]
  blk_ext [iblk, idx_rows t, pos, chk_val]

theorem gv_read (c : Dev nD) (t : Fin cfg0.N) (n : Fin 128) (l : Fin 512) :
    (show FVec Ideal S128x512 .f32 from iblk m c 5 t) (ix2 n l) = Xof m c (pos (chk t) n) ⟨6144 + l.val, by omega⟩ := by
  unfold Xof
  rw [← V_main_arg0 m c]
  blk_ext [iblk, idx_rows t, pos, chk_val]

theorem cos_read (c : Dev nD) (t : Fin cfg0.N) (n d : Fin 128) :
    (show FVec Ideal S128x128 .f32 from iblk m c 6 t) (ix2 n d) = cosS (pos (chk t) n) d := by
  rw [← cos_at m c]
  blk_ext [iblk, idx_rows t, pos, chk_val]

theorem sin_read (c : Dev nD) (t : Fin cfg0.N) (n d : Fin 128) :
    (show FVec Ideal S128x128 .f32 from iblk m c 7 t) (ix2 n d) = sinS (pos (chk t) n) d := by
  rw [← sin_at m c]
  blk_ext [iblk, idx_rows t, pos, chk_val]

theorem dmat_read (c : Dev nD) (t : Fin cfg0.N) (h : Fin 4) (a b : Fin 128) :
    (show FVec Ideal S4x128x128 .f32 from iblk m c 8 t) (ix3 h a b) = dmatS h a b := by
  rw [← dmat_at m c h a b]
  blk_ext [iblk, idx_whole t]

theorem cdec_read (c : Dev nD) (t : Fin cfg0.N) (h : Fin 4) (a : Fin 128) (b : Fin 256) :
    (show FVec Ideal S4x128x256 .f32 from iblk m c 9 t) (ix3 h a b) = cdecS h a := by
  rw [← cdec_at m c h a b]
  blk_ext [iblk, idx_whole t]

theorem kdec_read (c : Dev nD) (t : Fin cfg0.N) (h : Fin 4) (a b : Fin 128) :
    (show FVec Ideal S4x128x128 .f32 from iblk m c 10 t) (ix3 h a b) = kdecS h a := by
  rw [← kdec_at m c h a b]
  blk_ext [iblk, idx_whole t]

theorem gc_read (c : Dev nD) (t : Fin cfg0.N) (h : Fin 4) (a : Fin 128) (b : Fin 256) :
    (show FVec Ideal S4x128x256 .f32 from iblk m c 11 t) (ix3 h a b) = gcS h := by
  rw [← gc_at m c h a b]
  blk_ext [iblk, idx_whole t]

theorem bias_read (c : Dev nD) (t : Fin cfg0.N) (h : Fin 4) (a b : Fin 128) :
    (show FVec Ideal S4x128x128 .f32 from iblk m c 15 t) (ix3 h a b) = biasOf m c h a := by
  unfold biasOf
  rw [← bias_at m c h a b]
  blk_ext [iblk, idx_whole t]

theorem tril_read (c : Dev nD) (t : Fin cfg0.N) (h : Fin 4) (a b : Fin 128) :
    (show FVec Ideal S4x128x128 .bf16 from iblk m c 14 t) (ix3 h a b) = tri (wOf m c) h a b := by
  unfold wOf
  rw [← tril_at m c h a b]
  blk_ext [iblk, idx_whole t]

theorem retg_read (c : Dev nD) (t : Fin cfg0.N) (l : Fin 1024) :
    (show FVec Ideal S1x1024 .f32 from iblk m c 12 t) (ix2 0 l) = gainOf m c (headOf l) (inHead l) := by
  unfold gainOf
  rw [← retg_at m c l]
  blk_ext [iblk, idx_whole t]

theorem gmg_read (c : Dev nD) (t : Fin cfg0.N) (l : Fin 512) :
    (show FVec Ideal S1x512 .f32 from iblk m c 13 t) (ix2 0 l) = gateGain m c l := by
  unfold gateGain
  rw [← gmg_at m c l]
  blk_ext [iblk, idx_whole t]

/-- A point's query and key rows are the specification's. -/
theorem qBlk_eq (c : Dev nD) (t : Fin cfg0.N) (h : Fin 4) (j d : Fin 128) :
    hq (iblk m c 0 t) (iblk m c 6 t) (iblk m c 7 t) h j d = qry (Xof m c) (chk t) h j d := by
  unfold hq qry
  exact rot_congr (fun d => q_read m c t j (col h d)) (fun d => cos_read m c t j d) (fun d => sin_read m c t j d) d

theorem kBlk_eq (c : Dev nD) (t : Fin cfg0.N) (h : Fin 4) (j d : Fin 128) :
    hk (iblk m c 1 t) (iblk m c 6 t) (iblk m c 7 t) h j d = key (Xof m c) (chk t) h j d := by
  unfold hk hq key
  exact congrArg (· * Ideal.ofBits .f32 0x3DB504F3#32)
    (rot_congr (fun d => k_read m c t j (col h d)) (fun d => cos_read m c t j d) (fun d => sin_read m c t j d) d)

/-- A point's blocks are the specification's steps of its chunk. -/
theorem nextBlk_eq (c : Dev nD) (t : Fin cfg0.N) (s : FVec Ideal S4x128x256 .f32) (h : Fin 4) (d : Fin 128) (e : Fin 256) :
    nextBlk m c t s h d e = stepS (Xof m c) (chk t) (fun h d e => s (ix3 h d e)) h d e := by
  unfold nextBlk nextS stepS
  exact retS_congr (kBlk_eq m c t h) (fun j e => v_read m c t j (wide h e)) (fun _ _ => rfl)
    (fun j => kdec_read m c t h j d) (gc_read m c t h d e) d e

theorem chunkO_eq (c : Dev nD) (t : Fin cfg0.N) (s : Fin 4 → Fin 128 → Fin 256 → EReal) (h : Fin 4) (n : Fin 128) (e : Fin 256) :
    chunkO (iblk m c 0 t) (iblk m c 1 t) (iblk m c 2 t) (iblk m c 6 t) (iblk m c 7 t) (iblk m c 8 t) (iblk m c 9 t) s h n e
      = stepO (Xof m c) (chk t) s h n e := by
  unfold chunkO stepO
  exact retO_congr (qBlk_eq m c t h) (kBlk_eq m c t h) (fun j e => v_read m c t j (wide h e)) (fun _ _ => rfl)
    (fun n j => dmat_read m c t h n j) (fun n => cdec_read m c t h n e) n e

theorem outBlk_eq (c : Dev nD) (t : Fin cfg0.N) (s : FVec Ideal S4x128x256 .f32) (h : Fin 4) (n : Fin 128) (e : Fin 256) :
    outBlk m c t s h n e
      = retY (fun e => stepO (Xof m c) (chk t) (fun h d e => s (ix3 h d e)) h n e) (gainOf m c h)
          (fun e => Xof m c (pos (chk t) n) ⟨2048 + (wide h e).val, by omega⟩) e := by
  unfold outBlk chunkA
  exact retY_congr (fun e => chunkO_eq m c t _ h n e)
    (fun e => (retg_read m c t (wide h e)).trans (by rw [headOf_wide, inHead_wide]))
    (fun e => g_read m c t n (wide h e)) e

theorem gateBlk_eq (c : Dev nD) (t : Fin cfg0.N) (n : Fin 128) (l : Fin 512) :
    vnorm (fun l => (show FVec Ideal S128x512 .f32 from iblk m c 5 t) (ix2 n l))
        (fun l => (show FVec Ideal S1x512 .f32 from iblk m c 13 t) (ix2 0 l)) l
      = gateV (Xof m c) (gateGain m c) (chk t) n l :=
  vnorm_congr (fun l => gv_read m c t n l) (fun l => gmg_read m c t l) l

theorem gmlpBlk_eq (c : Dev nD) (t : Fin cfg0.N) (h : Fin 4) (n d : Fin 128) :
    gmlpBlk m c t h n d = outC (Xof m c) (gateGain m c) (wOf m c) (biasOf m c) (chk t) h n d := by
  have h1 := congrArg gelu (gu_read m c t n (col h d))
  have h2 := Finset.sum_congr (s₁ := Finset.univ) rfl fun (j : Fin 128) _ =>
    congrArg₂ (fun (a b : EReal) => a * b) (tril_read m c t h n j) (gateBlk_eq m c t j (col h d))
  unfold gmlpBlk chunkC outC
  exact congrArg₂ (fun (a b : EReal) => a * b) h1 (congrArg₂ (fun (a b : EReal) => a + b) h2 (bias_read m c t h n d))

end Cert.Mix
-- ==== Proof.MixPointA.lean ====
module

public import proofs.«01_k».proof.Proof.MixPoint

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

/-- Earlier stores are not seen where later ones cover. -/
theorem canon_drop {S : Shape} {e : EltTy} {Val : EltTy → Type} [∀ e, Nonempty (Val e)] (L' : List (View.Piece Val S e)) :
    ∀ (L : List (View.Piece Val S e)) (y : S.Idx), (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hy⟩ := h
      rcases List.mem_cons.mp hq with rfl | hq
      · exact absurd hy hm
      · exact ⟨q, hq, hy⟩

/-- The state after the first point, over the zero state. -/
theorem state_A (c : Dev nD) (t : Fin cfg0.N) (h0 : t.val % 64 = 0) (h1 : ¬ t.val % 64 = 63) (y : S4x128x256.Idx) :
    (outsAt0 m c t.val t.isLt).2.2.2.2 y = nextBlk m c t (fun _ => 0) (y 0) (y 1) (y 2) := by
  rw [outsAt0_A m c t h0 h1]
  frame_open
  simp (disch := decide) only [↓ View.readCov_skip, ↓ View.readCov_cons_toLoadRect, ↓ View.readCov_fill]
  frame_out
  clear h0 h1
  refine (canon_drop [_] [_, _, _, _] y ?_).trans ?_
  · exact View.cover_of_tiled_head _ _ _ rfl y
  canon_tiles x h
  all_goals
    open_payloads
    pointwise [nextBlk, nextS, retS, hk, hq, rot, col, wide]
    blk_point []

/-- The output block of the first point. -/
theorem out_A (c : Dev nD) (t : Fin cfg0.N) (h0 : t.val % 64 = 0) (h1 : ¬ t.val % 64 = 63) (y : S128x1024.Idx) :
    (outsAt0 m c t.val t.isLt).1 y = outBlk m c t (fun _ => 0) (headOf (y 1)) (y 0) (inHead (y 1)) := by
  rw [outsAt0_A m c t h0 h1]
  frame_open
  simp (disch := decide) only [↓ View.readCov_skip, ↓ View.readCov_cons_toLoadRect, ↓ View.readCov_fill]
  frame_out
  clear h0 h1
  canon_tiles x h
  all_goals
    open_payloads
    pointwise [outBlk, chunkA, chunkO, retO, retY, hk, hq, rot, col, wide, headOf, inHead]
    blk_point []

end Cert.Mix
-- ==== Proof.MixPointC.lean ====
module

public import proofs.«01_k».proof.Proof.MixPoint
public import Idealize.ShloMosaic.Lib.Pipeline.ReadBack

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

theorem state_C (c : Dev nD) (t : Fin cfg0.N) (h0 : ¬ t.val % 64 = 0) (h1 : t.val % 64 = 63) (y : S4x128x256.Idx)
   (hp : t.val - 1 < cfg0.N) :
    (outsAt0 m c t.val t.isLt).2.2.2.2 y = nextBlk m c t (outsAt0 m c (t.val - 1) hp).2.2.2.2 (y 0) (y 1) (y 2) := by
  rw [outsAt0_C m c t h0 h1]
  frame_out
  clear h0 h1
  generalize (outsAt0 m c (t.val - 1) _).2.2.2.2 = s
  simp only [read_unread_whole]
  canon_tiles x h
  all_goals
    open_payloads
    pointwise [nextBlk, nextS, retS, hk, hq, rot, col, wide]
    blk_point []

theorem out_C (c : Dev nD) (t : Fin cfg0.N) (h0 : ¬ t.val % 64 = 0) (h1 : t.val % 64 = 63) (y : S128x1024.Idx)
    (hp : t.val - 1 < cfg0.N) :
    (outsAt0 m c t.val t.isLt).1 y
      = outBlk m c t (outsAt0 m c (t.val - 1) hp).2.2.2.2 (headOf (y 1)) (y 0) (inHead (y 1)) := by
  rw [outsAt0_C m c t h0 h1]
  frame_out
  clear h0 h1
  generalize (outsAt0 m c (t.val - 1) _).2.2.2.2 = s
  simp only [read_unread_whole]
  canon_tiles x h
  all_goals
    open_payloads
    pointwise [outBlk, chunkA, chunkO, retO, retY, hk, hq, rot, col, wide, headOf, inHead]
    blk_point []

end Cert.Mix
-- ==== Proof.MixGmlp.lean ====
module

public import proofs.«01_k».proof.Proof.MixPoint

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ)

/-- The gMLP block of a point, first point. -/
theorem gmlp_A (c : Dev nD) (t : Fin cfg0.N) (h0 : t.val % 64 = 0) (h1 : ¬ t.val % 64 = 63) (y : S128x512.Idx) :
    (outsAt0 m c t.val t.isLt).2.1 y = gmlpBlk m c t (groupOf (y 1)) (y 0) (inGroup (y 1)) := by
  rw [outsAt0_A m c t h0 h1]
  frame_out
  clear h0 h1
  canon_tiles x h
  all_goals
    pointwise [gmlpBlk, chunkC, groupOf, inGroup, col, k0_pay1, k0_pay2, k0_pay42, k0_pay43, k0_pay44, gelu_u_at, vnorm_at]
    blk_point [] <;> exact Fin.ext (by dsimp only; omega)

/-- The gMLP block of a point, a point between. -/
theorem gmlp_B (c : Dev nD) (t : Fin cfg0.N) (h0 : ¬ t.val % 64 = 0) (h1 : ¬ t.val % 64 = 63) (y : S128x512.Idx) :
    (outsAt0 m c t.val t.isLt).2.1 y = gmlpBlk m c t (groupOf (y 1)) (y 0) (inGroup (y 1)) := by
  rw [outsAt0_B m c t h0 h1]
  frame_out
  clear h0 h1
  canon_tiles x h
  all_goals
    pointwise [gmlpBlk, chunkC, groupOf, inGroup, col, k0_pay1, k0_pay2, k0_pay42, k0_pay43, k0_pay44, gelu_u_at, vnorm_at]
    blk_point [] <;> exact Fin.ext (by dsimp only; omega)

/-- The gMLP block of a point, last point. -/
theorem gmlp_C (c : Dev nD) (t : Fin cfg0.N) (h0 : ¬ t.val % 64 = 0) (h1 : t.val % 64 = 63) (y : S128x512.Idx) :
    (outsAt0 m c t.val t.isLt).2.1 y = gmlpBlk m c t (groupOf (y 1)) (y 0) (inGroup (y 1)) := by
  rw [outsAt0_C m c t h0 h1]
  frame_out
  clear h0 h1
  canon_tiles x h
  all_goals
    pointwise [gmlpBlk, chunkC, groupOf, inGroup, col, k0_pay1, k0_pay2, k0_pay42, k0_pay43, k0_pay44, gelu_u_at, vnorm_at]
    blk_point [] <;> exact Fin.ext (by dsimp only; omega)

/-- The normalised gate half the last point keeps. -/
theorem kept_C (c : Dev nD) (t : Fin cfg0.N) (h0 : ¬ t.val % 64 = 0) (h1 : t.val % 64 = 63) (n : Fin 128) (l : Fin 512) :
    (outsAt0 m c t.val t.isLt).2.2.2.1 (ix2 n l)
      = vnorm (fun l => (show FVec Ideal S128x512 .f32 from iblk m c 5 t) (ix2 n l))
          (fun l => (show FVec Ideal S1x512 .f32 from iblk m c 13 t) (ix2 0 l)) l := by
  rw [outsAt0_C m c t h0 h1]
  frame_out
  clear h0 h1
  exact vnorm_at _ _ _ _

end Cert.Mix
-- ==== Proof.MixSweep.lean ====
module

public import proofs.«01_k».proof.Proof.MixBlock
public import proofs.«01_k».proof.Proof.MixPointA
public import proofs.«01_k».proof.Proof.MixPointC
public import proofs.«01_k».proof.Proof.MixGmlp

@[expose] public section

set_option maxRecDepth 16384

noncomputable section

open Idealize.ShloMosaic Idealize.ShloMosaic.TcCoe Idealize.SL.Sem
open Idealize.ShloMosaic.Pipeline (Dat)

namespace Cert.Mix

open Cert.KernelIdeal Cert.KernelIdeal.Gen Cert.KernelIdeal.Value

variable (m : (ℓ : Loc nD τ sig) → Buf (Elt Ideal) ℓ)

/-- The last point copies the state it has just written. -/
theorem final_C (c : Dev nD) (t : Fin cfg0.N) (h0 : ¬ t.val % 64 = 0) (h1 : t.val % 64 = 63) (y : S4x128x256.Idx) :
    (outsAt0 m c t.val t.isLt).2.2.1 y = (outsAt0 m c t.val t.isLt).2.2.2.2 y := by
  rw [outsAt0_C m c t h0 h1]
  frame_out
  clear h0 h1
  rw [View.readCov_eq_canon']
  refine congrArg _ (funext fun a => Fin.ext ?_)
  fin_cases a <;> exact (Nat.zero_add _).trans (Nat.one_mul _)

/-- The launch has 64 points. -/
theorem count : cfg0.N = 64 := N_0
theorem endPt : 63 < cfg0.N := lt_of_lt_of_eq (by decide) N_0.symm

/-- One step of the specification's state, and its start. -/
theorem stateS_succ (X : Fin 8192 → Fin 7168 → EReal) (k : Nat) (hk : k < 64) :
    stateS X (k + 1) = stepS X ⟨k, hk⟩ (stateS X k) := by rw [stateS, dif_pos hk]
theorem stateS_zero (X : Fin 8192 → Fin 7168 → EReal) : stateS X 0 = fun _ _ _ => 0 := rfl

attribute [local irreducible] stateS

/-- The state that a point leaves is the specification's state after its chunk. -/
theorem scratch_eq (c : Dev nD) : ∀ (k : Nat) (hk : k < cfg0.N) (y : S4x128x256.Idx),
    (outsAt0 m c k hk).2.2.2.2 y = stateS (Xof m c) (k + 1) (y 0) (y 1) (y 2)
  | 0, hk, y => by
    have h64 : 0 < 64 := by decide
    rw [stateS_succ _ _ h64]
    refine (state_A m c ⟨0, hk⟩ (Nat.zero_mod 64) (by rw [Nat.zero_mod]; omega) y).trans ((nextBlk_eq m c _ _ _ _ _).trans ?_)
    rw [stateS_zero]
    rfl
  | k + 1, hk, y => by
    have h64 : k + 1 < 64 := count ▸ hk
    have ih := scratch_eq c k (by omega)
    rw [stateS_succ _ _ h64]
    have e : (outsAt0 m c (k + 1) hk).2.2.2.2 y
        = nextBlk m c ⟨k + 1, hk⟩ (outsAt0 m c k (by omega)).2.2.2.2 (y 0) (y 1) (y 2) := by
      by_cases h1 : (k + 1) % 64 = 63
      · exact state_C m c ⟨k + 1, hk⟩ (by dsimp only; omega) h1 y (by dsimp only; omega)
      · exact state_B m c ⟨k + 1, hk⟩ (by dsimp only; omega) h1 y (by dsimp only; omega)
    refine e.trans ((nextBlk_eq m c _ _ _ _ _).trans ?_)
    exact retS_congr (fun _ _ => rfl) (fun _ _ => rfl) (fun d e => ih (ix3 (y 0) d e)) (fun _ => rfl) rfl _ _

/-- The retention block of a point is the specification's. -/
theorem out_eq (c : Dev nD) (t : Fin cfg0.N) (y : S128x1024.Idx) :
    (outsAt0 m c t.val t.isLt).1 y = outA (Xof m c) (gainOf m c) (chk t) (headOf (y 1)) (y 0) (inHead (y 1)) := by
  have h64 : t.val < 64 := count ▸ t.isLt
  by_cases h0 : t.val % 64 = 0
  · refine (out_A m c t h0 (by omega) y).trans ((outBlk_eq m c _ _ _ _ _).trans ?_)
    refine retY_congr (fun e => retO_congr (fun _ _ => rfl) (fun _ _ => rfl) (fun _ _ => rfl) (fun d e => ?_)
      (fun _ _ => rfl) (fun _ => rfl) _ e) (fun _ => rfl) (fun _ => rfl) _
    have ht : (chk t).val = 0 := by rw [chk_val]; omega
    rw [ht, stateS_zero]
  · have hp : t.val - 1 < cfg0.N := by have := t.isLt; omega
    have e : (outsAt0 m c t.val t.isLt).1 y
        = outBlk m c t (outsAt0 m c (t.val - 1) hp).2.2.2.2 (headOf (y 1)) (y 0) (inHead (y 1)) := by
      by_cases h1 : t.val % 64 = 63
      · exact out_C m c t h0 h1 y hp
      · exact out_B m c t h0 h1 y hp
    refine e.trans ((outBlk_eq m c _ _ _ _ _).trans ?_)
    refine retY_congr (fun e => retO_congr (fun _ _ => rfl) (fun _ _ => rfl) (fun _ _ => rfl) (fun d e => ?_)
      (fun _ _ => rfl) (fun _ => rfl) _ e) (fun _ => rfl) (fun _ => rfl) _
    refine (scratch_eq m c (t.val - 1) hp _).trans ?_
    have ht : t.val - 1 + 1 = (chk t).val := by rw [chk_val]; omega
    rw [ht]
    rfl

/-- The gMLP block of a point is the specification's. -/
theorem gmlp_eq (c : Dev nD) (t : Fin cfg0.N) (y : S128x512.Idx) :
    (outsAt0 m c t.val t.isLt).2.1 y
      = outC (Xof m c) (gateGain m c) (wOf m c) (biasOf m c) (chk t) (groupOf (y 1)) (y 0) (inGroup (y 1)) := by
  refine Eq.trans ?_ (gmlpBlk_eq m c t _ _ _)
  by_cases h0 : t.val % 64 = 0
  · exact gmlp_A m c t h0 (by omega) y
  · by_cases h1 : t.val % 64 = 63
    · exact gmlp_C m c t h0 h1 y
    · exact gmlp_B m c t h0 h1 y

/-- The retention array after the run. -/
theorem array16 (c : Dev nD) : (dats m 0 c).arrAt 16 cfg0.N = specA (Xof m c) (gainOf m c) := by
  refine (dats m 0 c).arrAt_eq_of_covers 16 _ (by decide +kernel) fun t _ y => ?_
  blk_simp
  rw [after0_16]
  refine (out_eq m c t y).trans ?_
  have hy : (y 0).val < 128 := (y 0).isLt
  have h0 : ((((cfg0.win 16).blk t).view.emb y) 0).val = t.val * 128 + (y 0).val := by blk_simp [idx_rows t]
  have h1 : ((((cfg0.win 16).blk t).view.emb y) 1).val = (y 1).val := by blk_simp [idx_rows t]
  generalize ((cfg0.win 16).blk t).view.emb y = j at h0 h1 ⊢
  have e0 : chunkOf (j 0) = chk t := Fin.ext (by show (j 0).val / 128 = t.val; omega)
  have e1 : rowOf (j 0) = y 0 := Fin.ext (by show (j 0).val % 128 = (y 0).val; omega)
  have e2 : (j 1) = (y 1) := Fin.ext h1
  unfold specA
  rw [e0, e1, e2]

/-- The gMLP array after the run. -/
theorem array17 (c : Dev nD) :
    (dats m 0 c).arrAt 17 cfg0.N = specC (Xof m c) (gateGain m c) (wOf m c) (biasOf m c) := by
  refine (dats m 0 c).arrAt_eq_of_covers 17 _ (by decide +kernel) fun t _ y => ?_
  blk_simp
  rw [after0_17]
  refine (gmlp_eq m c t y).trans ?_
  have hy : (y 0).val < 128 := (y 0).isLt
  have h0 : ((((cfg0.win 17).blk t).view.emb y) 0).val = t.val * 128 + (y 0).val := by blk_simp [idx_rows t]
  have h1 : ((((cfg0.win 17).blk t).view.emb y) 1).val = (y 1).val := by blk_simp [idx_rows t]
  generalize ((cfg0.win 17).blk t).view.emb y = j at h0 h1 ⊢
  have e0 : chunkOf (j 0) = chk t := Fin.ext (by show (j 0).val / 128 = t.val; omega)
  have e1 : rowOf (j 0) = y 0 := Fin.ext (by show (j 0).val % 128 = (y 0).val; omega)
  have e2 : (j 1) = (y 1) := Fin.ext h1
  unfold specC
  rw [e0, e1, e2]

/-- What the last point leaves in the two results it alone writes. -/
theorem last_state (c : Dev nD) (k : Nat) (hk : k < cfg0.N) (h : k = 63) (y : S4x128x256.Idx) :
    (outsAt0 m c k hk).2.2.1 y = specS (Xof m c) y := by
  refine (final_C m c ⟨k, hk⟩ (by show ¬ k % 64 = 0; omega) (by show k % 64 = 63; omega) y).trans ((scratch_eq m c k hk y).trans ?_)
  unfold specS
  rw [h]
theorem last_gate (c : Dev nD) (k : Nat) (hk : k < cfg0.N) (h : k = 63) (n : Fin 128) (l : Fin 512) :
    (outsAt0 m c k hk).2.2.2.1 (ix2 n l) = specV (Xof m c) (gateGain m c) (ix2 n l) := by
  refine (kept_C m c ⟨k, hk⟩ (by show ¬ k % 64 = 0; omega) (by show k % 64 = 63; omega) n l).trans ((gateBlk_eq m c ⟨k, hk⟩ n l).trans ?_)
  have e : chk ⟨k, hk⟩ = 63 := Fin.ext h
  rw [e]
  rfl

/-- The final state after the run. -/
theorem array18 (c : Dev nD) : (dats m 0 c).arrAt 18 cfg0.N = specS (Xof m c) := by
  rw [final18, G18_last, ← outsAt0_sweep m c 63 endPt]
  exact funext fun y => last_state m c 63 endPt rfl y

/-- The last chunk's gate rows after the run. -/
theorem array19 (c : Dev nD) : (dats m 0 c).arrAt 19 cfg0.N = specV (Xof m c) (gateGain m c) := by
  rw [final19, G19_last, ← outsAt0_sweep m c 63 endPt]
  refine funext fun y => ?_
  obtain ⟨n, l, rfl⟩ : ∃ (n : Fin 128) (l : Fin 512), y = ix2 n l := ⟨y 0, y 1, eq_ix2 y⟩
  exact last_gate m c 63 endPt rfl n l

end Cert.Mix

end
-- ==== Proof.MixRefEntry.lean ====
module

public import proofs.«01_k».proof.Proof.MixConst
public import proofs.«01_k».proof.Proof.Gen.ReferenceIdeal.Run
public import Idealize.ShloMosaic.Lib.StableHlo.RunRead

@[expose] public section

set_option maxRecDepth 16384

noncomputable section

open Idealize.ShloMosaic Idealize.ShloMosaic.TcCoe Idealize.SL.Sem
open Idealize.ShloMosaic.StableHlo

namespace Cert.MixRef

open Cert.Mix Cert.ReferenceIdeal Cert.ReferenceIdeal.Value Cert.ReferenceIdeal.Gen

variable (m : (ℓ : Loc nD τ sig) → Buf (Elt Ideal) ℓ)

/-- The arguments of the call, by their indices. -/
def Xof (c : Dev nD) (p : Fin 8192) (l : Fin 7168) : EReal :=
  (show FVec Ideal S8192x7168 .f32 from m ((c.tc : Thread nD τ).loc main_arg0)) (ix2 p l)
def gainOf (c : Dev nD) (h : Fin 4) (e : Fin 256) : EReal :=
  (show FVec Ideal S4x256 .f32 from m ((c.tc : Thread nD τ).loc main_arg1)) (ix2 h e)
def gateGain (c : Dev nD) (l : Fin 512) : EReal :=
  (show FVec Ideal S512 .f32 from m ((c.tc : Thread nD τ).loc main_arg2)) (ix1 l)
def wOf (c : Dev nD) (h : Fin 4) (n j : Fin 128) : EReal :=
  (show FVec Ideal S4x128x128 .f32 from m ((c.tc : Thread nD τ).loc main_arg3)) (ix3 h n j)
def biasOf (c : Dev nD) (h : Fin 4) (n : Fin 128) : EReal :=
  (show FVec Ideal S4x128 .f32 from m ((c.tc : Thread nD τ).loc main_arg4)) (ix2 h n)

/-- The table of angles. -/
def angleT : FVec Ideal S8192x64 .f32 :=
  mulf (broadcastInDim S8192x64 ![0, 1] bcast_S8192x1_S8192x64_0_1
      (broadcastInDim S8192x1 ![0] bcast_S8192_S8192x1_0 (sitofp .f32 (iotaInDim S8192 32 0))))
    (broadcastInDim S8192x64 ![0, 1] bcast_S1x64_S8192x64_0_1
      (broadcastInDim S1x64 ![1] bcast_S64_S1x64_1
        (Host.powf (broadcastInDim S64 ![] bcast_S_S64 (constant S_ .f32 0x461C4000#32))
          (Host.divf (Host.negf (sitofp .f32 (iotaInDim S64 32 0)))
            (broadcastInDim S64 ![] bcast_S_S64 (constant S_ .f32 0x42800000#32))))))

theorem angleT_at (p : Fin 8192) (d : Fin 64) : angleT (ix2 p d) = angle p.val d.val := by
  pointwise [angleT, angle, num]

/-- The cosines and sines of the angles, one copy for every head. -/
def cosT : FVec Ideal S1x8192x4x64 .f32 :=
  broadcastInDim S1x8192x4x64 ![0, 1, 2, 3] bcast_S1x8192x1x64_S1x8192x4x64_0_1_2_3
    (broadcastInDim S1x8192x1x64 ![1, 3] bcast_S8192x64_S1x8192x1x64_1_3 (Host.cos angleT))
def sinT : FVec Ideal S1x8192x4x64 .f32 :=
  broadcastInDim S1x8192x4x64 ![0, 1, 2, 3] bcast_S1x8192x1x64_S1x8192x4x64_0_1_2_3
    (broadcastInDim S1x8192x1x64 ![1, 3] bcast_S8192x64_S1x8192x1x64_1_3 (Host.sin angleT))

/-- The two halves of every head's row. -/
def lowT (x : FVec Ideal S1x8192x4x128 .f32) : FVec Ideal S1x8192x4x64 .f32 :=
  extractStridedSlice S1x8192x4x64 ![0, 0, 0, 0] x slices_S1x8192x4x128_S1x8192x4x64_0_0_0_0
def highT (x : FVec Ideal S1x8192x4x128 .f32) : FVec Ideal S1x8192x4x64 .f32 :=
  extractStridedSlice S1x8192x4x64 ![0, 0, 0, 64] x slices_S1x8192x4x128_S1x8192x4x64_0_0_0_64

/-- The rotation of every head's rows. -/
def rotT (x : FVec Ideal S1x8192x4x128 .f32) : FVec Ideal S1x8192x4x128 .f32 :=
  concatenate S1x8192x4x128 3 [⟨S1x8192x4x64, subf (mulf (lowT x) cosT) (mulf (highT x) sinT)⟩,
    ⟨S1x8192x4x64, addf (mulf (lowT x) sinT) (mulf (highT x) cosT)⟩] concatenates_S1x8192x4x64_S1x8192x4x64_S1x8192x4x128_d3

theorem rotT_at (x : FVec Ideal S1x8192x4x128 .f32) (p : Fin 8192) (h : Fin 4) (d : Fin 128) :
    rotT x (ix4 0 p h d) = rot (fun d => x (ix4 0 p h d)) (cosS p) (sinS p) d := by
  unfold rot
  pointwise [rotT, cosT, sinT, lowT, highT, angleT_at, cosS, sinS]
  by_cases hd : d.val < 64
  · rw [dif_pos hd, if_pos hd, mul_neg, ← sub_eq_add_neg]
    simp only [show d.val % 64 = d.val by omega, show (d.val + 128 - 64) % 128 = 64 + d.val by omega]
  · rw [dif_neg hd, if_neg hd, add_comm]
    simp only [show d.val % 64 = d.val - 64 by omega, show (d.val + 128 - 64) % 128 = d.val - 64 by omega,
      show 64 + (d.val - 64) = d.val by omega]

/-- The rows of the three projections, by heads. -/
def qT (X : FVec Ideal S8192x7168 .f32) : FVec Ideal S1x8192x4x128 .f32 :=
  shapeCast S1x8192x4x128 (extractStridedSlice S1x8192x512 ![0, 0, 0]
    (broadcastInDim S1x8192x7168 ![1, 2] bcast_S8192x7168_S1x8192x7168_1_2 X) slices_S1x8192x7168_S1x8192x512_0_0_0)
    shapeCasts_S1x8192x512_S1x8192x4x128
def kT (X : FVec Ideal S8192x7168 .f32) : FVec Ideal S1x8192x4x128 .f32 :=
  shapeCast S1x8192x4x128 (extractStridedSlice S1x8192x512 ![0, 0, 512]
    (broadcastInDim S1x8192x7168 ![1, 2] bcast_S8192x7168_S1x8192x7168_1_2 X) slices_S1x8192x7168_S1x8192x512_0_0_512)
    shapeCasts_S1x8192x512_S1x8192x4x128

theorem qT_at (X : FVec Ideal S8192x7168 .f32) (p : Fin 8192) (h : Fin 4) (d : Fin 128) :
    qT X (ix4 0 p h d) = X (ix2 p ⟨(col h d).val, by omega⟩) := by
  pointwise [qT, col]
  simp only [Nat.mul_comm h.val 128]
theorem kT_at (X : FVec Ideal S8192x7168 .f32) (p : Fin 8192) (h : Fin 4) (d : Fin 128) :
    kT X (ix4 0 p h d) = X (ix2 p ⟨512 + (col h d).val, by omega⟩) := by
  pointwise [kT, col]
  simp only [Nat.mul_comm h.val 128]

/-- The queries that the loop is given. -/
theorem entry_q (c : Dev nD) (t : Fin 64) (n : Fin 128) (h : Fin 4) (d : Fin 128) :
    (show FVec Ideal S64x1x128x4x128 .f32 from entryContents preI m c (Proc.devRef .tc main_v84_0)) (ix5 t 0 n h d)
      = qry (Xof m c) t h n d := by
  have e : (show FVec Ideal S64x1x128x4x128 .f32 from entryContents preI m c (Proc.devRef .tc main_v84_0))
      = transpose S64x1x128x4x128 [1, 0, 2, 3, 4] (shapeCast S1x64x128x4x128
          (rotT (qT (show FVec Ideal S8192x7168 .f32 from m ((c.tc : Thread nD τ).loc main_arg0))))
          shapeCasts_S1x8192x4x128_S1x64x128x4x128) transposes_S1x64x128x4x128_S64x1x128x4x128_1_0_2_3_4 := by
    simp only [entryContents, preI, afterL_cons, afterL_nil]
    after_reads_simp
    rfl
  rw [e]
  unfold qry
  pointwise [rotT_at, qT_at, Xof, pos]
  simp only [Nat.mul_comm t.val 128]

/-- The keys that the loop is given. -/
theorem entry_k (c : Dev nD) (t : Fin 64) (n : Fin 128) (h : Fin 4) (d : Fin 128) :
    (show FVec Ideal S64x1x128x4x128 .f32 from entryContents preI m c (Proc.devRef .tc main_v84_1)) (ix5 t 0 n h d)
      = key (Xof m c) t h n d := by
  have e : (show FVec Ideal S64x1x128x4x128 .f32 from entryContents preI m c (Proc.devRef .tc main_v84_1))
      = transpose S64x1x128x4x128 [1, 0, 2, 3, 4] (shapeCast S1x64x128x4x128
          (mulf (rotT (kT (show FVec Ideal S8192x7168 .f32 from m ((c.tc : Thread nD τ).loc main_arg0))))
            (broadcastInDim S1x8192x4x128 ![] bcast_S_S1x8192x4x128 (constant S_ .f32 0x3DB504F3#32)))
          shapeCasts_S1x8192x4x128_S1x64x128x4x128) transposes_S1x64x128x4x128_S64x1x128x4x128_1_0_2_3_4 := by
    simp only [entryContents, preI, afterL_cons, afterL_nil]
    after_reads_simp
    rfl
  rw [e]
  unfold key
  pointwise [rotT_at, kT_at, Xof, pos]
  simp only [Nat.mul_comm t.val 128]

/-- The values that the loop is given. -/
theorem entry_v (c : Dev nD) (t : Fin 64) (n : Fin 128) (h : Fin 4) (e : Fin 256) :
    (show FVec Ideal S64x1x128x4x256 .f32 from entryContents preI m c (Proc.devRef .tc main_v84_2)) (ix5 t 0 n h e)
      = val (Xof m c) t h n e := by
  simp only [entryContents, preI, afterL_cons, afterL_nil]
  after_reads_simp
  simp only [id_eq]
  pointwise [val, Xof, pos, wide, launchContents]
  simp only [Nat.mul_comm t.val 128, Nat.mul_comm h.val 256]
  trace_state

/-- The logarithm of each head's decay. -/
theorem entry_logg (c : Dev nD) (h : Fin 4) :
    (show FVec Ideal S4 .f32 from entryContents preI m c (Proc.devRef .tc main_v84_3)) (ix1 h) = logg h := by
  simp only [entryContents, preI, afterL_cons, afterL_nil]
  after_reads_simp
  simp only [id_eq]
  pointwise [logg, num]

/-- The loop starts from the zero state. -/
theorem entry_state (c : Dev nD) (h : Fin 4) (d : Fin 128) (e : Fin 256) :
    (show FVec Ideal S1x4x128x256 .f32 from entryContents preI m c (Proc.devRef .tc main_v84_5)) (ix4 0 h d e) = 0 := by
  simp only [entryContents, preI, afterL_cons, afterL_nil]
  after_reads_simp
  simp only [id_eq]
  pointwise []

end Cert.MixRef

end
-- ==== Proof.MixRefStep.lean ====
module

public import proofs.«01_k».proof.Proof.MixRefEntry
public import Idealize.ShloMosaic.Lib.WordCmp

@[expose] public section

set_option maxRecDepth 16384

noncomputable section

open Idealize.ShloMosaic Idealize.ShloMosaic.TcCoe Idealize.SL.Sem
open Idealize.ShloMosaic.StableHlo Idealize.ShloMosaic.WordCmp

namespace Cert.MixRef

open Cert.Mix Cert.ReferenceIdeal Cert.ReferenceIdeal.Value Cert.ReferenceIdeal.Gen

/-- The carried buffers, as arrays. -/
abbrev qC (V0 : Valuation τ sig (Elt Ideal)) : FVec Ideal S64x1x128x4x128 .f32 := V0 (Proc.devRef .tc main_v84_0)
abbrev kC (V0 : Valuation τ sig (Elt Ideal)) : FVec Ideal S64x1x128x4x128 .f32 := V0 (Proc.devRef .tc main_v84_1)
abbrev vC (V0 : Valuation τ sig (Elt Ideal)) : FVec Ideal S64x1x128x4x256 .f32 := V0 (Proc.devRef .tc main_v84_2)
abbrev lC (V0 : Valuation τ sig (Elt Ideal)) : FVec Ideal S4 .f32 := V0 (Proc.devRef .tc main_v84_3)
abbrev sC (V0 : Valuation τ sig (Elt Ideal)) : FVec Ideal S1x4x128x256 .f32 := V0 (Proc.devRef .tc main_v84_5)
abbrev oC (V0 : Valuation τ sig (Elt Ideal)) : FVec Ideal S64x1x128x4x256 .f32 := V0 (Proc.devRef .tc main_v84_6)

/-- The start of a trip's slices: the counter, then zeros. -/
def counterStart (V0 : Valuation τ sig (Elt Ideal)) (k : Fin 5) : Int :=
  (((![V0 (Proc.devRef .tc main_v84_4), constantI S_ 32 0#32, constantI S_ 32 0#32, constantI S_ 32 0#32, constantI S_ 32 0#32]
    : Fin 5 → (⟨S_, .i32⟩ : BufTy).Contents (Elt Ideal))) k (Shape.Idx.first h_S_)).toInt

theorem start_eq (V0 : Valuation τ sig (Elt Ideal)) (t : Fin 64)
    (hc : V0 (Proc.devRef .tc main_v84_4) = fun _ => BitVec.ofNat 32 t.val) (k : Fin 5) :
    counterStart V0 k = ((![t.val, 0, 0, 0, 0] : Fin 5 → Nat) k : Int) := by
  unfold counterStart
  rw [hc]
  fin_cases k
  · exact toInt_ofNat_of_lt (by have := t.isLt; show t.val < 2 ^ 31; omega)
  all_goals rfl

/-- A chunk's block fits in the stacked arrays. -/
theorem fits_q (t : Fin 64) : S64x1x128x4x128.Slices ![t.val, 0, 0, 0, 0] S1x1x128x4x128 :=
  ⟨rfl, fun a => by have := t.isLt; fin_cases a <;> simp <;> omega⟩
theorem fits_v (t : Fin 64) : S64x1x128x4x256.Slices ![t.val, 0, 0, 0, 0] S1x1x128x4x256 :=
  ⟨rfl, fun a => by have := t.isLt; fin_cases a <;> simp <;> omega⟩

variable (V0 : Valuation τ sig (Elt Ideal)) (t : Fin 64)

/-- The chunk's queries, keys and values. -/
theorem slice_q (hc : V0 (Proc.devRef .tc main_v84_4) = fun _ => BitVec.ofNat 32 t.val) (n : Fin 128) (h : Fin 4) (d : Fin 128) :
    (show FVec Ideal S1x128x4x128 .f32 from res_main_while0b_v166 V0) (ix4 0 n h d) = qC V0 (ix5 t 0 n h d) := by
  have e0 : (show FVec Ideal S1x128x4x128 .f32 from res_main_while0b_v166 V0)
      = shapeCast S1x128x4x128 (Host.dynamicSlice S1x1x128x4x128 (qC V0) (counterStart V0)
          sliceFits_S64x1x128x4x128_S1x1x128x4x128) shapeCasts_S1x1x128x4x128_S1x128x4x128 := rfl
  rw [e0, dynamicSlice_eq_extract _ _ _ _ _ (fits_q t) (start_eq V0 t hc)]
  pointwise [qC]
theorem slice_k (hc : V0 (Proc.devRef .tc main_v84_4) = fun _ => BitVec.ofNat 32 t.val) (n : Fin 128) (h : Fin 4) (d : Fin 128) :
    (show FVec Ideal S1x128x4x128 .f32 from res_main_while0b_v167 V0) (ix4 0 n h d) = kC V0 (ix5 t 0 n h d) := by
  have e0 : (show FVec Ideal S1x128x4x128 .f32 from res_main_while0b_v167 V0)
      = shapeCast S1x128x4x128 (Host.dynamicSlice S1x1x128x4x128 (kC V0) (counterStart V0)
          sliceFits_S64x1x128x4x128_S1x1x128x4x128) shapeCasts_S1x1x128x4x128_S1x128x4x128 := rfl
  rw [e0, dynamicSlice_eq_extract _ _ _ _ _ (fits_q t) (start_eq V0 t hc)]
  pointwise [kC]
theorem slice_v (hc : V0 (Proc.devRef .tc main_v84_4) = fun _ => BitVec.ofNat 32 t.val) (n : Fin 128) (h : Fin 4) (e : Fin 256) :
    (show FVec Ideal S1x128x4x256 .f32 from res_main_while0b_v168 V0) (ix4 0 n h e) = vC V0 (ix5 t 0 n h e) := by
  have e0 : (show FVec Ideal S1x128x4x256 .f32 from res_main_while0b_v168 V0)
      = shapeCast S1x128x4x256 (Host.dynamicSlice S1x1x128x4x256 (vC V0) (counterStart V0)
          sliceFits_S64x1x128x4x256_S1x1x128x4x256) shapeCasts_S1x1x128x4x256_S1x128x4x256 := rfl
  rw [e0, dynamicSlice_eq_extract _ _ _ _ _ (fits_v t) (start_eq V0 t hc)]
  pointwise [vC]

/-- The next state, read at an index. -/
theorem state_at (hc : V0 (Proc.devRef .tc main_v84_4) = fun _ => BitVec.ofNat 32 t.val) (hl : ∀ h, lC V0 (ix1 h) = logg h)
    (h : Fin 4) (d : Fin 128) (e : Fin 256) :
    (show FVec Ideal S1x4x128x256 .f32 from step_main_v84_5 V0) (ix4 0 h d e)
      = retS (fun j d => kC V0 (ix5 t 0 j h d)) (fun j e => vC V0 (ix5 t 0 j h e)) (fun d e => sC V0 (ix4 0 h d e)) (kdecS h)
        (gcS h) d e := by
  unfold step_main_v84_5 retS kdecS gcS
  simp only [← hl]
  rw [id_eq]
  pointwise [res_main_while0b_v169, slice_k V0 t hc, slice_v V0 t hc, num]

/-- The chunk's output, as the trip computes it. -/
def updT : FVec Ideal S1x1x128x4x256 .f32 :=
  broadcastInDim S1x1x128x4x256 ![1, 2, 3, 4] bcast_S1x128x4x256_S1x1x128x4x256_1_2_3_4 (addf
    (transpose S1x128x4x256 [0, 3, 1, 2] (Host.dotGeneral (φ₁ := .f32) (φ₂ := .f32) dot_S1x128x4x256_S1x4x128x128_S1x4x256x128_1_3_3_2_02_01 none (res_main_while0b_v168 V0)
      (mulf (Host.dotGeneral (φ₁ := .f32) (φ₂ := .f32) dot_S1x128x4x128_S1x128x4x128_S1x4x128x128_3_3_1_1_02_02 none (res_main_while0b_v166 V0) (res_main_while0b_v167 V0))
        (broadcastInDim S1x4x128x128 ![1, 2, 3] bcast_S4x128x128_S1x4x128x128_1_2_3 (select
          (broadcastInDim S4x128x128 ![0, 1, 2] bcast_S1x128x128_S4x128x128_0_1_2 (broadcastInDim S1x128x128 ![1, 2] bcast_S128x128_S1x128x128_1_2 (res_main_while0b_v176 V0)))
          (Host.exp (mulf (broadcastInDim S4x128x128 ![0, 1, 2] bcast_S4x1x1_S4x128x128_0_1_2 (broadcastInDim S4x1x1 ![0] bcast_S4_S4x1x1_0 (V0 (Proc.devRef .tc main_v84_3)))) (broadcastInDim S4x128x128 ![0, 1, 2] bcast_S1x128x128_S4x128x128_0_1_2 (broadcastInDim S1x128x128 ![1, 2] bcast_S128x128_S1x128x128_1_2 (select (res_main_while0b_v176 V0) (res_main_while0b_v174 V0) (broadcastInDim S128x128 ![] bcast_S_S128x128 (id (constant S_ .f32 0x00000000#32)))))))) (broadcastInDim S4x128x128 ![] bcast_S_S4x128x128 (id (constant S_ .f32 0x00000000#32))))))) transposes_S1x4x256x128_S1x128x4x256_0_3_1_2)
    (mulf (transpose S1x128x4x256 [0, 3, 1, 2] (Host.dotGeneral (φ₁ := .f32) (φ₂ := .f32) dot_S1x4x128x256_S1x128x4x128_S1x4x256x128_2_3_3_1_01_02 none (V0 (Proc.devRef .tc main_v84_5)) (res_main_while0b_v166 V0)) transposes_S1x4x256x128_S1x128x4x256_0_3_1_2)
      (broadcastInDim S1x128x4x256 ![0, 1, 2, 3] bcast_S1x128x4x1_S1x128x4x256_0_1_2_3 (broadcastInDim S1x128x4x1 ![1, 2] bcast_S128x4_S1x128x4x1_1_2 (Host.exp (mulf (broadcastInDim S128x4 ![0, 1] bcast_S1x4_S128x4_0_1 (broadcastInDim S1x4 ![1] bcast_S4_S1x4_1 (V0 (Proc.devRef .tc main_v84_3)))) (broadcastInDim S128x4 ![0, 1] bcast_S128x1_S128x4_0_1 (addf (broadcastInDim S128x1 ![0] bcast_S128_S128x1_0 (res_main_while0b_v169 V0)) (broadcastInDim S128x1 ![] bcast_S_S128x1 (constant S_ .f32 0x3F800000#32))))))))))

theorem out_at (hc : V0 (Proc.devRef .tc main_v84_4) = fun _ => BitVec.ofNat 32 t.val) (hl : ∀ h, lC V0 (ix1 h) = logg h)
    (n : Fin 128) (h : Fin 4) (e : Fin 256) :
    updT V0 (ix5 0 0 n h e)
      = retO (fun j d => qC V0 (ix5 t 0 j h d)) (fun j d => kC V0 (ix5 t 0 j h d)) (fun j e => vC V0 (ix5 t 0 j h e))
        (fun d e => sC V0 (ix4 0 h d e)) (dmatS h) (cdecS h) n e := by
  unfold updT retO dmatS cdecS
  simp only [← hl, id_eq]
  pointwise [res_main_while0b_v169, res_main_while0b_v174, res_main_while0b_v176, slice_q V0 t hc, slice_k V0 t hc, slice_v V0 t hc, num]
  refine congrArg₂ (fun (a b : EReal) => a + b) (Finset.sum_congr rfl fun x _ => ?_) ?_
  · rw [mul_comm]
    refine congrArg (fun (a : EReal) => a * _) ?_
    refine congrArg (fun (a : EReal) => _ * a) ?_
    split <;> rfl
  · refine congrArg (fun (a : EReal) => a * _) (Finset.sum_congr rfl fun x _ => mul_comm _ _)

/-- The stacked outputs after a trip: the trip's chunk is replaced. -/
theorem stack_at (hc : V0 (Proc.devRef .tc main_v84_4) = fun _ => BitVec.ofNat 32 t.val)
    (u : Fin 64) (n : Fin 128) (h : Fin 4) (e : Fin 256) :
    (show FVec Ideal S64x1x128x4x256 .f32 from step_main_v84_6 V0) (ix5 u 0 n h e)
      = if u = t then updT V0 (ix5 0 0 n h e) else oC V0 (ix5 u 0 n h e) := by
  have e6 : (show FVec Ideal S64x1x128x4x256 .f32 from step_main_v84_6 V0)
      = Host.dynamicUpdateSlice (oC V0) (updT V0) (counterStart V0) updateFits_S64x1x128x4x256_S1x1x128x4x256 := rfl
  rw [e6, dynamicUpdateSlice_eq_update _ _ _ _ _ (fits_v t) (start_eq V0 t hc)]
  generalize updT V0 = w
  pointwise [oC]
  by_cases hu : u = t
  · subst hu
    rw [dif_pos ⟨le_refl _, Nat.lt_succ_self _⟩, if_pos rfl]
    simp only [Nat.sub_self]
    rfl
  · have hv : u.val ≠ t.val := fun e => hu (Fin.ext e)
    rw [dif_neg (by omega), if_neg hu]

end Cert.MixRef

end
-- ==== Proof.MixRefLoop.lean ====
module

public import proofs.«01_k».proof.Proof.MixRefStep

@[expose] public section

set_option maxRecDepth 16384

noncomputable section

open Idealize.ShloMosaic Idealize.ShloMosaic.TcCoe Idealize.SL.Sem
open Idealize.ShloMosaic.StableHlo

namespace Cert.MixRef

open Cert.Mix Cert.ReferenceIdeal Cert.ReferenceIdeal.Value Cert.ReferenceIdeal.Gen

variable (m : (ℓ : Loc nD τ sig) → Buf (Elt Ideal) ℓ)

/-- The carried buffers before trip `k`. -/
def atTrip (c : Dev nD) (k : Nat) : Valuation τ sig (Elt Ideal) := STEP^[k] (entryContents preI m c)

theorem atTrip_succ (c : Dev nD) (k : Nat) : atTrip m c (k + 1) = STEP (atTrip m c k) := Function.iterate_succ_apply' _ _ _

/-- The counter before trip `k` is `k`. -/
theorem counter (c : Dev nD) : ∀ k, atTrip m c k (Proc.devRef .tc main_v84_4) = fun _ => BitVec.ofNat 32 k
  | 0 => ctr_entry m c
  | k + 1 => by
    rw [atTrip_succ, STEP_main_v84_4, step_main_v84_4, counter c k]
    funext i
    show BitVec.ofNat 32 k + 1#32 = BitVec.ofNat 32 (k + 1)
    rw [BitVec.ofNat_add]

/-- The projections and the decays are carried unchanged. -/
theorem keep_q (c : Dev nD) : ∀ k, qC (atTrip m c k) = qC (entryContents preI m c)
  | 0 => rfl
  | k + 1 => by rw [atTrip_succ]; exact (STEP_main_v84_0 _).trans (keep_q c k)
theorem keep_k (c : Dev nD) : ∀ k, kC (atTrip m c k) = kC (entryContents preI m c)
  | 0 => rfl
  | k + 1 => by rw [atTrip_succ]; exact (STEP_main_v84_1 _).trans (keep_k c k)
theorem keep_v (c : Dev nD) : ∀ k, vC (atTrip m c k) = vC (entryContents preI m c)
  | 0 => rfl
  | k + 1 => by rw [atTrip_succ]; exact (STEP_main_v84_2 _).trans (keep_v c k)
theorem keep_l (c : Dev nD) : ∀ k, lC (atTrip m c k) = lC (entryContents preI m c)
  | 0 => rfl
  | k + 1 => by rw [atTrip_succ]; exact (STEP_main_v84_3 _).trans (keep_l c k)

theorem logg_trip (c : Dev nD) (k : Nat) (h : Fin 4) : lC (atTrip m c k) (ix1 h) = logg h := by
  rw [keep_l]; exact entry_logg m c h

/-- The state before trip `k` is the specification's after `k` chunks. -/
theorem state_trip (c : Dev nD) : ∀ k, k ≤ 64 → ∀ (h : Fin 4) (d : Fin 128) (e : Fin 256),
    sC (atTrip m c k) (ix4 0 h d e) = stateS (Xof m c) k h d e
  | 0, _, h, d, e => entry_state m c h d e
  | k + 1, hk, h, d, e => by
    have h64 : k < 64 := hk
    rw [stateS, dif_pos h64, atTrip_succ]
    refine (congrFun (STEP_main_v84_5 _) _).trans ?_
    refine (state_at (atTrip m c k) ⟨k, h64⟩ (counter m c k) (logg_trip m c k) h d e).trans ?_
    unfold stepS
    refine retS_congr (fun j d => ?_) (fun j e => ?_) (fun d e => state_trip c k (by omega) h d e) (fun _ => rfl) rfl d e
    · rw [keep_k]; exact entry_k m c ⟨k, h64⟩ j h d
    · rw [keep_v]; exact entry_v m c ⟨k, h64⟩ j h e

/-- Before trip `k` the stacked outputs of the chunks below `k` are the specification's. -/
theorem stack_trip (c : Dev nD) : ∀ k, k ≤ 64 → ∀ (u : Fin 64), u.val < k → ∀ (n : Fin 128) (h : Fin 4) (e : Fin 256),
    oC (atTrip m c k) (ix5 u 0 n h e) = stepO (Xof m c) u (stateS (Xof m c) u.val) h n e
  | 0, _, u, hu, n, h, e => absurd hu (Nat.not_lt_zero _)
  | k + 1, hk, u, hu, n, h, e => by
    have h64 : k < 64 := hk
    rw [atTrip_succ]
    refine (congrFun (STEP_main_v84_6 _) _).trans ?_
    refine (stack_at (atTrip m c k) ⟨k, h64⟩ (counter m c k) u n h e).trans ?_
    by_cases he : u = ⟨k, h64⟩
    · rw [if_pos he, out_at (atTrip m c k) ⟨k, h64⟩ (counter m c k) (logg_trip m c k)]
      subst he
      unfold stepO
      refine retO_congr (fun j d => ?_) (fun j d => ?_) (fun j e => ?_) (fun d e => state_trip m c k (by omega) h d e)
        (fun _ _ => rfl) (fun _ => rfl) n e
      · rw [keep_q]; exact entry_q m c ⟨k, h64⟩ j h d
      · rw [keep_k]; exact entry_k m c ⟨k, h64⟩ j h d
      · rw [keep_v]; exact entry_v m c ⟨k, h64⟩ j h e
    · rw [if_neg he]
      have hv : u.val ≠ k := fun x => he (Fin.ext x)
      exact stack_trip c k (by omega) u (by omega) n h e

/-- The arguments are carried unchanged. -/
theorem arg0_trip (c : Dev nD) (p : Fin 8192) (l : Fin 7168) :
    (show FVec Ideal S8192x7168 .f32 from atTrip m c 64 (Proc.devRef .tc main_arg0)) (ix2 p l) = Xof m c p l :=
  congrFun (iter_main_arg0 m c 64) _
theorem arg1_trip (c : Dev nD) (h : Fin 4) (e : Fin 256) :
    (show FVec Ideal S4x256 .f32 from atTrip m c 64 (Proc.devRef .tc main_arg1)) (ix2 h e) = gainOf m c h e :=
  congrFun (iter_main_arg1 m c 64) _
theorem arg2_trip (c : Dev nD) (l : Fin 512) :
    (show FVec Ideal S512 .f32 from atTrip m c 64 (Proc.devRef .tc main_arg2)) (ix1 l) = gateGain m c l :=
  congrFun (iter_main_arg2 m c 64) _
theorem arg3_trip (c : Dev nD) (h : Fin 4) (n j : Fin 128) :
    (show FVec Ideal S4x128x128 .f32 from atTrip m c 64 (Proc.devRef .tc main_arg3)) (ix3 h n j) = wOf m c h n j :=
  congrFun (iter_main_arg3 m c 64) _
theorem arg4_trip (c : Dev nD) (h : Fin 4) (n : Fin 128) :
    (show FVec Ideal S4x128 .f32 from atTrip m c 64 (Proc.devRef .tc main_arg4)) (ix2 h n) = biasOf m c h n :=
  congrFun (iter_main_arg4 m c 64) _

end Cert.MixRef

end
-- ==== Proof.MixRefOut.lean ====
module

public import proofs.«01_k».proof.Proof.MixRefLoop

@[expose] public section

set_option maxRecDepth 16384

noncomputable section

open Idealize.ShloMosaic Idealize.ShloMosaic.TcCoe Idealize.SL.Sem
open Idealize.ShloMosaic.StableHlo

namespace Cert.MixRef

open Cert.Mix Cert.ReferenceIdeal Cert.ReferenceIdeal.Value Cert.ReferenceIdeal.Gen

variable (V0 : Valuation τ sig (Elt Ideal))

abbrev xA : FVec Ideal S8192x7168 .f32 := V0 (Proc.devRef .tc main_arg0)

/-- The retention result over the carried buffers. -/
theorem outA_at (p : Fin 8192) (l : Fin 1024) :
    (show FVec Ideal S8192x1024 .bf16 from out_main_v160 V0) (ix2 p l)
      = retY (fun e => oC V0 (ix5 (chunkOf p) 0 (rowOf p) (headOf l) e))
          (fun e => (show FVec Ideal S4x256 .f32 from V0 (Proc.devRef .tc main_arg1)) (ix2 (headOf l) e))
          (fun e => xA V0 (ix2 p ⟨2048 + (wide (headOf l) e).val, by omega⟩)) (inHead l) := by
  unfold out_main_v160 retY
  pointwise [chunkOf, rowOf, headOf, inHead, wide]
  simp only [Nat.div_add_mod]
  rfl

/-- The state result over the carried buffers. -/
theorem outS_at (h : Fin 4) (d : Fin 128) (e : Fin 256) :
    (show FVec Ideal S4x128x256 .f32 from out_main_v163 V0) (ix3 h d e) = sC V0 (ix4 0 h d e) := by
  unfold out_main_v163
  pointwise []

/-- The gelu of the two gMLP halves, as the program writes it. -/
def geluT (x : FVec Ideal S1x8192x512 .f32) : FVec Ideal S1x8192x512 .f32 :=
  mulf x (mulf (broadcastInDim S1x8192x512 ![] bcast_S_S1x8192x512 (constant S_ .f32 0x3F000000#32))
    (addf (broadcastInDim S1x8192x512 ![] bcast_S_S1x8192x512 (constant S_ .f32 0x3F800000#32))
      (Host.tanh (mulf (broadcastInDim S1x8192x512 ![] bcast_S_S1x8192x512 (constant S_ .f32 0x3F4C422A#32))
        (addf x (mulf (broadcastInDim S1x8192x512 ![] bcast_S_S1x8192x512 (constant S_ .f32 0x3D372713#32)) (mulf (mulf x x) x)))))))

theorem geluT_at (x : FVec Ideal S1x8192x512 .f32) (p : Fin 8192) (l : Fin 512) :
    geluT x (ix3 0 p l) = gelu (x (ix3 0 p l)) := by
  pointwise [geluT, gelu]
  rw [mul_comm (x (ix3 0 p l) * x (ix3 0 p l)) (x (ix3 0 p l))]

/-- The normalised gate half over its columns. -/
def vnT (x : FVec Ideal S1x8192x512 .f32) (g : FVec Ideal S512 .f32) : FVec Ideal S1x8192x512 .f32 :=
  mulf (mulf (geluT x) (broadcastInDim S1x8192x512 ![0, 1, 2] bcast_S1x8192x1_S1x8192x512_0_1_2 (Host.rsqrt (addf (Host.divf
      (broadcastInDim S1x8192x1 ![0, 1] bcast_S1x8192_S1x8192x1_0_1 (Host.reduceAdd (mulf (geluT x) (geluT x))
        (constant S_ .f32 0x00000000#32) reducesTo_S1x8192x512_S1x8192_d2 h_S_))
      (broadcastInDim S1x8192x1 ![] bcast_S_S1x8192x1 (constant S_ .f32 0x44000000#32)))
      (broadcastInDim S1x8192x1 ![] bcast_S_S1x8192x1 (constant S_ .f32 0x358637BD#32))))))
    (broadcastInDim S1x8192x512 ![0, 1, 2] bcast_S1x1x512_S1x8192x512_0_1_2 (broadcastInDim S1x1x512 ![2] bcast_S512_S1x1x512_2 g))

theorem vnT_at (x : FVec Ideal S1x8192x512 .f32) (g : FVec Ideal S512 .f32) (p : Fin 8192) (l : Fin 512) :
    vnT x g (ix3 0 p l) = vnorm (fun l => x (ix3 0 p l)) (fun l => g (ix1 l)) l := by
  pointwise [vnT, geluT_at, vnorm]

/-- The two gMLP column slabs. -/
def guT (X : FVec Ideal S8192x7168 .f32) : FVec Ideal S1x8192x512 .f32 :=
  extractStridedSlice S1x8192x512 ![0, 0, 5632] (broadcastInDim S1x8192x7168 ![1, 2] bcast_S8192x7168_S1x8192x7168_1_2 X)
    slices_S1x8192x7168_S1x8192x512_0_0_5632
def gvT (X : FVec Ideal S8192x7168 .f32) : FVec Ideal S1x8192x512 .f32 :=
  extractStridedSlice S1x8192x512 ![0, 0, 6144] (broadcastInDim S1x8192x7168 ![1, 2] bcast_S8192x7168_S1x8192x7168_1_2 X)
    slices_S1x8192x7168_S1x8192x512_0_0_6144

/-- The kept gate rows over the carried buffers. -/
theorem outV_at (n : Fin 128) (l : Fin 512) :
    (show FVec Ideal S128x512 .f32 from out_main_v165 V0) (ix2 n l)
      = vnorm (fun l => xA V0 (ix2 (pos 63 n) ⟨6144 + l.val, by omega⟩))
          (fun l => (show FVec Ideal S512 .f32 from V0 (Proc.devRef .tc main_arg2)) (ix1 l)) l := by
  have e : (show FVec Ideal S128x512 .f32 from out_main_v165 V0)
      = shapeCast S128x512 (extractStridedSlice S1x128x512 ![0, 8064, 0] (vnT (gvT (xA V0))
          (show FVec Ideal S512 .f32 from V0 (Proc.devRef .tc main_arg2)))
          slices_S1x8192x512_S1x128x512_0_8064_0) shapeCasts_S1x128x512_S128x512 := rfl
  rw [e]
  pointwise [vnT_at, gvT]
  rfl

/-- The mixing weights' causal half. -/
def triT (w : FVec Ideal S4x128x128 .f32) : FVec Ideal S4x128x128 .f32 :=
  select (broadcastInDim S4x128x128 ![0, 1, 2] bcast_S1x128x128_S4x128x128_0_1_2
      (broadcastInDim S1x128x128 ![1, 2] bcast_S128x128_S1x128x128_1_2
        (select (cmpi .sge (addi (iotaInDim S128x128 32 0) (broadcastInDim S128x128 ![] bcast_S_S128x128 (constantI S_ 32 0#32)))
            (iotaInDim S128x128 32 1))
          (broadcastInDim S128x128 ![] bcast_S_S128x128 (constantI S_ 1 1#1))
          (broadcastInDim S128x128 ![] bcast_S_S128x128 (constantI S_ 1 0#1)))))
    w (broadcastInDim S4x128x128 ![] bcast_S_S4x128x128 (id (constant S_ .f32 0x00000000#32)))

theorem triT_at (w : FVec Ideal S4x128x128 .f32) (h : Fin 4) (n j : Fin 128) :
    triT w (ix3 h n j) = tri (fun h n j => w (ix3 h n j)) h n j := by
  unfold tri
  simp only [triT, id_eq]
  pointwise []
  rw [show IntOp.addi (BitVec.ofNat 32 n.val) 0#32 = BitVec.ofNat 32 n.val from BitVec.add_zero _]
  word_cmp
  split <;> rfl

/-- The gMLP result over its two column slabs, its normalised gate half, its weights and its bias. -/
def mixT (u v : FVec Ideal S1x8192x512 .f32) (w : FVec Ideal S4x128x128 .f32) (b : FVec Ideal S4x128 .f32) :
    FVec Ideal S8192x512 .bf16 :=
  truncf .bf16 (shapeCast S8192x512 (mulf u (shapeCast S1x8192x512 (addf
    (transpose S1x64x128x4x128 [1, 2, 4, 0, 3] (Host.dotGeneral (φ₁ := .f32) (φ₂ := .f32)
        dot_S1x64x128x4x128_S4x128x128_S4x1x64x128x128_2_2_014_1_3_0 none
        (shapeCast S1x64x128x4x128 v shapeCasts_S1x8192x512_S1x64x128x4x128) w)
      transposes_S4x1x64x128x128_S1x64x128x4x128_1_2_4_0_3)
    (broadcastInDim S1x64x128x4x128 ![0, 1, 2, 3, 4] bcast_S1x1x128x4x1_S1x64x128x4x128_0_1_2_3_4
      (broadcastInDim S1x1x128x4x1 ![2, 3] bcast_S128x4_S1x1x128x4x1_2_3
        (transpose S128x4 [1, 0] b transposes_S4x128_S128x4_1_0)))) shapeCasts_S1x64x128x4x128_S1x8192x512))
    shapeCasts_S1x8192x512_S8192x512) bitsLt_bf16_f32

theorem mixT_at (u v : FVec Ideal S1x8192x512 .f32) (w : FVec Ideal S4x128x128 .f32) (b : FVec Ideal S4x128 .f32)
    (p : Fin 8192) (l : Fin 512) :
    mixT u v w b (ix2 p l) = u (ix3 0 p l) * ((∑ j : Fin 128, w (ix3 (groupOf l) (rowOf p) j)
        * v (ix3 0 (pos (chunkOf p) j) (col (groupOf l) (inGroup l)))) + b (ix2 (groupOf l) (rowOf p))) := by
  pointwise [mixT, groupOf, inGroup, rowOf, chunkOf, pos, col]
  simp only [Nat.div_add_mod, Nat.mul_comm (p.val / 128) 128]
  refine congrArg (fun (a : EReal) => _ * (a + _)) (Finset.sum_congr rfl fun x _ => mul_comm _ _)

theorem outC_at (p : Fin 8192) (l : Fin 512) :
    (show FVec Ideal S8192x512 .bf16 from out_main_v162 V0) (ix2 p l)
      = gelu (xA V0 (ix2 p ⟨5632 + l.val, by omega⟩))
        * ((∑ j : Fin 128, tri (fun h n j => (show FVec Ideal S4x128x128 .f32 from V0 (Proc.devRef .tc main_arg3)) (ix3 h n j))
              (groupOf l) (rowOf p) j
            * vnorm (fun l => xA V0 (ix2 (pos (chunkOf p) j) ⟨6144 + l.val, by omega⟩))
                (fun l => (show FVec Ideal S512 .f32 from V0 (Proc.devRef .tc main_arg2)) (ix1 l)) (col (groupOf l) (inGroup l)))
          + (show FVec Ideal S4x128 .f32 from V0 (Proc.devRef .tc main_arg4)) (ix2 (groupOf l) (rowOf p))) := by
  have e : (show FVec Ideal S8192x512 .bf16 from out_main_v162 V0)
      = mixT (geluT (guT (xA V0))) (vnT (gvT (xA V0)) (V0 (Proc.devRef .tc main_arg2))) (triT (V0 (Proc.devRef .tc main_arg3)))
          (V0 (Proc.devRef .tc main_arg4)) := rfl
  rw [e, mixT_at]
  pointwise [geluT_at, vnT_at, triT_at, guT, gvT]

end Cert.MixRef

end
-- ==== Proof.MixClaim.lean ====
module

public import proofs.«01_k».proof.Proof.MixSweep
public import proofs.«01_k».proof.Proof.MixRefOut
public import proofs.«01_k».proof.Defs

@[expose] public section

set_option maxRecDepth 16384

noncomputable section

open Idealize.ShloMosaic Idealize.ShloMosaic.TcCoe Idealize.SL.Sem

namespace Cert.MixRef

open Cert.Mix Cert.ReferenceIdeal Cert.ReferenceIdeal.Value Cert.ReferenceIdeal.Gen

variable (m : (ℓ : Loc nD τ sig) → Buf (Elt Ideal) ℓ)

theorem pos_row (p : Fin 8192) : pos (chunkOf p) (rowOf p) = p := Fin.ext (Nat.div_add_mod p.val 128)

/-- What the reference leaves in each of its four results. -/
theorem result_A (c : Dev nD) : out_main_v160 (atTrip m c 64) = specA (Xof m c) (gainOf m c) := by
  refine funext fun i => ?_
  obtain ⟨p, l, rfl⟩ : ∃ (p : Fin 8192) (l : Fin 1024), i = ix2 p l := ⟨i 0, i 1, eq_ix2 i⟩
  refine (outA_at (atTrip m c 64) p l).trans ?_
  unfold specA outA
  refine retY_congr (fun e => ?_) (fun e => arg1_trip m c _ e) (fun e => ?_) _
  · exact stack_trip m c 64 (le_refl _) (chunkOf p) (chunkOf p).isLt _ _ e
  · exact (arg0_trip m c p _).trans (congrArg (fun q => Xof m c q _) (pos_row p).symm)

theorem result_C (c : Dev nD) :
    out_main_v162 (atTrip m c 64) = specC (Xof m c) (gateGain m c) (wOf m c) (biasOf m c) := by
  refine funext fun i => ?_
  obtain ⟨p, l, rfl⟩ : ∃ (p : Fin 8192) (l : Fin 512), i = ix2 p l := ⟨i 0, i 1, eq_ix2 i⟩
  refine (outC_at (atTrip m c 64) p l).trans ?_
  unfold specC outC
  have hl : (col (groupOf l) (inGroup l)).val = l.val := Nat.div_add_mod l.val 128
  refine congrArg₂ (fun (a b : EReal) => a * b) (congrArg gelu ?_) (congrArg₂ (fun (a b : EReal) => a + b)
    (Finset.sum_congr rfl fun j _ => congrArg₂ (fun (a b : EReal) => a * b) ?_ ?_) (arg4_trip m c _ _))
  · refine (arg0_trip m c p _).trans ?_
    show Xof m c p _ = Xof m c (pos (chunkOf p) (rowOf p)) _
    rw [pos_row]
    exact congrArg (Xof m c p) (Fin.ext (congrArg (5632 + ·) hl.symm))
  · exact congrArg (fun (z : EReal) => if j.val ≤ (rowOf p).val then z else 0) (arg3_trip m c _ _ _)
  · exact vnorm_congr (fun l => arg0_trip m c _ _) (fun l => arg2_trip m c l) _

theorem result_S (c : Dev nD) : out_main_v163 (atTrip m c 64) = specS (Xof m c) := by
  refine funext fun i => ?_
  obtain ⟨h, d, e, rfl⟩ : ∃ (h : Fin 4) (d : Fin 128) (e : Fin 256), i = ix3 h d e := ⟨i 0, i 1, i 2, eq_ix3 i⟩
  exact (outS_at (atTrip m c 64) h d e).trans (state_trip m c 64 (le_refl _) h d e)

theorem result_V (c : Dev nD) : out_main_v165 (atTrip m c 64) = specV (Xof m c) (gateGain m c) := by
  refine funext fun i => ?_
  obtain ⟨n, l, rfl⟩ : ∃ (n : Fin 128) (l : Fin 512), i = ix2 n l := ⟨i 0, i 1, eq_ix2 i⟩
  refine (outV_at (atTrip m c 64) n l).trans ?_
  exact vnorm_congr (fun l => arg0_trip m c _ _) (fun l => arg2_trip m c l) _

end Cert.MixRef

namespace Cert.Mix

/-- From memories that agree on the arguments, the mixer call and the reference leave the same four arrays: the retention
    output, the gMLP output, the retention state after the last chunk, and the last chunk's gate rows. -/
theorem claim : Cert.algebraic_KernelIdeal_ReferenceIdeal := by
  intro m g m' g' _ hagree
  refine ⟨fun c => specA (Xof m c) (gainOf m c), fun c => specC (Xof m c) (gateGain m c) (wOf m c) (biasOf m c),
    fun c => specS (Xof m c), fun c => specV (Xof m c) (gateGain m c), ?_, ?_⟩
  · refine (θ_run Cert.KernelIdeal.defs _ _).mono (fun _ h c => ?_) (Cert.KernelIdeal.Value.run_blocks m g)
    obtain ⟨h0, h1, h2, h3, hk⟩ := h c
    exact ⟨h0.trans (array16 m c), h1.trans (array17 m c), h2.trans (array18 m c), h3.trans (array19 m c), hk⟩
  · refine (θ_run Cert.ReferenceIdeal.defs _ _).mono (fun _ h c => ?_) (Cert.ReferenceIdeal.Value.run m' g')
    obtain ⟨h0, h1, h2, h3, hk⟩ := h c
    obtain ⟨e0, e1, e2, e3, e4⟩ := hagree c
    have x0 : Cert.MixRef.Xof m' c = Xof m c := funext fun p => funext fun l => congrFun e0 (ix2 p l)
    have x1 : Cert.MixRef.gainOf m' c = gainOf m c := funext fun p => funext fun l => congrFun e1 (ix2 p l)
    have x2 : Cert.MixRef.gateGain m' c = gateGain m c := funext fun l => congrFun e2 (ix1 l)
    have x3 : Cert.MixRef.wOf m' c = wOf m c := funext fun h => funext fun n => funext fun j => congrFun e3 (ix3 h n j)
    have x4 : Cert.MixRef.biasOf m' c = biasOf m c := funext fun h => funext fun n => congrFun e4 (ix2 h n)
    refine ⟨h0.trans ?_, h1.trans ?_, h2.trans ?_, h3.trans ?_, hk⟩
    · exact (Cert.MixRef.result_A m' c).trans (by rw [x0, x1])
    · exact (Cert.MixRef.result_C m' c).trans (by rw [x0, x2, x3, x4])
    · exact (Cert.MixRef.result_S m' c).trans (by rw [x0])
    · exact (Cert.MixRef.result_V m' c).trans (by rw [x0, x2])

end Cert.Mix

end
-- ==== Proof.InProjKernel.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen

variable (m : (ℓ : Loc nD τ sig) → Buf (Elt Ideal) ℓ)

/-- Which block each window stages at grid point `t`: the row block is `t / 7`, the column block `t % 7`. -/
theorem idx : ∀ t : Fin cfg0.N, win0_0.index t = ![t.val / 7, 0] ∧ win0_1.index t = ![0, 0]
    ∧ win0_2.index t = ![0, t.val % 7] ∧ win0_3.index t = ![t.val / 7, t.val % 7] :=
  (by decide +kernel : ∀ t : Fin grid0.N, _)

/-- The normalised rows kept in scratch are, at every point, those of the point's own row block. -/
theorem scratch_rows (c : Dev nD) (t : Fin cfg0.N) (j) :
    (outsAt0 m c t.val t.isLt).2 j = k0_pay1 (F := Ideal) (iblk m c 0 t) (iblk m c 1 t) j := by
  rw [Pipeline.eq_of_write_hold_apply (fun n h => (outsAt0 m c n h).2) 7
    (fun t => k0_pay1 (F := Ideal) (iblk m c 0 t) (iblk m c 1 t))
    (fun t h j => by rw [outsAt0_A m c t h]; frame_out)
    (fun t h j => by rw [outsAt0_B m c t h]; rfl) t j]
  have e : iblk m c 0 ⟨7 * (t.val / 7), Pipeline.run_start_lt t⟩ = iblk m c 0 t := by
    funext x
    blk_ext [iblk, V, idx t, idx ⟨7 * (t.val / 7), Pipeline.run_start_lt t⟩]
  have e1 : iblk m c 1 ⟨7 * (t.val / 7), Pipeline.run_start_lt t⟩ = iblk m c 1 t := by
    funext x
    blk_ext [iblk, V, idx t, idx ⟨7 * (t.val / 7), Pipeline.run_start_lt t⟩]
  rw [e, e1]

/-- What a point leaves in its output block: the scratch rows times the point's columns of the weight. -/
theorem block (c : Dev nD) (t : Fin cfg0.N) (j) :
    (outsAt0 m c t.val t.isLt).1 j
      = k0_pay2 (F := Ideal) (k0_pay1 (F := Ideal) (iblk m c 0 t) (iblk m c 1 t)) (iblk m c 2 t) j := by
  rw [← funext (scratch_rows m c t)]
  by_cases h : t.val % 7 = 0
  · rw [outsAt0_A m c t h]; frame_out
  · rw [outsAt0_B m c t h]; frame_out
    rw [read_unread_whole]
    rfl

end Cert.InProj

end
-- ==== Proof.InProj.lean ====
module

public import proofs.«01_k».proof.Proof.InProjKernel

@[expose] public section

set_option maxRecDepth 16384

noncomputable section

open Idealize.ShloMosaic Idealize.ShloMosaic.TcCoe Idealize.SL.Sem
open Idealize.ShloMosaic.Pipeline (Dat)

namespace Cert.InProj

open Cert.Kernel3Ideal Cert.Kernel3Ideal.Gen Cert.Reference3Ideal.Read

variable (m : (ℓ : Loc nD τ sig) → Buf (Elt Ideal) ℓ)

/-- The weight the call stages, at row `k` and column `l`: the projection's columns moved into the call's order, the
    remaining columns zero. -/
def wcol (W : FVec Ideal S2048x6736 .f32) (k : Fin 2048) (l : Fin 7168) : EReal :=
  if h0 : l.val < 5632 then W (ix2 k ⟨l.val, by omega⟩)
  else if h1 : l.val < 6656 then W (ix2 k ⟨l.val + 80, by omega⟩)
  else if h2 : l.val < 6720 then W (ix2 k ⟨l.val - 1008, by omega⟩)
  else if h3 : l.val < 6736 then W (ix2 k ⟨l.val - 1088, by omega⟩)
  else 0

/-- A column of the staged weight before column 6736 is the projection's column that sits there. -/
theorem wcol_eq (W : FVec Ideal S2048x6736 .f32) (k : Fin 2048) (l : Fin 7168) (q : Fin 6736)
    (h : q.val = if l.val < 5632 then l.val else if l.val < 6656 then l.val + 80 else if l.val < 6720 then l.val - 1008
      else if l.val < 6736 then l.val - 1088 else 6736) : wcol W k l = W (ix2 k q) := by
  have hq := q.isLt
  unfold wcol
  repeat' split
  all_goals first
    | exact congrArg (fun q => W (ix2 k q)) (Fin.ext (by dsimp only; split_ifs at h; omega))
    | (split_ifs at h; omega)

/-- A column of the staged weight from column 6736 on is zero. -/
theorem wcol_zero (W : FVec Ideal S2048x6736 .f32) (k : Fin 2048) (l : Fin 7168) (h : 6736 ≤ l.val) : wcol W k l = 0 := by
  unfold wcol
  rw [dif_neg (by omega), dif_neg (by omega), dif_neg (by omega), dif_neg (by omega)]

/-- The staged weight: the column groups of the projection in the call's order, then zero columns. -/
def staged (W : FVec Ideal S2048x6736 .f32) : FVec Ideal S2048x7168 .bf16 :=
  truncf .bf16 (concatenate S2048x7168 1
    [⟨S2048x5632, (extractStridedSlice S2048x5632 ![0, 0] W slices_S2048x6736_S2048x5632_0_0 : FVec Ideal S2048x5632 .f32)⟩,
     ⟨S2048x1024, (extractStridedSlice S2048x1024 ![0, 5712] W slices_S2048x6736_S2048x1024_0_5712 : FVec Ideal S2048x1024 .f32)⟩,
     ⟨S2048x64, (extractStridedSlice S2048x64 ![0, 5648] W slices_S2048x6736_S2048x64_0_5648 : FVec Ideal S2048x64 .f32)⟩,
     ⟨S2048x16, (extractStridedSlice S2048x16 ![0, 5632] W slices_S2048x6736_S2048x16_0_5632 : FVec Ideal S2048x16 .f32)⟩,
     ⟨S2048x432, (broadcastInDim S2048x432 ![] bcast_S_S2048x432 (constant S_ .f32 0x00000000#32) : FVec Ideal S2048x432 .f32)⟩]
    concatenates_S2048x5632_S2048x1024_S2048x64_S2048x16_S2048x432_S2048x7168_d1 : FVec Ideal S2048x7168 .f32) bitsLt_bf16_f32

set_option maxHeartbeats 1000000 in
/-- The staged weight is what the host operations before the launch make of the argument. -/
theorem weight_eq (c : Dev nD) : V m c main_v6 = staged (m ((c : Thread nD τ).loc main_arg2)) := by
  unfold V
  after_results_simp <;> (try dsimp only [Matrix.cons_val]) <;> (try after_results_simp) <;> rfl

/-- The staged weight at an index. -/
theorem staged_at (W : FVec Ideal S2048x6736 .f32) (k : Fin 2048) (l : Fin 7168) : staged W (ix2 k l) = wcol W k l := by
  pointwise [staged]
  unfold wcol
  repeat' split
  all_goals first
    | (exfalso; omega)
    | exact congrArg (fun q => W (ix2 k q)) (Fin.ext (by first | omega | (dsimp only; omega)))
    | rfl

/-- Row `i` of the normalised input. -/
def hrow (X : FVec Ideal S8192x2048 .f32) (G : FVec Ideal S2048 .f32) (i : Fin 8192) (k : Fin 2048) : EReal :=
  X (ix2 i k) * Ideal.rsqrt (Ideal.div (∑ x, X (ix2 i x) * X (ix2 i x)) (Ideal.ofBits .f32 1157627904#32)
    + Ideal.ofBits .f32 897988541#32) * G (ix1 k)

/-- An element of the reference's product: a normalised row times a column of the projection. -/
theorem product_at (X : FVec Ideal S8192x2048 .f32) (G : FVec Ideal S2048 .f32) (W : FVec Ideal S2048x6736 .f32)
    (i : Fin 8192) (l : Fin 6736) :
    val_main_v13 (F := Ideal) X G W (ix2 i l) = ∑ k : Fin 2048, hrow X G i k * W (ix2 k l) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- A case distinction equals `r` when both of its branches do. -/
theorem dite_eq_both {α : Type} {P : Prop} [Decidable P] {a : P → α} {b : ¬P → α} {r : α} (ha : ∀ h, a h = r)
    (hb : ∀ h, b h = r) : dite P a b = r := by
  by_cases h : P
  · rw [dif_pos h]; exact ha h
  · rw [dif_neg h]; exact hb h

/-- An element of the reference's result: a normalised row times a column of the staged weight. -/
theorem result_at (X : FVec Ideal S8192x2048 .f32) (G : FVec Ideal S2048 .f32) (W : FVec Ideal S2048x6736 .f32)
    (i : Fin 8192) (l : Fin 7168) :
    val_main_v27 (F := Ideal) X G W (ix2 i l) = ∑ k : Fin 2048, hrow X G i k * wcol W k l := by
  pointwise [val_main_v27, val_main_v26, val_main_v25, val_main_v24, val_main_v23, val_main_v22, val_main_v21,
    val_main_v20, val_main_v19, val_main_v18, val_main_v17, val_main_v16, val_main_v15, val_main_v14, val_main_cst_2]
  have hl : ∀ q : Fin 6736, (q.val = if l.val < 5632 then l.val else if l.val < 6656 then l.val + 80
      else if l.val < 6720 then l.val - 1008 else if l.val < 6736 then l.val - 1088 else 6736) →
      val_main_v13 (F := Ideal) X G W (ix2 i q) = ∑ k : Fin 2048, hrow X G i k * wcol W k l := fun q h => by
    rw [product_at]
    exact Finset.sum_congr rfl fun k _ => by rw [wcol_eq W k l q h]
  have hz : 6736 ≤ l.val → (0 : EReal) = ∑ k : Fin 2048, hrow X G i k * wcol W k l := fun h =>
    (Finset.sum_eq_zero fun k _ => by rw [wcol_zero W k l h, mul_zero]).symm
  generalize ∑ k : Fin 2048, hrow X G i k * wcol W k l = r at hl hz ⊢
  repeat' refine dite_eq_both (fun h => ?_) (fun h => ?_)
  all_goals first
    | exact hz (by omega)
    | (refine hl _ ?_; dsimp only; split_ifs <;> omega)

/-- An element of a block: the block's normalised row times a column of the staged block. -/
theorem block_at (X : FVec Ideal S1024x2048 .f32) (G : FVec Ideal S1x2048 .f32) (W : FVec Ideal S2048x1024 .bf16) (j) :
    k0_pay2 (F := Ideal) (k0_pay1 (F := Ideal) X G) W j
      = ∑ k : Fin 2048, X (ix2 (j 0) k) * Ideal.rsqrt (Ideal.div (∑ x, X (ix2 (j 0) x) * X (ix2 (j 0) x))
          (Ideal.ofBits .f32 1157627904#32) + Ideal.ofBits .f32 897988541#32) * G (ix2 0 k) * W (ix2 k (j 1)) := by
  pointwise [k0_pay2, k0_pay1]

/-- The array after the run is the reference's result over the same arguments. -/
theorem array_eq (c : Dev nD) : (dats m 0 c).arrAt 3 cfg0.N
    = val_main_v27 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, block, block_at]
  obtain ⟨e0, e1, e2, e3⟩ := idx t
  idx_bounds
  have h0 : ((((cfg0.win 3).blk t).view.emb y) 0).val = t.val / 7 * 1024 + (y 0).val := by blk_simp [idx t]
  have h1 : ((((cfg0.win 3).blk t).view.emb y) 1).val = t.val % 7 * 1024 + (y 1).val := by blk_simp [idx t]
  generalize ((cfg0.win 3).blk t).view.emb y = j at h0 h1 ⊢
  idx_vars j
  refine Eq.trans ?_ (result_at _ _ _ _ _).symm
  have r0 : ∀ x : Fin 2048, (show FVec Ideal S1024x2048 .f32 from iblk m c 0 t) (ix2 (y 0) x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    blk_simp [iblk, idx t]
    entry_read
    pointwise
    blk_ext [idx t]
  have r2 : ∀ x : Fin 2048, (show FVec Ideal S2048x1024 .bf16 from iblk m c 2 t) (ix2 x (y 1))
      = wcol (m ((c : Thread nD τ).loc main_arg2)) x j1 := fun x => by
    rw [← staged_at, ← weight_eq]
    blk_ext [iblk, idx t]
  simp only [r0, r1, r2]
  rfl

end Cert.InProj

end
-- ==== Proof.InProjClaim.lean ====
module

public import proofs.«01_k».proof.Defs
public import proofs.«01_k».proof.Proof.InProj

@[expose] public section

noncomputable section

open Idealize.ShloMosaic Idealize.ShloMosaic.TcCoe Idealize.SL.Sem

namespace Cert.InProj

/-- The input projection's call returns the reference's array, from the same arguments. -/
theorem claim : Cert.algebraic_Kernel3Ideal_Reference3Ideal := by
  intro m g m' g' _ hagree
  refine ⟨fun c => Cert.Reference3Ideal.Read.val_main_v27 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · exact (θ_run Cert.Kernel3Ideal.defs _ _).mono
      (fun _ h c => ⟨(h c).1.trans (array_eq m c), (h c).2⟩) (Cert.Kernel3Ideal.Value.run_blocks m g)
  · refine (θ_run Cert.Reference3Ideal.defs _ _).mono (fun _ h c => ⟨(h c).1.trans ?_, (h c).2⟩)
      (Cert.Reference3Ideal.Value.run m' g')
    obtain ⟨e0, e1, e2⟩ := hagree c
    rw [Cert.Reference3Ideal.Read.val_main_v27_eq, e0, e1, e2]

end Cert.InProj

end
-- ==== Proof.FfnRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Exec
public import Idealize.ShloMosaic.Lib.Pipeline.ReadBack
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄" => MT nD τ sig Unit (Elt F) ℕ (UR sig nD τ) ℕ

/-! ## What one run of the body computes -/

/-- The second coordinate (the tile of hidden columns) is the first. -/
abbrev firstTile (i : grid0.Coords) : Prop :=
  (Scalar.cmpi .ne (Scalar.extui (Scalar.cmpi .eq (BitVec.ofNat 32 (i 1).val) 0#32)) 0#32) = 1#1

/-- The first coordinate (the tile of rows) is the first. -/
abbrev firstRows (i : grid0.Coords) : Prop := k0_cond2 i = 1#1

/-- The normalised rows the body multiplies: made at the first tile of columns, kept after it. -/
def rowsAt (i : grid0.Coords) (x0 : Vec F S512x2048 .f32) (x1 : Vec F S1x2048 .f32) (h : Vec F S512x2048 .bf16) :
    Vec F S512x2048 .bf16 := if firstTile i then k0_pay2 x0 x1 else h

/-- What the body adds to: the input rows at the first tile of columns, the running sum after it. -/
def sumAt (i : grid0.Coords) (x0 o : Vec F S512x2048 .f32) : Vec F S512x2048 .f32 := if firstTile i then x0 else o

/-- The carried rows as the body reads them: this tile's rows zero at the first tile of rows. -/
def carryAt (i : grid0.Coords) (s : Vec F S11x2x8x512 .f32) : Vec F S11x2x8x512 .f32 :=
  if firstRows i then put s (k0_off1 i) S1x2x8x512.size (k0_pay3 (F := F)) else s

/-- The gate half of the carried rows of the tile. -/
def gateCarry (i : grid0.Coords) (s : Vec F S11x2x8x512 .f32) : Vec F S1x1x8x512 .f32 :=
  window (carryAt i s) (k0_off2 i) S1x1x8x512.size (k0_off2_inb i)

/-- The up half of the carried rows of the tile. -/
def upCarry (i : grid0.Coords) (s : Vec F S11x2x8x512 .f32) : Vec F S1x1x8x512 .f32 :=
  window (carryAt i s) (k0_off3 i) S1x1x8x512.size (k0_off3_inb i)

/-- The convolved gate columns, from the rows, the weights, the taps, the bias and the carried rows. -/
def gateConv (h : Vec F S512x2048 .bf16) (w : Vec F S2048x512 .bf16) (k : Vec F S3x512 .f32) (b : Vec F S1x512 .f32)
    (p : Vec F S1x1x8x512 .f32) : FVec F S512x512 .f32 :=
  k0_pay11 (iota .tc S512x1 32 [0] iota_S512x1_d0_w32) (k0_pay4 h w) (k0_pay8 p) (k0_pay9 k) (k0_pay10 b)

/-- The convolved up columns, likewise. -/
def upConv (h : Vec F S512x2048 .bf16) (w : Vec F S2048x512 .bf16) (k : Vec F S3x512 .f32) (b : Vec F S1x512 .f32)
    (p : Vec F S1x1x8x512 .f32) : FVec F S512x512 .f32 :=
  k0_pay17 (iota .tc S512x1 32 [0] iota_S512x1_d0_w32) (k0_pay5 h w) (k0_pay13 k) (k0_pay14 b) (k0_pay15 p) (k0_pay16 p) 0#32

/-- The carried rows the body leaves: the last rows of its gate and up columns in the tile's place. -/
def carryNext (i : grid0.Coords) (s : Vec F S11x2x8x512 .f32) (ag au : FVec F S512x512 .f32) : Vec F S11x2x8x512 .f32 :=
  put (put (carryAt i s) (k0_off2 i) S1x1x8x512.size (k0_pay18 ag)) (k0_off3 i) S1x1x8x512.size (k0_pay19 au)

section Windows
variable {κ : Kind} {sp : Space} {s : Shape} {e : EltTy}

/-- Contents written once more over a rectangle, read: what was read before with the payload put there. -/
theorem read_put (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- A load of a rectangle is the window of what is read. -/
theorem load_window (v : View sig κ sp s e) (f : v.ty.Contents (Elt F)) {off size : Fin s.rank → ℕ} (inb : ∀ a, off a + size a ≤ s.size a) :
    v.readAt (Elt F) (Rect.unit off size inb).toLoadRect f = window (v.read (Elt F) f) off size inb :=
  View.readAt_unit v f inb rfl inb

variable {α : Type}

/-- The window of the whole of a matrix is the matrix. -/
theorem window_all2 {a b : ℕ} (x : (⟨2, ![a, b]⟩ : Shape).Idx → α) (inb) : window x ![0, 0] ![a, b] inb = x := by
  funext y
  refine congrArg x (funext fun k => Fin.ext ?_)
  have : ((Rect.unit (s := ⟨2, ![a, b]⟩) ![0, 0] ![a, b] inb).emb y k).val = (![0, 0] : Fin 2 → ℕ) k + 1 * (y k).val := rfl
  rw [this]
  fin_cases k <;> simp

/-- What is put over the whole of a matrix replaces it. -/
theorem put_all2 {a b : ℕ} (x : (⟨2, ![a, b]⟩ : Shape).Idx → α) (w) : put x ![0, 0] ![a, b] w = w := by
  have inb : ∀ k : Fin 2, (![0, 0] : Fin 2 → ℕ) k + (![a, b] : Fin 2 → ℕ) k ≤ (![a, b] : Fin 2 → ℕ) k := by
    intro k; fin_cases k <;> simp
  exact (window_all2 _ inb).symm.trans (VecWindow.window_put_same x _ _ inb w)

/-- The window of the whole of a stack of matrices is the stack. -/
theorem window_all3 {a b d : ℕ} (x : (⟨3, ![a, b, d]⟩ : Shape).Idx → α) (inb) : window x ![0, 0, 0] ![a, b, d] inb = x := by
  funext y
  refine congrArg x (funext fun k => Fin.ext ?_)
  have : ((Rect.unit (s := ⟨3, ![a, b, d]⟩) ![0, 0, 0] ![a, b, d] inb).emb y k).val = (![0, 0, 0] : Fin 3 → ℕ) k + 1 * (y k).val := rfl
  rw [this]
  fin_cases k <;> simp

/-- What is put over the whole of a stack of matrices replaces it. -/
theorem put_all3 {a b d : ℕ} (x : (⟨3, ![a, b, d]⟩ : Shape).Idx → α) (w) : put x ![0, 0, 0] ![a, b, d] w = w := by
  have inb : ∀ k : Fin 3, (![0, 0, 0] : Fin 3 → ℕ) k + (![a, b, d] : Fin 3 → ℕ) k ≤ (![a, b, d] : Fin 3 → ℕ) k := by
    intro k; fin_cases k <;> simp
  exact (window_all3 _ inb).symm.trans (VecWindow.window_put_same x _ _ inb w)

end Windows

/-- Where the body keeps the carried rows of its tile, both halves. -/
theorem off1_eq (i : grid0.Coords) : k0_off1 i = ![(i 1).val, 0, 0, 0] := by
  have h : (i 1).val < 11 := (i 1).isLt
  funext k
  fin_cases k <;> simp [k0_off1, Scalar.indexCast] <;> omega

/-- Where it keeps the gate half, -/
theorem off2_eq (i : grid0.Coords) : k0_off2 i = ![(i 1).val, 0, 0, 0] := by
  have h : (i 1).val < 11 := (i 1).isLt
  funext k
  fin_cases k <;> simp [k0_off2, Scalar.indexCast] <;> omega

/-- and the up half. -/
theorem off3_eq (i : grid0.Coords) : k0_off3 i = ![(i 1).val, 1, 0, 0] := by
  have h : (i 1).val < 11 := (i 1).isLt
  funext k
  fin_cases k <;> simp [k0_off3, Scalar.indexCast] <;> omega

/-- The gate half read after the tile's carried rows were replaced does not depend on what was there. -/
theorem window_gate {α : Type} (i : grid0.Coords) (x y : S11x2x8x512.Idx → α) (w) (inb) :
    window (put x (k0_off1 i) ![1, 2, 8, 512] w) (k0_off2 i) ![1, 1, 8, 512] inb
      = window (put y (k0_off1 i) ![1, 2, 8, 512] w) (k0_off2 i) ![1, 1, 8, 512] inb := by
  have h : ∀ a : Fin 4, k0_off1 i a ≤ k0_off2 i a
      ∧ k0_off2 i a + (![1, 1, 8, 512] : Fin 4 → ℕ) a ≤ k0_off1 i a + (![1, 2, 8, 512] : Fin 4 → ℕ) a := by
    rw [off1_eq, off2_eq]; intro a; fin_cases a <;> simp
  rw [VecWindow.window_put_of_inside x _ _ _ _ inb w h, VecWindow.window_put_of_inside y _ _ _ _ inb w h]

/-- Nor does the up half. -/
theorem window_up {α : Type} (i : grid0.Coords) (x y : S11x2x8x512.Idx → α) (w) (inb) :
    window (put x (k0_off1 i) ![1, 2, 8, 512] w) (k0_off3 i) ![1, 1, 8, 512] inb
      = window (put y (k0_off1 i) ![1, 2, 8, 512] w) (k0_off3 i) ![1, 1, 8, 512] inb := by
  have h : ∀ a : Fin 4, k0_off1 i a ≤ k0_off3 i a
      ∧ k0_off3 i a + (![1, 1, 8, 512] : Fin 4 → ℕ) a ≤ k0_off1 i a + (![1, 2, 8, 512] : Fin 4 → ℕ) a := by
    rw [off1_eq, off3_eq]; intro a; fin_cases a <;> simp
  rw [VecWindow.window_put_of_inside x _ _ _ _ inb w h, VecWindow.window_put_of_inside y _ _ _ _ inb w h]

set_option maxHeartbeats 2000000 in
/-- ONE RUN OF THE BODY, on whole buffers: from the input blocks `x·`, the running sum `o`, the carried rows `s` and the
    kept rows `h`, it leaves the input blocks, adds the tile's product to the sum, writes the last rows of the tile's gate
    and up columns, and leaves the carried and the kept rows. -/
theorem body_run (c : Dev nD) (i : grid0.Coords) (arg2 : Memref sig .tc .vmem S512x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S3x512 .f32) (harg6 : arg6.IsWhole)
    (arg7 : Memref sig .tc .vmem S3x512 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S512x2048 .bf16) (harg10 : arg10.IsWhole)
    (arg11 : Memref sig .tc .vmem S512x2048 .f32) (harg11 : arg11.IsWhole) (arg12 : Memref sig .tc .vmem S1x8x512 .f32) (harg12 : arg12.IsWhole)
    (arg13 : Memref sig .tc .vmem S1x8x512 .f32) (harg13 : arg13.IsWhole) (arg14 : Memref sig .tc .vmem S11x2x8x512 .f32) (harg14 : arg14.IsWhole)
    (arg15 : Memref sig .tc .vmem S512x2048 .bf16) (harg15 : arg15.IsWhole)
    (x0 : Vec F S512x2048 .f32) (x1 : Vec F S1x2048 .f32) (x2 x3 : Vec F S2048x512 .bf16) (x4 x5 : Vec F S3x512 .f32)
    (x6 x7 : Vec F S1x512 .f32) (x8 : Vec F S512x2048 .bf16) (o : Vec F S512x2048 .f32) (s : Vec F S11x2x8x512 .f32)
    (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare o ∗ (∃ d, owns (c : Thread nD τ) arg12 fullShare d) ∗ (∃ d, owns (c : Thread nD τ) arg13 fullShare d)
        ∗ owns (c : Thread nD τ) arg14 fullShare s ∗ owns (c : Thread nD τ) arg15 fullShare h
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (k0_pay1 (upConv (rowsAt i x0 x1 h) x3 x5 x7 (upCarry i s))
                (k0_pay20 (gateConv (rowsAt i x0 x1 h) x2 x4 x6 (gateCarry i s))) x8 (sumAt i x0 o))
            ∗ owns (c : Thread nD τ) arg12 fullShare (k0_pay6 (rowsAt i x0 x1 h) x2)
            ∗ owns (c : Thread nD τ) arg13 fullShare (k0_pay7 (rowsAt i x0 x1 h) x3)
            ∗ owns (c : Thread nD τ) arg14 fullShare (carryNext i s (k0_pay4 (rowsAt i x0 x1 h) x2) (k0_pay5 (rowsAt i x0 x1 h) x3))
            ∗ owns (c : Thread nD τ) arg15 fullShare (rowsAt i x0 x1 h)) -∗ K ⟨⟩))
      ⊢ wp frame (wpE (defs₀ (F := F)) Variants.none c none) E (cc0__ffn_seq_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__ffn_seq_kernel_eq_skeleton]; unfold cc0__ffn_seq_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, ⟨%fh, %hfh, HH⟩, Hk⟩
  subst hf0 hf1 hf2 hf3 hf4 hf5 hf6 hf7 hf8 hf9 hfs hfh
  by_cases h1 : firstTile i <;> by_cases h2 : firstRows i <;> (sl_exec (disch := first | sl_exact h1 | sl_exact h2)) <;> sl_step <;> iapply Hk
  all_goals
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr
      swap; · iexact H9
      ipureintro
      try frame_open
      try simp only [View.readCov, read_put, load_window, View.writes_nil, window_all2, window_all3, put_all2, put_all3]
      first
        | simp only [if_pos (show firstTile i from h1), if_pos (show firstRows i from h2), rowsAt, sumAt, carryNext, upCarry, gateCarry, carryAt, upConv, gateConv]
        | simp only [if_pos (show firstTile i from h1), if_neg (show ¬ firstRows i from h2), rowsAt, sumAt, carryNext, upCarry, gateCarry, carryAt, upConv, gateConv]
        | simp only [if_neg (show ¬ firstTile i from h1), if_pos (show firstRows i from h2), rowsAt, sumAt, carryNext, upCarry, gateCarry, carryAt, upConv, gateConv]
        | simp only [if_neg (show ¬ firstTile i from h1), if_neg (show ¬ firstRows i from h2), rowsAt, sumAt, carryNext, upCarry, gateCarry, carryAt, upConv, gateConv]
      try rw [window_gate i _ (View.read (Elt F) arg14.view fs), window_up i _ (View.read (Elt F) arg14.view fs)]
    isplitl [H10]
    · iexists _; isplitr
      swap; · iexact H10
      ipureintro
      try frame_open
      try simp only [View.readCov, read_put, load_window, View.writes_nil, window_all2, window_all3, put_all2, put_all3]
      first
        | simp only [if_pos (show firstTile i from h1), if_pos (show firstRows i from h2), rowsAt, sumAt, carryNext, upCarry, gateCarry, carryAt, upConv, gateConv]
        | simp only [if_pos (show firstTile i from h1), if_neg (show ¬ firstRows i from h2), rowsAt, sumAt, carryNext, upCarry, gateCarry, carryAt, upConv, gateConv]
        | simp only [if_neg (show ¬ firstTile i from h1), if_pos (show firstRows i from h2), rowsAt, sumAt, carryNext, upCarry, gateCarry, carryAt, upConv, gateConv]
        | simp only [if_neg (show ¬ firstTile i from h1), if_neg (show ¬ firstRows i from h2), rowsAt, sumAt, carryNext, upCarry, gateCarry, carryAt, upConv, gateConv]
      try rw [window_gate i _ (View.read (Elt F) arg14.view fs), window_up i _ (View.read (Elt F) arg14.view fs)]
    isplitl [H11]
    · iexists _; isplitr
      swap; · iexact H11
      ipureintro
      try frame_open
      try simp only [View.readCov, read_put, load_window, View.writes_nil, window_all2, window_all3, put_all2, put_all3]
      first
        | simp only [if_pos (show firstTile i from h1), if_pos (show firstRows i from h2), rowsAt, sumAt, carryNext, upCarry, gateCarry, carryAt, upConv, gateConv]
        | simp only [if_pos (show firstTile i from h1), if_neg (show ¬ firstRows i from h2), rowsAt, sumAt, carryNext, upCarry, gateCarry, carryAt, upConv, gateConv]
        | simp only [if_neg (show ¬ firstTile i from h1), if_pos (show firstRows i from h2), rowsAt, sumAt, carryNext, upCarry, gateCarry, carryAt, upConv, gateConv]
        | simp only [if_neg (show ¬ firstTile i from h1), if_neg (show ¬ firstRows i from h2), rowsAt, sumAt, carryNext, upCarry, gateCarry, carryAt, upConv, gateConv]
      try rw [window_gate i _ (View.read (Elt F) arg14.view fs), window_up i _ (View.read (Elt F) arg14.view fs)]
    isplitl [HS]
    · iexists _; isplitr
      swap; · iexact HS
      ipureintro
      try frame_open
      try simp only [View.readCov, read_put, load_window, View.writes_nil, window_all2, window_all3, put_all2, put_all3]
      first
        | simp only [if_pos (show firstTile i from h1), if_pos (show firstRows i from h2), rowsAt, sumAt, carryNext, upCarry, gateCarry, carryAt, upConv, gateConv]
        | simp only [if_pos (show firstTile i from h1), if_neg (show ¬ firstRows i from h2), rowsAt, sumAt, carryNext, upCarry, gateCarry, carryAt, upConv, gateConv]
        | simp only [if_neg (show ¬ firstTile i from h1), if_pos (show firstRows i from h2), rowsAt, sumAt, carryNext, upCarry, gateCarry, carryAt, upConv, gateConv]
        | simp only [if_neg (show ¬ firstTile i from h1), if_neg (show ¬ firstRows i from h2), rowsAt, sumAt, carryNext, upCarry, gateCarry, carryAt, upConv, gateConv]
      try rw [window_gate i _ (View.read (Elt F) arg14.view fs), window_up i _ (View.read (Elt F) arg14.view fs)]
    iexists _; isplitr
    swap; · iexact HH
    ipureintro
    try frame_open
    try simp only [View.readCov, read_put, load_window, View.writes_nil, window_all2, window_all3, put_all2, put_all3]
    first
      | simp only [if_pos (show firstTile i from h1), if_pos (show firstRows i from h2), rowsAt, sumAt, carryNext, upCarry, gateCarry, carryAt, upConv, gateConv]
      | simp only [if_pos (show firstTile i from h1), if_neg (show ¬ firstRows i from h2), rowsAt, sumAt, carryNext, upCarry, gateCarry, carryAt, upConv, gateConv]
      | simp only [if_neg (show ¬ firstTile i from h1), if_pos (show firstRows i from h2), rowsAt, sumAt, carryNext, upCarry, gateCarry, carryAt, upConv, gateConv]
      | simp only [if_neg (show ¬ firstTile i from h1), if_neg (show ¬ firstRows i from h2), rowsAt, sumAt, carryNext, upCarry, gateCarry, carryAt, upConv, gateConv]
    try rw [window_gate i _ (View.read (Elt F) arg14.view fs), window_up i _ (View.read (Elt F) arg14.view fs)]

end Cert.Ffn

end
-- ==== Proof.FfnPoint.lean ====
module

public import proofs.«01_k».proof.Proof.FfnRun

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.ShloMosaic.VecWindow (window put)

variable {F : FTy → Type} [FloatOps F]

variable (m : (ℓ : Loc nD τ sig) → Buf (Elt F) ℓ)

/-! ## What the buffers hold point by point -/

/-- The tile of columns is the first at the points divisible by eleven. -/
theorem firstTile_iff (t : Fin cfg0.N) : firstTile (grid0.coords t) ↔ t.val % 11 = 0 := by
  have ht : t.val < 176 := Nat.lt_of_lt_of_eq t.isLt N_0
  have e1 : (grid0.coords t 1).val = t.val / 1 % 11 := Pipeline.Grid.coords_val t 1 (by decide) rfl
  simp only [firstTile, e1]
  word_cmp

/-- The tile of rows is the first at the first eleven points. -/
theorem firstRows_iff (t : Fin cfg0.N) : firstRows (grid0.coords t) ↔ t.val < 11 := by
  have ht : t.val < 176 := Nat.lt_of_lt_of_eq t.isLt N_0
  have e0 : (grid0.coords t 0).val = t.val / 11 % 16 := Pipeline.Grid.coords_val t 0 (by decide) rfl
  have e : (Scalar.cmpi .ne (Scalar.extui (Scalar.cmpi .eq (BitVec.ofNat 32 (t.val / 11 % 16)) 0#32)) 0#32) = 1#1 ↔ t.val < 11 := by
    word_cmp
  rw [← e, ← e0]
  rfl

/-- The tile of columns of a point. -/
theorem tile_val (t : Fin cfg0.N) : (grid0.coords t 1).val = t.val % 11 := by
  have e1 : (grid0.coords t 1).val = t.val / 1 % 11 := Pipeline.Grid.coords_val t 1 (by decide) rfl
  rw [e1, Nat.div_one]

/-- The normalised rows of point `n`: made at the first tile of columns, kept after it. -/
def hAt (c : Dev nD) : (n : ℕ) → n < cfg0.N → Vec F S512x2048 .bf16
  | 0, hn => k0_pay2 (iblk m c 0 ⟨0, hn⟩) (iblk m c 1 ⟨0, hn⟩)
  | n + 1, hn => rowsAt (grid0.coords ⟨n + 1, hn⟩) (iblk m c 0 ⟨n + 1, hn⟩) (iblk m c 1 ⟨n + 1, hn⟩) (hAt c n (Nat.lt_of_succ_lt hn))

/-- The gate columns of point `n`, -/
def gateAt (c : Dev nD) (n : ℕ) (hn : n < cfg0.N) : FVec F S512x512 .f32 := k0_pay4 (hAt m c n hn) (iblk m c 2 ⟨n, hn⟩)

/-- and the up columns. -/
def upAt (c : Dev nD) (n : ℕ) (hn : n < cfg0.N) : FVec F S512x512 .f32 := k0_pay5 (hAt m c n hn) (iblk m c 3 ⟨n, hn⟩)

/-- The rows before the first tile of rows: zero. -/
def zeroRows : Vec F S1x1x8x512 .f32 := broadcast S1x1x8x512 (Scalar.ofBits .f32 0x00000000#32)

/-- The last rows of the tile of rows above, for the gate, as point `n` finds them: zero at the first tile of rows. -/
def gateIn (c : Dev nD) (n : ℕ) (hn : n < cfg0.N) : Vec F S1x1x8x512 .f32 :=
  if n < 11 then zeroRows else k0_pay18 (gateAt m c (n - 11) (Nat.lt_of_le_of_lt (Nat.sub_le _ _) hn))

/-- The same for the up columns. -/
def upIn (c : Dev nD) (n : ℕ) (hn : n < cfg0.N) : Vec F S1x1x8x512 .f32 :=
  if n < 11 then zeroRows else k0_pay19 (upAt m c (n - 11) (Nat.lt_of_le_of_lt (Nat.sub_le _ _) hn))

/-- What point `n` adds its product to, `o`, with the product added. -/
def addAt (c : Dev nD) (n : ℕ) (hn : n < cfg0.N) (o : Vec F S512x2048 .f32) : Vec F S512x2048 .f32 :=
  k0_pay1 (upConv (hAt m c n hn) (iblk m c 3 ⟨n, hn⟩) (iblk m c 5 ⟨n, hn⟩) (iblk m c 7 ⟨n, hn⟩) (upIn m c n hn))
    (k0_pay20 (gateConv (hAt m c n hn) (iblk m c 2 ⟨n, hn⟩) (iblk m c 4 ⟨n, hn⟩) (iblk m c 6 ⟨n, hn⟩) (gateIn m c n hn)))
    (iblk m c 8 ⟨n, hn⟩) o

/-- The running sum after point `n`. -/
def oAt (c : Dev nD) : (n : ℕ) → n < cfg0.N → Vec F S512x2048 .f32
  | 0, hn => addAt m c 0 hn (iblk m c 0 ⟨0, hn⟩)
  | n + 1, hn => addAt m c (n + 1) hn (sumAt (grid0.coords ⟨n + 1, hn⟩) (iblk m c 0 ⟨n + 1, hn⟩) (oAt c n (Nat.lt_of_succ_lt hn)))

/-- The rows the body multiplies at point `t`, whatever it finds kept at the first tile of columns. -/
theorem rows_eq (c : Dev nD) (t : Fin cfg0.N) (h : Vec F S512x2048 .bf16)
    (hh : t.val % 11 ≠ 0 → h = hAt m c (t.val - 1) (Nat.lt_of_le_of_lt (Nat.sub_le _ _) t.isLt)) :
    rowsAt (grid0.coords t) (iblk m c 0 t) (iblk m c 1 t) h = hAt m c t.val t.isLt := by
  obtain ⟨n, hn⟩ := t
  by_cases h0 : n % 11 = 0
  · have hf : firstTile (grid0.coords ⟨n, hn⟩) := (firstTile_iff ⟨n, hn⟩).mpr h0
    cases n with
    | zero => exact if_pos hf
    | succ n => exact (if_pos hf).trans (if_pos hf).symm
  · rw [hh h0]
    cases n with
    | zero => exact absurd rfl h0
    | succ n => rfl

/-- What the body adds to at point `t`, whatever it finds in the sum at the first tile of columns. -/
theorem sum_eq (c : Dev nD) (t : Fin cfg0.N) (o : Vec F S512x2048 .f32)
    (ho : t.val % 11 ≠ 0 → o = oAt m c (t.val - 1) (Nat.lt_of_le_of_lt (Nat.sub_le _ _) t.isLt)) :
    addAt m c t.val t.isLt (sumAt (grid0.coords t) (iblk m c 0 t) o) = oAt m c t.val t.isLt := by
  obtain ⟨n, hn⟩ := t
  by_cases h0 : n % 11 = 0
  · have hf : firstTile (grid0.coords ⟨n, hn⟩) := (firstTile_iff ⟨n, hn⟩).mpr h0
    cases n with
    | zero => exact congrArg (addAt m c 0 hn) (if_pos hf)
    | succ n => exact congrArg (addAt m c (n + 1) hn) ((if_pos hf).trans (if_pos hf).symm)
  · rw [ho h0]
    cases n with
    | zero => exact absurd rfl h0
    | succ n => rfl

/-! ## The carried rows -/

/-- What the carried rows hold before point `n`: in the place of each of the last eleven points' tiles, the last rows of
    its gate and up columns. -/
def CarryOk (c : Dev nD) (n : ℕ) (s : Vec F S11x2x8x512 .f32) : Prop :=
  ∀ p : Fin cfg0.N, p.val < n → n ≤ p.val + 11 →
    window s (k0_off2 (grid0.coords p)) S1x1x8x512.size (k0_off2_inb (grid0.coords p)) = k0_pay18 (gateAt m c p.val p.isLt)
    ∧ window s (k0_off3 (grid0.coords p)) S1x1x8x512.size (k0_off3_inb (grid0.coords p)) = k0_pay19 (upAt m c p.val p.isLt)

/-- Before the first point nothing is asked. -/
theorem carryOk_zero (c : Dev nD) (s : Vec F S11x2x8x512 .f32) : CarryOk m c 0 s := fun p hp => absurd hp (Nat.not_lt_zero _)

/-- What a point of another tile of columns finds in its place is not touched by the start of this one. -/
theorem window_carry_other {α : Type} (i : grid0.Coords) (j : ℕ) (hj : j ≠ (i 1).val) (off : Fin 4 → ℕ) (h0 : off 0 = j)
    (x : S11x2x8x512.Idx → α) (off' size' : Fin 4 → ℕ) (h0' : off' 0 = (i 1).val) (hs : size' 0 = 1) (w) (inb) :
    window (put x off' size' w) off ![1, 1, 8, 512] inb = window x off ![1, 1, 8, 512] inb := by
  refine VecWindow.window_put_of_disjoint (s := S11x2x8x512) x off' size' off ![1, 1, 8, 512] inb w 0 ?_
  have : (![1, 1, 8, 512] : Fin 4 → ℕ) 0 = 1 := rfl
  rw [h0, h0', hs, this]
  omega

/-- The body keeps it: its own tile's rows are replaced, the others' stay. -/
theorem carryOk_succ (c : Dev nD) (t : Fin cfg0.N) (s : Vec F S11x2x8x512 .f32) (h : CarryOk m c t.val s) :
    CarryOk m c (t.val + 1) (carryNext (grid0.coords t) s (gateAt m c t.val t.isLt) (upAt m c t.val t.isLt)) := by
  intro p hp hn
  by_cases he : p = t
  · subst he
    constructor
    · refine (VecWindow.window_put_of_disjoint (s := S11x2x8x512) _ _ _ _ _ (k0_off2_inb (grid0.coords p)) _ 1 ?_).trans
        (VecWindow.window_put_same _ _ _ _ _)
      rw [off2_eq, off3_eq]; exact Or.inl (by show 0 + 1 ≤ 1; omega)
    · exact VecWindow.window_put_same _ _ _ _ _
  · have hlt : p.val < t.val := by
      have : p.val ≠ t.val := fun h => he (Fin.ext h)
      omega
    have hj : (grid0.coords p 1).val ≠ (grid0.coords t 1).val := by rw [tile_val, tile_val]; omega
    have old := h p hlt (by omega)
    have keep : ∀ (off : Fin 4 → ℕ), off 0 = (grid0.coords p 1).val → ∀ inb,
        window (carryNext (grid0.coords t) s (gateAt m c t.val t.isLt) (upAt m c t.val t.isLt)) off ![1, 1, 8, 512] inb
          = window s off ![1, 1, 8, 512] inb := by
      intro off h0 inb
      have e1 : k0_off1 (grid0.coords t) 0 = (grid0.coords t 1).val := by rw [off1_eq]; rfl
      have e2 : k0_off2 (grid0.coords t) 0 = (grid0.coords t 1).val := by rw [off2_eq]; rfl
      have e3 : k0_off3 (grid0.coords t) 0 = (grid0.coords t 1).val := by rw [off3_eq]; rfl
      unfold carryNext
      refine (window_carry_other (grid0.coords t) _ hj off h0 _ _ _ e3 rfl _ inb).trans
        ((window_carry_other (grid0.coords t) _ hj off h0 _ _ _ e2 rfl _ inb).trans ?_)
      unfold carryAt
      split
      · exact window_carry_other (grid0.coords t) _ hj off h0 _ _ _ e1 rfl _ inb
      · rfl
    exact ⟨(keep _ (by rw [off2_eq]; rfl) _).trans old.1, (keep _ (by rw [off3_eq]; rfl) _).trans old.2⟩

/-- The offsets of a tile's places are those of the same tile of columns one tile of rows above. -/
theorem off2_above (t p : Fin cfg0.N) (h : p.val + 11 = t.val) : k0_off2 (grid0.coords t) = k0_off2 (grid0.coords p) := by
  rw [off2_eq, off2_eq, tile_val, tile_val, ← h, Nat.add_mod_right]
theorem off3_above (t p : Fin cfg0.N) (h : p.val + 11 = t.val) : k0_off3 (grid0.coords t) = k0_off3 (grid0.coords p) := by
  rw [off3_eq, off3_eq, tile_val, tile_val, ← h, Nat.add_mod_right]

/-- The window at equal offsets is the same. -/
theorem window_off {α : Type} (x : S11x2x8x512.Idx → α) (off off' : Fin 4 → ℕ) (h : off = off') (inb inb') :
    window x off ![1, 1, 8, 512] inb = window x off' ![1, 1, 8, 512] inb' := by subst h; rfl

/-- What the body reads of the carried rows for the gate, -/
theorem gateCarry_eq (c : Dev nD) (t : Fin cfg0.N) (s : Vec F S11x2x8x512 .f32) (h : CarryOk m c t.val s) :
    gateCarry (grid0.coords t) s = gateIn m c t.val t.isLt := by
  unfold gateCarry carryAt gateIn
  by_cases ht : t.val < 11
  · rw [if_pos ((firstRows_iff t).mpr ht), if_pos ht]
    refine (VecWindow.window_put_of_inside (s := S11x2x8x512) s _ S1x2x8x512.size _ S1x1x8x512.size _ (k0_pay3 (F := F)) ?_).trans rfl
    rw [off1_eq, off2_eq]; intro a; fin_cases a <;> simp
  · rw [if_neg fun hf => ht ((firstRows_iff t).mp hf), if_neg ht]
    have hp : t.val - 11 < cfg0.N := Nat.lt_of_le_of_lt (Nat.sub_le _ _) t.isLt
    exact (window_off s _ _ (off2_above t ⟨t.val - 11, hp⟩ (by simp only; omega)) _ (k0_off2_inb _)).trans
      (h ⟨t.val - 11, hp⟩ (by simp only; omega) (by simp only; omega)).1

/-- and for the up columns. -/
theorem upCarry_eq (c : Dev nD) (t : Fin cfg0.N) (s : Vec F S11x2x8x512 .f32) (h : CarryOk m c t.val s) :
    upCarry (grid0.coords t) s = upIn m c t.val t.isLt := by
  unfold upCarry carryAt upIn
  by_cases ht : t.val < 11
  · rw [if_pos ((firstRows_iff t).mpr ht), if_pos ht]
    refine (VecWindow.window_put_of_inside (s := S11x2x8x512) s _ S1x2x8x512.size _ S1x1x8x512.size _ (k0_pay3 (F := F)) ?_).trans rfl
    rw [off1_eq, off3_eq]; intro a; fin_cases a <;> simp
  · rw [if_neg fun hf => ht ((firstRows_iff t).mp hf), if_neg ht]
    have hp : t.val - 11 < cfg0.N := Nat.lt_of_le_of_lt (Nat.sub_le _ _) t.isLt
    exact (window_off s _ _ (off3_above t ⟨t.val - 11, hp⟩ (by simp only; omega)) _ (k0_off3_inb _)).trans
      (h ⟨t.val - 11, hp⟩ (by simp only; omega) (by simp only; omega)).2

end Cert.Ffn

end
-- ==== Proof.FfnFrame.lean ====
module

public import proofs.«01_k».proof.Proof.FfnPoint
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The buffer of the carried rows, -/
abbrev carryM : Memref sig .tc .vmem S11x2x8x512 .f32 := Memref.whole cc0_scratch0
/-- and that of the normalised rows. -/
abbrev rowsM : Memref sig .tc .vmem S512x2048 .bf16 := Memref.whole cc0_scratch1

/-- What holds between the points: the carried rows hold the last rows of the last eleven points' columns, the kept rows
    are the normalised rows of the point before inside a tile of rows, and the generator is in some state. -/
def Inv (c : Dev nD) (n : ℕ) (hn : n ≤ cfg0.N) : sProp 𝕄 :=
  iprop((∃ s, owns (c : Thread nD τ) carryM fullShare s ∗ ⌜CarryOk m c n s⌝)
    ∗ (∃ h, owns (c : Thread nD τ) rowsM fullShare h ∗ ⌜∀ hm : n % 11 ≠ 0, h = hAt m c (n - 1) (by omega)⌝)
    ∗ (∃ r, prngReg c r))

/-- The launch's invariant, its scratch buffers as buffers owned at some contents. -/
theorem PhiA_eq (c : Dev nD) :
    (Pipeline.ΦA spec0 c : sProp 𝕄)
      = iprop(iprop((∃ d, owns (c : Thread nD τ) carryM fullShare d) ∗ (∃ d, owns (c : Thread nD τ) rowsM fullShare d)) ∗ (∃ r, prngReg c r)) := by
  unfold Pipeline.ΦA; rw [scopedRest0_eq]; simp only [carryM, rowsM, owns_whole]; try rfl

/-- The arrays as the region finds them; after point `t` the inputs' buffers at their blocks, the outputs' at the running
    sum and the last rows of the gate and up columns; `Inv` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oAt m c t.val t.isLt
    | ⟨10, _⟩ => k0_pay6 (hAt m c t.val t.isLt) (iblk m c 2 t)
    | ⟨11, _⟩ => k0_pay7 (hAt m c t.val t.isLt) (iblk m c 3 t)
  Φ t := Inv m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant before point `t`. -/
theorem Phi_castSucc (c : Dev nD) (t : Fin cfg0.N) : (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = oAt m c t.val t.isLt := by dsimp only [dats]
theorem after0_10 (c : Dev nD) (t : Fin cfg0.N) :
    (dats m 0 c).after 10 t = k0_pay6 (hAt m c t.val t.isLt) (iblk m c 2 t) := by dsimp only [dats]
theorem after0_11 (c : Dev nD) (t : Fin cfg0.N) :
    (dats m 0 c).after 11 t = k0_pay7 (hAt m c t.val t.isLt) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Inside a tile of rows the sum's buffer holds the running sum of the point before. -/
theorem before0_9 (c : Dev nD) (t : Fin cfg0.N) (h : t.val % 11 ≠ 0) (d) :
    (dats m 0 c).before 9 t d = oAt m c (t.val - 1) (Nat.lt_of_le_of_lt (Nat.sub_le _ _) t.isLt) := by
  refine ((dats m 0 c).before_out_kept 9 rfl t (fun h0 => h (by rw [h0])) ?_ (fun _ => rfl) (fun _ _ => rfl) d).trans
    (after0_9 m c _)
  rw [Bool.eq_false_iff]
  intro hf
  have := (flush0_9 _).mp hf
  simp only at this
  omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 3200000 in
/-- The body at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Inv m c (t.val + 1) t.isLt from rfl, Phi_castSucc m c t]
  unfold Inv
  iintro ⟨⟨⟨%s, HS, %hs⟩, ⟨%h, HH, %hh⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hr := rows_eq m c t h hh
  iapply (body_run c (grid0.coords t) _ _ _ _ _ _ _ _ _ _ _ _ _ _ _ _ _ _ _ _ _ _ _ _ _ _ _ _ (iblk m c 0 t) (iblk m c 1 t)
    (iblk m c 2 t) (iblk m c 3 t) (iblk m c 4 t) (iblk m c 5 t) (iblk m c 6 t) (iblk m c 7 t) (iblk m c 8 t)
    ((dats m 0 c).before 9 t d9) s h Set.univ _)
  rw [hr, gateCarry_eq m c t s hs, upCarry_eq m c t s hs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS]; · iexact HS
  isplitl [HH]; · iexact HH
  iintro ⟨H0, H1, H2, H3, H4, H5, H6, H7, H8, H9, H10, H11, HS, HH⟩
  isplitl [HS HH Hg]
  · isplitl [HS]
    · iexists _; isplitl [HS]; · iexact HS
      ipureintro; exact carryOk_succ m c t s hs
    isplitl [HH]
    · iexists _; isplitl [HH]; · iexact HH
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [← sum_eq m c t ((dats m 0 c).before 9 t d9) fun h0 => before0_9 m c t h0 d9]
    iexact H9
  isplitl [H10]; · iexact H10
  iexact H11

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 (Nat.zero_le _) from rfl, PhiA_eq]
  unfold Inv
  iintro ⟨⟨⟨%s, HS⟩, ⟨%h, HH⟩⟩, Hg⟩
  isplitl [HS]
  · iexists _; isplitl [HS]; · iexact HS
    ipureintro; exact carryOk_zero m c s
  isplitl [HH]
  · iexists _; isplitl [HH]; · iexact HH
    ipureintro; exact fun h0 => absurd rfl h0
  iexact Hg

/-- and the invariant after the last point gives it back. -/
theorem hout (c : Dev nD) : (dats m 0 c).Φ (Fin.last cfg0.N) ⊢ Pipeline.ΦA spec0 c := by
  rw [show (dats m 0 c).Φ (Fin.last cfg0.N) = Inv m c cfg0.N le_rfl from rfl, PhiA_eq]
  unfold Inv
  iintro ⟨⟨%s, HS, %hs⟩, ⟨%h, HH, %hh⟩, Hg⟩
  isplitl [HS HH]
  · isplitl [HS]
    · iexists _; iexact HS
    iexists _; iexact HH
  iexact Hg

/-! ## The run and the frame -/

set_option backward.isDefEq.respectTransparency.types false in
/-- The run: every array of the pipeline ends at what the proof data say, every other buffer as the region found it, and
    every semaphore counter at zero. -/
theorem run_main_quiescent :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Ffn

end
-- ==== Proof.FfnMath.lean ====
module

public import proofs.«01_k».proof.Kernel2Ideal
public import Idealize.ShloMosaic.Lib.Pipeline.ValueKit

@[expose] public section

noncomputable section

open Idealize.ShloMosaic Idealize.ShloMosaic.TcCoe Idealize.SL.Sem

namespace Cert.Ffn

open Cert.Kernel2Ideal

/-! ## The feed-forward block, element by element -/

variable (X : FVec Ideal S8192x2048 .f32) (G : FVec Ideal S2048 .f32) (W : FVec Ideal S2048x11008 .f32)
  (CW : FVec Ideal S3x11008 .f32) (CB : FVec Ideal S11008 .f32) (D : FVec Ideal S5504x2048 .f32)

/-- Row `i` of the normalised input. -/
def hrow (i : Fin 8192) (k : Fin 2048) : EReal :=
  X (ix2 i k) * Ideal.rsqrt (Ideal.div (∑ x, X (ix2 i x) * X (ix2 i x)) (Ideal.ofBits .f32 1157627904#32)
    + Ideal.ofBits .f32 897988541#32) * G (ix1 k)

/-- Column `q` of its up-projection. -/
def proj (i : Fin 8192) (q : Fin 11008) : EReal := ∑ k : Fin 2048, hrow X G i k * W (ix2 k q)

/-- Column `q` of the up-projection with two zero rows put before it. -/
def ext (q : Fin 11008) (n : ℕ) : EReal := if h : 2 ≤ n ∧ n < 8194 then proj X G W ⟨n - 2, by omega⟩ q else 0

/-- Column `q` of the convolution over rows, at row `n`. -/
def conv (q : Fin 11008) (n : ℕ) : EReal :=
  CB (ix1 q) + CW (ix2 0 q) * ext X G W q n + CW (ix2 1 q) * ext X G W q (n + 1) + CW (ix2 2 q) * ext X G W q (n + 2)

/-- Column `l` of the gated activation, at row `n`. -/
def act (l : Fin 5504) (n : ℕ) : EReal :=
  conv X G W CW CB ⟨l.val, by omega⟩ n * Ideal.logistic (conv X G W CW CB ⟨l.val, by omega⟩ n)
    * conv X G W CW CB ⟨5504 + l.val, by omega⟩ n

/-- The block's result: the input and the activation's down-projection. -/
def out (i : Fin 8192) (d : Fin 2048) : EReal :=
  X (ix2 i d) + ∑ l : Fin 5504, act X G W CW CB l i.val * D (ix2 l d)

/-- A half of the columns, from column `s` on, filled with zeros to 5632. -/
def half (s : ℕ) (hs : s ≤ 5504) (f : Fin 11008 → EReal) (l : Fin 5632) : EReal :=
  if h : l.val < 5504 then f ⟨s + l.val, by omega⟩ else 0

/-- The rows of the down-projection, filled with zeros to 5632. -/
def down (l : Fin 5632) (d : Fin 2048) : EReal := if h : l.val < 5504 then D (ix2 ⟨l.val, h⟩ d) else 0

/-- The fill value is zero. -/
theorem fill_zero : FloatOps.sitofp (F := Ideal) .f32 (0#32) = 0 := by
  show ((BitVec.toInt 0#32 : ℝ) : EReal) = 0
  simp

/-- A projected row, found in the array with the two zero rows. -/
theorem proj_eq_ext (i : Fin 8192) (q : Fin 11008) (n : ℕ) (hn : n = i.val + 2) : proj X G W i q = ext X G W q n := by
  subst hn
  unfold ext
  rw [dif_pos (by omega)]
  rfl

/-- A row times the half of a matrix is the half of the projected row. -/
theorem half_proj (s : ℕ) (hs : s ≤ 5504) (i : Fin 8192) (l : Fin 5632) :
    ∑ k : Fin 2048, hrow X G i k * half s hs (fun q => W (ix2 k q)) l = half s hs (proj X G W i) l := by
  unfold half
  by_cases h : l.val < 5504
  · simp only [dif_pos h]; rfl
  · simp only [dif_neg h, mul_zero, Finset.sum_const_zero]

/-- The convolution, column by column of a half. -/
theorem half_conv (s : ℕ) (hs : s ≤ 5504) (n : ℕ) (l : Fin 5632) :
    half s hs (fun q => CB (ix1 q)) l + half s hs (fun q => CW (ix2 0 q)) l * half s hs (fun q => ext X G W q n) l
      + half s hs (fun q => CW (ix2 1 q)) l * half s hs (fun q => ext X G W q (n + 1)) l
      + half s hs (fun q => CW (ix2 2 q)) l * half s hs (fun q => ext X G W q (n + 2)) l
      = half s hs (fun q => conv X G W CW CB q n) l := by
  unfold half
  by_cases h : l.val < 5504
  · simp only [dif_pos h]; rfl
  · simp only [dif_neg h, mul_zero, add_zero]

/-- What column `l` of the activation adds to a result; nothing from column 5504 on. -/
def term (n : ℕ) (d : Fin 2048) (l : ℕ) : EReal :=
  if h : l < 5504 then act X G W CW CB ⟨l, h⟩ n * D (ix2 ⟨l, h⟩ d) else 0

/-- The same from the filled columns and rows. -/
theorem half_term (n : ℕ) (d : Fin 2048) (l : Fin 5632) :
    half 0 (by omega) (fun q => conv X G W CW CB q n) l * Ideal.logistic (half 0 (by omega) (fun q => conv X G W CW CB q n) l)
      * half 5504 (by omega) (fun q => conv X G W CW CB q n) l * down D l d = term X G W CW CB D n d l.val := by
  unfold half down term
  by_cases h : l.val < 5504
  · simp only [dif_pos h]
    have e : (⟨0 + l.val, by omega⟩ : Fin 11008) = ⟨l.val, by omega⟩ := Fin.ext (Nat.zero_add _)
    rw [e]
    rfl
  · simp only [dif_neg h, mul_zero]

/-- The terms of eleven tiles of columns are those of all columns. -/
theorem sum_tiles (n : ℕ) (d : Fin 2048) :
    ∑ j ∈ Finset.range 11, ∑ q : Fin 512, term X G W CW CB D n d (j * 512 + q.val)
      = ∑ l : Fin 5504, act X G W CW CB l n * D (ix2 l d) := by
  have e : ∀ j, ∑ q : Fin 512, term X G W CW CB D n d (j * 512 + q.val)
      = ∑ q ∈ Finset.range 512, term X G W CW CB D n d (j * 512 + q) := fun j =>
    Fin.sum_univ_eq_sum_range (fun q => term X G W CW CB D n d (j * 512 + q)) 512
  have z : ∀ l, ¬l < 5504 → term X G W CW CB D n d l = 0 := fun l h => dif_neg h
  simp only [e]
  rw [Finset.sum_range_range_mul_add 11 512 (term X G W CW CB D n d),
    ← Finset.sum_subset (s₁ := Finset.range 5504) (Finset.range_subset_range.mpr (by omega))
      (fun l _ h => z l fun h' => h (Finset.mem_range.mpr h')),
    ← Fin.sum_univ_eq_sum_range]
  exact Finset.sum_congr rfl fun l _ => dif_pos l.isLt

end Cert.Ffn

end
-- ==== Proof.FfnHost.lean ====
module

public import proofs.«01_k».proof.Proof.FfnFrame
public import proofs.«01_k».proof.Proof.FfnMath
public import Idealize.ShloMosaic.Lib.KernelVsHost
public import Idealize.ShloMosaic.Lib.StableHlo.RunRead

@[expose] public section

set_option maxRecDepth 16384

noncomputable section

open Idealize.ShloMosaic Idealize.ShloMosaic.TcCoe Idealize.SL.Sem

namespace Cert.Ffn

open Cert.Kernel2Ideal Cert.Kernel2Ideal.Gen

variable (m : (ℓ : Loc nD τ sig) → Buf (Elt Ideal) ℓ)

/-! ## The arrays the call is given -/

/-- The zero that fills. -/
def fill : FVec Ideal S_ .f32 := sitofp .f32 (constantI S_ 32 0#32)

/-- The staged gate columns. -/
def gateW (W : FVec Ideal S2048x11008 .f32) : FVec Ideal S2048x5632 .f32 :=
  pad S2048x5632 ![0, 0] ![0, 128] ![0, 0] (extractStridedSlice S2048x5504 ![0, 0] W slices_S2048x11008_S2048x5504_0_0)
    fill pads_S2048x5504_S2048x5632_000_01280 h_S_

/-- The staged up columns. -/
def upW (W : FVec Ideal S2048x11008 .f32) : FVec Ideal S2048x5632 .f32 :=
  pad S2048x5632 ![0, 0] ![0, 128] ![0, 0] (extractStridedSlice S2048x5504 ![0, 5504] W slices_S2048x11008_S2048x5504_0_5504)
    fill pads_S2048x5504_S2048x5632_000_01280 h_S_

/-- The staged taps of the gate columns, -/
def gateK (W : FVec Ideal S3x11008 .f32) : FVec Ideal S3x5632 .f32 :=
  pad S3x5632 ![0, 0] ![0, 128] ![0, 0] (extractStridedSlice S3x5504 ![0, 0] W slices_S3x11008_S3x5504_0_0)
    fill pads_S3x5504_S3x5632_000_01280 h_S_

/-- and of the up columns. -/
def upK (W : FVec Ideal S3x11008 .f32) : FVec Ideal S3x5632 .f32 :=
  pad S3x5632 ![0, 0] ![0, 128] ![0, 0] (extractStridedSlice S3x5504 ![0, 5504] W slices_S3x11008_S3x5504_0_5504)
    fill pads_S3x5504_S3x5632_000_01280 h_S_

/-- The staged bias of the gate columns, -/
def gateB (W : FVec Ideal S11008 .f32) : FVec Ideal S1x5632 .f32 :=
  pad S1x5632 ![0, 0] ![0, 128] ![0, 0]
    (broadcastInDim S1x5504 ![1] bcast_S5504_S1x5504_1 (extractStridedSlice S5504 ![0] W slices_S11008_S5504_0))
    fill pads_S1x5504_S1x5632_000_01280 h_S_

/-- and of the up columns. -/
def upB (W : FVec Ideal S11008 .f32) : FVec Ideal S1x5632 .f32 :=
  pad S1x5632 ![0, 0] ![0, 128] ![0, 0]
    (broadcastInDim S1x5504 ![1] bcast_S5504_S1x5504_1 (extractStridedSlice S5504 ![5504] W slices_S11008_S5504_5504))
    fill pads_S1x5504_S1x5632_000_01280 h_S_

/-- The staged rows of the down-projection. -/
def downW (W : FVec Ideal S5504x2048 .f32) : FVec Ideal S5632x2048 .f32 :=
  pad S5632x2048 ![0, 0] ![128, 0] ![0, 0] W fill pads_S5504x2048_S5632x2048_01280_000 h_S_

/-- It is zero. -/
theorem fill_at (j) : fill j = 0 := by
  show ((BitVec.toInt 0#32 : ℝ) : EReal) = 0
  simp

/-- The arrays above at an index: a half of the columns, filled with zeros. -/
theorem gateW_at (W : FVec Ideal S2048x11008 .f32) (k : Fin 2048) (l : Fin 5632) :
    gateW W (ix2 k l) = half 0 (by omega) (fun l => W (ix2 k l)) l := by
  pointwise [gateW, fill_at, half]
theorem upW_at (W : FVec Ideal S2048x11008 .f32) (k : Fin 2048) (l : Fin 5632) :
    upW W (ix2 k l) = half 5504 (by omega) (fun l => W (ix2 k l)) l := by
  pointwise [upW, fill_at, half]
theorem gateK_at (W : FVec Ideal S3x11008 .f32) (k : Fin 3) (l : Fin 5632) :
    gateK W (ix2 k l) = half 0 (by omega) (fun l => W (ix2 k l)) l := by
  pointwise [gateK, fill_at, half]
theorem upK_at (W : FVec Ideal S3x11008 .f32) (k : Fin 3) (l : Fin 5632) :
    upK W (ix2 k l) = half 5504 (by omega) (fun l => W (ix2 k l)) l := by
  pointwise [upK, fill_at, half]
theorem gateB_at (W : FVec Ideal S11008 .f32) (z : Fin 1) (l : Fin 5632) :
    gateB W (ix2 z l) = half 0 (by omega) (fun l => W (ix1 l)) l := by
  pointwise [gateB, fill_at, half]
theorem upB_at (W : FVec Ideal S11008 .f32) (z : Fin 1) (l : Fin 5632) :
    upB W (ix2 z l) = half 5504 (by omega) (fun l => W (ix1 l)) l := by
  pointwise [upB, fill_at, half]
theorem downW_at (W : FVec Ideal S5504x2048 .f32) (l : Fin 5632) (d : Fin 2048) : downW W (ix2 l d) = down W l d := by
  pointwise [downW, fill_at, down]

/-- The arrays the call is given are these. -/
theorem v2_eq (c : Dev nD) : (show FVec Ideal S2048x5632 .bf16 from V m c main_v2) = gateW (m ((c : Thread nD τ).loc main_arg2)) := by
  simp only [V, List.flatten_cons, List.flatten_nil, List.append_nil, StableHlo.after_append]
  after_reads_simp
  rfl
theorem v5_eq (c : Dev nD) : (show FVec Ideal S2048x5632 .bf16 from V m c main_v5) = upW (m ((c : Thread nD τ).loc main_arg2)) := by
  simp only [V, List.flatten_cons, List.flatten_nil, List.append_nil, StableHlo.after_append]
  after_reads_simp
  rfl
theorem v7_eq (c : Dev nD) : (show FVec Ideal S3x5632 .f32 from V m c main_v7) = gateK (m ((c : Thread nD τ).loc main_arg3)) := by
  simp only [V, List.flatten_cons, List.flatten_nil, List.append_nil, StableHlo.after_append]
  after_reads_simp
  rfl
theorem v9_eq (c : Dev nD) : (show FVec Ideal S3x5632 .f32 from V m c main_v9) = upK (m ((c : Thread nD τ).loc main_arg3)) := by
  simp only [V, List.flatten_cons, List.flatten_nil, List.append_nil, StableHlo.after_append]
  after_reads_simp
  rfl
theorem v12_eq (c : Dev nD) : (show FVec Ideal S1x5632 .f32 from V m c main_v12) = gateB (m ((c : Thread nD τ).loc main_arg4)) := by
  simp only [V, List.flatten_cons, List.flatten_nil, List.append_nil, StableHlo.after_append]
  after_reads_simp
  rfl
theorem v15_eq (c : Dev nD) : (show FVec Ideal S1x5632 .f32 from V m c main_v15) = upB (m ((c : Thread nD τ).loc main_arg4)) := by
  simp only [V, List.flatten_cons, List.flatten_nil, List.append_nil, StableHlo.after_append]
  after_reads_simp
  rfl
theorem v17_eq (c : Dev nD) : (show FVec Ideal S5632x2048 .bf16 from V m c main_v17) = downW (m ((c : Thread nD τ).loc main_arg5)) := by
  simp only [V, List.flatten_cons, List.flatten_nil, List.append_nil, StableHlo.after_append]
  after_reads_simp
  rfl

/-- The gain the call is given, at an index. -/
theorem v18_at (c : Dev nD) (z : Fin 1) (k : Fin 2048) : (show FVec Ideal S1x2048 .f32 from V m c main_v18) (ix2 z k)
    = (show FVec Ideal S2048 .f32 from m ((c : Thread nD τ).loc main_arg1)) (ix1 k) := by
  simp only [V, List.flatten_cons, List.flatten_nil, List.append_nil, StableHlo.after_append]
  after_reads_simp
  pointwise

end Cert.Ffn

end
-- ==== Proof.FfnBlock.lean ====
module

public import proofs.«01_k».proof.Proof.FfnPoint
public import proofs.«01_k».proof.Proof.Gen.Reference2Ideal.Read
public import Idealize.ShloMosaic.Lib.Pipeline.ValueKit
public import Idealize.ShloMosaic.Lib.Pipeline.ValueKit.Held
public import Idealize.ShloMosaic.Lib.KernelVsHost

@[expose] public section

set_option maxRecDepth 16384

noncomputable section

open Idealize.ShloMosaic Idealize.ShloMosaic.TcCoe Idealize.SL.Sem

namespace Cert.Ffn

open Cert.Kernel2Ideal Cert.Kernel2Ideal.Gen

/-! ## What one block computes, element by element -/

/-- The normalised rows of a block. -/
theorem norm_at (X : Vec Ideal S512x2048 .f32) (G : Vec Ideal S1x2048 .f32) (j) :
    k0_pay2 (F := Ideal) X G j
      = X (ix2 (j 0) (j 1)) * Ideal.rsqrt (Ideal.div (∑ x, X (ix2 (j 0) x) * X (ix2 (j 0) x))
          (Ideal.ofBits .f32 1157627904#32) + Ideal.ofBits .f32 897988541#32) * G (ix2 0 (j 1)) := by
  pointwise [k0_pay2]

/-- The gate columns of a block: rows times columns. -/
theorem dot_at (H : Vec Ideal S512x2048 .bf16) (W : Vec Ideal S2048x512 .bf16) (j) :
    k0_pay4 (F := Ideal) H W j = ∑ k : Fin 2048, H (ix2 (j 0) k) * W (ix2 k (j 1)) := by
  pointwise [k0_pay4]

/-- The up columns are computed in the same way, -/
theorem up_eq_gate (H : Vec Ideal S512x2048 .bf16) (W : Vec Ideal S2048x512 .bf16) :
    k0_pay5 (F := Ideal) H W = k0_pay4 (F := Ideal) H W := rfl

/-- their last rows too, -/
theorem upTail_eq_gateTail (H : Vec Ideal S512x2048 .bf16) (W : Vec Ideal S2048x512 .bf16) :
    k0_pay7 (F := Ideal) H W = k0_pay6 (F := Ideal) H W := rfl

/-- the rows carried, -/
theorem upRows_eq_gateRows (A : FVec Ideal S512x512 .f32) : k0_pay19 (F := Ideal) A = k0_pay18 (F := Ideal) A := rfl

/-- and their convolution. -/
theorem upConv_eq_gateConv (H : Vec Ideal S512x2048 .bf16) (W : Vec Ideal S2048x512 .bf16) (K : Vec Ideal S3x512 .f32)
    (B : Vec Ideal S1x512 .f32) (P : Vec Ideal S1x1x8x512 .f32) : upConv (F := Ideal) H W K B P = gateConv (F := Ideal) H W K B P := rfl

/-- The last rows of a block's columns. -/
theorem tail_at (H : Vec Ideal S512x2048 .bf16) (W : Vec Ideal S2048x512 .bf16) (j) :
    k0_pay6 (F := Ideal) H W j
      = ∑ k : Fin 2048, H (ix2 ⟨504 + (j 1).val, by have : (j 1).val < 8 := (j 1).isLt; omega⟩ k) * W (ix2 k (j 2)) := by
  pointwise [k0_pay6, k0_pay4]

/-- The rows carried to the next tile of rows. -/
theorem carried_at (A : FVec Ideal S512x512 .f32) (j) :
    k0_pay18 (F := Ideal) A j = A (ix2 ⟨504 + (j 2).val, by have : (j 2).val < 8 := (j 2).isLt; omega⟩ (j 3)) := by
  pointwise [k0_pay18]

/-- The convolved columns of a block: the bias and three taps over the rows above, the carried rows above the first. -/
theorem conv_at (H : Vec Ideal S512x2048 .bf16) (W : Vec Ideal S2048x512 .bf16) (K : Vec Ideal S3x512 .f32)
    (B : Vec Ideal S1x512 .f32) (P : Vec Ideal S1x1x8x512 .f32) (E : ℕ → EReal) (r q : Fin 512)
    (h0 : E 0 = P (ix4 0 0 6 q)) (h1 : E 1 = P (ix4 0 0 7 q)) (h2 : ∀ s : Fin 512, E (s.val + 2) = k0_pay4 (F := Ideal) H W (ix2 s q)) :
    gateConv (F := Ideal) H W K B P (ix2 r q)
      = B (ix2 0 q) + K (ix2 0 q) * E r.val + K (ix2 1 q) * E (r.val + 1) + K (ix2 2 q) * E (r.val + 2) := by
  unfold gateConv k0_pay11
  pointwise [k0_pay8, k0_pay9, k0_pay10]
  have hr := r.isLt
  have c0 : IntOp.cmpi .eq (BitVec.ofNat 32 r.val) 0#32 = 1#1 ↔ r.val = 0 := by word_cmp
  have c1 : IntOp.cmpi .eq (BitVec.ofNat 32 r.val) 1#32 = 1#1 ↔ r.val = 1 := by word_cmp
  have s1 : Scalar.select (IntOp.cmpi .eq (BitVec.ofNat 32 r.val) 0#32) (P (ix4 0 0 7 q))
      (k0_pay4 (F := Ideal) H W (ix2 ⟨(r.val + 512 - 1) % 512, Nat.mod_lt _ (by omega)⟩ q)) = E (r.val + 1) := by
    by_cases h : r.val = 0
    · exact (if_pos (c0.mpr h)).trans (by rw [h, ← h1])
    · refine (if_neg fun e => h (c0.mp e)).trans (.trans ?_ ((h2 ⟨r.val - 1, by omega⟩).symm.trans ?_))
      · exact congrArg (fun s => k0_pay4 (F := Ideal) H W (ix2 s q)) (Fin.ext (by simp only; omega))
      · exact congrArg E (by simp only; omega)
  have s0 : Scalar.select (IntOp.cmpi .eq (BitVec.ofNat 32 r.val) 0#32) (P (ix4 0 0 6 q))
      (Scalar.select (IntOp.cmpi .eq (BitVec.ofNat 32 r.val) 1#32) (P (ix4 0 0 7 q))
        (k0_pay4 (F := Ideal) H W (ix2 ⟨(r.val + 512 - 2) % 512, Nat.mod_lt _ (by omega)⟩ q))) = E r.val := by
    by_cases h : r.val = 0
    · exact (if_pos (c0.mpr h)).trans (by rw [h, ← h0])
    · refine (if_neg fun e => h (c0.mp e)).trans ?_
      by_cases h' : r.val = 1
      · exact (if_pos (c1.mpr h')).trans (by rw [h', ← h1])
      · refine (if_neg fun e => h' (c1.mp e)).trans (.trans ?_ ((h2 ⟨r.val - 2, by omega⟩).symm.trans ?_))
        · exact congrArg (fun s => k0_pay4 (F := Ideal) H W (ix2 s q)) (Fin.ext (by simp only; omega))
        · exact congrArg E (by simp only; omega)
  rw [← h2 r]
  exact congrArg₂ (fun a b => B (ix2 0 q) + K (ix2 0 q) * a + K (ix2 1 q) * b + K (ix2 2 q) * E (r.val + 2)) s0 s1

/-- What a block adds its product to, with the product added. -/
theorem add_at (U A : FVec Ideal S512x512 .f32) (D : Vec Ideal S512x2048 .bf16) (O : Vec Ideal S512x2048 .f32) (j) :
    k0_pay1 (F := Ideal) U (k0_pay20 (F := Ideal) A) D O j
      = O j + ∑ q : Fin 512, A (ix2 (j 0) q) * Ideal.logistic (A (ix2 (j 0) q)) * U (ix2 (j 0) q) * D (ix2 q (j 1)) := by
  pointwise [k0_pay1, k0_pay20]

end Cert.Ffn

end
-- ==== Proof.FfnRef.lean ====
module

public import proofs.«01_k».proof.Proof.FfnMath
public import proofs.«01_k».proof.Proof.Gen.Reference2Ideal.Read
public import Idealize.ShloMosaic.Lib.KernelVsHost

@[expose] public section

set_option maxRecDepth 16384

noncomputable section

open Idealize.ShloMosaic Idealize.ShloMosaic.TcCoe Idealize.SL.Sem

namespace Cert.Ffn

open Cert.Kernel2Ideal Cert.Reference2Ideal.Read

variable (X : FVec Ideal S8192x2048 .f32) (G : FVec Ideal S2048 .f32) (W : FVec Ideal S2048x11008 .f32)
  (CW : FVec Ideal S3x11008 .f32) (CB : FVec Ideal S11008 .f32) (D : FVec Ideal S5504x2048 .f32)

/-! ## What the reference computes -/

/-- The reference's up-projection. -/
theorem ref_proj_at (z : Fin 1) (i : Fin 8192) (q : Fin 11008) :
    val_main_v15 (F := Ideal) X G W (ix3 z i q) = proj X G W i q := by
  pointwise [val_main_v15, val_main_v14, val_main_v13, val_main_v12, val_main_v11, val_main_v10, val_main_v9, val_main_v8,
    val_main_v7, val_main_v6, val_main_v5, val_main_v4, val_main_v3, val_main_v2, val_main_v0, val_main_cst_0, val_main_cst_1, val_main_cst_2]
  rfl

/-- The reference's up-projection with the two zero rows. -/
theorem ref_ext_at (z : Fin 1) (n : Fin 8194) (q : Fin 11008) :
    val_main_v16 (F := Ideal) X G W (ix3 z n q) = ext X G W q n.val := by
  pointwise [val_main_v16, val_main_v1, val_main_cst]
  have hn := n.isLt
  unfold ext
  by_cases h : n.val < 2
  · rw [dif_pos h, dif_neg (by omega)]
  · rw [dif_neg h, dif_pos (by omega), ref_proj_at]

/-- The reference's convolution. -/
theorem ref_conv_at (z : Fin 1) (i : Fin 8192) (q : Fin 11008) :
    val_main_v39 (F := Ideal) X G W CW CB (ix3 z i q) = conv X G W CW CB q i.val := by
  pointwise [val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17]
  simp only [ref_ext_at]
  unfold conv
  rw [Nat.add_comm 1 i.val, Nat.add_comm 2 i.val]

/-- The reference's activation. -/
theorem ref_act_at (z : Fin 1) (i : Fin 8192) (l : Fin 5504) :
    val_main_v43 (F := Ideal) X G W CW CB (ix3 z i l) = act X G W CW CB l i.val := by
  pointwise [val_main_v43, val_main_v42, val_main_v41, val_main_v40, val_main_call0_v0, val_main_call0_v1, val_main_call0_v2,
    val_main_call0_v3, val_main_call0_v4, val_main_call0_v5, val_main_call0_cst, val_main_call0_cst_0]
  simp only [ref_conv_at]
  unfold act
  rfl

/-- The reference's first result. -/
theorem ref_out_at (i : Fin 8192) (d : Fin 2048) :
    val_main_v48 (F := Ideal) X G W CW CB D (ix2 i d) = out X G W CW CB D i d := by
  pointwise [val_main_v48, val_main_v47, val_main_v44, val_main_v0]
  simp only [ref_act_at]
  rfl

/-- The row of the projection that a kept row is. -/
def keptRow (a : Fin 16) (b : Fin 8) : Fin 8192 := ⟨a.val * 512 + (504 + b.val), by omega⟩

/-- The reference's second result: the kept rows' gate columns. -/
theorem ref_gate_at (a : Fin 16) (b : Fin 8) (l : Fin 5632) :
    val_main_v50 (F := Ideal) X G W (ix3 a b l) = half 0 (by omega) (proj X G W (keptRow a b)) l := by
  pointwise [val_main_v50, val_main_v49, val_main_v46, val_main_v45, val_main_call1_v0, val_main_c]
  rw [fill_zero]
  unfold half
  by_cases h : l.val < 5504
  · rw [dif_pos h, dif_pos h, ref_proj_at]
    exact congrArg (proj X G W _) (Fin.ext (Nat.zero_add _).symm)
  · rw [dif_neg h, dif_neg h]

/-- The reference's third result: the kept rows' up columns. -/
theorem ref_up_at (a : Fin 16) (b : Fin 8) (l : Fin 5632) :
    val_main_v52 (F := Ideal) X G W (ix3 a b l) = half 5504 (by omega) (proj X G W (keptRow a b)) l := by
  pointwise [val_main_v52, val_main_v51, val_main_v46, val_main_v45, val_main_call2_v0, val_main_c_3]
  rw [fill_zero]
  unfold half
  by_cases h : l.val < 5504
  · rw [dif_pos h, dif_pos h, ref_proj_at]
    rfl
  · rw [dif_neg h, dif_neg h]

end Cert.Ffn

end
-- ==== Proof.FfnArray.lean ====
module

public import proofs.«01_k».proof.Proof.FfnHost
public import proofs.«01_k».proof.Proof.FfnBlock
public import proofs.«01_k».proof.Proof.FfnRef
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- Which block each window stages at grid point `t`: the row block is `t / 11`, the column block `t % 11`. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![0, t.val % 11]
    ∧ win0_5.index t = ![0, t.val % 11] ∧ win0_6.index t = ![0, t.val % 11] ∧ win0_7.index t = ![0, t.val % 11]
    ∧ win0_8.index t = ![t.val % 11, 0] ∧ win0_9.index t = ![t.val / 11, 0] ∧ win0_10.index t = ![t.val / 11, 0, t.val % 11]
    ∧ win0_11.index t = ![t.val / 11, 0, t.val % 11] :=
  (by decide +kernel : ∀ t : Fin grid0.N, _)

/-- The arguments: the input, -/
def aX (c : Dev nD) : FVec Ideal S8192x2048 .f32 := m ((c : Thread nD τ).loc main_arg0)
/-- the gain, -/
def aG (c : Dev nD) : FVec Ideal S2048 .f32 := m ((c : Thread nD τ).loc main_arg1)
/-- the up-projection, -/
def aW (c : Dev nD) : FVec Ideal S2048x11008 .f32 := m ((c : Thread nD τ).loc main_arg2)
/-- the convolution's taps, -/
def aK (c : Dev nD) : FVec Ideal S3x11008 .f32 := m ((c : Thread nD τ).loc main_arg3)
/-- its bias, -/
def aB (c : Dev nD) : FVec Ideal S11008 .f32 := m ((c : Thread nD τ).loc main_arg4)
/-- and the down-projection. -/
def aD (c : Dev nD) : FVec Ideal S5504x2048 .f32 := m ((c : Thread nD τ).loc main_arg5)

/-- The array row of row `r` of the blocks of point `n`, -/
def row (n : ℕ) (hn : n < cfg0.N) (r : Fin 512) : Fin 8192 :=
  ⟨n / 11 * 512 + r.val, by have h : n < 176 := Nat.lt_of_lt_of_eq hn N_0; omega⟩

/-- and the array column of column `q`. -/
def col (n : ℕ) (q : Fin 512) : Fin 5632 := ⟨n % 11 * 512 + q.val, by omega⟩

/-! ## The blocks staged at a point -/

/-- The input rows. -/
theorem read0 (c : Dev nD) (t : Fin cfg0.N) (r : Fin 512) (k : Fin 2048) :
    (show FVec Ideal S512x2048 .f32 from iblk m c 0 t) (ix2 r k) = aX m c (ix2 (row t.val t.isLt r) k) := by
  unfold aX row
  blk_ext [iblk, V, idx t]

/-- The gain. -/
theorem read1 (c : Dev nD) (t : Fin cfg0.N) (k : Fin 2048) :
    (show FVec Ideal S1x2048 .f32 from iblk m c 1 t) (ix2 0 k) = aG m c (ix1 k) := by
  refine Eq.trans ?_ (v18_at m c 0 k)
  blk_ext [iblk, idx t]

/-- The gate and the up columns of the up-projection, -/
theorem read2 (c : Dev nD) (t : Fin cfg0.N) (k : Fin 2048) (q : Fin 512) :
    (show FVec Ideal S2048x512 .bf16 from iblk m c 2 t) (ix2 k q)
      = half 0 (by omega) (fun l => aW m c (ix2 k l)) (col t.val q) := by
  unfold aW col
  rw [← gateW_at, ← v2_eq]
  blk_ext [iblk, idx t]
theorem read3 (c : Dev nD) (t : Fin cfg0.N) (k : Fin 2048) (q : Fin 512) :
    (show FVec Ideal S2048x512 .bf16 from iblk m c 3 t) (ix2 k q)
      = half 5504 (by omega) (fun l => aW m c (ix2 k l)) (col t.val q) := by
  unfold aW col
  rw [← upW_at, ← v5_eq]
  blk_ext [iblk, idx t]

/-- of the taps, -/
theorem read4 (c : Dev nD) (t : Fin cfg0.N) (k : Fin 3) (q : Fin 512) :
    (show FVec Ideal S3x512 .f32 from iblk m c 4 t) (ix2 k q)
      = half 0 (by omega) (fun l => aK m c (ix2 k l)) (col t.val q) := by
  unfold aK col
  rw [← gateK_at, ← v7_eq]
  blk_ext [iblk, idx t]
theorem read5 (c : Dev nD) (t : Fin cfg0.N) (k : Fin 3) (q : Fin 512) :
    (show FVec Ideal S3x512 .f32 from iblk m c 5 t) (ix2 k q)
      = half 5504 (by omega) (fun l => aK m c (ix2 k l)) (col t.val q) := by
  unfold aK col
  rw [← upK_at, ← v9_eq]
  blk_ext [iblk, idx t]

/-- and of the bias. -/
theorem read6 (c : Dev nD) (t : Fin cfg0.N) (q : Fin 512) :
    (show FVec Ideal S1x512 .f32 from iblk m c 6 t) (ix2 0 q)
      = half 0 (by omega) (fun l => aB m c (ix1 l)) (col t.val q) := by
  unfold aB col
  rw [← gateB_at _ 0, ← v12_eq]
  blk_ext [iblk, idx t]
theorem read7 (c : Dev nD) (t : Fin cfg0.N) (q : Fin 512) :
    (show FVec Ideal S1x512 .f32 from iblk m c 7 t) (ix2 0 q)
      = half 5504 (by omega) (fun l => aB m c (ix1 l)) (col t.val q) := by
  unfold aB col
  rw [← upB_at _ 0, ← v15_eq]
  blk_ext [iblk, idx t]

/-- The rows of the down-projection. -/
theorem read8 (c : Dev nD) (t : Fin cfg0.N) (q : Fin 512) (d : Fin 2048) :
    (show FVec Ideal S512x2048 .bf16 from iblk m c 8 t) (ix2 q d) = down (aD m c) (col t.val q) d := by
  unfold aD col
  rw [← downW_at, ← v17_eq]
  blk_ext [iblk, idx t]

/-! ## What is kept from point to point -/

/-- The rows normalised at a point. -/
theorem rows_at (c : Dev nD) (t : Fin cfg0.N) (r : Fin 512) (k : Fin 2048) :
    k0_pay2 (F := Ideal) (iblk m c 0 t) (iblk m c 1 t) (ix2 r k) = hrow (aX m c) (aG m c) (row t.val t.isLt r) k := by
  refine (norm_at _ _ _).trans ?_
  have e0 := read0 m c t r
  have e1 := read1 m c t k
  unfold hrow
  rw [← e1]
  simp only [← e0]
  rfl

/-- The kept rows are those of the point's own row block. -/
theorem hAt_at (c : Dev nD) (r : Fin 512) (k : Fin 2048) : (n : ℕ) → (hn : n < cfg0.N) →
    hAt m c n hn (ix2 r k) = hrow (aX m c) (aG m c) (row n hn r) k
  | 0, hn => rows_at m c ⟨0, hn⟩ r k
  | n + 1, hn => by
    by_cases h : (n + 1) % 11 = 0
    · exact (congrFun (if_pos ((firstTile_iff ⟨n + 1, hn⟩).mpr h)) _).trans (rows_at m c ⟨n + 1, hn⟩ r k)
    · refine (congrFun (if_neg fun h' => h ((firstTile_iff ⟨n + 1, hn⟩).mp h')) _).trans ?_
      refine (hAt_at c r k n (Nat.lt_of_succ_lt hn)).trans (congrArg (fun i => hrow (aX m c) (aG m c) i k) (Fin.ext ?_))
      unfold row
      show n / 11 * 512 + r.val = (n + 1) / 11 * 512 + r.val
      omega

/-- The gate columns of a point, -/
theorem gateAt_at (c : Dev nD) (n : ℕ) (hn : n < cfg0.N) (r q : Fin 512) :
    gateAt m c n hn (ix2 r q) = half 0 (by omega) (proj (aX m c) (aG m c) (aW m c) (row n hn r)) (col n q) := by
  rw [← half_proj]
  refine (dot_at _ _ _).trans (Finset.sum_congr rfl fun k _ => ?_)
  exact congrArg₂ (· * ·) (hAt_at m c r k n hn) (read2 m c ⟨n, hn⟩ k q)

/-- and the up columns. -/
theorem upAt_at (c : Dev nD) (n : ℕ) (hn : n < cfg0.N) (r q : Fin 512) :
    upAt m c n hn (ix2 r q) = half 5504 (by omega) (proj (aX m c) (aG m c) (aW m c) (row n hn r)) (col n q) := by
  rw [← half_proj]
  unfold upAt
  rw [up_eq_gate]
  refine (dot_at _ _ _).trans (Finset.sum_congr rfl fun k _ => ?_)
  exact congrArg₂ (· * ·) (hAt_at m c r k n hn) (read3 m c ⟨n, hn⟩ k q)

/-- Rows of a half of the projection, found in the array with the two zero rows. -/
theorem half_ext (c : Dev nD) (s : ℕ) (hs : s ≤ 5504) (i : Fin 8192) (n : ℕ) (l l' : Fin 5632) (hn : n = i.val + 2)
    (hl : l = l') : half s hs (proj (aX m c) (aG m c) (aW m c) i) l
      = half s hs (fun q => ext (aX m c) (aG m c) (aW m c) q n) l' := by
  subst hl
  exact congrArg (fun f => half s hs f l) (funext fun q => proj_eq_ext _ _ _ i q n hn)

/-- Above the first row there are zeros. -/
theorem half_zero (c : Dev nD) (s : ℕ) (hs : s ≤ 5504) (n : ℕ) (l : Fin 5632) (hn : n < 2) :
    0 = half s hs (fun q => ext (aX m c) (aG m c) (aW m c) q n) l := by
  unfold half ext
  split
  · beta_reduce; rw [dif_neg (by omega)]
  · rfl

/-- The carried rows: row `5 + j` of the eight, `j` at least one, is the row `j` of the array with the two zero rows that
    precedes the point's rows. -/
theorem gateIn_at (c : Dev nD) (n : ℕ) (hn : n < cfg0.N) (q : Fin 512) (j : Fin 2) :
    gateIn m c n hn (ix4 0 0 ⟨6 + j.val, by omega⟩ q)
      = half 0 (by omega) (fun l => ext (aX m c) (aG m c) (aW m c) l (n / 11 * 512 + j.val)) (col n q) := by
  have hj := j.isLt
  unfold gateIn
  by_cases h : n < 11
  · rw [if_pos h]
    exact (show (Ideal.ofBits .f32 0#32 : EReal) = 0 by simp).trans (half_zero m c _ _ _ _ (by omega))
  · rw [if_neg h]
    refine (carried_at _ _).trans ((gateAt_at m c _ _ _ _).trans (half_ext m c _ _ _ _ _ _ ?_ (Fin.ext ?_)))
    · show n / 11 * 512 + j.val = (n - 11) / 11 * 512 + (504 + (6 + j.val)) + 2
      omega
    · show (n - 11) % 11 * 512 + q.val = n % 11 * 512 + q.val
      omega

theorem upIn_at (c : Dev nD) (n : ℕ) (hn : n < cfg0.N) (q : Fin 512) (j : Fin 2) :
    upIn m c n hn (ix4 0 0 ⟨6 + j.val, by omega⟩ q)
      = half 5504 (by omega) (fun l => ext (aX m c) (aG m c) (aW m c) l (n / 11 * 512 + j.val)) (col n q) := by
  have hj := j.isLt
  unfold upIn
  by_cases h : n < 11
  · rw [if_pos h]
    exact (show (Ideal.ofBits .f32 0#32 : EReal) = 0 by simp).trans (half_zero m c _ _ _ _ (by omega))
  · rw [if_neg h, upRows_eq_gateRows]
    refine (carried_at _ _).trans ((upAt_at m c _ _ _ _).trans (half_ext m c _ _ _ _ _ _ ?_ (Fin.ext ?_)))
    · show n / 11 * 512 + j.val = (n - 11) / 11 * 512 + (504 + (6 + j.val)) + 2
      omega
    · show (n - 11) % 11 * 512 + q.val = n % 11 * 512 + q.val
      omega

/-- The convolved gate columns of a point, -/
theorem gateConv_at (c : Dev nD) (n : ℕ) (hn : n < cfg0.N) (r q : Fin 512) :
    gateConv (hAt m c n hn) (iblk m c 2 ⟨n, hn⟩) (iblk m c 4 ⟨n, hn⟩) (iblk m c 6 ⟨n, hn⟩) (gateIn m c n hn) (ix2 r q)
      = half 0 (by omega) (fun l => conv (aX m c) (aG m c) (aW m c) (aK m c) (aB m c) l (row n hn r).val) (col n q) := by
  refine (conv_at _ _ _ _ _ (fun s => half 0 (by omega) (fun l => ext (aX m c) (aG m c) (aW m c) l (n / 11 * 512 + s)) (col n q))
    r q (gateIn_at m c n hn q 0).symm (gateIn_at m c n hn q 1).symm
    (fun s => ((gateAt_at m c n hn s q).trans (half_ext m c _ _ _ _ _ _ rfl rfl)).symm)).trans ?_
  rw [← half_conv]
  have e0 := read4 m c ⟨n, hn⟩ 0 q
  have e1 := read4 m c ⟨n, hn⟩ 1 q
  have e2 := read4 m c ⟨n, hn⟩ 2 q
  have e3 := read6 m c ⟨n, hn⟩ q
  rw [← e0, ← e1, ← e2, ← e3]
  rfl

/-- and the convolved up columns. -/
theorem upConv_at (c : Dev nD) (n : ℕ) (hn : n < cfg0.N) (r q : Fin 512) :
    upConv (hAt m c n hn) (iblk m c 3 ⟨n, hn⟩) (iblk m c 5 ⟨n, hn⟩) (iblk m c 7 ⟨n, hn⟩) (upIn m c n hn) (ix2 r q)
      = half 5504 (by omega) (fun l => conv (aX m c) (aG m c) (aW m c) (aK m c) (aB m c) l (row n hn r).val) (col n q) := by
  rw [upConv_eq_gateConv]
  refine (conv_at _ _ _ _ _ (fun s => half 5504 (by omega) (fun l => ext (aX m c) (aG m c) (aW m c) l (n / 11 * 512 + s)) (col n q))
    r q (upIn_at m c n hn q 0).symm (upIn_at m c n hn q 1).symm
    (fun s => ((upAt_at m c n hn s q).trans (half_ext m c _ _ _ _ _ _ rfl rfl)).symm)).trans ?_
  rw [← half_conv]
  have e0 := read5 m c ⟨n, hn⟩ 0 q
  have e1 := read5 m c ⟨n, hn⟩ 1 q
  have e2 := read5 m c ⟨n, hn⟩ 2 q
  have e3 := read7 m c ⟨n, hn⟩ q
  rw [← e0, ← e1, ← e2, ← e3]
  rfl

/-- What a point adds to the running sum. -/
theorem addAt_at (c : Dev nD) (n : ℕ) (hn : n < cfg0.N) (o : Vec Ideal S512x2048 .f32) (r : Fin 512) (d : Fin 2048) :
    addAt m c n hn o (ix2 r d) = o (ix2 r d)
      + ∑ q : Fin 512, term (aX m c) (aG m c) (aW m c) (aK m c) (aB m c) (aD m c) (row n hn r).val d (n % 11 * 512 + q.val) := by
  refine (add_at _ _ _ _ _).trans (congrArg (o (ix2 r d) + ·) (Finset.sum_congr rfl fun q _ => ?_))
  have e1 := gateConv_at m c n hn r q
  have e2 := upConv_at m c n hn r q
  have e3 := read8 m c ⟨n, hn⟩ q d
  refine Eq.trans ?_ (half_term (aX m c) (aG m c) (aW m c) (aK m c) (aB m c) (aD m c) (row n hn r).val d (col n q))
  rw [← e1, ← e2, ← e3]
  rfl

/-- The running sum after a point: the input and the tiles of columns up to the point's. -/
theorem oAt_at (c : Dev nD) (r : Fin 512) (d : Fin 2048) : (n : ℕ) → (hn : n < cfg0.N) →
    oAt m c n hn (ix2 r d) = aX m c (ix2 (row n hn r) d) + ∑ j ∈ Finset.range (n % 11 + 1), ∑ q : Fin 512,
      term (aX m c) (aG m c) (aW m c) (aK m c) (aB m c) (aD m c) (row n hn r).val d (j * 512 + q.val)
  | 0, hn => by
    refine (addAt_at m c 0 hn _ r d).trans (congrArg₂ (· + ·) (read0 m c ⟨0, hn⟩ r d) ?_)
    rw [Finset.sum_range_one]
  | n + 1, hn => by
    refine (addAt_at m c (n + 1) hn _ r d).trans ?_
    by_cases h : (n + 1) % 11 = 0
    · refine congrArg₂ (· + ·) ((congrFun (if_pos ((firstTile_iff ⟨n + 1, hn⟩).mpr h)) _).trans (read0 m c ⟨n + 1, hn⟩ r d)) ?_
      rw [h, Finset.sum_range_one]
    · rw [Finset.sum_range_succ, ← add_assoc]
      refine congrArg (· + _) ((congrFun (if_neg fun h' => h ((firstTile_iff ⟨n + 1, hn⟩).mp h')) _).trans ?_)
      have er : row n (Nat.lt_of_succ_lt hn) r = row (n + 1) hn r := Fin.ext (by
        show n / 11 * 512 + r.val = (n + 1) / 11 * 512 + r.val
        omega)
      rw [oAt_at c r d n (Nat.lt_of_succ_lt hn), er, show n % 11 + 1 = (n + 1) % 11 by omega]

/-! ## The three arrays after the run -/

/-- The first array is the reference's first result. -/
theorem array9_eq (c : Dev nD) : (dats m 0 c).arrAt 9 cfg0.N
    = Cert.Reference2Ideal.Read.val_main_v48 (F := Ideal) (aX m c) (aG m c) (aW m c) (aK m c) (aB m c) (aD m c) := by
  refine (dats m 0 c).arrAt_eq_of_covers 9 _ (by decide +kernel) fun t ht y => ?_
  have hf : t.val % 11 = 10 := (by decide +kernel : ∀ t : Fin cfg0.N, (cfg0.win 9).flush t = true → t.val % 11 = 10) t ht
  blk_simp
  rw [after0_9]
  have hi := idx t
  idx_bounds
  have h0 : ((((cfg0.win 9).blk t).view.emb y) 0).val = t.val / 11 * 512 + (y 0).val := by blk_simp [idx t]
  have h1 : ((((cfg0.win 9).blk t).view.emb y) 1).val = (y 1).val := by blk_simp [idx t]
  generalize ((cfg0.win 9).blk t).view.emb y = j at h0 h1 ⊢
  idx_vars j
  idx_vars y
  refine (oAt_at m c y0 y1 t.val t.isLt).trans ((?_ : _ = _).trans (ref_out_at _ _ _ _ _ _ _ _).symm)
  have e0 : row t.val t.isLt y0 = j0 := Fin.ext h0.symm
  have e1 : y1 = j1 := Fin.ext h1.symm
  rw [e0, e1, hf, sum_tiles]
  rfl

/-- The second array is the reference's second result. -/
theorem array10_eq (c : Dev nD) : (dats m 0 c).arrAt 10 cfg0.N
    = Cert.Reference2Ideal.Read.val_main_v50 (F := Ideal) (aX m c) (aG m c) (aW m c) := by
  refine (dats m 0 c).arrAt_eq_of_covers 10 _ (by decide +kernel) fun t ht y => ?_
  blk_simp
  rw [after0_10]
  have hi := idx t
  idx_bounds
  have h0 : ((((cfg0.win 10).blk t).view.emb y) 0).val = t.val / 11 + (y 0).val := by blk_simp [idx t]
  have h1 : ((((cfg0.win 10).blk t).view.emb y) 1).val = (y 1).val := by blk_simp [idx t]
  have h2 : ((((cfg0.win 10).blk t).view.emb y) 2).val = t.val % 11 * 512 + (y 2).val := by blk_simp [idx t]
  generalize ((cfg0.win 10).blk t).view.emb y = j at h0 h1 h2 ⊢
  idx_vars j
  idx_vars y
  refine (tail_at _ _ _).trans ((?_ : _ = _).trans (ref_gate_at _ _ _ _ _ _).symm)
  have e0 : row t.val t.isLt ⟨504 + y1.val, by omega⟩ = keptRow j0 j1 := Fin.ext (by
    show t.val / 11 * 512 + (504 + y1.val) = j0.val * 512 + (504 + j1.val)
    omega)
  have e2 : col t.val y2 = j2 := Fin.ext h2.symm
  rw [← half_proj, ← e0, ← e2]
  exact Finset.sum_congr rfl fun k _ => congrArg₂ (· * ·) (hAt_at m c _ k _ _) (read2 m c t k y2)

/-- The third array is the reference's third result. -/
theorem array11_eq (c : Dev nD) : (dats m 0 c).arrAt 11 cfg0.N
    = Cert.Reference2Ideal.Read.val_main_v52 (F := Ideal) (aX m c) (aG m c) (aW m c) := by
  refine (dats m 0 c).arrAt_eq_of_covers 11 _ (by decide +kernel) fun t ht y => ?_
  blk_simp
  rw [after0_11, upTail_eq_gateTail]
  have hi := idx t
  idx_bounds
  have h0 : ((((cfg0.win 11).blk t).view.emb y) 0).val = t.val / 11 + (y 0).val := by blk_simp [idx t]
  have h1 : ((((cfg0.win 11).blk t).view.emb y) 1).val = (y 1).val := by blk_simp [idx t]
  have h2 : ((((cfg0.win 11).blk t).view.emb y) 2).val = t.val % 11 * 512 + (y 2).val := by blk_simp [idx t]
  generalize ((cfg0.win 11).blk t).view.emb y = j at h0 h1 h2 ⊢
  idx_vars j
  idx_vars y
  refine (tail_at _ _ _).trans ((?_ : _ = _).trans (ref_up_at _ _ _ _ _ _).symm)
  have e0 : row t.val t.isLt ⟨504 + y1.val, by omega⟩ = keptRow j0 j1 := Fin.ext (by
    show t.val / 11 * 512 + (504 + y1.val) = j0.val * 512 + (504 + j1.val)
    omega)
  have e2 : col t.val y2 = j2 := Fin.ext h2.symm
  rw [← half_proj, ← e0, ← e2]
  exact Finset.sum_congr rfl fun k _ => congrArg₂ (· * ·) (hAt_at m c _ k _ _) (read3 m c t k y2)

end Cert.Ffn

end
-- ==== Proof.FfnClaim.lean ====
module

public import proofs.«01_k».proof.Defs
public import proofs.«01_k».proof.Proof.FfnArray

@[expose] public section

set_option maxRecDepth 16384

noncomputable section

open Idealize.ShloMosaic Idealize.ShloMosaic.TcCoe Idealize.SL.Sem

namespace Cert.Ffn

open Cert.Kernel2Ideal.Gen

/-- The feed-forward call returns the reference's three arrays, from the same arguments. -/
theorem claim : Cert.algebraic_Kernel2Ideal_Reference2Ideal := by
  intro m g m' g' _ hagree
  refine ⟨fun c => Cert.Reference2Ideal.Read.val_main_v48 (F := Ideal) (aX m c) (aG m c) (aW m c) (aK m c) (aB m c) (aD m c),
    fun c => Cert.Reference2Ideal.Read.val_main_v50 (F := Ideal) (aX m c) (aG m c) (aW m c),
    fun c => Cert.Reference2Ideal.Read.val_main_v52 (F := Ideal) (aX m c) (aG m c) (aW m c), ?_, ?_⟩
  · exact (θ_run Cert.Kernel2Ideal.defs _ _).mono
      (fun _ h c => ⟨((h.2 c).1 9).trans (array9_eq m c), ((h.2 c).1 10).trans (array10_eq m c),
        ((h.2 c).1 11).trans (array11_eq m c), h.1.1 c⟩)
      (θ_run_and (frame m g) (run_main m g))
  · refine (θ_run Cert.Reference2Ideal.defs _ _).mono (fun _ h c => ⟨(h c).1.trans ?_, (h c).2.1.trans ?_, (h c).2.2.1.trans ?_, (h c).2.2.2⟩)
      (Cert.Reference2Ideal.Value.run m' g')
    all_goals obtain ⟨e0, e1, e2, e3, e4, e5⟩ := hagree c
    · rw [Cert.Reference2Ideal.Read.val_main_v48_eq, e0, e1, e2, e3, e4, e5]; rfl
    · rw [Cert.Reference2Ideal.Read.val_main_v50_eq, e0, e1, e2]; rfl
    · rw [Cert.Reference2Ideal.Read.val_main_v52_eq, e0, e1, e2]; rfl

end Cert.Ffn

end
-- ==== Proof.OutProj.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProj

open Cert.Kernel4Ideal Cert.Kernel4Ideal.Gen Cert.Reference4Ideal.Read

variable (m : (ℓ : Loc nD τ sig) → Buf (Elt Ideal) ℓ)

/-- Which block each window stages at grid point `t`: the row block is `t / 4`, the column block `t % 4`; the three
    weight windows stage the rows of the three mixers. -/
theorem idx : ∀ t : Fin cfg0.N, win0_0.index t = ![t.val / 4, 0] ∧ win0_1.index t = ![t.val / 4, 0]
    ∧ win0_2.index t = ![t.val / 4, 0] ∧ win0_3.index t = ![0, t.val % 4] ∧ win0_4.index t = ![2, t.val % 4]
    ∧ win0_5.index t = ![3, t.val % 4] ∧ win0_6.index t = ![t.val / 4, t.val % 4]
    ∧ win0_7.index t = ![t.val / 4, t.val % 4] :=
  (by decide +kernel : ∀ t : Fin grid0.N, _)

/-- A sum over 2048 columns is the sum over the first 1024, the next 512 and the last 512 of them. -/
theorem sum_three (f : Fin 2048 → EReal) : ∑ k, f k
    = ((∑ k : Fin 1024, f ⟨k.val, by omega⟩) + ∑ k : Fin 512, f ⟨k.val + 1024, by omega⟩)
      + ∑ k : Fin 512, f ⟨k.val + 1536, by omega⟩ := by
  rw [Fin.sum_univ_add (a := 1536) (b := 512) f, Fin.sum_univ_add (a := 1024) (b := 512) fun i => f (Fin.castAdd 512 i)]
  refine congrArg₂ (· + ·) (congrArg₂ (· + ·) rfl ?_) ?_
  · exact Finset.sum_congr rfl fun k _ => congrArg f (Fin.ext (Nat.add_comm 1024 k.val))
  · exact Finset.sum_congr rfl fun k _ => congrArg f (Fin.ext (Nat.add_comm 1536 k.val))

/-- The joined outputs of the three mixers at row `i` and column `k`. -/
def joined (A : FVec Ideal S8192x1024 .bf16) (B : FVec Ideal S8192x512 .f32) (C : FVec Ideal S8192x512 .bf16)
    (i : Fin 8192) (k : Fin 2048) : EReal :=
  if h0 : k.val < 1024 then A (ix2 i ⟨k.val, h0⟩)
  else if h1 : k.val < 1536 then B (ix2 i ⟨k.val - 1024, by omega⟩)
  else C (ix2 i ⟨k.val - 1536, by omega⟩)

/-- The reference's joined array at an index. -/
theorem joined_at (A : FVec Ideal S8192x1024 .bf16) (B : FVec Ideal S8192x512 .f32) (C : FVec Ideal S8192x512 .bf16)
    (i : Fin 8192) (k : Fin 2048) : val_main_v2 (F := Ideal) A B C (ix2 i k) = joined A B C i k := by
  pointwise [val_main_v2, val_main_v1, val_main_v0]
  unfold joined
  repeat' split
  all_goals first
    | (exfalso; omega)
    | rfl

/-- An element of the reference's result: the residual plus the three mixers' shares of the product. -/
theorem result_at (A : FVec Ideal S8192x1024 .bf16) (B : FVec Ideal S8192x512 .f32) (C : FVec Ideal S8192x512 .bf16)
    (W : FVec Ideal S2048x2048 .f32) (X : FVec Ideal S8192x2048 .f32) (i : Fin 8192) (l : Fin 2048) :
    val_main_v4 (F := Ideal) A B C W X (ix2 i l) = X (ix2 i l)
      + (((∑ k : Fin 1024, A (ix2 i k) * W (ix2 ⟨k.val, by omega⟩ l))
          + ∑ k : Fin 512, B (ix2 i k) * W (ix2 ⟨k.val + 1024, by omega⟩ l))
        + ∑ k : Fin 512, C (ix2 i k) * W (ix2 ⟨k.val + 1536, by omega⟩ l)) := by
  have h : val_main_v4 (F := Ideal) A B C W X (ix2 i l)
      = X (ix2 i l) + ∑ k : Fin 2048, joined A B C i k * W (ix2 k l) := by
    simp only [← joined_at]
    pointwise [val_main_v4, val_main_v3]
  rw [h, sum_three]
  refine congrArg₂ (· + ·) rfl (congrArg₂ (· + ·) (congrArg₂ (· + ·) ?_ ?_) ?_) <;>
    refine Finset.sum_congr rfl fun k _ => congrArg (· * _) ?_
  · unfold joined
    rw [dif_pos (show k.val < 1024 from k.isLt)]
  · unfold joined
    rw [dif_neg (show ¬ k.val + 1024 < 1024 by omega), dif_pos (show k.val + 1024 < 1536 by omega)]
    exact congrArg (fun q => B (ix2 i q)) (Fin.ext (Nat.add_sub_cancel k.val 1024))
  · unfold joined
    rw [dif_neg (show ¬ k.val + 1536 < 1024 by omega), dif_neg (show ¬ k.val + 1536 < 1536 by omega)]
    exact congrArg (fun q => C (ix2 i q)) (Fin.ext (Nat.add_sub_cancel k.val 1536))

/-- An element of what one grid point computes from its seven blocks. -/
theorem block_at (A : FVec Ideal S1024x1024 .bf16) (Wa : FVec Ideal S1024x512 .bf16) (B : FVec Ideal S1024x512 .f32)
    (Wb : FVec Ideal S512x512 .bf16) (C : FVec Ideal S1024x512 .bf16) (Wc : FVec Ideal S512x512 .bf16)
    (X : FVec Ideal S1024x512 .f32) (j) : k0_pay1 (F := Ideal) A Wa B Wb C Wc X j = X (ix2 (j 0) (j 1))
      + (((∑ k : Fin 1024, A (ix2 (j 0) k) * Wa (ix2 k (j 1))) + ∑ k : Fin 512, B (ix2 (j 0) k) * Wb (ix2 k (j 1)))
        + ∑ k : Fin 512, C (ix2 (j 0) k) * Wc (ix2 k (j 1))) := by
  idx_vars j
  pointwise [k0_pay1]

/-- The weight the call stages, at an index: the argument's element. -/
theorem weight_at (c : Dev nD) (k l : Fin 2048) :
    (show FVec Ideal S2048x2048 .bf16 from V m c main_v0) (ix2 k l) = m ((c : Thread nD τ).loc main_arg3) (ix2 k l) := by
  have h : (show FVec Ideal S2048x2048 .bf16 from V m c main_v0)
      = truncf .bf16 (m ((c : Thread nD τ).loc main_arg3)) bitsLt_bf16_f32 := by
    unfold V
    after_results_simp <;> rfl
  rw [h]
  pointwise

/-- The array after the run is the reference's result over the same arguments. -/
theorem array_eq (c : Dev nD) : (dats m 0 c).arrAt 7 cfg0.N
    = val_main_v4 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  frame_out
  rw [block_at]
  obtain ⟨e0, e1, e2, e3, e4, e5, e6, e7⟩ := idx t
  idx_bounds
  have h0 : ((((cfg0.win 7).blk t).view.emb y) 0).val = t.val / 4 * 1024 + (y 0).val := by blk_simp [idx t]
  have h1 : ((((cfg0.win 7).blk t).view.emb y) 1).val = t.val % 4 * 512 + (y 1).val := by blk_simp [idx t]
  generalize ((cfg0.win 7).blk t).view.emb y = j at h0 h1 ⊢
  idx_vars j
  refine Eq.trans ?_ (result_at _ _ _ _ _ _ _).symm
  have r0 : ∀ x : Fin 1024, (show FVec Ideal S1024x1024 .bf16 from iblk m c 0 t) (ix2 (y 0) x)
      = m ((c : Thread nD τ).loc main_arg0) (ix2 j0 x) := fun x => by blk_ext [iblk, V, idx t]
  have r1 : ∀ x : Fin 512, (show FVec Ideal S1024x512 .f32 from iblk m c 1 t) (ix2 (y 0) x)
      = m ((c : Thread nD τ).loc main_arg1) (ix2 j0 x) := fun x => by blk_ext [iblk, V, idx t]
  have r2 : ∀ x : Fin 512, (show FVec Ideal S1024x512 .bf16 from iblk m c 2 t) (ix2 (y 0) x)
      = m ((c : Thread nD τ).loc main_arg2) (ix2 j0 x) := fun x => by blk_ext [iblk, V, idx t]
  have r3 : ∀ x : Fin 1024, (show FVec Ideal S1024x512 .bf16 from iblk m c 3 t) (ix2 x (y 1))
      = m ((c : Thread nD τ).loc main_arg3) (ix2 ⟨x.val, by omega⟩ j1) := fun x => by
    refine Eq.trans ?_ (weight_at m c _ _)
    blk_ext [iblk, idx t]
  have r4 : ∀ x : Fin 512, (show FVec Ideal S512x512 .bf16 from iblk m c 4 t) (ix2 x (y 1))
      = m ((c : Thread nD τ).loc main_arg3) (ix2 ⟨x.val + 1024, by omega⟩ j1) := fun x => by
    refine Eq.trans ?_ (weight_at m c _ _)
    blk_ext [iblk, idx t]
  have r5 : ∀ x : Fin 512, (show FVec Ideal S512x512 .bf16 from iblk m c 5 t) (ix2 x (y 1))
      = m ((c : Thread nD τ).loc main_arg3) (ix2 ⟨x.val + 1536, by omega⟩ j1) := fun x => by
    refine Eq.trans ?_ (weight_at m c _ _)
    blk_ext [iblk, idx t]
  have r6 : (show FVec Ideal S1024x512 .f32 from iblk m c 6 t) (ix2 (y 0) (y 1))
      = m ((c : Thread nD τ).loc main_arg4) (ix2 j0 j1) := by blk_ext [iblk, V, idx t]
  simp only [r0, r1, r2, r3, r4, r5, r6]

end Cert.OutProj

end
-- ==== Proof.OutProjClaim.lean ====
module

public import proofs.«01_k».proof.Defs
public import proofs.«01_k».proof.Proof.OutProj

@[expose] public section

noncomputable section

open Idealize.ShloMosaic Idealize.ShloMosaic.TcCoe Idealize.SL.Sem

namespace Cert.OutProj

/-- The output projection's call returns the reference's array, from the same arguments. -/
theorem claim : Cert.algebraic_Kernel4Ideal_Reference4Ideal := by
  intro m g m' g' _ hagree
  refine ⟨fun c => Cert.Reference4Ideal.Read.val_main_v4 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)), ?_, ?_⟩
  · exact (θ_run Cert.Kernel4Ideal.defs _ _).mono
      (fun _ h c => ⟨(h c).1.trans (array_eq m c), (h c).2⟩) (Cert.Kernel4Ideal.Value.run_blocks m g)
  · refine (θ_run Cert.Reference4Ideal.defs _ _).mono (fun _ h c => ⟨(h c).1.trans ?_, (h c).2⟩)
      (Cert.Reference4Ideal.Value.run m' g')
    obtain ⟨e0, e1, e2, e3, e4⟩ := hagree c
    rw [Cert.Reference4Ideal.Read.val_main_v4_eq, e0, e1, e2, e3, e4]

end Cert.OutProj

end
-- ==== Proof.MemMath.lean ====
module

public import Idealize.ShloMosaic.PureOps.Ideal.Laws

@[expose] public section

noncomputable section

open Idealize.ShloMosaic

namespace Cert.Mem

/-- An extended real is real when it is the image of a real number. -/
def IsReal (x : EReal) : Prop := ∃ r : ℝ, x = (r : EReal)

theorem IsReal.of_ne {x : EReal} (h : x ≠ ⊥) (h' : x ≠ ⊤) : IsReal x :=
  ⟨x.toReal, (EReal.coe_toReal h' h).symm⟩

theorem IsReal.ne_top {x : EReal} : IsReal x → x ≠ ⊤ := by
  rintro ⟨r, rfl⟩
  exact EReal.coe_ne_top r

theorem IsReal.add {x y : EReal} : IsReal x → IsReal y → IsReal (x + y) := by
  rintro ⟨r, rfl⟩ ⟨s, rfl⟩
  exact ⟨r + s, (EReal.coe_add r s).symm⟩

theorem IsReal.sub {x y : EReal} : IsReal x → IsReal y → IsReal (x - y) := by
  rintro ⟨r, rfl⟩ ⟨s, rfl⟩
  exact ⟨r - s, (EReal.coe_sub r s).symm⟩

theorem IsReal.mul {x y : EReal} : IsReal x → IsReal y → IsReal (x * y) := by
  rintro ⟨r, rfl⟩ ⟨s, rfl⟩
  exact ⟨r * s, (EReal.coe_mul r s).symm⟩

theorem IsReal.max_of {x y : EReal} (hx : IsReal x) (hy : IsReal y) : IsReal (max x y) := by
  rcases max_choice x y with h | h <;> rw [h] <;> assumption

/-- A sum of reals is real. -/
theorem sum_real {ι : Type} (s : Finset ι) (f : ι → EReal) (h : ∀ i, IsReal (f i)) : IsReal (∑ i ∈ s, f i) :=
  Finset.sum_induction f IsReal (fun _ _ => IsReal.add) ⟨0, rfl⟩ fun i _ => h i

/-- The largest of finitely many reals, at least one, is real. -/
theorem fold_max_real {n : Nat} (f : Fin (n + 1) → EReal) (h : ∀ i, IsReal (f i)) :
    IsReal (Finset.univ.fold max ⊥ f) := by
  have hs : ∀ s : Finset (Fin (n + 1)), s.fold max ⊥ f = ⊥ ∧ s = ∅ ∨ IsReal (s.fold max ⊥ f) := by
    classical
    intro s
    induction s using Finset.induction_on with
    | empty => exact .inl ⟨rfl, rfl⟩
    | insert a s ha ih =>
      right
      rw [Finset.fold_insert ha]
      rcases ih with ⟨e, -⟩ | hr
      · rw [e, max_bot_right]; exact h a
      · exact (h a).max_of hr
  rcases hs Finset.univ with ⟨-, e⟩ | hr
  · exact absurd e (Finset.univ_nonempty.ne_empty)
  · exact hr

/-- The exponential of a real is a positive real. -/
theorem exp_pos {x : EReal} : IsReal x → ∃ r : ℝ, 0 < r ∧ Ideal.exp x = (r : EReal) := by
  rintro ⟨r, rfl⟩
  exact ⟨Real.exp r, Real.exp_pos r, rfl⟩

/-- A sum of positive reals, at least one, is a positive real. -/
theorem sum_pos {n : Nat} (f : Fin (n + 1) → EReal) (h : ∀ i, ∃ r : ℝ, 0 < r ∧ f i = (r : EReal)) :
    ∃ r : ℝ, 0 < r ∧ ∑ i, f i = (r : EReal) := by
  refine Finset.sum_induction_nonempty f (fun x => ∃ r : ℝ, 0 < r ∧ x = (r : EReal)) ?_ Finset.univ_nonempty fun i _ => h i
  rintro x y ⟨r, hr, rfl⟩ ⟨s, hs, rfl⟩
  exact ⟨r + s, add_pos hr hs, (EReal.coe_add r s).symm⟩

/-- A sum times a nonnegative real is the sum of the products. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- Dividing the weighted sum by the weights' sum is the sum weighted by the quotients, when the weights are exponentials of
    reals. -/
theorem div_sum {n : Nat} (s : Fin (n + 1) → EReal) (M : EReal) (v : Fin (n + 1) → EReal) (hs : ∀ i, IsReal (s i))
    (hM : IsReal M) :
    Ideal.div (∑ i, Ideal.exp (s i - M) * v i) (∑ i, Ideal.exp (s i - M))
      = ∑ i, v i * Ideal.div (Ideal.exp (s i - M)) (∑ i, Ideal.exp (s i - M)) := by
  obtain ⟨S, hS, e⟩ := sum_pos (fun i => Ideal.exp (s i - M)) fun i => exp_pos ((hs i).sub hM)
  have hne : (S : EReal) ≠ 0 := fun h => hS.ne' (EReal.coe_eq_zero.1 h)
  rw [e]
  simp only [Ideal.div, if_neg hne]
  rw [← EReal.coe_inv, sum_mul_real _ _ _ (inv_nonneg.2 hS.le)]
  exact Finset.sum_congr rfl fun i _ => by rw [mul_comm (Ideal.exp _) (v i), mul_assoc]

/-- The reciprocal square root of a sum of squares, over a positive real and above a positive real, times one of the terms,
    is real whatever the terms are. -/
theorem norm_real {ι : Type} [Fintype ι] (x : ι → EReal) (c ε : ℝ) (hc : 0 < c) (hε : 0 < ε) (k : ι) :
    IsReal (x k * Ideal.rsqrt (Ideal.div (∑ i, x i * x i) (c : EReal) + (ε : EReal))) := by
  have hsq : ∀ y : EReal, 0 ≤ y * y := fun y => by
    induction y with
    | bot => simp
    | top => simp
    | coe r => rw [← EReal.coe_mul]; exact EReal.coe_nonneg.2 (mul_self_nonneg r)
  have h0 : 0 ≤ ∑ i, x i * x i := Finset.sum_nonneg fun i _ => hsq (x i)
  have hk : x k * x k ≤ ∑ i, x i * x i := Finset.single_le_sum (fun i _ => hsq (x i)) (Finset.mem_univ k)
  have hne : (c : EReal) ≠ 0 := fun h => hc.ne' (EReal.coe_eq_zero.1 h)
  simp only [Ideal.div, if_neg hne, ← EReal.coe_inv]
  generalize ∑ i, x i * x i = T at h0 hk ⊢
  induction T with
  | bot => exact absurd h0 (by simp)
  | top =>
    rw [EReal.top_mul_coe_of_pos (inv_pos.2 hc), EReal.top_add_coe]
    exact ⟨0, by rw [show Ideal.rsqrt ⊤ = 0 from rfl, mul_zero]; rfl⟩
  | coe t =>
    have ht : 0 ≤ t := EReal.coe_nonneg.1 h0
    have hx : IsReal (x k) := by
      generalize x k = y at hk ⊢
      induction y with
      | bot => exact absurd hk (by simp)
      | top => exact absurd hk (by simp)
      | coe r => exact ⟨r, rfl⟩
    refine hx.mul ?_
    rw [← EReal.coe_mul, ← EReal.coe_add]
    have hp : 0 < t * c⁻¹ + ε := add_pos_of_nonneg_of_pos (mul_nonneg ht (inv_nonneg.2 hc.le)) hε
    exact ⟨(Real.sqrt (t * c⁻¹ + ε))⁻¹, (if_neg hp.not_gt).trans (if_neg hp.ne')⟩

/-- The literal 2048 is a positive real. -/
theorem width_pos : ∃ c : ℝ, 0 < c ∧ Ideal.ofBits .f32 0x45000000#32 = (c : EReal) := by
  refine ⟨_, ?_, by simp [Ideal.ofBits, Ideal.ieee]; rfl⟩
  positivity

/-- The literal added under the root is a positive real. -/
theorem eps_pos : ∃ c : ℝ, 0 < c ∧ Ideal.ofBits .f32 0x358637BD#32 = (c : EReal) := by
  refine ⟨_, ?_, by simp [Ideal.ofBits, Ideal.ieee]; rfl⟩
  positivity

/-- The literal that scales the scores is real. -/
theorem scale_real : IsReal (Ideal.ofBits .f32 0x3DB504F3#32) :=
  ⟨_, by simp [Ideal.ofBits, Ideal.ieee]; rfl⟩

/-- The literal at which a maximum starts is the least extended real. -/
theorem start_bot : Ideal.ofBits .f32 0xFF800000#32 = ⊥ := by simp [Ideal.ofBits, Ideal.ieee]

/-- The literal against which finiteness is tested is the greatest extended real. -/
theorem limit_top : Ideal.ofBits .f32 0x7F800000#32 = ⊤ := by simp [Ideal.ofBits, Ideal.ieee]

/-- The score of a query against row `x` of the keys. -/
def score {n : Nat} (q : Fin 128 → EReal) (K : Fin n → Fin 128 → EReal) (x : Fin n) : EReal :=
  (∑ y, q y * K x y) * Ideal.ofBits .f32 0x3DB504F3#32

/-- The exponential of a score less the largest score. -/
def weight {n : Nat} (s : Fin n → EReal) (x : Fin n) : EReal :=
  Ideal.exp (s x - Finset.univ.fold max (Ideal.ofBits .f32 0xFF800000#32) s)

/-- The head that column `l` lies in. -/
def headOf (l : Fin 512) : Fin 4 := ⟨l.val / 128, by omega⟩

/-- The scores' exponentials times the values, divided by the exponentials' sum. -/
def attend {n : Nat} (s v : Fin n → EReal) : EReal := Ideal.div (∑ x, weight s x * v x) (∑ x, weight s x)

/-- The same with each exponential divided before the product. -/
def attendR {n : Nat} (s v : Fin n → EReal) : EReal := ∑ x, v x * Ideal.div (weight s x) (∑ z, weight s z)

/-- The two are equal when the scores are real. -/
theorem attend_eq {n : Nat} (s v : Fin (n + 1) → EReal) (h : ∀ x, IsReal (s x)) : attend s v = attendR s v :=
  div_sum s _ v h (by rw [start_bot]; exact fold_max_real s h)

/-- The score of a real query against real keys is real. -/
theorem score_real {n : Nat} (q : Fin 128 → EReal) (K : Fin n → Fin 128 → EReal) (hq : ∀ y, IsReal (q y))
    (hK : ∀ x y, IsReal (K x y)) (x : Fin n) : IsReal (score q K x) :=
  (sum_real _ _ fun y => (hq y).mul (hK x y)).mul scale_real

end Cert.Mem

end
-- ==== Proof.MemRef.lean ====
module

public import proofs.«01_k».proof.Proof.Gen.Reference5Ideal.Read
public import proofs.«01_k».proof.Proof.MemMath
public import Idealize.ShloMosaic.Lib.Pipeline.ValueKit

@[expose] public section

set_option maxRecDepth 16384

noncomputable section

open Idealize.ShloMosaic Idealize.ShloMosaic.TcCoe Idealize.SL.Sem

namespace Cert.Mem

open Cert.Reference5Ideal Cert.Reference5Ideal.Gen Cert.Reference5Ideal.Read

variable (X : FVec Ideal S8192x2048 .f32) (G : FVec Ideal S2048 .f32) (Wq : FVec Ideal S2048x512 .f32)
  (K V : FVec Ideal S256x512 .f32) (Wo : FVec Ideal S512x2048 .f32)

/-- Row `i` of the input, normalised and scaled. -/
def hrow (i : Fin 8192) (k : Fin 2048) : EReal :=
  X (ix2 i k) * Ideal.rsqrt (Ideal.div (∑ x, X (ix2 i x) * X (ix2 i x)) (Ideal.ofBits .f32 0x45000000#32)
    + Ideal.ofBits .f32 0x358637BD#32) * G (ix1 k)

/-- Column `l` of row `i`'s query. -/
def query (i : Fin 8192) (l : Fin 512) : EReal := ∑ k : Fin 2048, hrow X G i k * Wq (ix2 k l)

/-- The scores of row `i` in head `h` against the memory. -/
def scores (i : Fin 8192) (h : Fin 4) : Fin 256 → EReal :=
  score (fun y => query X G Wq i ⟨h.val * 128 + y.val, by omega⟩) fun x y => K (ix2 x ⟨h.val * 128 + y.val, by omega⟩)

/-- The reference's query at an index. -/
theorem query_at (i : Fin 8192) (h : Fin 4) (d : Fin 128) :
    val_main_v17 (F := Ideal) X G Wq (ix4 0 i h d) = query X G Wq i ⟨h.val * 128 + d.val, by omega⟩ := by
  pointwise [val_main_v17, val_main_v16, val_main_v15, val_main_v14, val_main_v13, val_main_v12, val_main_v11,
    val_main_v10, val_main_v9, val_main_v8, val_main_v7, val_main_v6, val_main_v5, val_main_v4, val_main_v3,
    val_main_v0, val_main_cst, val_main_cst_0, val_main_cst_1]
  rfl

/-- The reference's score at an index. -/
theorem scores_at (i : Fin 8192) (h : Fin 4) (x : Fin 256) :
    val_main_v20 (F := Ideal) X G Wq K (ix4 0 h i x) = scores X G Wq K i h x := by
  pointwise [val_main_v20, val_main_v19, val_main_v18, val_main_cst_2, val_main_v1]
  simp only [query_at]
  rfl

/-- The largest score of a row. -/
theorem max_at (S : FVec Ideal S1x4x8192x256 .f32) (i : Fin 8192) (h : Fin 4) :
    Host.reduce FloatOps.maximumf S (constant S_ .f32 0xFF800000#32) reducesTo_S1x4x8192x256_S1x4x8192_d3 h_S_ (ix3 0 h i)
      = Finset.univ.fold max (Ideal.ofBits .f32 0xFF800000#32) fun x => S (ix4 0 h i x) := by
  pointwise

/-- The largest score, repeated along its row. -/
theorem spread_at (M : FVec Ideal S1x4x8192 .f32) (i : Fin 8192) (h : Fin 4) (x : Fin 256) :
    (broadcastInDim S1x4x8192x256 ![0, 1, 2, 3] bcast_S1x4x8192x1_S1x4x8192x256_0_1_2_3
      (broadcastInDim S1x4x8192x1 ![0, 1, 2] bcast_S1x4x8192_S1x4x8192x1_0_1_2
        (maximumf (val_main_v22 (F := Ideal)) M)) : FVec Ideal S1x4x8192x256 .f32) (ix4 0 h i x)
      = max (Ideal.ofBits .f32 0xFF800000#32) (M (ix3 0 h i)) := by
  pointwise [val_main_v22, val_main_cst_4]

/-- The reference's exponential of a score less the largest. -/
theorem weight_at (i : Fin 8192) (h : Fin 4) (x : Fin 256) :
    val_main_v27 (F := Ideal) X G Wq K (ix4 0 h i x) = weight (scores X G Wq K i h) x := by
  unfold weight
  rw [val_main_v27_apply, val_main_v26_apply, ← funext (scores_at X G Wq K i h)]
  refine congrArg (fun M => Ideal.exp (val_main_v20 (F := Ideal) X G Wq K (ix4 0 h i x) - M)) ?_
  unfold val_main_v25 val_main_v24 val_main_v23
  rw [spread_at]
  unfold val_main_v21 val_main_cst_3
  rw [max_at, start_bot, max_bot_left]

/-- The reference's attention at an index. -/
theorem attention_at (i : Fin 8192) (l : Fin 512) : val_main_v34 (F := Ideal) X G Wq K V (ix3 0 i l)
    = attendR (scores X G Wq K i (headOf l)) fun x => V (ix2 x l) := by
  pointwise [val_main_v34, val_main_v33, val_main_v32, val_main_v31, val_main_v30, val_main_v29, val_main_v28,
    val_main_cst_5, val_main_v2]
  simp only [weight_at]
  rfl

/-- An element of the reference's result. -/
theorem result_at (i : Fin 8192) (j : Fin 2048) : val_main_v37 (F := Ideal) X G Wq K V Wo (ix2 i j)
    = X (ix2 i j) + ∑ l : Fin 512, attendR (scores X G Wq K i (headOf l)) (fun x => V (ix2 x l)) * Wo (ix2 l j) := by
  pointwise [val_main_v37, val_main_v36, val_main_v35, val_main_v0]
  simp only [attention_at]

variable {G Wq K}

/-- The queries are real when the gain and the projection are, whatever the input. -/
theorem query_real (hG : ∀ k, IsReal (G (ix1 k))) (hW : ∀ k l, IsReal (Wq (ix2 k l))) (i : Fin 8192) (l : Fin 512) :
    IsReal (query X G Wq i l) := by
  obtain ⟨c, hc, ec⟩ := width_pos
  obtain ⟨ε, hε, ee⟩ := eps_pos
  refine sum_real _ _ fun k => IsReal.mul ?_ (hW k l)
  unfold hrow
  rw [ec, ee]
  exact (norm_real (fun x => X (ix2 i x)) c ε hc hε k).mul (hG k)

/-- An element of the reference's result, with the division after the product, when the gain, the projection and the keys
    are real. -/
theorem result_at_real (hG : ∀ k, IsReal (G (ix1 k))) (hW : ∀ k l, IsReal (Wq (ix2 k l)))
    (hK : ∀ x l, IsReal (K (ix2 x l))) (i : Fin 8192) (j : Fin 2048) :
    val_main_v37 (F := Ideal) X G Wq K V Wo (ix2 i j)
      = X (ix2 i j) + ∑ l : Fin 512, attend (scores X G Wq K i (headOf l)) (fun x => V (ix2 x l)) * Wo (ix2 l j) := by
  rw [result_at]
  refine congrArg (X (ix2 i j) + ·) (Finset.sum_congr rfl fun l _ => congrArg (· * Wo (ix2 l j)) ?_)
  exact (attend_eq _ _ fun x => score_real _ _ (fun y => query_real X hG hW i _) (fun x y => hK x _) x).symm

end Cert.Mem

end
-- ==== Proof.MemBlock.lean ====
module

public import proofs.«01_k».proof.Proof.Gen.Kernel5Ideal.Value
public import proofs.«01_k».proof.Proof.MemMath
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mem

open Cert.Kernel5Ideal Cert.Kernel5Ideal.Gen

/-- What one head leaves at row `i` and column `d`, from its columns of the queries and its own keys and values. -/
def headS (Q : FVec Ideal S512x512 .f32) (K V : FVec Ideal S256x128 .bf16) (h : Fin 4) (i : Fin 512) (d : Fin 128) : EReal :=
  attend (score (fun y => Q (ix2 i ⟨h.val * 128 + y.val, by omega⟩)) fun x y => K (ix2 x y)) fun x => V (ix2 x d)

/-- The first head's payload at an index. -/
theorem head0_at (X : FVec Ideal S512x2048 .f32) (G : FVec Ideal S1x2048 .f32) (W : FVec Ideal S2048x512 .bf16)
    (K V : FVec Ideal S256x128 .bf16) (i : Fin 512) (d : Fin 128) :
    k0_pay3 (F := Ideal) X G W K V (ix2 i d) = headS (k0_pay2 (F := Ideal) X G W) K V 0 i d := by
  unfold k0_pay3 headS attend weight score
  generalize k0_pay2 (F := Ideal) X G W = Q
  pointwise

/-- The second head's payload at an index. -/
theorem head1_at (Q : FVec Ideal S512x512 .f32) (K V : FVec Ideal S256x128 .bf16) (i : Fin 512) (d : Fin 128) :
    k0_pay4 (F := Ideal) Q K V (ix2 i d) = headS Q K V 1 i d := by
  pointwise [k0_pay4, headS, attend, weight, score]

/-- The third head's payload at an index. -/
theorem head2_at (Q : FVec Ideal S512x512 .f32) (K V : FVec Ideal S256x128 .bf16) (i : Fin 512) (d : Fin 128) :
    k0_pay5 (F := Ideal) Q K V (ix2 i d) = headS Q K V 2 i d := by
  pointwise [k0_pay5, headS, attend, weight, score]

/-- An element of what one grid point writes from its queries, the first three heads, the last head's keys and values,
    the residual and the output weight. -/
theorem join_at (Q : FVec Ideal S512x512 .f32) (A0 A1 A2 : FVec Ideal S512x128 .bf16) (K V : FVec Ideal S256x128 .bf16)
    (X : FVec Ideal S512x2048 .f32) (W : FVec Ideal S512x2048 .bf16) (i : Fin 512) (j : Fin 2048) :
    k0_pay1 (F := Ideal) Q A0 A1 A2 K V X W (ix2 i j) = X (ix2 i j) + ∑ l : Fin 512,
      (if h0 : l.val < 128 then A0 (ix2 i ⟨l.val, h0⟩)
        else if h1 : l.val - 128 < 128 then A1 (ix2 i ⟨l.val - 128, h1⟩)
        else if h2 : l.val - 128 - 128 < 128 then A2 (ix2 i ⟨l.val - 128 - 128, h2⟩)
        else headS Q K V 3 i ⟨l.val - 128 - 128 - 128, by omega⟩) * W (ix2 l j) := by
  pointwise [k0_pay1, headS, attend, weight, score]

/-- The scores of row `i` of a block in head `h`. -/
def blockScores (Q : FVec Ideal S512x512 .f32) (K : FVec Ideal S256x512 .bf16) (i : Fin 512) (h : Fin 4) : Fin 256 → EReal :=
  score (fun y => Q (ix2 i ⟨h.val * 128 + y.val, by omega⟩)) fun x y => K (ix2 x ⟨h.val * 128 + y.val, by omega⟩)

/-- A head's output is the attention of the column it is laid at. -/
theorem head_col (Q : FVec Ideal S512x512 .f32) (K V : FVec Ideal S256x512 .bf16) (Kh Vh : FVec Ideal S256x128 .bf16)
    (h : Fin 4) (hk : ∀ x y, Kh (ix2 x y) = K (ix2 x ⟨h.val * 128 + y.val, by omega⟩))
    (hv : ∀ x y, Vh (ix2 x y) = V (ix2 x ⟨h.val * 128 + y.val, by omega⟩)) (i : Fin 512) (d : Fin 128) (l : Fin 512)
    (e : l.val = h.val * 128 + d.val) :
    headS Q Kh Vh h i d = attend (blockScores Q K i (headOf l)) fun x => V (ix2 x l) := by
  have hh : headOf l = h := Fin.ext (by show l.val / 128 = h.val; omega)
  have hl : l = ⟨h.val * 128 + d.val, by omega⟩ := Fin.ext e
  unfold headS blockScores
  rw [hh, hl]
  simp only [hk, hv]

/-- An element of what one grid point writes, when each head's keys and values are its columns of the memory's. -/
theorem block_at (X : FVec Ideal S512x2048 .f32) (G : FVec Ideal S1x2048 .f32) (Wq : FVec Ideal S2048x512 .bf16)
    (K V : FVec Ideal S256x512 .bf16) (Wo : FVec Ideal S512x2048 .bf16) (Ks Vs : Fin 4 → FVec Ideal S256x128 .bf16)
    (hk : ∀ h x y, Ks h (ix2 x y) = K (ix2 x ⟨h.val * 128 + y.val, by omega⟩))
    (hv : ∀ h x y, Vs h (ix2 x y) = V (ix2 x ⟨h.val * 128 + y.val, by omega⟩)) (i : Fin 512) (j : Fin 2048) :
    k0_pay1 (F := Ideal) (k0_pay2 X G Wq) (k0_pay3 X G Wq (Ks 0) (Vs 0)) (k0_pay4 (k0_pay2 X G Wq) (Ks 1) (Vs 1))
        (k0_pay5 (k0_pay2 X G Wq) (Ks 2) (Vs 2)) (Ks 3) (Vs 3) X Wo (ix2 i j)
      = X (ix2 i j) + ∑ l : Fin 512,
          attend (blockScores (k0_pay2 X G Wq) K i (headOf l)) (fun x => V (ix2 x l)) * Wo (ix2 l j) := by
  rw [join_at]
  refine congrArg (X (ix2 i j) + ·) (Finset.sum_congr rfl fun l _ => congrArg (· * Wo (ix2 l j)) ?_)
  split
  · exact (head0_at X G Wq _ _ i _).trans (head_col _ K V _ _ 0 (hk 0) (hv 0) i _ l (by simp))
  split
  · exact (head1_at _ _ _ i _).trans (head_col _ K V _ _ 1 (hk 1) (hv 1) i _ l (by
      show l.val = 1 * 128 + (l.val - 128); omega))
  split
  · exact (head2_at _ _ _ i _).trans (head_col _ K V _ _ 2 (hk 2) (hv 2) i _ l (by
      show l.val = 2 * 128 + (l.val - 128 - 128); omega))
  · exact head_col _ K V _ _ 3 (hk 3) (hv 3) i _ l (by
      show l.val = 3 * 128 + (l.val - 128 - 128 - 128); omega)

/-- A grid point's query at an index. -/
theorem blockQuery_at (X : FVec Ideal S512x2048 .f32) (G : FVec Ideal S1x2048 .f32) (Wq : FVec Ideal S2048x512 .bf16)
    (i : Fin 512) (l : Fin 512) : k0_pay2 (F := Ideal) X G Wq (ix2 i l)
      = ∑ k : Fin 2048, X (ix2 i k) * Ideal.rsqrt (Ideal.div (∑ x, X (ix2 i x) * X (ix2 i x))
          (Ideal.ofBits .f32 0x45000000#32) + Ideal.ofBits .f32 0x358637BD#32) * G (ix2 0 k) * Wq (ix2 k l) := by
  pointwise [k0_pay2]

/-- The four heads' columns of a memory block, as the body loads them. -/
def headCols (B : FVec Ideal S256x512 .bf16) : Fin 4 → FVec Ideal S256x128 .bf16
  | 0 => View.ld (Val := Elt Ideal) (e' := .bf16) B r0_3
  | 1 => View.ld (Val := Elt Ideal) (e' := .bf16) B r0_4
  | 2 => View.ld (Val := Elt Ideal) (e' := .bf16) B r0_5
  | 3 => View.ld (Val := Elt Ideal) (e' := .bf16) B r0_6

/-- A head's load at an index: the block's element in that head's columns. -/
theorem headCols_at (B : FVec Ideal S256x512 .bf16) (h : Fin 4) (x : Fin 256) (y : Fin 128) :
    headCols B h (ix2 x y) = B (ix2 x ⟨h.val * 128 + y.val, by omega⟩) := by
  fin_cases h
  · exact View.ld_unit_apply_of (Val := Elt Ideal) (e := .bf16) B _ _ _ (ix2 x y) _ fun a => by
      fin_cases a
      · exact (Nat.zero_add x.val).symm
      · show 0 * 128 + y.val = 0 + y.val; omega
  · exact View.ld_unit_apply_of (Val := Elt Ideal) (e := .bf16) B _ _ _ (ix2 x y) _ fun a => by
      fin_cases a
      · exact (Nat.zero_add x.val).symm
      · show 1 * 128 + y.val = 128 + y.val; omega
  · exact View.ld_unit_apply_of (Val := Elt Ideal) (e := .bf16) B _ _ _ (ix2 x y) _ fun a => by
      fin_cases a
      · exact (Nat.zero_add x.val).symm
      · show 2 * 128 + y.val = 256 + y.val; omega
  · exact View.ld_unit_apply_of (Val := Elt Ideal) (e := .bf16) B _ _ _ (ix2 x y) _ fun a => by
      fin_cases a
      · exact (Nat.zero_add x.val).symm
      · show 3 * 128 + y.val = 384 + y.val; omega

/-- An element of what one grid point writes, from its six blocks. -/
theorem written_at (X : FVec Ideal S512x2048 .f32) (G : FVec Ideal S1x2048 .f32) (Wq : FVec Ideal S2048x512 .bf16)
    (K V : FVec Ideal S256x512 .bf16) (Wo : FVec Ideal S512x2048 .bf16) (j) :
    k0_pay1 (F := Ideal) (k0_pay6 X G Wq K V Wo) (k0_pay3 X G Wq (View.ld K r0_3) (View.ld V r0_3))
        (k0_pay4 (k0_pay6 X G Wq K V Wo) (View.ld K r0_4) (View.ld V r0_4))
        (k0_pay5 (k0_pay6 X G Wq K V Wo) (View.ld K r0_5) (View.ld V r0_5)) (View.ld K r0_6) (View.ld V r0_6) X Wo j
      = X (ix2 (j 0) (j 1)) + ∑ l : Fin 512,
          attend (blockScores (k0_pay2 X G Wq) K (j 0) (headOf l)) (fun x => V (ix2 x l)) * Wo (ix2 l (j 1)) := by
  have hX : (show FVec Ideal S512x2048 .f32 from View.ld (Val := Elt Ideal) (e' := .f32) X r0_0) = X :=
    funext fun y => View.ld_unit_apply_of (Val := Elt Ideal) (e := .f32) X _ _ _ y y fun a => by
      fin_cases a <;> exact (Nat.zero_add _).symm
  have hG : (show FVec Ideal S1x2048 .f32 from View.ld (Val := Elt Ideal) (e' := .f32) G r0_1) = G :=
    funext fun y => View.ld_unit_apply_of (Val := Elt Ideal) (e := .f32) G _ _ _ y y fun a => by
      fin_cases a <;> exact (Nat.zero_add _).symm
  have hW : (show FVec Ideal S2048x512 .bf16 from View.ld (Val := Elt Ideal) (e' := .bf16) Wq r0_2) = Wq :=
    funext fun y => View.ld_unit_apply_of (Val := Elt Ideal) (e := .bf16) Wq _ _ _ y y fun a => by
      fin_cases a <;> exact (Nat.zero_add _).symm
  have hQ : k0_pay6 (F := Ideal) X G Wq K V Wo = k0_pay2 X G Wq :=
    congr (congrArg₂ (k0_pay2 (F := Ideal)) hX hG) hW
  rw [hQ]
  idx_vars j
  exact block_at X G Wq K V Wo (headCols K) (headCols V) (headCols_at K) (headCols_at V) _ _

end Cert.Mem

end
-- ==== Proof.MemArray.lean ====
module

public import proofs.«01_k».proof.Proof.Gen.Kernel5Ideal.Value
public import proofs.«01_k».proof.Proof.MemRef
public import proofs.«01_k».proof.Proof.MemBlock
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mem

open Cert.Kernel5Ideal Cert.Kernel5Ideal.Gen Cert.Reference5Ideal.Read

/-- One row of a block against the same row of the arrays: the element written is the reference's when each block's
    elements are the arrays'. -/
theorem row_eq (X : FVec Ideal S512x2048 .f32) (G : FVec Ideal S1x2048 .f32) (Wq : FVec Ideal S2048x512 .bf16)
    (K V : FVec Ideal S256x512 .bf16) (Wo : FVec Ideal S512x2048 .bf16)
    (X' : FVec Ideal S8192x2048 .f32) (G' : FVec Ideal S2048 .f32) (Wq' : FVec Ideal S2048x512 .f32)
    (K' V' : FVec Ideal S256x512 .f32) (Wo' : FVec Ideal S512x2048 .f32)
    (i : Fin 512) (j : Fin 2048) (i' : Fin 8192) (j' : Fin 2048) (hj : j'.val = j.val)
    (r0 : ∀ x, X (ix2 i x) = X' (ix2 i' x)) (r1 : ∀ x, G (ix2 0 x) = G' (ix1 x))
    (r2 : ∀ x l, Wq (ix2 x l) = Wq' (ix2 x l)) (r3 : ∀ x l, K (ix2 x l) = K' (ix2 x l))
    (r4 : ∀ x l, V (ix2 x l) = V' (ix2 x l)) (r5 : ∀ l, Wo (ix2 l j) = Wo' (ix2 l j')) :
    X (ix2 i j) + ∑ l : Fin 512,
        attend (blockScores (k0_pay2 (F := Ideal) X G Wq) K i (headOf l)) (fun x => V (ix2 x l)) * Wo (ix2 l j)
      = X' (ix2 i' j') + ∑ l : Fin 512,
        attend (scores X' G' Wq' K' i' (headOf l)) (fun x => V' (ix2 x l)) * Wo' (ix2 l j') := by
  obtain rfl : j' = j := Fin.ext hj
  simp only [blockScores, blockQuery_at, scores, query, hrow, r0, r1, r2, r3, r4, r5]

variable (m : (ℓ : Loc nD τ sig) → Buf (Elt Ideal) ℓ)

/-- Which block each window stages at grid point `t`: the rows' block is `t`, the rest are whole. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![t.val, 0] :=
  (by decide +kernel : ∀ t : Fin grid0.N, _)

/-- The query weight the call stages, at an index: the argument's element. -/
theorem wq_at (c : Dev nD) (k : Fin 2048) (l : Fin 512) :
    (show FVec Ideal S2048x512 .bf16 from V m c main_v0) (ix2 k l) = m ((c : Thread nD τ).loc main_arg2) (ix2 k l) := by
  have h : (show FVec Ideal S2048x512 .bf16 from V m c main_v0)
      = truncf .bf16 (m ((c : Thread nD τ).loc main_arg2)) bitsLt_bf16_f32 := by
    unfold V
    after_results_simp <;> rfl
  rw [h]
  pointwise

/-- The keys the call stages, at an index: the argument's element. -/
theorem key_at (c : Dev nD) (k : Fin 256) (l : Fin 512) :
    (show FVec Ideal S256x512 .bf16 from V m c main_v1) (ix2 k l) = m ((c : Thread nD τ).loc main_arg3) (ix2 k l) := by
  have h : (show FVec Ideal S256x512 .bf16 from V m c main_v1)
      = truncf .bf16 (m ((c : Thread nD τ).loc main_arg3)) bitsLt_bf16_f32 := by
    unfold V
    after_results_simp <;> rfl
  rw [h]
  pointwise

/-- The values the call stages, at an index: the argument's element. -/
theorem value_at (c : Dev nD) (k : Fin 256) (l : Fin 512) :
    (show FVec Ideal S256x512 .bf16 from V m c main_v2) (ix2 k l) = m ((c : Thread nD τ).loc main_arg4) (ix2 k l) := by
  have h : (show FVec Ideal S256x512 .bf16 from V m c main_v2)
      = truncf .bf16 (m ((c : Thread nD τ).loc main_arg4)) bitsLt_bf16_f32 := by
    unfold V
    after_results_simp <;> rfl
  rw [h]
  pointwise

/-- The output weight the call stages, at an index: the argument's element. -/
theorem wo_at (c : Dev nD) (k : Fin 512) (l : Fin 2048) :
    (show FVec Ideal S512x2048 .bf16 from V m c main_v3) (ix2 k l) = m ((c : Thread nD τ).loc main_arg5) (ix2 k l) := by
  have h : (show FVec Ideal S512x2048 .bf16 from V m c main_v3)
      = truncf .bf16 (m ((c : Thread nD τ).loc main_arg5)) bitsLt_bf16_f32 := by
    unfold V
    after_results_simp <;> rfl
  rw [h]
  pointwise

/-- The gain the call stages, at an index: the argument's element. -/
theorem gain_at (c : Dev nD) (k : Fin 2048) :
    (show FVec Ideal S1x2048 .f32 from V m c main_v4) (ix2 0 k) = m ((c : Thread nD τ).loc main_arg1) (ix1 k) := by
  have h : (show FVec Ideal S1x2048 .f32 from V m c main_v4)
      = shapeCast S1x2048 (m ((c : Thread nD τ).loc main_arg1)) rfl := by
    unfold V
    after_results_simp <;> rfl
  rw [h]
  pointwise

/-- The array after the run is the reference's result over the same arguments. -/
theorem array_eq (c : Dev nD) (hG : ∀ k, IsReal (m ((c : Thread nD τ).loc main_arg1) (ix1 k)))
    (hW : ∀ k l, IsReal (m ((c : Thread nD τ).loc main_arg2) (ix2 k l)))
    (hK : ∀ x l, IsReal (m ((c : Thread nD τ).loc main_arg3) (ix2 x l))) : (dats m 0 c).arrAt 6 cfg0.N
    = val_main_v37 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  frame_out
  obtain ⟨e0, e1, e2, e3, e4, e5, e6⟩ := idx t
  idx_bounds
  have h0 : ((((cfg0.win 6).blk t).view.emb y) 0).val = t.val * 512 + (y 0).val := by blk_simp [idx t]
  have h1 : ((((cfg0.win 6).blk t).view.emb y) 1).val = (y 1).val := by blk_simp [idx t]
  generalize ((cfg0.win 6).blk t).view.emb y = j at h0 h1 ⊢
  idx_vars j
  refine Eq.trans ?_ (result_at_real _ _ _ hG hW hK _ _).symm
  have r0 : ∀ x : Fin 2048, (show FVec Ideal S512x2048 .f32 from iblk m c 0 t) (ix2 (y 0) x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    refine Eq.trans ?_ (gain_at m c x)
    blk_ext [iblk, idx t]
  have r2 : ∀ (x : Fin 2048) (l : Fin 512), (show FVec Ideal S2048x512 .bf16 from iblk m c 2 t) (ix2 x l)
      = m ((c : Thread nD τ).loc main_arg2) (ix2 x l) := fun x l => by
    refine Eq.trans ?_ (wq_at m c _ _)
    blk_ext [iblk, idx t]
  have r3 : ∀ (x : Fin 256) (l : Fin 512), (show FVec Ideal S256x512 .bf16 from iblk m c 3 t) (ix2 x l)
      = m ((c : Thread nD τ).loc main_arg3) (ix2 x l) := fun x l => by
    refine Eq.trans ?_ (key_at m c _ _)
    blk_ext [iblk, idx t]
  have r4 : ∀ (x : Fin 256) (l : Fin 512), (show FVec Ideal S256x512 .bf16 from iblk m c 4 t) (ix2 x l)
      = m ((c : Thread nD τ).loc main_arg4) (ix2 x l) := fun x l => by
    refine Eq.trans ?_ (value_at m c _ _)
    blk_ext [iblk, idx t]
  have r5 : ∀ l : Fin 512, (show FVec Ideal S512x2048 .bf16 from iblk m c 5 t) (ix2 l (y 1))
      = m ((c : Thread nD τ).loc main_arg5) (ix2 l j1) := fun l => by
    refine Eq.trans ?_ (wo_at m c _ _)
    blk_ext [iblk, idx t]
  refine (written_at (iblk m c 0 t) (iblk m c 1 t) (iblk m c 2 t) (iblk m c 3 t) (iblk m c 4 t) (iblk m c 5 t) y).trans ?_
  exact row_eq (iblk m c 0 t) (iblk m c 1 t) (iblk m c 2 t) (iblk m c 3 t) (iblk m c 4 t) (iblk m c 5 t)
    _ _ _ _ _ _ (y 0) (y 1) j0 j1 h1 r0 r1 r2 r3 r4 r5

end Cert.Mem

end
-- ==== Proof.MemPre.lean ====
module

public import proofs.«01_k».proof.Defs
public import proofs.«01_k».proof.Proof.Gen.Pre_finite5
public import proofs.«01_k».proof.Proof.MemMath
public import Idealize.ShloMosaic.Lib.ReduceAll
public import Idealize.ShloMosaic.Lib.Pipeline.ValueKit

@[expose] public section

noncomputable section

open Idealize.ShloMosaic Idealize.ShloMosaic.TcCoe Idealize.SL.Sem

namespace Cert.Mem

/-- An extended real whose absolute value compares below infinity is real. -/
theorem real_of_lt {x : EReal} (h : Ideal.cmp .olt (max x (-x)) (Ideal.ofBits .f32 0x7F800000#32) = 1#1) : IsReal x := by
  rw [limit_top] at h
  have hlt : max x (-x) < ⊤ := by
    by_contra hn
    exact absurd h (by simp [Ideal.cmp, hn])
  refine IsReal.of_ne (fun e => ?_) fun e => ?_ <;> rw [e] at hlt <;> simp at hlt

open Cert.Pre_finite5 Cert.Pre_finite5.Facts

/-- The precondition says that the gain, the query weight and the keys are real, element by element. -/
theorem real_of_pre (x : FVec Ideal S8192x2048 .f32) (g : FVec Ideal S2048 .f32) (w : FVec Ideal S2048x512 .f32)
    (k v : FVec Ideal S256x512 .f32) (o : FVec Ideal S512x2048 .f32)
    (h : Cert.Pre_finite5.fn (F := Ideal) x g w k v o = fun _ => 1#1) :
    (∀ i, IsReal (g i)) ∧ (∀ i, IsReal (w i)) ∧ ∀ i, IsReal (k i) := by
  have h0 := congrFun h (fun a => a.elim0)
  obtain ⟨h1, hk⟩ := IntOp.andi_eq_one.1 h0
  obtain ⟨hg, hw⟩ := IntOp.andi_eq_one.1 h1
  haveI : Subsingleton S_.Idx := ⟨fun a b => funext fun i => i.elim0⟩
  exact ⟨fun i => real_of_lt (Host.reduce_andi_all _ _ _ _ _ hg i),
    fun i => real_of_lt (Host.reduce_andi_all _ _ _ _ _ hw i),
    fun i => real_of_lt (Host.reduce_andi_all _ _ _ _ _ hk i)⟩

end Cert.Mem

end
-- ==== Proof.MemClaim.lean ====
module

public import proofs.«01_k».proof.Defs
public import proofs.«01_k».proof.Proof.MemArray
public import proofs.«01_k».proof.Proof.MemPre

@[expose] public section

noncomputable section

open Idealize.ShloMosaic Idealize.ShloMosaic.TcCoe Idealize.SL.Sem

namespace Cert.Mem

/-- The memory attention's call returns the reference's array, from the same arguments, when the gain,
    the query weight and the keys are real. -/
theorem claim : Cert.algebraic_Kernel5Ideal_Reference5Ideal_pre_finite5 := by
  intro m g m' g' hpre hagree
  have real := fun c => real_of_pre _ _ _ _ _ _ (hpre c)
  refine ⟨fun c => Cert.Reference5Ideal.Read.val_main_v37 (F := Ideal)
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5)), ?_, ?_⟩
  · exact (θ_run Cert.Kernel5Ideal.defs _ _).mono
      (fun _ h c => ⟨(h c).1.trans (array_eq m c (fun k => (real c).1 _) (fun k l => (real c).2.1 _)
        fun x l => (real c).2.2 _), (h c).2⟩) (Cert.Kernel5Ideal.Value.run_blocks m g)
  · refine (θ_run Cert.Reference5Ideal.defs _ _).mono (fun _ h c => ⟨(h c).1.trans ?_, (h c).2⟩)
      (Cert.Reference5Ideal.Value.run m' g')
    obtain ⟨e0, e1, e2, e3, e4, e5⟩ := hagree c
    rw [Cert.Reference5Ideal.Read.val_main_v37_eq, e0, e1, e2, e3, e4, e5]

end Cert.Mem

end
-- ==== Proof.MemKv.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemKv

open Cert.Kernel6Ideal Cert.Kernel6Ideal.Gen Cert.Reference6Ideal.Read

variable (m : (ℓ : Loc nD τ sig) → Buf (Elt Ideal) ℓ)

/-- Which block each window stages at grid point `t`: the row block is `t / 2`, which is 0, the column block `t % 2`. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The normalised rows kept in scratch are, at every point, those of the point's own row block. -/
theorem scratch_rows (c : Dev nD) (t : Fin cfg0.N) (j) :
    (outsAt0 m c t.val t.isLt).2 j = k0_pay1 (F := Ideal) (iblk m c 0 t) (iblk m c 1 t) j := by
  rw [Pipeline.eq_of_write_hold_apply (fun n h => (outsAt0 m c n h).2) 2
    (fun t => k0_pay1 (F := Ideal) (iblk m c 0 t) (iblk m c 1 t))
    (fun t h j => by rw [outsAt0_A m c t h]; frame_out)
    (fun t h j => by rw [outsAt0_B m c t h]; rfl) t j]
  have e : iblk m c 0 ⟨2 * (t.val / 2), Pipeline.run_start_lt t⟩ = iblk m c 0 t := by
    funext x
    blk_ext [iblk, V, idx t, idx ⟨2 * (t.val / 2), Pipeline.run_start_lt t⟩]
  have e1 : iblk m c 1 ⟨2 * (t.val / 2), Pipeline.run_start_lt t⟩ = iblk m c 1 t := by
    funext x
    blk_ext [iblk, V, idx t, idx ⟨2 * (t.val / 2), Pipeline.run_start_lt t⟩]
  rw [e, e1]

/-- What a point leaves in its output block: the scratch rows times the point's columns of the weight. -/
theorem block (c : Dev nD) (t : Fin cfg0.N) (j) :
    (outsAt0 m c t.val t.isLt).1 j
      = k0_pay2 (F := Ideal) (k0_pay1 (F := Ideal) (iblk m c 0 t) (iblk m c 1 t)) (iblk m c 2 t) j := by
  rw [← funext (scratch_rows m c t)]
  by_cases h : t.val % 2 = 0
  · rw [outsAt0_A m c t h]; frame_out
  · rw [outsAt0_B m c t h]; frame_out
    rw [read_unread_whole]
    rfl

/-- The weight the call stages: the key weight and the value weight side by side. -/
def staged (A B : FVec Ideal S2048x512 .f32) : FVec Ideal S2048x1024 .bf16 :=
  truncf .bf16 (concatenate S2048x1024 1 [⟨S2048x512, A⟩, ⟨S2048x512, B⟩]
    concatenates_S2048x512_S2048x512_S2048x1024_d1 : FVec Ideal S2048x1024 .f32) bitsLt_bf16_f32

/-- The staged weight is what the host operations before the launch make of the arguments. -/
theorem weight_eq (c : Dev nD) : V m c main_v1
    = staged (m ((c : Thread nD τ).loc main_arg2)) (m ((c : Thread nD τ).loc main_arg3)) := by
  unfold V
  after_results_simp <;> rfl

/-- A column of the two weights side by side. -/
def wcol (A B : FVec Ideal S2048x512 .f32) (k : Fin 2048) (l : Fin 1024) : EReal :=
  if h : l.val < 512 then A (ix2 k ⟨l.val, h⟩) else B (ix2 k ⟨l.val - 512, by omega⟩)

/-- The staged weight at an index. -/
theorem staged_at (A B : FVec Ideal S2048x512 .f32) (k : Fin 2048) (l : Fin 1024) :
    staged A B (ix2 k l) = wcol A B k l := by
  pointwise [staged, wcol]

/-- Row `i` of the memory, normalised and scaled. -/
def hrow (X : FVec Ideal S1x256x2048 .f32) (G : FVec Ideal S2048 .f32) (i : Fin 256) (k : Fin 2048) : EReal :=
  X (ix3 0 i k) * Ideal.rsqrt (Ideal.div (∑ x, X (ix3 0 i x) * X (ix3 0 i x)) (Ideal.ofBits .f32 0x45000000#32)
    + Ideal.ofBits .f32 0x358637BD#32) * G (ix1 k)

/-- An element of the reference's keys. -/
theorem keys_at (X : FVec Ideal S1x256x2048 .f32) (G : FVec Ideal S2048 .f32) (W : FVec Ideal S2048x512 .f32)
    (i : Fin 256) (l : Fin 512) :
    val_main_v17 (F := Ideal) X G W (ix2 i l) = ∑ k : Fin 2048, hrow X G i k * W (ix2 k l) := by
  pointwise [val_main_v17, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, hrow]

/-- An element of the reference's values. -/
theorem values_at (X : FVec Ideal S1x256x2048 .f32) (G : FVec Ideal S2048 .f32) (W : FVec Ideal S2048x512 .f32)
    (i : Fin 256) (l : Fin 512) :
    val_main_v18 (F := Ideal) X G W (ix2 i l) = ∑ k : Fin 2048, hrow X G i k * W (ix2 k l) :=
  keys_at X G W i l

/-- An element of the reference's result: a normalised row of the memory times a column of the two weights. -/
theorem result_at (X : FVec Ideal S1x256x2048 .f32) (G : FVec Ideal S2048 .f32) (A B : FVec Ideal S2048x512 .f32)
    (i : Fin 256) (l : Fin 1024) :
    val_main_v19 (F := Ideal) X G A B (ix2 i l) = ∑ k : Fin 2048, hrow X G i k * wcol A B k l := by
  pointwise [val_main_v19]
  unfold wcol
  split
  · exact keys_at X G A i _
  · exact values_at X G B i _

/-- An element of a block: the block's normalised row times a column of the staged block. -/
theorem block_at (X : FVec Ideal S256x2048 .f32) (G : FVec Ideal S1x2048 .f32) (W : FVec Ideal S2048x512 .bf16) (j) :
    k0_pay2 (F := Ideal) (k0_pay1 (F := Ideal) X G) W j
      = ∑ k : Fin 2048, X (ix2 (j 0) k) * Ideal.rsqrt (Ideal.div (∑ x, X (ix2 (j 0) x) * X (ix2 (j 0) x))
          (Ideal.ofBits .f32 0x45000000#32) + Ideal.ofBits .f32 0x358637BD#32) * G (ix2 0 k) * W (ix2 k (j 1)) := by
  idx_vars j
  pointwise [k0_pay2, k0_pay1]

/-- Dropping the leading axis of one keeps every element. -/
theorem flat_at (A : FVec Ideal S1x256x2048 .f32) (i : Fin 256) (k : Fin 2048) :
    (shapeCast S256x2048 A shapeCasts_S1x256x2048_S256x2048 : FVec Ideal S256x2048 .f32) (ix2 i k) = A (ix3 0 i k) := by
  pointwise

/-- The memory's rows the call stages are the argument's, without the leading axis. -/
theorem rows_eq (c : Dev nD) : (show FVec Ideal S256x2048 .f32 from V m c main_v2)
    = shapeCast S256x2048 (m ((c : Thread nD τ).loc main_arg0)) shapeCasts_S1x256x2048_S256x2048 := by
  unfold V
  after_results_simp <;> rfl

/-- The memory's rows the call stages, at an index: the argument's element. -/
theorem rows_at (c : Dev nD) (i : Fin 256) (k : Fin 2048) :
    (show FVec Ideal S256x2048 .f32 from V m c main_v2) (ix2 i k) = m ((c : Thread nD τ).loc main_arg0) (ix3 0 i k) :=
  (congrFun (rows_eq m c) _).trans (flat_at _ i k)

/-- The gain the call stages, at an index: the argument's element. -/
theorem gain_at (c : Dev nD) (k : Fin 2048) :
    (show FVec Ideal S1x2048 .f32 from V m c main_v3) (ix2 0 k) = m ((c : Thread nD τ).loc main_arg1) (ix1 k) := by
  have h : (show FVec Ideal S1x2048 .f32 from V m c main_v3)
      = shapeCast S1x2048 (m ((c : Thread nD τ).loc main_arg1)) shapeCasts_S2048_S1x2048 := by
    unfold V
    after_results_simp <;> rfl
  rw [h]
  pointwise

/-- The array after the run is the reference's result over the same arguments. -/
theorem array_eq (c : Dev nD) : (dats m 0 c).arrAt 3 cfg0.N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t _ y => ?_
  blk_simp
  rw [after0_3, block, block_at]
  obtain ⟨e0, e1, e2, e3⟩ := idx t
  idx_bounds
  have h0 : ((((cfg0.win 3).blk t).view.emb y) 0).val = t.val / 2 * 256 + (y 0).val := by blk_simp [idx t]
  have h1 : ((((cfg0.win 3).blk t).view.emb y) 1).val = t.val % 2 * 512 + (y 1).val := by blk_simp [idx t]
  generalize ((cfg0.win 3).blk t).view.emb y = j at h0 h1 ⊢
  idx_vars j
  refine Eq.trans ?_ (result_at _ _ _ _ _ _).symm
  have r0 : ∀ x : Fin 2048, (show FVec Ideal S256x2048 .f32 from iblk m c 0 t) (ix2 (y 0) x)
      = m ((c : Thread nD τ).loc main_arg0) (ix3 0 j0 x) := fun x => by
    refine Eq.trans ?_ (rows_at m c _ _)
    blk_ext [iblk, idx t]
  have r1 : ∀ x : Fin 2048, (show FVec Ideal S1x2048 .f32 from iblk m c 1 t) (ix2 0 x)
      = m ((c : Thread nD τ).loc main_arg1) (ix1 x) := fun x => by
    refine Eq.trans ?_ (gain_at m c x)
    blk_ext [iblk, idx t]
  have r2 : ∀ x : Fin 2048, (show FVec Ideal S2048x512 .bf16 from iblk m c 2 t) (ix2 x (y 1))
      = wcol (m ((c : Thread nD τ).loc main_arg2)) (m ((c : Thread nD τ).loc main_arg3)) x j1 := fun x => by
    rw [← staged_at, ← weight_eq]
    blk_ext [iblk, idx t]
  simp only [r0, r1, r2]
  rfl

end Cert.MemKv

end
-- ==== Proof.MemKvClaim.lean ====
module

public import proofs.«01_k».proof.Defs
public import proofs.«01_k».proof.Proof.MemKv

@[expose] public section

noncomputable section

open Idealize.ShloMosaic Idealize.ShloMosaic.TcCoe Idealize.SL.Sem

namespace Cert.MemKv

/-- The call on the memory returns the reference's array, from the same arguments. -/
theorem claim : Cert.algebraic_Kernel6Ideal_Reference6Ideal := by
  intro m g m' g' _ hagree
  refine ⟨fun c => Cert.Reference6Ideal.Read.val_main_v19 (F := Ideal)
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3)), ?_, ?_⟩
  · exact (θ_run Cert.Kernel6Ideal.defs _ _).mono
      (fun _ h c => ⟨(h c).1.trans (array_eq m c), (h c).2⟩) (Cert.Kernel6Ideal.Value.run_blocks m g)
  · refine (θ_run Cert.Reference6Ideal.defs _ _).mono (fun _ h c => ⟨(h c).1.trans ?_, (h c).2⟩)
      (Cert.Reference6Ideal.Value.run m' g')
    obtain ⟨e0, e1, e2, e3⟩ := hagree c
    rw [Cert.Reference6Ideal.Read.val_main_v19_eq, e0, e1, e2, e3]

end Cert.MemKv

end
-- ==== Proof.FinalNorm.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FinalNorm

open Cert.Kernel7Ideal Cert.Kernel7Ideal.Gen Cert.Reference7Ideal.Read

variable (m : (ℓ : Loc nD τ sig) → Buf (Elt Ideal) ℓ)

/-- Which block each window stages at grid point `t`: row block `t` of the input and of the result, the whole gain. -/
theorem idx : ∀ t : Fin cfg0.N, win0_0.index t = ![t.val, 0] ∧ win0_1.index t = ![0, 0] ∧ win0_2.index t = ![t.val, 0] :=
  (by decide +kernel : ∀ t : Fin grid0.N, _)

/-- An element of the reference's result: the row's element over the row's root mean square, times the gain. -/
theorem result_at (X : FVec Ideal S8192x2048 .f32) (G : FVec Ideal S2048 .f32) (i : Fin 8192) (k : Fin 2048) :
    val_main_v12 (F := Ideal) X G (ix2 i k) = X (ix2 i k) * Ideal.rsqrt (Ideal.div (∑ x, X (ix2 i x) * X (ix2 i x))
      (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- An element of a block: the same of the block's row. -/
theorem block_at (X : FVec Ideal S256x2048 .f32) (G : FVec Ideal S1x2048 .f32) (i : Fin 256) (k : Fin 2048) :
    k0_pay1 (F := Ideal) X G (ix2 i k) = X (ix2 i k) * Ideal.rsqrt (Ideal.div (∑ x, X (ix2 i x) * X (ix2 i x))
      (Ideal.ofBits .f32 0x45000000#32) + Ideal.ofBits .f32 0x358637BD#32) * G (ix2 0 k) := by
  pointwise [k0_pay1]

/-- The gain the call stages, at an index: the argument's element. -/
theorem gain_at (c : Dev nD) (k : Fin 2048) :
    (show FVec Ideal S1x2048 .f32 from V m c main_v0) (ix2 0 k) = m ((c : Thread nD τ).loc main_arg1) (ix1 k) := by
  have h : (show FVec Ideal S1x2048 .f32 from V m c main_v0)
      = shapeCast S1x2048 (m ((c : Thread nD τ).loc main_arg1)) shapeCasts_S2048_S1x2048 := by
    unfold V
    after_results_simp <;> rfl
  rw [h]
  pointwise

/-- The array after the run is the reference's result over the same arguments. -/
theorem array_eq (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  idx_bounds
  have h0 : ((((cfg0.win 2).blk t).view.emb y) 0).val = t.val * 256 + (y 0).val := by blk_simp [idx t]
  have h1 : ((((cfg0.win 2).blk t).view.emb y) 1).val = (y 1).val := by blk_simp [idx t]
  generalize ((cfg0.win 2).blk t).view.emb y = j at h0 h1 ⊢
  idx_vars j
  idx_vars y
  refine Eq.trans (block_at _ _ _ _) (Eq.trans ?_ (result_at _ _ _ _).symm)
  have r0 : ∀ x : Fin 2048, (show FVec Ideal S256x2048 .f32 from iblk m c 0 t) (ix2 y0 x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    refine Eq.trans ?_ (gain_at m c x)
    blk_ext [iblk, idx t]
  have e : y1 = j1 := Fin.ext h1.symm
  subst e
  simp only [r0, r1]

end Cert.FinalNorm

end
-- ==== Proof.FinalNormClaim.lean ====
module

public import proofs.«01_k».proof.Defs
public import proofs.«01_k».proof.Proof.FinalNorm

@[expose] public section

noncomputable section

open Idealize.ShloMosaic Idealize.ShloMosaic.TcCoe Idealize.SL.Sem

namespace Cert.FinalNorm

/-- The final norm's call returns the reference's array, from the same arguments. -/
theorem claim : Cert.algebraic_Kernel7Ideal_Reference7Ideal := by
  intro m g m' g' _ hagree
  refine ⟨fun c => Cert.Reference7Ideal.Read.val_main_v12 (F := Ideal)
    (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run Cert.Kernel7Ideal.defs _ _).mono
      (fun _ h c => ⟨(h c).1.trans (array_eq m c), (h c).2⟩) (Cert.Kernel7Ideal.Value.run_blocks m g)
  · refine (θ_run Cert.Reference7Ideal.defs _ _).mono (fun _ h c => ⟨(h c).1.trans ?_, (h c).2⟩)
      (Cert.Reference7Ideal.Value.run m' g')
    obtain ⟨e0, e1⟩ := hagree c
    rw [Cert.Reference7Ideal.Read.val_main_v12_eq, e0, e1]

end Cert.FinalNorm

end
-- ==== Proof.StepProj.lean ====
module

public import proofs.«01_k».proof.Proof.InProj
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.StepProj

open Cert.Kernel8Ideal Cert.Kernel8Ideal.Gen Cert.Reference8Ideal.Read
open Cert.InProj (wcol wcol_eq wcol_zero staged staged_at dite_eq_both)

variable (m : (ℓ : Loc nD τ sig) → Buf (Elt Ideal) ℓ)

/-- Which block each window stages at grid point `t`: the row block is `t / 14`, which is 0, the column block `t % 14`. -/
theorem idx : ∀ t : Fin cfg0.N, win0_0.index t = ![t.val / 14, 0] ∧ win0_1.index t = ![0, 0]
    ∧ win0_2.index t = ![0, t.val % 14] ∧ win0_3.index t = ![t.val / 14, t.val % 14] :=
  (by decide +kernel : ∀ t : Fin grid0.N, _)

/-- The normalised rows kept in scratch are, at every point, those of the point's own row block. -/
theorem scratch_rows (c : Dev nD) (t : Fin cfg0.N) (j) :
    (outsAt0 m c t.val t.isLt).2 j = k0_pay1 (F := Ideal) (iblk m c 0 t) (iblk m c 1 t) j := by
  rw [Pipeline.eq_of_write_hold_apply (fun n h => (outsAt0 m c n h).2) 14
    (fun t => k0_pay1 (F := Ideal) (iblk m c 0 t) (iblk m c 1 t))
    (fun t h j => by rw [outsAt0_A m c t h]; frame_out)
    (fun t h j => by rw [outsAt0_B m c t h]; rfl) t j]
  have e : iblk m c 0 ⟨14 * (t.val / 14), Pipeline.run_start_lt t⟩ = iblk m c 0 t := by
    funext x
    blk_ext [iblk, V, idx t, idx ⟨14 * (t.val / 14), Pipeline.run_start_lt t⟩]
  have e1 : iblk m c 1 ⟨14 * (t.val / 14), Pipeline.run_start_lt t⟩ = iblk m c 1 t := by
    funext x
    blk_ext [iblk, V, idx t, idx ⟨14 * (t.val / 14), Pipeline.run_start_lt t⟩]
  rw [e, e1]

/-- What a point leaves in its output block: the scratch rows times the point's columns of the weight. -/
theorem block (c : Dev nD) (t : Fin cfg0.N) (j) :
    (outsAt0 m c t.val t.isLt).1 j
      = k0_pay2 (F := Ideal) (k0_pay1 (F := Ideal) (iblk m c 0 t) (iblk m c 1 t)) (iblk m c 2 t) j := by
  rw [← funext (scratch_rows m c t)]
  by_cases h : t.val % 14 = 0
  · rw [outsAt0_A m c t h]; frame_out
  · rw [outsAt0_B m c t h]; frame_out
    rw [read_unread_whole]
    rfl

set_option maxHeartbeats 1000000 in
/-- The staged weight is what the host operations before the launch make of the argument. -/
theorem weight_eq (c : Dev nD) : V m c main_v6 = staged (m ((c : Thread nD τ).loc main_arg2)) := by
  unfold V
  after_results_simp <;> (try dsimp only [Matrix.cons_val]) <;> (try after_results_simp) <;> rfl

/-- Row `i` of the normalised input. -/
def hrow (X : FVec Ideal S32x2048 .f32) (G : FVec Ideal S2048 .f32) (i : Fin 32) (k : Fin 2048) : EReal :=
  X (ix2 i k) * Ideal.rsqrt (Ideal.div (∑ x, X (ix2 i x) * X (ix2 i x)) (Ideal.ofBits .f32 1157627904#32)
    + Ideal.ofBits .f32 897988541#32) * G (ix1 k)

/-- An element of the reference's product: a normalised row times a column of the projection. -/
theorem product_at (X : FVec Ideal S32x2048 .f32) (G : FVec Ideal S2048 .f32) (W : FVec Ideal S2048x6736 .f32)
    (i : Fin 32) (l : Fin 6736) :
    val_main_v13 (F := Ideal) X G W (ix2 i l) = ∑ k : Fin 2048, hrow X G i k * W (ix2 k l) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- An element of the reference's result: a normalised row times a column of the staged weight. -/
theorem result_at (X : FVec Ideal S32x2048 .f32) (G : FVec Ideal S2048 .f32) (W : FVec Ideal S2048x6736 .f32)
    (i : Fin 32) (l : Fin 7168) :
    val_main_v27 (F := Ideal) X G W (ix2 i l) = ∑ k : Fin 2048, hrow X G i k * wcol W k l := by
  pointwise [val_main_v27, val_main_v26, val_main_v25, val_main_v24, val_main_v23, val_main_v22, val_main_v21,
    val_main_v20, val_main_v19, val_main_v18, val_main_v17, val_main_v16, val_main_v15, val_main_v14, val_main_cst_2]
  have hl : ∀ q : Fin 6736, (q.val = if l.val < 5632 then l.val else if l.val < 6656 then l.val + 80
      else if l.val < 6720 then l.val - 1008 else if l.val < 6736 then l.val - 1088 else 6736) →
      val_main_v13 (F := Ideal) X G W (ix2 i q) = ∑ k : Fin 2048, hrow X G i k * wcol W k l := fun q h => by
    rw [product_at]
    exact Finset.sum_congr rfl fun k _ => by rw [wcol_eq W k l q h]
  have hz : 6736 ≤ l.val → (0 : EReal) = ∑ k : Fin 2048, hrow X G i k * wcol W k l := fun h =>
    (Finset.sum_eq_zero fun k _ => by rw [wcol_zero W k l h, mul_zero]).symm
  generalize ∑ k : Fin 2048, hrow X G i k * wcol W k l = r at hl hz ⊢
  repeat' refine dite_eq_both (fun h => ?_) (fun h => ?_)
  all_goals first
    | exact hz (by omega)
    | (refine hl _ ?_; dsimp only; split_ifs <;> omega)

/-- An element of a block: the block's normalised row times a column of the staged block. -/
theorem block_at (X : FVec Ideal S32x2048 .f32) (G : FVec Ideal S1x2048 .f32) (W : FVec Ideal S2048x512 .bf16) (j) :
    k0_pay2 (F := Ideal) (k0_pay1 (F := Ideal) X G) W j
      = ∑ k : Fin 2048, X (ix2 (j 0) k) * Ideal.rsqrt (Ideal.div (∑ x, X (ix2 (j 0) x) * X (ix2 (j 0) x))
          (Ideal.ofBits .f32 0x45000000#32) + Ideal.ofBits .f32 0x358637BD#32) * G (ix2 0 k) * W (ix2 k (j 1)) := by
  idx_vars j
  pointwise [k0_pay2, k0_pay1]

/-- The gain the call stages, at an index: the argument's element. -/
theorem gain_at (c : Dev nD) (k : Fin 2048) :
    (show FVec Ideal S1x2048 .f32 from V m c main_v7) (ix2 0 k) = m ((c : Thread nD τ).loc main_arg1) (ix1 k) := by
  have h : (show FVec Ideal S1x2048 .f32 from V m c main_v7)
      = shapeCast S1x2048 (m ((c : Thread nD τ).loc main_arg1)) shapeCasts_S2048_S1x2048 := by
    unfold V
    after_results_simp <;> rfl
  rw [h]
  pointwise

/-- The array after the run is the reference's result over the same arguments. -/
theorem array_eq (c : Dev nD) : (dats m 0 c).arrAt 3 cfg0.N
    = val_main_v27 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, block, block_at]
  obtain ⟨e0, e1, e2, e3⟩ := idx t
  idx_bounds
  have h0 : ((((cfg0.win 3).blk t).view.emb y) 0).val = t.val / 14 * 32 + (y 0).val := by blk_simp [idx t]
  have h1 : ((((cfg0.win 3).blk t).view.emb y) 1).val = t.val % 14 * 512 + (y 1).val := by blk_simp [idx t]
  generalize ((cfg0.win 3).blk t).view.emb y = j at h0 h1 ⊢
  idx_vars j
  refine Eq.trans ?_ (result_at _ _ _ _ _).symm
  have r0 : ∀ x : Fin 2048, (show FVec Ideal S32x2048 .f32 from iblk m c 0 t) (ix2 (y 0) x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    blk_simp [iblk, idx t]
    entry_read
    pointwise
    blk_ext [idx t]
  have r2 : ∀ x : Fin 2048, (show FVec Ideal S2048x512 .bf16 from iblk m c 2 t) (ix2 x (y 1))
      = wcol (m ((c : Thread nD τ).loc main_arg2)) x j1 := fun x => by
    rw [← staged_at, ← weight_eq]
    blk_ext [iblk, idx t]
  simp only [r0, r1, r2]
  rfl

end Cert.StepProj

end
-- ==== Proof.StepProjClaim.lean ====
module

public import proofs.«01_k».proof.Defs
public import proofs.«01_k».proof.Proof.StepProj

@[expose] public section

noncomputable section

open Idealize.ShloMosaic Idealize.ShloMosaic.TcCoe Idealize.SL.Sem

namespace Cert.StepProj

/-- The sample group's input projection returns the reference's array, from the same arguments. -/
theorem claim : Cert.algebraic_Kernel8Ideal_Reference8Ideal := by
  intro m g m' g' _ hagree
  refine ⟨fun c => Cert.Reference8Ideal.Read.val_main_v27 (F := Ideal)
    (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2)), ?_, ?_⟩
  · exact (θ_run Cert.Kernel8Ideal.defs _ _).mono
      (fun _ h c => ⟨(h c).1.trans (array_eq m c), (h c).2⟩) (Cert.Kernel8Ideal.Value.run_blocks m g)
  · refine (θ_run Cert.Reference8Ideal.defs _ _).mono (fun _ h c => ⟨(h c).1.trans ?_, (h c).2⟩)
      (Cert.Reference8Ideal.Value.run m' g')
    obtain ⟨e0, e1, e2⟩ := hagree c
    rw [Cert.Reference8Ideal.Read.val_main_v27_eq, e0, e1, e2]

end Cert.StepProj

end
-- ==== Proof.StepSpec.lean ====
module

public import proofs.«01_k».proof.Proof.MixConst
public import proofs.«01_k».proof.Proof.Gen.Kernel9Ideal.Value
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.StepMix

open Cert.Kernel9Ideal Cert.Kernel9Ideal.Gen
open Cert.Mix (col wide headOf inHead groupOf inGroup retY gelu vnorm)

/-- An element of a rotated row: each half of the row is mixed with the other by the cosine and the sine of its frequency. -/
def rot (x : Fin 128 → EReal) (cs sn : Fin 64 → EReal) (d : Fin 128) : EReal :=
  if h : d.val < 64 then x d * cs ⟨d.val, h⟩ - x ⟨64 + d.val, by omega⟩ * sn ⟨d.val, h⟩
  else x ⟨d.val - 64, by omega⟩ * sn ⟨d.val - 64, by omega⟩ + x ⟨64 + (d.val - 64), by omega⟩ * cs ⟨d.val - 64, by omega⟩

/-- An element of one head's retention output of one token: the query against its own key, and against the state before. -/
def stepO (q k : Fin 128 → EReal) (v : Fin 256 → EReal) (s : Fin 128 → Fin 256 → EReal) (g : EReal) (e : Fin 256) : EReal :=
  (∑ d : Fin 128, q d * k d) * v e + (∑ d : Fin 128, q d * s d e) * g

/-- An element of one head's state after the token. -/
def stepS (k : Fin 128 → EReal) (v : Fin 256 → EReal) (s : Fin 128 → Fin 256 → EReal) (g : EReal) (d : Fin 128)
    (e : Fin 256) : EReal :=
  g * s d e + k d * v e

/-- The two depend on the values of their operands only. -/
theorem rot_congr {x x' : Fin 128 → EReal} {cs cs' sn sn' : Fin 64 → EReal} (hx : ∀ d, x d = x' d) (hc : ∀ d, cs d = cs' d)
    (hs : ∀ d, sn d = sn' d) (d : Fin 128) : rot x cs sn d = rot x' cs' sn' d := by
  rw [funext hx, funext hc, funext hs]

theorem stepO_congr {q q' k k' : Fin 128 → EReal} {v v' : Fin 256 → EReal} {s s' : Fin 128 → Fin 256 → EReal} {g g' : EReal}
    (hq : ∀ d, q d = q' d) (hk : ∀ d, k d = k' d) (hv : ∀ e, v e = v' e) (hs : ∀ d e, s d e = s' d e) (hg : g = g')
    (e : Fin 256) : stepO q k v s g e = stepO q' k' v' s' g' e := by
  rw [funext hq, funext hk, funext hv, funext fun d => funext (hs d), hg]

/-- Head `h`'s rotated query, and its rotated and scaled key, of a block. -/
def blkQ (x : FVec Ideal S1x4x128x1 .f32) (cs sn : FVec Ideal S64x1 .f32) (h : Fin 4) (d : Fin 128) : EReal :=
  rot (fun d => x (ix4 0 h d 0)) (fun d => cs (ix2 d 0)) (fun d => sn (ix2 d 0)) d
def blkK (x : FVec Ideal S1x4x128x1 .f32) (cs sn : FVec Ideal S64x1 .f32) (h : Fin 4) (d : Fin 128) : EReal :=
  blkQ x cs sn h d * Ideal.ofBits .f32 0x3DB504F3#32

variable (x0 x1 : FVec Ideal S1x4x128x1 .f32) (x2 x3 : FVec Ideal S1x1x1024 .f32) (x4 x5 : FVec Ideal S1x1x512 .f32)
  (x6 : FVec Ideal S1x4x128x256 .f32) (x7 x8 : FVec Ideal S64x1 .f32) (x9 : FVec Ideal S4x1x256 .f32)
  (x10 : FVec Ideal S1x1024 .f32) (x11 x12 x13 : FVec Ideal S1x512 .f32)

/-- The state block of a point. -/
theorem state_at (y : S1x4x128x256.Idx) :
    out0_16 (F := Ideal) x0 x1 x2 x3 x4 x5 x6 x7 x8 x9 x10 x11 x12 x13 y
      = x9 (ix3 (y 1) 0 (y 3)) * x6 (ix4 0 (y 1) (y 2) (y 3)) + blkK x1 x7 x8 (y 1) (y 2) * x2 (ix3 0 0 (wide (y 1) (y 3))) := by
  unfold_out out0_16
  canon_tiles x h
  all_goals
    open_payloads
    pointwise [blkK, blkQ, rot, wide]
    blk_point [] <;> (exfalso; omega)

/-- The retention block of a point. -/
theorem out_at (y : S1x1x1024.Idx) :
    out0_14 (F := Ideal) x0 x1 x2 x3 x4 x5 x6 x7 x8 x9 x10 x11 x12 x13 y
      = retY (fun e => stepO (blkQ x0 x7 x8 (headOf (y 2))) (blkK x1 x7 x8 (headOf (y 2)))
          (fun e => x2 (ix3 0 0 (wide (headOf (y 2)) e))) (fun d e => x6 (ix4 0 (headOf (y 2)) d e))
          (x9 (ix3 (headOf (y 2)) 0 e)) e)
          (fun e => x10 (ix2 0 (wide (headOf (y 2)) e))) (fun e => x3 (ix3 0 0 (wide (headOf (y 2)) e))) (inHead (y 2)) := by
  unfold_out out0_14
  canon_tiles x h
  all_goals
    open_payloads
    pointwise [retY, stepO, blkK, blkQ, rot, wide, headOf, inHead]
    blk_point []

/-- The gMLP block of a point, and the normalised gate half that it keeps. -/
theorem gmlp_at (y : S1x1x512.Idx) :
    out0_15 (F := Ideal) x0 x1 x2 x3 x4 x5 x6 x7 x8 x9 x10 x11 x12 x13 y
      = gelu (x4 (ix3 0 0 (y 2))) * (x12 (ix2 0 (y 2)) * vnorm (fun l => x5 (ix3 0 0 l)) (fun l => x11 (ix2 0 l)) (y 2) + x13 (ix2 0 (y 2))) := by
  unfold_out out0_15
  canon_tiles x h
  all_goals
    open_payloads
    pointwise [gelu, vnorm]
    blk_point []
theorem gate_at (y : S1x1x512.Idx) :
    out0_17 (F := Ideal) x0 x1 x2 x3 x4 x5 x6 x7 x8 x9 x10 x11 x12 x13 y
      = vnorm (fun l => x5 (ix3 0 0 l)) (fun l => x11 (ix2 0 l)) (y 2) := by
  unfold_out out0_17
  canon_tiles x h
  all_goals
    open_payloads
    pointwise [gelu, vnorm]
    blk_point []

end Cert.StepMix

end
-- ==== Proof.StepHost.lean ====
module

public import proofs.«01_k».proof.Proof.StepSpec
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.StepMix

open Cert.Kernel9Ideal Cert.Kernel9Ideal.Gen Cert.Kernel9Ideal.Value
open Cert.Mix (col wide headOf inHead groupOf inGroup num logg retY gelu vnorm)

variable (m : (ℓ : Loc nD τ sig) → Buf (Elt Ideal) ℓ)

/-- The new token's angle, for one frequency: its position is 8192. -/
def ang (d : Fin 64) : EReal :=
  Ideal.ofBits .f32 0x46000000#32
    * Ideal.pow (Ideal.ofBits .f32 0x461C4000#32) (Ideal.div (-(num d.val)) (Ideal.ofBits .f32 0x42800000#32))

/-- The decay over one token. -/
def decay (h : Fin 4) : EReal := Ideal.exp (logg h * 1)

/-- Head `h`'s rotated query and rotated, scaled key of token `b`. -/
def qryS (X : FVec Ideal S32x7168 .f32) (b : Fin 32) (h : Fin 4) (d : Fin 128) : EReal :=
  rot (fun d => X (ix2 b ⟨(col h d).val, by omega⟩)) (fun d => Ideal.cos (ang d)) (fun d => Ideal.sin (ang d)) d
def keyS (X : FVec Ideal S32x7168 .f32) (b : Fin 32) (h : Fin 4) (d : Fin 128) : EReal :=
  rot (fun d => X (ix2 b ⟨512 + (col h d).val, by omega⟩)) (fun d => Ideal.cos (ang d)) (fun d => Ideal.sin (ang d)) d
    * Ideal.ofBits .f32 0x3DB504F3#32

/-- Head `h`'s value of token `b`. -/
def valS (X : FVec Ideal S32x7168 .f32) (b : Fin 32) (h : Fin 4) (e : Fin 256) : EReal :=
  X (ix2 b ⟨1024 + (wide h e).val, by omega⟩)

/-- Head `h`'s retention output of token `b`, over the state before it. -/
def outS (X : FVec Ideal S32x7168 .f32) (S : FVec Ideal S32x4x128x256 .f32) (b : Fin 32) (h : Fin 4) (e : Fin 256) : EReal :=
  stepO (qryS X b h) (keyS X b h) (valS X b h) (fun d e => S (ix4 b h d e)) (decay h) e

/-- The four results: the retention output, the gMLP output, the state after the token, the normalised gate half. -/
def specA (X : FVec Ideal S32x7168 .f32) (S : FVec Ideal S32x4x128x256 .f32) (G : FVec Ideal S4x256 .f32)
    (i : S32x1x1024.Idx) : EReal :=
  retY (outS X S (i 0) (headOf (i 2))) (fun e => G (ix2 (headOf (i 2)) e))
    (fun e => X (ix2 (i 0) ⟨2048 + (wide (headOf (i 2)) e).val, by omega⟩)) (inHead (i 2))
def specS (X : FVec Ideal S32x7168 .f32) (S : FVec Ideal S32x4x128x256 .f32) (i : S32x4x128x256.Idx) : EReal :=
  decay (i 1) * S (ix4 (i 0) (i 1) (i 2) (i 3)) + keyS X (i 0) (i 1) (i 2) * valS X (i 0) (i 1) (i 3)
def specV (X : FVec Ideal S32x7168 .f32) (G : FVec Ideal S512 .f32) (i : S32x1x512.Idx) : EReal :=
  vnorm (fun l => X (ix2 (i 0) ⟨6144 + l.val, by omega⟩)) (fun l => G (ix1 l)) (i 2)
def specC (X : FVec Ideal S32x7168 .f32) (G : FVec Ideal S512 .f32) (W : FVec Ideal S4x128x128 .f32)
    (B : FVec Ideal S4x128 .f32) (i : S32x1x512.Idx) : EReal :=
  gelu (X (ix2 (i 0) ⟨5632 + (i 2).val, by have h : (i 2).val < 512 := (i 2).isLt; omega⟩))
    * (W (ix3 (groupOf (i 2)) 0 0) * specV X G i + B (ix2 (groupOf (i 2)) 0))

/-- The cosines, as the call is given them. -/
theorem cos_at (c : Dev nD) (d : Fin 64) :
    (show FVec Ideal S64x1 .f32 from V m c main_v74) (ix2 d 0)
      = Ideal.cos (ang d) := by
  simp only [V, List.flatten_cons, List.flatten_nil, List.append_nil, StableHlo.after_append]
  after_reads_simp
  pointwise [ang, num]

/-- The sines, as the call is given them. -/
theorem sin_at (c : Dev nD) (d : Fin 64) :
    (show FVec Ideal S64x1 .f32 from V m c main_v76) (ix2 d 0)
      = Ideal.sin (ang d) := by
  simp only [V, List.flatten_cons, List.flatten_nil, List.append_nil, StableHlo.after_append]
  after_reads_simp
  pointwise [ang, num]

/-- The decays, as the call is given them. -/
theorem decay_at (c : Dev nD) (h : Fin 4) (e : Fin 256) :
    (show FVec Ideal S4x1x256 .f32 from V m c main_v81) (ix3 h 0 e)
      = decay h := by
  simp only [V, List.flatten_cons, List.flatten_nil, List.append_nil, StableHlo.after_append]
  after_reads_simp
  pointwise [decay, logg, num]

/-- The mixing weights, as the call is given them. -/
theorem weight_at (c : Dev nD) (l : Fin 512) :
    (show FVec Ideal S1x512 .f32 from V m c main_v86) (ix2 0 l)
      = (show FVec Ideal S4x128x128 .f32 from m ((c : Thread nD τ).loc main_arg4)) (ix3 (groupOf l) 0 0) := by
  simp only [V, List.flatten_cons, List.flatten_nil, List.append_nil, StableHlo.after_append]
  after_reads_simp
  pointwise [groupOf]

/-- The mixing biases, as the call is given them. -/
theorem bias_at (c : Dev nD) (l : Fin 512) :
    (show FVec Ideal S1x512 .f32 from V m c main_v91) (ix2 0 l)
      = (show FVec Ideal S4x128 .f32 from m ((c : Thread nD τ).loc main_arg5)) (ix2 (groupOf l) 0) := by
  simp only [V, List.flatten_cons, List.flatten_nil, List.append_nil, StableHlo.after_append]
  after_reads_simp
  pointwise [groupOf]

/-- The head gains, as the call is given them. -/
theorem retg_at (c : Dev nD) (l : Fin 1024) :
    (show FVec Ideal S1x1024 .f32 from V m c main_v92) (ix2 0 l)
      = (show FVec Ideal S4x256 .f32 from m ((c : Thread nD τ).loc main_arg2)) (ix2 (headOf l) (inHead l)) := by
  simp only [V, List.flatten_cons, List.flatten_nil, List.append_nil, StableHlo.after_append]
  after_reads_simp
  pointwise [headOf, inHead]

/-- The gate gain, as the call is given it. -/
theorem gmg_at (c : Dev nD) (l : Fin 512) :
    (show FVec Ideal S1x512 .f32 from V m c main_v93) (ix2 0 l)
      = (show FVec Ideal S512 .f32 from m ((c : Thread nD τ).loc main_arg3)) (ix1 l) := by
  simp only [V, List.flatten_cons, List.flatten_nil, List.append_nil, StableHlo.after_append]
  after_reads_simp
  pointwise []

/-- The queries' columns, as the call is given them. -/
theorem query_at (c : Dev nD) (b : Fin 32) (h : Fin 4) (d : Fin 128) :
    (show FVec Ideal S32x4x128x1 .f32 from V m c main_v95) (ix4 b h d 0)
      = (show FVec Ideal S32x7168 .f32 from m ((c : Thread nD τ).loc main_arg0)) (ix2 b ⟨(col h d).val, by omega⟩) := by
  simp only [V, List.flatten_cons, List.flatten_nil, List.append_nil, StableHlo.after_append]
  after_reads_simp
  pointwise [col]
  simp only [Nat.mul_comm h.val 128]

/-- The keys' columns, as the call is given them. -/
theorem key_at (c : Dev nD) (b : Fin 32) (h : Fin 4) (d : Fin 128) :
    (show FVec Ideal S32x4x128x1 .f32 from V m c main_v97) (ix4 b h d 0)
      = (show FVec Ideal S32x7168 .f32 from m ((c : Thread nD τ).loc main_arg0)) (ix2 b ⟨512 + (col h d).val, by omega⟩) := by
  simp only [V, List.flatten_cons, List.flatten_nil, List.append_nil, StableHlo.after_append]
  after_reads_simp
  pointwise [col]
  simp only [Nat.mul_comm h.val 128]

/-- The projected rows, as the call is given them. -/
theorem rows_at (c : Dev nD) (b : Fin 32) (l : Fin 7168) :
    (show FVec Ideal S32x1x7168 .f32 from V m c main_v98) (ix3 b 0 l)
      = (show FVec Ideal S32x7168 .f32 from m ((c : Thread nD τ).loc main_arg0)) (ix2 b l) := by
  simp only [V, List.flatten_cons, List.flatten_nil, List.append_nil, StableHlo.after_append]
  after_reads_simp
  pointwise []

end Cert.StepMix

end
-- ==== Proof.StepArray.lean ====
module

public import proofs.«01_k».proof.Proof.StepHost

@[expose] public section

set_option maxRecDepth 16384

noncomputable section

open Idealize.ShloMosaic Idealize.ShloMosaic.TcCoe Idealize.SL.Sem
open Idealize.ShloMosaic.Pipeline (Dat)

namespace Cert.StepMix

open Cert.Kernel9Ideal Cert.Kernel9Ideal.Gen Cert.Kernel9Ideal.Value
open Cert.Mix (col wide headOf inHead groupOf inGroup retY gelu vnorm retY_congr vnorm_congr)

variable (m : (ℓ : Loc nD τ sig) → Buf (Elt Ideal) ℓ)

/-- Which block each window stages at grid point `t`: the token's own rows, and the whole of every shared operand. -/
theorem idx : ∀ t : Fin cfg0.N, win0_0.index t = ![t.val, 0, 0, 0] ∧ win0_1.index t = ![t.val, 0, 0, 0]
    ∧ win0_2.index t = ![t.val, 0, 1] ∧ win0_3.index t = ![t.val, 0, 2] ∧ win0_4.index t = ![t.val, 0, 11]
    ∧ win0_5.index t = ![t.val, 0, 12] ∧ win0_6.index t = ![t.val, 0, 0, 0] ∧ win0_7.index t = ![0, 0]
    ∧ win0_8.index t = ![0, 0] ∧ win0_9.index t = ![0, 0, 0] ∧ win0_10.index t = ![0, 0] ∧ win0_11.index t = ![0, 0]
    ∧ win0_12.index t = ![0, 0] ∧ win0_13.index t = ![0, 0] ∧ win0_14.index t = ![t.val, 0, 0]
    ∧ win0_15.index t = ![t.val, 0, 0] ∧ win0_16.index t = ![t.val, 0, 0, 0] ∧ win0_17.index t = ![t.val, 0, 0] :=
  (by decide +kernel : ∀ t : Fin grid0.N, _)

variable (c : Dev nD) (t : Fin cfg0.N)

/-- The token of a grid point. -/
def tok : Fin 32 := ⟨t.val, t.isLt⟩

/-- An index with the given coordinates. -/
theorem eq_state (j : S32x4x128x256.Idx) (b : Fin 32) (h : Fin 4) (d : Fin 128) (e : Fin 256) (h0 : (j 0).val = b.val)
    (h1 : (j 1).val = h.val) (h2 : (j 2).val = d.val) (h3 : (j 3).val = e.val) : j = ix4 b h d e := by
  rw [eq_ix4 j, show j 0 = b from Fin.ext h0, show j 1 = h from Fin.ext h1, show j 2 = d from Fin.ext h2,
    show j 3 = e from Fin.ext h3]
theorem eq_col (j : S32x4x128x1.Idx) (b : Fin 32) (h : Fin 4) (d : Fin 128) (h0 : (j 0).val = b.val)
    (h1 : (j 1).val = h.val) (h2 : (j 2).val = d.val) : j = ix4 b h d 0 := by
  rw [eq_ix4 j, show j 0 = b from Fin.ext h0, show j 1 = h from Fin.ext h1, show j 2 = d from Fin.ext h2,
    show j 3 = (0 : Fin 1) from Fin.ext (by have h3 : (j 3).val < 1 := (j 3).isLt; show (j 3).val = 0; omega)]

theorem eq_row (j : S32x1x512.Idx) (b : Fin 32) (l : Fin 512) (h0 : (j 0).val = b.val) (h2 : (j 2).val = l.val) :
    j = ix3 b 0 l := by
  rw [eq_ix3 j, show j 0 = b from Fin.ext h0, show j 2 = l from Fin.ext h2,
    show j 1 = (0 : Fin 1) from Fin.ext (by have h1 : (j 1).val < 1 := (j 1).isLt; show (j 1).val = 0; omega)]
theorem eq_wide (j : S32x1x1024.Idx) (b : Fin 32) (l : Fin 1024) (h0 : (j 0).val = b.val) (h2 : (j 2).val = l.val) :
    j = ix3 b 0 l := by
  rw [eq_ix3 j, show j 0 = b from Fin.ext h0, show j 2 = l from Fin.ext h2,
    show j 1 = (0 : Fin 1) from Fin.ext (by have h1 : (j 1).val < 1 := (j 1).isLt; show (j 1).val = 0; omega)]

/-- What each input block holds at the point, from the arguments. -/
theorem blk0 (h : Fin 4) (d : Fin 128) : (show FVec Ideal S1x4x128x1 .f32 from iblk m c 0 t) (ix4 0 h d 0)
      = (show FVec Ideal S32x7168 .f32 from m ((c : Thread nD τ).loc main_arg0)) (ix2 (tok t) ⟨(col h d).val, by omega⟩) := by
  refine Eq.trans ?_ (query_at m c (tok t) h d)
  blk_simp [iblk, idx t]
  refine congrArg (V m c main_v95) (eq_col _ _ _ _ ?_ ?_ ?_) <;> (blk_simp [idx t, tok]; try rfl)
theorem blk1 (h : Fin 4) (d : Fin 128) : (show FVec Ideal S1x4x128x1 .f32 from iblk m c 1 t) (ix4 0 h d 0)
      = (show FVec Ideal S32x7168 .f32 from m ((c : Thread nD τ).loc main_arg0)) (ix2 (tok t) ⟨512 + (col h d).val, by omega⟩) := by
  refine Eq.trans ?_ (key_at m c (tok t) h d)
  blk_simp [iblk, idx t]
  refine congrArg (V m c main_v97) (eq_col _ _ _ _ ?_ ?_ ?_) <;> (blk_simp [idx t, tok]; try rfl)
theorem blk2 (l : Fin 1024) : (show FVec Ideal S1x1x1024 .f32 from iblk m c 2 t) (ix3 0 0 l)
      = (show FVec Ideal S32x7168 .f32 from m ((c : Thread nD τ).loc main_arg0)) (ix2 (tok t) ⟨1024 + l.val, by omega⟩) := by
  refine Eq.trans ?_ (rows_at m c (tok t) _)
  blk_ext [iblk, idx t, tok]
theorem blk3 (l : Fin 1024) : (show FVec Ideal S1x1x1024 .f32 from iblk m c 3 t) (ix3 0 0 l)
      = (show FVec Ideal S32x7168 .f32 from m ((c : Thread nD τ).loc main_arg0)) (ix2 (tok t) ⟨2048 + l.val, by omega⟩) := by
  refine Eq.trans ?_ (rows_at m c (tok t) _)
  blk_ext [iblk, idx t, tok]
theorem blk4 (l : Fin 512) : (show FVec Ideal S1x1x512 .f32 from iblk m c 4 t) (ix3 0 0 l)
      = (show FVec Ideal S32x7168 .f32 from m ((c : Thread nD τ).loc main_arg0)) (ix2 (tok t) ⟨5632 + l.val, by omega⟩) := by
  refine Eq.trans ?_ (rows_at m c (tok t) _)
  blk_ext [iblk, idx t, tok]
theorem blk5 (l : Fin 512) : (show FVec Ideal S1x1x512 .f32 from iblk m c 5 t) (ix3 0 0 l)
      = (show FVec Ideal S32x7168 .f32 from m ((c : Thread nD τ).loc main_arg0)) (ix2 (tok t) ⟨6144 + l.val, by omega⟩) := by
  refine Eq.trans ?_ (rows_at m c (tok t) _)
  blk_ext [iblk, idx t, tok]
set_option maxHeartbeats 2000000 in
theorem blk6 (h : Fin 4) (d : Fin 128) (e : Fin 256) : (show FVec Ideal S1x4x128x256 .f32 from iblk m c 6 t) (ix4 0 h d e)
      = (show FVec Ideal S32x4x128x256 .f32 from m ((c : Thread nD τ).loc main_arg1)) (ix4 (tok t) h d e) := by
  blk_simp [iblk, V, idx t]
  entry_read
  refine congrArg (m ((c : Thread nD τ).loc main_arg1)) (eq_state _ _ _ _ _ ?_ ?_ ?_ ?_) <;> (blk_simp [idx t, tok]; try rfl)
theorem blk7 (d : Fin 64) : (show FVec Ideal S64x1 .f32 from iblk m c 7 t) (ix2 d 0)
      = Ideal.cos (ang d) := by
  refine Eq.trans ?_ (cos_at m c d)
  blk_ext [iblk, idx t, tok]
theorem blk8 (d : Fin 64) : (show FVec Ideal S64x1 .f32 from iblk m c 8 t) (ix2 d 0)
      = Ideal.sin (ang d) := by
  refine Eq.trans ?_ (sin_at m c d)
  blk_ext [iblk, idx t, tok]
theorem blk9 (h : Fin 4) (e : Fin 256) : (show FVec Ideal S4x1x256 .f32 from iblk m c 9 t) (ix3 h 0 e)
      = decay h := by
  refine Eq.trans ?_ (decay_at m c h e)
  blk_ext [iblk, idx t, tok]
theorem blk10 (l : Fin 1024) : (show FVec Ideal S1x1024 .f32 from iblk m c 10 t) (ix2 0 l)
      = (show FVec Ideal S4x256 .f32 from m ((c : Thread nD τ).loc main_arg2)) (ix2 (headOf l) (inHead l)) := by
  refine Eq.trans ?_ (retg_at m c l)
  blk_ext [iblk, idx t, tok]
theorem blk11 (l : Fin 512) : (show FVec Ideal S1x512 .f32 from iblk m c 11 t) (ix2 0 l)
      = (show FVec Ideal S512 .f32 from m ((c : Thread nD τ).loc main_arg3)) (ix1 l) := by
  refine Eq.trans ?_ (gmg_at m c l)
  blk_ext [iblk, idx t, tok]
theorem blk12 (l : Fin 512) : (show FVec Ideal S1x512 .f32 from iblk m c 12 t) (ix2 0 l)
      = (show FVec Ideal S4x128x128 .f32 from m ((c : Thread nD τ).loc main_arg4)) (ix3 (groupOf l) 0 0) := by
  refine Eq.trans ?_ (weight_at m c l)
  blk_ext [iblk, idx t, tok]
theorem blk13 (l : Fin 512) : (show FVec Ideal S1x512 .f32 from iblk m c 13 t) (ix2 0 l)
      = (show FVec Ideal S4x128 .f32 from m ((c : Thread nD τ).loc main_arg5)) (ix2 (groupOf l) 0) := by
  refine Eq.trans ?_ (bias_at m c l)
  blk_ext [iblk, idx t, tok]

/-- The point's rotated query, and its rotated and scaled key. -/
theorem query_blk (h : Fin 4) (d : Fin 128) :
    blkQ (iblk m c 0 t) (iblk m c 7 t) (iblk m c 8 t) h d = qryS (m ((c : Thread nD τ).loc main_arg0)) (tok t) h d :=
  rot_congr (fun d => blk0 m c t h d) (fun d => blk7 m c t d) (fun d => blk8 m c t d) d
theorem key_blk (h : Fin 4) (d : Fin 128) :
    blkK (iblk m c 1 t) (iblk m c 7 t) (iblk m c 8 t) h d = keyS (m ((c : Thread nD τ).loc main_arg0)) (tok t) h d :=
  congrArg (fun z : EReal => z * Ideal.ofBits .f32 0x3DB504F3#32)
    (rot_congr (fun d => blk1 m c t h d) (fun d => blk7 m c t d) (fun d => blk8 m c t d) d)

/-- The head gain at a column of the head. -/
theorem gain_at (h : Fin 4) (e : Fin 256) :
    (show FVec Ideal S4x256 .f32 from m ((c : Thread nD τ).loc main_arg2)) (ix2 (headOf (wide h e)) (inHead (wide h e)))
      = (show FVec Ideal S4x256 .f32 from m ((c : Thread nD τ).loc main_arg2)) (ix2 h e) := by
  have e1 : headOf (wide h e) = h := Fin.ext (show (256 * h.val + e.val) / 256 = h.val by omega)
  have e2 : inHead (wide h e) = e := Fin.ext (show (256 * h.val + e.val) % 256 = e.val by omega)
  rw [e1, e2]

/-- The gate rows. At a point, and over the run. -/
theorem point17 (y : S1x1x512.Idx) :
    out0_17 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) y
      = specV (m ((c : Thread nD τ).loc main_arg0)) (m ((c : Thread nD τ).loc main_arg3)) (ix3 (tok t) 0 (y 2)) := by
  refine (gate_at _ _ _ _ _ _ _ _ _ _ _ _ _ _ y).trans ?_
  exact vnorm_congr (fun l => blk5 m c t l) (fun l => blk11 m c t l) _

set_option maxHeartbeats 2000000 in
theorem array17 (c : Dev nD) : (dats m 0 c).arrAt 17 cfg0.N = specV (m ((c : Thread nD τ).loc main_arg0)) (m ((c : Thread nD τ).loc main_arg3)) := by
  refine (dats m 0 c).arrAt_eq_of_covers 17 _ (by decide +kernel) fun t _ y => ?_
  blk_simp
  rw [after0_17]
  refine (point17 m c t y).trans (congrArg (specV (m ((c : Thread nD τ).loc main_arg0)) (m ((c : Thread nD τ).loc main_arg3))) (eq_row _ _ _ ?_ ?_).symm) <;> (blk_simp [idx t, tok]; try rfl)

/-- The gMLP output. At a point, and over the run. -/
theorem point15 (y : S1x1x512.Idx) :
    out0_15 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) y
      = specC (m ((c : Thread nD τ).loc main_arg0)) (m ((c : Thread nD τ).loc main_arg3)) (m ((c : Thread nD τ).loc main_arg4)) (m ((c : Thread nD τ).loc main_arg5)) (ix3 (tok t) 0 (y 2)) := by
  refine (gmlp_at _ _ _ _ _ _ _ _ _ _ _ _ _ _ y).trans ?_
  exact congrArg₂ (fun (a b : EReal) => a * b) (congrArg gelu (blk4 m c t _)) (congrArg₂ (fun (a b : EReal) => a + b)
    (congrArg₂ (fun (a b : EReal) => a * b) (blk12 m c t _) (vnorm_congr (fun l => blk5 m c t l) (fun l => blk11 m c t l) _))
    (blk13 m c t _))

set_option maxHeartbeats 2000000 in
theorem array15 (c : Dev nD) : (dats m 0 c).arrAt 15 cfg0.N = specC (m ((c : Thread nD τ).loc main_arg0)) (m ((c : Thread nD τ).loc main_arg3)) (m ((c : Thread nD τ).loc main_arg4)) (m ((c : Thread nD τ).loc main_arg5)) := by
  refine (dats m 0 c).arrAt_eq_of_covers 15 _ (by decide +kernel) fun t _ y => ?_
  blk_simp
  rw [after0_15]
  refine (point15 m c t y).trans (congrArg (specC (m ((c : Thread nD τ).loc main_arg0)) (m ((c : Thread nD τ).loc main_arg3)) (m ((c : Thread nD τ).loc main_arg4)) (m ((c : Thread nD τ).loc main_arg5))) (eq_row _ _ _ ?_ ?_).symm) <;> (blk_simp [idx t, tok]; try rfl)

/-- The states. At a point, and over the run. -/
theorem point16 (y : S1x4x128x256.Idx) :
    out0_16 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) y
      = specS (m ((c : Thread nD τ).loc main_arg0)) (m ((c : Thread nD τ).loc main_arg1)) (ix4 (tok t) (y 1) (y 2) (y 3)) := by
  refine (state_at _ _ _ _ _ _ _ _ _ _ _ _ _ _ y).trans ?_
  exact congrArg₂ (fun (a b : EReal) => a + b) (congrArg₂ (fun (a b : EReal) => a * b) (blk9 m c t _ _) (blk6 m c t _ _ _))
    (congrArg₂ (fun (a b : EReal) => a * b) (key_blk m c t _ _) (blk2 m c t _))

set_option maxHeartbeats 2000000 in
theorem array16 (c : Dev nD) : (dats m 0 c).arrAt 16 cfg0.N = specS (m ((c : Thread nD τ).loc main_arg0)) (m ((c : Thread nD τ).loc main_arg1)) := by
  refine (dats m 0 c).arrAt_eq_of_covers 16 _ (by decide +kernel) fun t _ y => ?_
  blk_simp
  rw [after0_16]
  refine (point16 m c t y).trans (congrArg (specS (m ((c : Thread nD τ).loc main_arg0)) (m ((c : Thread nD τ).loc main_arg1))) (eq_state _ _ _ _ _ ?_ ?_ ?_ ?_).symm) <;> (blk_simp [idx t, tok]; try rfl)

/-- The retention output. At a point, and over the run. -/
theorem point14 (y : S1x1x1024.Idx) :
    out0_14 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) y
      = specA (m ((c : Thread nD τ).loc main_arg0)) (m ((c : Thread nD τ).loc main_arg1)) (m ((c : Thread nD τ).loc main_arg2)) (ix3 (tok t) 0 (y 2)) := by
  refine (out_at _ _ _ _ _ _ _ _ _ _ _ _ _ _ y).trans ?_
  exact retY_congr (fun e => stepO_congr (fun d => query_blk m c t _ d) (fun d => key_blk m c t _ d)
      (fun e => blk2 m c t _) (fun d e => blk6 m c t _ d e) (blk9 m c t _ e) e)
    (fun e => (blk10 m c t _).trans (gain_at m c _ e)) (fun e => blk3 m c t _) _

set_option maxHeartbeats 2000000 in
theorem array14 (c : Dev nD) : (dats m 0 c).arrAt 14 cfg0.N = specA (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  refine (point14 m c t y).trans (congrArg (specA (m ((c : Thread nD τ).loc main_arg0)) (m ((c : Thread nD τ).loc main_arg1)) (m ((c : Thread nD τ).loc main_arg2))) (eq_wide _ _ _ ?_ ?_).symm) <;> (blk_simp [idx t, tok]; try rfl)

end Cert.StepMix

end
-- ==== Proof.StepRef.lean ====
module

public import proofs.«01_k».proof.Proof.StepHost
public import proofs.«01_k».proof.Proof.Gen.Reference9Ideal.Read

@[expose] public section

set_option maxRecDepth 16384

noncomputable section

open Idealize.ShloMosaic Idealize.ShloMosaic.TcCoe Idealize.SL.Sem
open Idealize.ShloMosaic.Pipeline (Dat)

namespace Cert.StepMix

open Cert.Kernel9Ideal Cert.Reference9Ideal.Read
open Cert.Mix (col wide headOf inHead groupOf inGroup num logg retY gelu vnorm)

variable (X : FVec Ideal S32x7168 .f32) (S : FVec Ideal S32x4x128x256 .f32) (G : FVec Ideal S4x256 .f32)
  (U : FVec Ideal S512 .f32) (W : FVec Ideal S4x128x128 .f32) (B : FVec Ideal S4x128 .f32)

/-- The new token's position, as a number. -/
theorem position : FloatOps.sitofp (F := Ideal) .f32 (IntOp.addi 8192#32 0#32) = Ideal.ofBits .f32 1174405120#32 := by
  rw [show IntOp.addi 8192#32 0#32 = 8192#32 from rfl]
  rw [show Ideal.ofBits .f32 1174405120#32 = ((8192 : ℝ) : EReal) by
    simp [Ideal.ofBits, Ideal.ieee, -EReal.coe_mul]; norm_num]
  simp [FloatOps.sitofp]

/-- The reference's rotated query. -/
theorem ref_query (b : Fin 32) (h : Fin 4) (d : Fin 128) : val_main_v40 (F := Ideal) X (ix4 b 0 h d) = qryS X b h d := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_0, val_main_v16, val_main_v15, val_main_cst, val_main_v14, val_main_v13, val_main_v12, val_main_v11, val_main_c, val_main_v10, val_main_v9, val_main_v8, val_main_v7, val_main_v6, val_main_v5, val_main_v4, val_main_v3, val_main_v2, val_main_v1, val_main_v0, qryS, rot, ang, num, col]
  simp only [position, Nat.mul_comm 128]

/-- The reference's rotated and scaled key. -/
theorem ref_key (b : Fin 32) (h : Fin 4) (d : Fin 128) : val_main_v70 (F := Ideal) X (ix4 b 0 h d) = keyS X b h d := by
  pointwise [val_main_v70, val_main_v69, val_main_cst_3, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_2, val_main_v44, val_main_v43, val_main_cst_1, val_main_v42, val_main_v41, val_main_v12, val_main_v11, val_main_c, val_main_v10, val_main_v9, val_main_v8, val_main_v7, val_main_v6, val_main_v5, val_main_v4, val_main_v3, val_main_v2, val_main_v1, val_main_v0, keyS, rot, ang, num, col]
  simp only [position, Nat.mul_comm 128]

/-- The reference's value. -/
theorem ref_val (b : Fin 32) (h : Fin 4) (e : Fin 256) : val_main_v9 (F := Ideal) X (ix4 b 0 h e) = valS X b h e := by
  pointwise [val_main_v9, val_main_v3, val_main_v0, valS, wide]
  simp only [Nat.mul_comm 256]

/-- The reference's logarithm of the decay. -/
theorem ref_logg (h : Fin 4) : val_main_v78 (F := Ideal) (ix1 h) = logg h := by
  pointwise [val_main_v78, val_main_v77, val_main_v76, val_main_cst_6, val_main_v75, val_main_v74, val_main_cst_5, val_main_v73, val_main_v72, val_main_cst_4, val_main_v71, logg, num]

/-- A zero counter as a number. -/
theorem zero_num : FloatOps.sitofp (F := Ideal) .f32 0#32 = (0 : EReal) := by
  simp [FloatOps.sitofp]

/-- A decay over no time. -/
theorem exp_zero' : Ideal.exp (0 : EReal) = 1 := by
  rw [← EReal.coe_zero]
  show ((Real.exp 0 : ℝ) : EReal) = 1
  rw [Real.exp_zero, EReal.coe_one]

/-- The gelu of the two gMLP halves. -/
theorem ref_gelu_u (b : Fin 32) (l : Fin 512) :
    val_main_v159 (F := Ideal) X (ix3 b 0 l) = gelu (X (ix2 b ⟨5632 + l.val, by omega⟩)) := by
  unfold gelu
  generalize e : X (ix2 b ⟨5632 + l.val, by omega⟩) = x
  pointwise [val_main_v159, val_main_v158, val_main_v157, val_main_cst_19, val_main_v156, val_main_v155, val_main_cst_18, val_main_v154, val_main_v153, val_main_v152, val_main_cst_17, val_main_v151, val_main_v150, val_main_v149, val_main_cst_16, val_main_v148, val_main_v147, val_main_v5, val_main_v0]
  rw [e, mul_comm (x * x) x]
theorem ref_gelu_v (b : Fin 32) (l : Fin 512) :
    val_main_v172 (F := Ideal) X (ix3 b 0 l) = gelu (X (ix2 b ⟨6144 + l.val, by omega⟩)) := by
  unfold gelu
  generalize e : X (ix2 b ⟨6144 + l.val, by omega⟩) = x
  pointwise [val_main_v172, val_main_v171, val_main_v170, val_main_cst_23, val_main_v169, val_main_v168, val_main_cst_22, val_main_v167, val_main_v166, val_main_v165, val_main_cst_21, val_main_v164, val_main_v163, val_main_v162, val_main_cst_20, val_main_v161, val_main_v160, val_main_v6, val_main_v0]
  rw [e, mul_comm (x * x) x]

/-- The reference's states. -/
theorem ref_state (b : Fin 32) (h : Fin 4) (d : Fin 128) (e : Fin 256) :
    val_main_v128 (F := Ideal) X S (ix4 b h d e) = specS X S (ix4 b h d e) := by
  pointwise [val_main_v128, val_main_v127, val_main_v126, val_main_v125, val_main_v124, val_main_v123, val_main_v122, val_main_v121, val_main_cst_12, val_main_v120, val_main_v119, val_main_v118, val_main_v117, val_main_v116, val_main_v115, val_main_v114, val_main_v113, val_main_cst_11, val_main_v112, val_main_v111, val_main_v79, ref_key, ref_val, ref_logg, specS, decay]
  simp only [zero_num, Fin.sum_univ_one, ref_key, ref_val, sub_zero, mul_zero, exp_zero', mul_one]

/-- The reference's retention output. -/
theorem ref_out (b : Fin 32) (h : Fin 4) (e : Fin 256) : val_main_v129 (F := Ideal) X S (ix4 b 0 h e) = outS X S b h e := by
  pointwise [val_main_v129, val_main_v110, val_main_v109, val_main_v108, val_main_v107, val_main_v106, val_main_v105, val_main_v104, val_main_v103, val_main_cst_10, val_main_v102, val_main_v101, val_main_v100, val_main_v99, val_main_v98, val_main_v97, val_main_v96, val_main_v95, val_main_v94, val_main_v93, val_main_v92, val_main_call1_v2, val_main_call1_v1, val_main_call1_v0, val_main_cst_9, val_main_v91, val_main_v90, val_main_v89, val_main_v88, val_main_v87, val_main_call0_v1, val_main_call0_v0, val_main_cst_8, val_main_v86, val_main_v85, val_main_v84, val_main_v83, val_main_cst_7, val_main_v82, val_main_v81, val_main_v80, val_main_v79, ref_query, ref_key, ref_val, ref_logg, outS, stepO, decay]
  simp only [zero_num, Fin.sum_univ_one, ref_key, ref_val, sub_zero, mul_zero, exp_zero', mul_one, le_refl, if_true, zero_add]
  rw [mul_comm (valS X b h e)]
  refine congrArg (fun z : EReal => _ + z * _) (Finset.sum_congr rfl fun d _ => mul_comm _ _)

/-- The reference's first result. -/
theorem ref_A (i : S32x1x1024.Idx) : val_main_v146 (F := Ideal) X S G i = specA X S G i := by
  pointwise [val_main_v146, val_main_v145, val_main_v144, val_main_call2_v5, val_main_call2_v4, val_main_call2_cst_0, val_main_call2_v3, val_main_call2_v2, val_main_call2_cst, val_main_call2_v1, val_main_call2_v0, val_main_v143, val_main_v142, val_main_v141, val_main_v140, val_main_v139, val_main_v138, val_main_v137, val_main_v136, val_main_v135, val_main_cst_15, val_main_v134, val_main_v133, val_main_cst_14, val_main_v132, val_main_v131, val_main_cst_13, val_main_v130, val_main_v4, val_main_v0, ref_out, specA, retY, headOf, inHead, wide]
  simp only [Nat.div_add_mod]
  rfl

/-- The reference's fourth result. -/
theorem ref_V (b : Fin 32) (l : Fin 512) : val_main_v185 (F := Ideal) X U (ix3 b 0 l) = specV X U (ix3 b 0 l) := by
  pointwise [val_main_v185, val_main_v184, val_main_v183, val_main_v182, val_main_v181, val_main_v180, val_main_v179, val_main_v178, val_main_cst_26, val_main_v177, val_main_v176, val_main_cst_25, val_main_v175, val_main_v174, val_main_cst_24, val_main_v173, ref_gelu_v, specV, vnorm]

/-- The reference's second result. -/
theorem ref_C (b : Fin 32) (l : Fin 512) :
    val_main_v200 (F := Ideal) X U W B (ix3 b 0 l) = specC X U W B (ix3 b 0 l) := by
  pointwise [val_main_v200, val_main_v199, val_main_v198, val_main_v197, val_main_v196, val_main_v195, val_main_v194, val_main_v193, val_main_v192, val_main_v191, val_main_v190, val_main_call4_v2, val_main_call4_v1, val_main_call4_v0, val_main_cst_28, val_main_v189, val_main_v188, val_main_v187, val_main_call3_v5, val_main_call3_c_0, val_main_call3_v4, val_main_call3_v3, val_main_call3_v2, val_main_call3_v1, val_main_call3_c, val_main_call3_v0, val_main_v186, val_main_c_27, ref_gelu_u, ref_V, specC, groupOf]
  simp only [Fin.sum_univ_one, id_eq]
  rw [mul_comm (specV X U (ix3 b 0 l))]
  rfl

end Cert.StepMix

end
-- ==== Proof.StepMixClaim.lean ====
module

public import proofs.«01_k».proof.Proof.StepArray
public import proofs.«01_k».proof.Proof.StepRef
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepMix

variable (X : FVec Ideal Cert.Kernel9Ideal.S32x7168 .f32) (S : FVec Ideal Cert.Kernel9Ideal.S32x4x128x256 .f32)
  (G : FVec Ideal Cert.Kernel9Ideal.S4x256 .f32) (U : FVec Ideal Cert.Kernel9Ideal.S512 .f32)
  (W : FVec Ideal Cert.Kernel9Ideal.S4x128x128 .f32) (B : FVec Ideal Cert.Kernel9Ideal.S4x128 .f32)

open Cert.Reference9Ideal.Read

/-- The reference's four results, as arrays. -/
theorem result_A : val_main_v146 (F := Ideal) X S G = specA X S G := funext fun i => ref_A X S G i
theorem result_C : val_main_v200 (F := Ideal) X U W B = specC X U W B := funext fun i => by
  rw [eq_row i (i 0) (i 2) rfl rfl]
  exact ref_C X U W B _ _
theorem result_S : val_main_v128 (F := Ideal) X S = specS X S := funext fun i => by
  rw [eq_ix4 i]
  exact ref_state X S _ _ _ _
theorem result_V : val_main_v185 (F := Ideal) X U = specV X U := funext fun i => by
  rw [eq_row i (i 0) (i 2) rfl rfl]
  exact ref_V X U _ _

/-- The sample group's mixers return the reference's four arrays, from the same arguments. -/
theorem claim : Cert.algebraic_Kernel9Ideal_Reference9Ideal := by
  intro m g m' g' _ hagree
  refine ⟨fun c => specA (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2)),
    fun c => specC (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg3))
      (m ((c.tc : Thread Cert.Kernel9Ideal.nD Cert.Kernel9Ideal.τ).loc Cert.Kernel9Ideal.main_arg4))
      (m ((c.tc : Thread Cert.Kernel9Ideal.nD Cert.Kernel9Ideal.τ).loc Cert.Kernel9Ideal.main_arg5)),
    fun c => specS (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    fun c => specV (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg3)), ?_, ?_⟩
  · refine (θ_run Cert.Kernel9Ideal.defs _ _).mono (fun _ h c => ?_) (Cert.Kernel9Ideal.Value.run_blocks m g)
    obtain ⟨h0, h1, h2, h3, hk⟩ := h c
    exact ⟨h0.trans (array14 m c), h1.trans (array15 m c), h2.trans (array16 m c), h3.trans (array17 m c), hk⟩
  · refine (θ_run Cert.Reference9Ideal.defs _ _).mono (fun _ h c => ?_) (Cert.Reference9Ideal.Value.run m' g')
    obtain ⟨h0, h1, h2, h3, hk⟩ := h c
    obtain ⟨e0, e1, e2, e3, e4, e5⟩ := hagree c
    refine ⟨h0.trans ?_, h1.trans ?_, h2.trans ?_, h3.trans ?_, hk⟩
    · rw [val_main_v146_eq, result_A]
      beta_reduce
      rw [← e0, ← e1, ← e2]
    · rw [val_main_v200_eq, result_C]
      beta_reduce
      rw [← e0, ← e3, ← e4, ← e5]
    · rw [val_main_v128_eq, result_S]
      beta_reduce
      rw [← e0, ← e1]
    · rw [val_main_v185_eq, result_V]
      beta_reduce
      rw [← e0, ← e3]

end Cert.StepMix

end
-- ==== Proof.StepNorm.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.StepNorm

open Cert.Kernel10Ideal Cert.Kernel10Ideal.Gen Cert.Reference10Ideal.Read

variable (m : (ℓ : Loc nD τ sig) → Buf (Elt Ideal) ℓ)

/-- Which block each window stages at grid point `t`: row block `t` of the input and of the result, the whole gain. -/
theorem idx : ∀ t : Fin cfg0.N, win0_0.index t = ![t.val, 0] ∧ win0_1.index t = ![0, 0] ∧ win0_2.index t = ![t.val, 0] :=
  (by decide +kernel : ∀ t : Fin grid0.N, _)

/-- An element of the reference's result: the row's element over the row's root mean square, times the gain. -/
theorem result_at (X : FVec Ideal S32x2048 .f32) (G : FVec Ideal S2048 .f32) (i : Fin 32) (k : Fin 2048) :
    val_main_v12 (F := Ideal) X G (ix2 i k) = X (ix2 i k) * Ideal.rsqrt (Ideal.div (∑ x, X (ix2 i x) * X (ix2 i x))
      (Ideal.ofBits .f32 0x45000000#32) + Ideal.ofBits .f32 0x358637BD#32) * G (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- An element of a block: the same of the block's row. -/
theorem block_at (X : FVec Ideal S32x2048 .f32) (G : FVec Ideal S1x2048 .f32) (i : Fin 32) (k : Fin 2048) :
    k0_pay1 (F := Ideal) X G (ix2 i k) = X (ix2 i k) * Ideal.rsqrt (Ideal.div (∑ x, X (ix2 i x) * X (ix2 i x))
      (Ideal.ofBits .f32 0x45000000#32) + Ideal.ofBits .f32 0x358637BD#32) * G (ix2 0 k) := by
  pointwise [k0_pay1]

/-- The gain the call stages, at an index: the argument's element. -/
theorem gain_at (c : Dev nD) (k : Fin 2048) :
    (show FVec Ideal S1x2048 .f32 from V m c main_v0) (ix2 0 k) = m ((c : Thread nD τ).loc main_arg1) (ix1 k) := by
  have h : (show FVec Ideal S1x2048 .f32 from V m c main_v0)
      = shapeCast S1x2048 (m ((c : Thread nD τ).loc main_arg1)) shapeCasts_S2048_S1x2048 := by
    unfold V
    after_results_simp <;> rfl
  rw [h]
  pointwise

/-- The array after the run is the reference's result over the same arguments. -/
theorem array_eq (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  idx_bounds
  have h0 : ((((cfg0.win 2).blk t).view.emb y) 0).val = t.val * 32 + (y 0).val := by blk_simp [idx t]
  have h1 : ((((cfg0.win 2).blk t).view.emb y) 1).val = (y 1).val := by blk_simp [idx t]
  generalize ((cfg0.win 2).blk t).view.emb y = j at h0 h1 ⊢
  idx_vars j
  idx_vars y
  refine Eq.trans (block_at _ _ _ _) (Eq.trans ?_ (result_at _ _ _ _).symm)
  have r0 : ∀ x : Fin 2048, (show FVec Ideal S32x2048 .f32 from iblk m c 0 t) (ix2 y0 x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    refine Eq.trans ?_ (gain_at m c x)
    blk_ext [iblk, idx t]
  have e : y1 = j1 := Fin.ext h1.symm
  subst e
  simp only [r0, r1]

end Cert.StepNorm

end
-- ==== Proof.StepNormClaim.lean ====
module

public import proofs.«01_k».proof.Defs
public import proofs.«01_k».proof.Proof.StepNorm

@[expose] public section

noncomputable section

open Idealize.ShloMosaic Idealize.ShloMosaic.TcCoe Idealize.SL.Sem

namespace Cert.StepNorm

/-- The final norm's call over the sample group's rows returns the reference's array, from the same arguments. -/
theorem claim : Cert.algebraic_Kernel10Ideal_Reference10Ideal := by
  intro m g m' g' _ hagree
  refine ⟨fun c => Cert.Reference10Ideal.Read.val_main_v12 (F := Ideal)
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)), ?_, ?_⟩
  · exact (θ_run Cert.Kernel10Ideal.defs _ _).mono
      (fun _ h c => ⟨(h c).1.trans (array_eq m c), (h c).2⟩) (Cert.Kernel10Ideal.Value.run_blocks m g)
  · refine (θ_run Cert.Reference10Ideal.defs _ _).mono (fun _ h c => ⟨(h c).1.trans ?_, (h c).2⟩)
      (Cert.Reference10Ideal.Value.run m' g')
    obtain ⟨e0, e1⟩ := hagree c
    rw [Cert.Reference10Ideal.Read.val_main_v12_eq, e0, e1]

end Cert.StepNorm

end
-- ==== Proof.FfnStepMath.lean ====
module

public import proofs.«01_k».proof.Kernel11Ideal
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnStep

open Cert.Kernel11Ideal
open Cert.Ffn (half down)

/-! ## The feed-forward block of one new token, element by element -/

variable (X : FVec Ideal S32x2048 .f32) (G : FVec Ideal S2048 .f32) (W : FVec Ideal S2048x11008 .f32)
  (CW : FVec Ideal S3x11008 .f32) (CB : FVec Ideal S11008 .f32) (D : FVec Ideal S5504x2048 .f32)
  (P : FVec Ideal S32x2x11008 .f32)

/-- Row `i` of the normalised input. -/
def hrow (i : Fin 32) (k : Fin 2048) : EReal :=
  X (ix2 i k) * Ideal.rsqrt (Ideal.div (∑ x, X (ix2 i x) * X (ix2 i x)) (Ideal.ofBits .f32 1157627904#32)
    + Ideal.ofBits .f32 897988541#32) * G (ix1 k)

/-- Column `q` of its up-projection. -/
def proj (i : Fin 32) (q : Fin 11008) : EReal := ∑ k : Fin 2048, hrow X G i k * W (ix2 k q)

/-- Column `q` of the convolution over the two rows before the token and the token's own. -/
def conv (i : Fin 32) (q : Fin 11008) : EReal :=
  CB (ix1 q) + CW (ix2 0 q) * P (ix3 i 0 q) + CW (ix2 1 q) * P (ix3 i 1 q) + CW (ix2 2 q) * proj X G W i q

/-- Column `l` of the gated activation. -/
def act (i : Fin 32) (l : Fin 5504) : EReal :=
  conv X G W CW CB P i ⟨l.val, by omega⟩ * Ideal.logistic (conv X G W CW CB P i ⟨l.val, by omega⟩)
    * conv X G W CW CB P i ⟨5504 + l.val, by omega⟩

/-- The block's result: the input and the activation's down-projection. -/
def out (i : Fin 32) (d : Fin 2048) : EReal := X (ix2 i d) + ∑ l : Fin 5504, act X G W CW CB P i l * D (ix2 l d)

/-- A row times the half of a matrix is the half of the projected row. -/
theorem half_proj (s : ℕ) (hs : s ≤ 5504) (i : Fin 32) (l : Fin 5632) :
    ∑ k : Fin 2048, hrow X G i k * half s hs (fun q => W (ix2 k q)) l = half s hs (proj X G W i) l := by
  unfold half
  by_cases h : l.val < 5504
  · simp only [dif_pos h]; rfl
  · simp only [dif_neg h, mul_zero, Finset.sum_const_zero]

/-- The convolution, column by column of a half. -/
theorem half_conv (s : ℕ) (hs : s ≤ 5504) (i : Fin 32) (l : Fin 5632) :
    half s hs (fun q => CB (ix1 q)) l + half s hs (fun q => CW (ix2 0 q)) l * half s hs (fun q => P (ix3 i 0 q)) l
      + half s hs (fun q => CW (ix2 1 q)) l * half s hs (fun q => P (ix3 i 1 q)) l
      + half s hs (fun q => CW (ix2 2 q)) l * half s hs (proj X G W i) l
      = half s hs (conv X G W CW CB P i) l := by
  unfold half
  by_cases h : l.val < 5504
  · simp only [dif_pos h]; rfl
  · simp only [dif_neg h, mul_zero, add_zero]

/-- What column `l` of the activation adds to a result; nothing from column 5504 on. -/
def term (i : Fin 32) (d : Fin 2048) (l : ℕ) : EReal :=
  if h : l < 5504 then act X G W CW CB P i ⟨l, h⟩ * D (ix2 ⟨l, h⟩ d) else 0

/-- The same from the filled columns and rows. -/
theorem half_term (i : Fin 32) (d : Fin 2048) (l : Fin 5632) :
    half 0 (by omega) (conv X G W CW CB P i) l * Ideal.logistic (half 0 (by omega) (conv X G W CW CB P i) l)
      * half 5504 (by omega) (conv X G W CW CB P i) l * down D l d = term X G W CW CB D P i d l.val := by
  unfold half down term
  by_cases h : l.val < 5504
  · simp only [dif_pos h]
    have e : (⟨0 + l.val, by omega⟩ : Fin 11008) = ⟨l.val, by omega⟩ := Fin.ext (Nat.zero_add _)
    rw [e]
    rfl
  · simp only [dif_neg h, mul_zero]

/-- The terms of eleven tiles of columns are those of all columns. -/
theorem sum_tiles (i : Fin 32) (d : Fin 2048) :
    ∑ j ∈ Finset.range 11, ∑ q : Fin 512, term X G W CW CB D P i d (j * 512 + q.val)
      = ∑ l : Fin 5504, act X G W CW CB P i l * D (ix2 l d) := by
  have e : ∀ j, ∑ q : Fin 512, term X G W CW CB D P i d (j * 512 + q.val)
      = ∑ q ∈ Finset.range 512, term X G W CW CB D P i d (j * 512 + q) := fun j =>
    Fin.sum_univ_eq_sum_range (fun q => term X G W CW CB D P i d (j * 512 + q)) 512
  have z : ∀ l, ¬l < 5504 → term X G W CW CB D P i d l = 0 := fun l h => dif_neg h
  simp only [e]
  rw [Finset.sum_range_range_mul_add 11 512 (term X G W CW CB D P i d),
    ← Finset.sum_subset (s₁ := Finset.range 5504) (Finset.range_subset_range.mpr (by omega))
      (fun l _ h => z l fun h' => h (Finset.mem_range.mpr h')),
    ← Fin.sum_univ_eq_sum_range]
  exact Finset.sum_congr rfl fun l _ => dif_pos l.isLt

end Cert.FfnStep

end
-- ==== Proof.FfnStepHost.lean ====
module

public import proofs.«01_k».proof.Proof.FfnHost
public import proofs.«01_k».proof.Proof.FfnStepMath
public import proofs.«01_k».proof.Proof.Gen.Kernel11Ideal.Value
public import Idealize.ShloMosaic.Lib.Pipeline.ValueKit
public import Idealize.ShloMosaic.Lib.Pipeline.ValueKit.Held
public import Idealize.ShloMosaic.Lib.Claim
public import Idealize.ShloMosaic.Lib.Pipeline.ReadBack
public import Idealize.ShloMosaic.Lib.KernelVsHost
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FfnStep

open Cert.Kernel11Ideal Cert.Kernel11Ideal.Gen
open Cert.Ffn (half down fill fill_at gateW upW gateK upK gateB upB downW)

variable (m : (ℓ : Loc nD τ sig) → Buf (Elt Ideal) ℓ)

/-! ## The arrays the call is given -/

/-- The gate columns of the row two before the token, -/
def gatePrev0 (P : FVec Ideal S32x2x11008 .f32) : FVec Ideal S32x5632 .f32 :=
  pad S32x5632 ![0, 0] ![0, 128] ![0, 0] (shapeCast S32x5504
    (extractStridedSlice S32x1x5504 ![0, 0, 0] P slices_S32x2x11008_S32x1x5504_0_0_0) shapeCasts_S32x1x5504_S32x5504)
    fill pads_S32x5504_S32x5632_000_01280 h_S_
/-- of the row before it, -/
def gatePrev1 (P : FVec Ideal S32x2x11008 .f32) : FVec Ideal S32x5632 .f32 :=
  pad S32x5632 ![0, 0] ![0, 128] ![0, 0] (shapeCast S32x5504
    (extractStridedSlice S32x1x5504 ![0, 1, 0] P slices_S32x2x11008_S32x1x5504_0_1_0) shapeCasts_S32x1x5504_S32x5504)
    fill pads_S32x5504_S32x5632_000_01280 h_S_
/-- and the up columns of the first -/
def upPrev0 (P : FVec Ideal S32x2x11008 .f32) : FVec Ideal S32x5632 .f32 :=
  pad S32x5632 ![0, 0] ![0, 128] ![0, 0] (shapeCast S32x5504
    (extractStridedSlice S32x1x5504 ![0, 0, 5504] P slices_S32x2x11008_S32x1x5504_0_0_5504) shapeCasts_S32x1x5504_S32x5504)
    fill pads_S32x5504_S32x5632_000_01280 h_S_
/-- and of the second. -/
def upPrev1 (P : FVec Ideal S32x2x11008 .f32) : FVec Ideal S32x5632 .f32 :=
  pad S32x5632 ![0, 0] ![0, 128] ![0, 0] (shapeCast S32x5504
    (extractStridedSlice S32x1x5504 ![0, 1, 5504] P slices_S32x2x11008_S32x1x5504_0_1_5504) shapeCasts_S32x1x5504_S32x5504)
    fill pads_S32x5504_S32x5632_000_01280 h_S_

/-- These arrays at an index: a half of the columns, filled with zeros. -/
theorem gatePrev0_at (P : FVec Ideal S32x2x11008 .f32) (i : Fin 32) (l : Fin 5632) :
    gatePrev0 P (ix2 i l) = half 0 (by omega) (fun q => P (ix3 i 0 q)) l := by
  pointwise [gatePrev0, fill_at, half]
theorem gatePrev1_at (P : FVec Ideal S32x2x11008 .f32) (i : Fin 32) (l : Fin 5632) :
    gatePrev1 P (ix2 i l) = half 0 (by omega) (fun q => P (ix3 i 1 q)) l := by
  pointwise [gatePrev1, fill_at, half]
theorem upPrev0_at (P : FVec Ideal S32x2x11008 .f32) (i : Fin 32) (l : Fin 5632) :
    upPrev0 P (ix2 i l) = half 5504 (by omega) (fun q => P (ix3 i 0 q)) l := by
  pointwise [upPrev0, fill_at, half]
theorem upPrev1_at (P : FVec Ideal S32x2x11008 .f32) (i : Fin 32) (l : Fin 5632) :
    upPrev1 P (ix2 i l) = half 5504 (by omega) (fun q => P (ix3 i 1 q)) l := by
  pointwise [upPrev1, fill_at, half]

/-- The arrays the call is given: the weights, taps and biases are those of the prompt's call, the rows before are these. -/
theorem v2_eq (c : Dev nD) : (show FVec Ideal S2048x5632 .bf16 from V m c main_v2) = gateW (m ((c : Thread nD τ).loc main_arg2)) := by
  simp only [V, List.flatten_cons, List.flatten_nil, List.append_nil, StableHlo.after_append]
  after_reads_simp
  rfl
theorem v5_eq (c : Dev nD) : (show FVec Ideal S2048x5632 .bf16 from V m c main_v5) = upW (m ((c : Thread nD τ).loc main_arg2)) := by
  simp only [V, List.flatten_cons, List.flatten_nil, List.append_nil, StableHlo.after_append]
  after_reads_simp
  rfl
theorem v7_eq (c : Dev nD) : (show FVec Ideal S3x5632 .f32 from V m c main_v7) = gateK (m ((c : Thread nD τ).loc main_arg3)) := by
  simp only [V, List.flatten_cons, List.flatten_nil, List.append_nil, StableHlo.after_append]
  after_reads_simp
  rfl
theorem v9_eq (c : Dev nD) : (show FVec Ideal S3x5632 .f32 from V m c main_v9) = upK (m ((c : Thread nD τ).loc main_arg3)) := by
  simp only [V, List.flatten_cons, List.flatten_nil, List.append_nil, StableHlo.after_append]
  after_reads_simp
  rfl
theorem v12_eq (c : Dev nD) : (show FVec Ideal S1x5632 .f32 from V m c main_v12) = gateB (m ((c : Thread nD τ).loc main_arg4)) := by
  simp only [V, List.flatten_cons, List.flatten_nil, List.append_nil, StableHlo.after_append]
  after_reads_simp
  rfl
theorem v15_eq (c : Dev nD) : (show FVec Ideal S1x5632 .f32 from V m c main_v15) = upB (m ((c : Thread nD τ).loc main_arg4)) := by
  simp only [V, List.flatten_cons, List.flatten_nil, List.append_nil, StableHlo.after_append]
  after_reads_simp
  rfl
theorem v17_eq (c : Dev nD) : (show FVec Ideal S5632x2048 .bf16 from V m c main_v17) = downW (m ((c : Thread nD τ).loc main_arg5)) := by
  simp only [V, List.flatten_cons, List.flatten_nil, List.append_nil, StableHlo.after_append]
  after_reads_simp
  rfl
theorem v20_eq (c : Dev nD) : (show FVec Ideal S32x5632 .f32 from V m c main_v20) = gatePrev0 (m ((c : Thread nD τ).loc main_arg6)) := by
  simp only [V, List.flatten_cons, List.flatten_nil, List.append_nil, StableHlo.after_append]
  after_reads_simp
  rfl
theorem v23_eq (c : Dev nD) : (show FVec Ideal S32x5632 .f32 from V m c main_v23) = gatePrev1 (m ((c : Thread nD τ).loc main_arg6)) := by
  simp only [V, List.flatten_cons, List.flatten_nil, List.append_nil, StableHlo.after_append]
  after_reads_simp
  rfl
theorem v26_eq (c : Dev nD) : (show FVec Ideal S32x5632 .f32 from V m c main_v26) = upPrev0 (m ((c : Thread nD τ).loc main_arg6)) := by
  simp only [V, List.flatten_cons, List.flatten_nil, List.append_nil, StableHlo.after_append]
  after_reads_simp
  rfl
theorem v29_eq (c : Dev nD) : (show FVec Ideal S32x5632 .f32 from V m c main_v29) = upPrev1 (m ((c : Thread nD τ).loc main_arg6)) := by
  simp only [V, List.flatten_cons, List.flatten_nil, List.append_nil, StableHlo.after_append]
  after_reads_simp
  rfl

/-- The gain the call is given, at an index. -/
theorem v30_at (c : Dev nD) (z : Fin 1) (k : Fin 2048) : (show FVec Ideal S1x2048 .f32 from V m c main_v30) (ix2 z k)
    = (show FVec Ideal S2048 .f32 from m ((c : Thread nD τ).loc main_arg1)) (ix1 k) := by
  simp only [V, List.flatten_cons, List.flatten_nil, List.append_nil, StableHlo.after_append]
  after_reads_simp
  pointwise

end Cert.FfnStep

end
-- ==== Proof.FfnStepRef.lean ====
module

public import proofs.«01_k».proof.Proof.FfnStepMath
public import proofs.«01_k».proof.Proof.Gen.Reference11Ideal.Read
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.FfnStep

open Cert.Kernel11Ideal Cert.Reference11Ideal.Read
open Cert.Ffn (half fill_zero)

variable (X : FVec Ideal S32x2048 .f32) (G : FVec Ideal S2048 .f32) (W : FVec Ideal S2048x11008 .f32)
  (CW : FVec Ideal S3x11008 .f32) (CB : FVec Ideal S11008 .f32) (D : FVec Ideal S5504x2048 .f32)
  (P : FVec Ideal S32x2x11008 .f32)

/-! ## What the reference computes -/

/-- The reference's up-projection. -/
theorem ref_proj_at (i : Fin 32) (z : Fin 1) (q : Fin 11008) :
    val_main_v14 (F := Ideal) X G W (ix3 i z q) = proj X G W i q := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The rows the reference's convolution reads: the two before the token, -/
theorem ref_prev_at (i : Fin 32) (j : Fin 2) (n : Fin 3) (hn : n.val = j.val) (q : Fin 11008) :
    val_main_v15 (F := Ideal) X G W P (ix3 i n q) = P (ix3 i j q) := by
  obtain rfl : (⟨j.val, Nat.lt_succ_of_lt j.isLt⟩ : Fin 3) = n := Fin.ext hn.symm
  pointwise [val_main_v15]

/-- and the token's. -/
theorem ref_own_at (i : Fin 32) (n : Fin 3) (hn : n.val = 2) (q : Fin 11008) :
    val_main_v15 (F := Ideal) X G W P (ix3 i n q) = proj X G W i q := by
  have e : n = 2 := Fin.ext hn
  subst e
  pointwise [val_main_v15]
  exact ref_proj_at X G W i _ q

/-- The reference's convolution. -/
theorem ref_conv_at (i : Fin 32) (z : Fin 1) (q : Fin 11008) :
    val_main_v38 (F := Ideal) X G W CW CB P (ix3 i z q) = conv X G W CW CB P i q := by
  have hz : z = 0 := Fin.ext (by omega)
  subst hz
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16]
  rw [ref_prev_at X G W P i 0 _ rfl, ref_prev_at X G W P i 1 _ rfl, ref_own_at X G W P i _ rfl]
  rfl

/-- The reference's activation. -/
theorem ref_act_at (i : Fin 32) (z : Fin 1) (l : Fin 5504) :
    val_main_v42 (F := Ideal) X G W CW CB P (ix3 i z l) = act X G W CW CB P i l := by
  pointwise [val_main_v42, val_main_v41, val_main_v40, val_main_v39, val_main_call0_v0, val_main_call0_v1, val_main_call0_v2,
    val_main_call0_v3, val_main_call0_v4, val_main_call0_v5, val_main_call0_cst, val_main_call0_cst_0]
  simp only [ref_conv_at]
  unfold act
  rfl

/-- The reference's first result. -/
theorem ref_out_at (i : Fin 32) (d : Fin 2048) :
    val_main_v45 (F := Ideal) X G W CW CB D P (ix2 i d) = out X G W CW CB D P i d := by
  pointwise [val_main_v45, val_main_v44, val_main_v43, val_main_v0]
  simp only [ref_act_at]
  rfl

/-- The reference's second result: the token's gate columns. -/
theorem ref_gate_at (i : Fin 32) (l : Fin 5632) :
    val_main_v48 (F := Ideal) X G W (ix2 i l) = half 0 (by omega) (proj X G W i) l := by
  pointwise [val_main_v48, val_main_v47, val_main_v46, val_main_call1_v0, val_main_c]
  rw [fill_zero]
  unfold half
  by_cases h : l.val < 5504
  · rw [dif_pos h, dif_pos h, ref_proj_at]
    exact congrArg (proj X G W _) (Fin.ext (Nat.zero_add _).symm)
  · rw [dif_neg h, dif_neg h]

/-- The reference's third result: the token's up columns. -/
theorem ref_up_at (i : Fin 32) (l : Fin 5632) :
    val_main_v51 (F := Ideal) X G W (ix2 i l) = half 5504 (by omega) (proj X G W i) l := by
  pointwise [val_main_v51, val_main_v50, val_main_v49, val_main_call2_v0, val_main_c_2]
  rw [fill_zero]
  unfold half
  by_cases h : l.val < 5504
  · rw [dif_pos h, dif_pos h, ref_proj_at]
  · rw [dif_neg h, dif_neg h]

end Cert.FfnStep

end
-- ==== Proof.FfnStepArray.lean ====
module

public import proofs.«01_k».proof.Proof.FfnStepHost
public import proofs.«01_k».proof.Proof.FfnStepRef
public import Idealize.ShloMosaic.Lib.Pipeline.ValueKit
public import Idealize.ShloMosaic.Lib.Pipeline.ValueKit.Held
public import Idealize.ShloMosaic.Lib.Claim
public import Idealize.ShloMosaic.Lib.Pipeline.ReadBack
public import Idealize.ShloMosaic.Lib.KernelVsHost
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FfnStep

open Cert.Kernel11Ideal Cert.Kernel11Ideal.Gen
open Cert.Ffn (half down gateW_at upW_at gateK_at upK_at gateB_at upB_at downW_at)

variable (m : (ℓ : Loc nD τ sig) → Buf (Elt Ideal) ℓ)

/-- Which block each window stages at grid point `t`: the column block is `t`. -/
theorem idx : ∀ t : Fin cfg0.N, win0_0.index t = ![0, 0] ∧ win0_1.index t = ![0, 0]
    ∧ win0_2.index t = ![0, t.val] ∧ win0_3.index t = ![0, t.val] ∧ win0_4.index t = ![0, t.val]
    ∧ win0_5.index t = ![0, t.val] ∧ win0_6.index t = ![0, t.val] ∧ win0_7.index t = ![0, t.val]
    ∧ win0_8.index t = ![t.val, 0] ∧ win0_9.index t = ![0, t.val] ∧ win0_10.index t = ![0, t.val]
    ∧ win0_11.index t = ![0, t.val] ∧ win0_12.index t = ![0, t.val] ∧ win0_13.index t = ![0, 0]
    ∧ win0_14.index t = ![0, t.val] ∧ win0_15.index t = ![0, t.val] :=
  (by decide +kernel : ∀ t : Fin grid0.N, _)

/-- The arguments: the input, -/
def aX (c : Dev nD) : FVec Ideal S32x2048 .f32 := m ((c : Thread nD τ).loc main_arg0)
/-- the gain, -/
def aG (c : Dev nD) : FVec Ideal S2048 .f32 := m ((c : Thread nD τ).loc main_arg1)
/-- the up-projection, -/
def aW (c : Dev nD) : FVec Ideal S2048x11008 .f32 := m ((c : Thread nD τ).loc main_arg2)
/-- the convolution's taps, -/
def aK (c : Dev nD) : FVec Ideal S3x11008 .f32 := m ((c : Thread nD τ).loc main_arg3)
/-- its bias, -/
def aB (c : Dev nD) : FVec Ideal S11008 .f32 := m ((c : Thread nD τ).loc main_arg4)
/-- the down-projection, -/
def aD (c : Dev nD) : FVec Ideal S5504x2048 .f32 := m ((c : Thread nD τ).loc main_arg5)
/-- and the two rows before the token. -/
def aP (c : Dev nD) : FVec Ideal S32x2x11008 .f32 := m ((c : Thread nD τ).loc main_arg6)

/-- The array column of column `q` of the blocks of point `n`. -/
def col (n : ℕ) (hn : n < cfg0.N) (q : Fin 512) : Fin 5632 :=
  ⟨n * 512 + q.val, by have h : n < 11 := Nat.lt_of_lt_of_eq hn N_0; omega⟩

/-! ## The blocks staged at a point -/

/-- The input rows. -/
theorem read0 (c : Dev nD) (t : Fin cfg0.N) (r : Fin 32) (k : Fin 2048) :
    (show FVec Ideal S32x2048 .f32 from iblk m c 0 t) (ix2 r k) = aX m c (ix2 r k) := by
  unfold aX
  blk_ext [iblk, V, idx t]

/-- The gain. -/
theorem read1 (c : Dev nD) (t : Fin cfg0.N) (k : Fin 2048) :
    (show FVec Ideal S1x2048 .f32 from iblk m c 1 t) (ix2 0 k) = aG m c (ix1 k) := by
  refine Eq.trans ?_ (v30_at m c 0 k)
  blk_ext [iblk, idx t]

/-- The gate and the up columns of the up-projection, -/
theorem read2 (c : Dev nD) (t : Fin cfg0.N) (k : Fin 2048) (q : Fin 512) :
    (show FVec Ideal S2048x512 .bf16 from iblk m c 2 t) (ix2 k q) = half 0 (by omega) (fun l => aW m c (ix2 k l)) (col t.val t.isLt q) := by
  unfold aW col
  rw [← gateW_at, ← v2_eq]
  blk_ext [iblk, idx t]
theorem read3 (c : Dev nD) (t : Fin cfg0.N) (k : Fin 2048) (q : Fin 512) :
    (show FVec Ideal S2048x512 .bf16 from iblk m c 3 t) (ix2 k q) = half 5504 (by omega) (fun l => aW m c (ix2 k l)) (col t.val t.isLt q) := by
  unfold aW col
  rw [← upW_at, ← v5_eq]
  blk_ext [iblk, idx t]

/-- of the taps, -/
theorem read4 (c : Dev nD) (t : Fin cfg0.N) (k : Fin 3) (q : Fin 512) :
    (show FVec Ideal S3x512 .f32 from iblk m c 4 t) (ix2 k q) = half 0 (by omega) (fun l => aK m c (ix2 k l)) (col t.val t.isLt q) := by
  unfold aK col
  rw [← gateK_at, ← v7_eq]
  blk_ext [iblk, idx t]
theorem read5 (c : Dev nD) (t : Fin cfg0.N) (k : Fin 3) (q : Fin 512) :
    (show FVec Ideal S3x512 .f32 from iblk m c 5 t) (ix2 k q) = half 5504 (by omega) (fun l => aK m c (ix2 k l)) (col t.val t.isLt q) := by
  unfold aK col
  rw [← upK_at, ← v9_eq]
  blk_ext [iblk, idx t]

/-- of the bias, -/
theorem read6 (c : Dev nD) (t : Fin cfg0.N) (k : Fin 1) (q : Fin 512) :
    (show FVec Ideal S1x512 .f32 from iblk m c 6 t) (ix2 k q) = half 0 (by omega) (fun l => aB m c (ix1 l)) (col t.val t.isLt q) := by
  unfold aB col
  rw [← gateB_at _ k, ← v12_eq]
  blk_ext [iblk, idx t]
theorem read7 (c : Dev nD) (t : Fin cfg0.N) (k : Fin 1) (q : Fin 512) :
    (show FVec Ideal S1x512 .f32 from iblk m c 7 t) (ix2 k q) = half 5504 (by omega) (fun l => aB m c (ix1 l)) (col t.val t.isLt q) := by
  unfold aB col
  rw [← upB_at _ k, ← v15_eq]
  blk_ext [iblk, idx t]

/-- and of the two rows before the token. -/
theorem read9 (c : Dev nD) (t : Fin cfg0.N) (k : Fin 32) (q : Fin 512) :
    (show FVec Ideal S32x512 .f32 from iblk m c 9 t) (ix2 k q) = half 0 (by omega) (fun l => aP m c (ix3 k 0 l)) (col t.val t.isLt q) := by
  unfold aP col
  rw [← gatePrev0_at, ← v20_eq]
  blk_ext [iblk, idx t]
theorem read10 (c : Dev nD) (t : Fin cfg0.N) (k : Fin 32) (q : Fin 512) :
    (show FVec Ideal S32x512 .f32 from iblk m c 10 t) (ix2 k q) = half 0 (by omega) (fun l => aP m c (ix3 k 1 l)) (col t.val t.isLt q) := by
  unfold aP col
  rw [← gatePrev1_at, ← v23_eq]
  blk_ext [iblk, idx t]
theorem read11 (c : Dev nD) (t : Fin cfg0.N) (k : Fin 32) (q : Fin 512) :
    (show FVec Ideal S32x512 .f32 from iblk m c 11 t) (ix2 k q) = half 5504 (by omega) (fun l => aP m c (ix3 k 0 l)) (col t.val t.isLt q) := by
  unfold aP col
  rw [← upPrev0_at, ← v26_eq]
  blk_ext [iblk, idx t]
theorem read12 (c : Dev nD) (t : Fin cfg0.N) (k : Fin 32) (q : Fin 512) :
    (show FVec Ideal S32x512 .f32 from iblk m c 12 t) (ix2 k q) = half 5504 (by omega) (fun l => aP m c (ix3 k 1 l)) (col t.val t.isLt q) := by
  unfold aP col
  rw [← upPrev1_at, ← v29_eq]
  blk_ext [iblk, idx t]

/-- The rows of the down-projection. -/
theorem read8 (c : Dev nD) (t : Fin cfg0.N) (q : Fin 512) (d : Fin 2048) :
    (show FVec Ideal S512x2048 .bf16 from iblk m c 8 t) (ix2 q d) = down (aD m c) (col t.val t.isLt q) d := by
  unfold aD col
  rw [← downW_at, ← v17_eq]
  blk_ext [iblk, idx t]

/-! ## What one point computes -/

/-- The normalised rows. -/
theorem norm_at (X : Vec Ideal S32x2048 .f32) (G : Vec Ideal S1x2048 .f32) (r : Fin 32) (k : Fin 2048) :
    k0_pay2 (F := Ideal) X G (ix2 r k)
      = X (ix2 r k) * Ideal.rsqrt (Ideal.div (∑ x, X (ix2 r x) * X (ix2 r x))
          (Ideal.ofBits .f32 1157627904#32) + Ideal.ofBits .f32 897988541#32) * G (ix2 0 k) := by
  pointwise [k0_pay2]

/-- A product of rows and columns. -/
theorem dot_at (H : Vec Ideal S32x2048 .bf16) (W : Vec Ideal S2048x512 .bf16) (r : Fin 32) (q : Fin 512) :
    k0_pay3 (F := Ideal) H W (ix2 r q) = ∑ k : Fin 2048, H (ix2 r k) * W (ix2 k q) := by
  pointwise [k0_pay3]

/-- The convolved columns of a block: the bias, the taps over the two rows before, and the last tap over the token's row. -/
def taps (B : Vec Ideal S1x512 .f32) (K : Vec Ideal S3x512 .f32) (P0 P1 : Vec Ideal S32x512 .f32) (A : FVec Ideal S32x512 .f32)
    (r : Fin 32) (q : Fin 512) : EReal :=
  B (ix2 0 q) + K (ix2 0 q) * P0 (ix2 r q) + K (ix2 1 q) * P1 (ix2 r q) + K (ix2 2 q) * A (ix2 r q)

/-- What a point leaves in the first output block, over what stood in it: the activation's product added. -/
theorem add_at (A U : FVec Ideal S32x512 .f32) (B B' : Vec Ideal S1x512 .f32) (K K' : Vec Ideal S3x512 .f32)
    (P0 P1 P0' P1' : Vec Ideal S32x512 .f32) (O : Vec Ideal S32x2048 .f32) (D : Vec Ideal S512x2048 .bf16)
    (r : Fin 32) (d : Fin 2048) :
    k0_pay1 (F := Ideal) A U
      (k0_pay5 (F := Ideal) B (View.ld K (Rect.unit ![0, 0] ![1, 512] inb_S3x512_S1x512_0_0)) P0
        (View.ld K (Rect.unit ![1, 0] ![1, 512] inb_S3x512_S1x512_1_0)) P1)
      (View.ld K (Rect.unit ![2, 0] ![1, 512] inb_S3x512_S1x512_2_0)) B'
      (View.ld K' (Rect.unit ![0, 0] ![1, 512] inb_S3x512_S1x512_0_0)) P0'
      (View.ld K' (Rect.unit ![1, 0] ![1, 512] inb_S3x512_S1x512_1_0)) P1'
      (View.ld K' (Rect.unit ![2, 0] ![1, 512] inb_S3x512_S1x512_2_0)) O D (ix2 r d)
      = O (ix2 r d) + ∑ q : Fin 512, taps B K P0 P1 A r q * Ideal.logistic (taps B K P0 P1 A r q)
          * taps B' K' P0' P1' U r q * D (ix2 q d) := by
  pointwise [k0_pay1, k0_pay5, taps]

/-- The rows normalised at a point. -/
theorem rows_at (c : Dev nD) (t : Fin cfg0.N) (r : Fin 32) (k : Fin 2048) :
    k0_pay2 (F := Ideal) (iblk m c 0 t) (iblk m c 1 t) (ix2 r k) = hrow (aX m c) (aG m c) r k := by
  refine (norm_at _ _ _ _).trans ?_
  have e0 := read0 m c t r
  have e1 := read1 m c t k
  unfold hrow
  rw [← e1]
  simp only [← e0]

/-- The rows kept from the first point on are every point's own. -/
theorem scratch_rows (c : Dev nD) (t : Fin cfg0.N) :
    (outsAt0 m c t.val t.isLt).2.2.2 = k0_pay2 (F := Ideal) (iblk m c 0 t) (iblk m c 1 t) := by
  funext j
  rw [Pipeline.eq_of_write_hold_apply (fun n h => (outsAt0 m c n h).2.2.2) 11
    (fun t => k0_pay2 (F := Ideal) (iblk m c 0 t) (iblk m c 1 t))
    (fun t h j => by rw [outsAt0_A m c t h]; frame_out)
    (fun t h j => by rw [outsAt0_B m c t h]; rfl) t j]
  idx_vars j
  rw [rows_at, rows_at]

/-- So the rows the point before left are the point's own. -/
theorem kept (c : Dev nD) (t : Fin cfg0.N) (h : ¬t.val % 11 = 0) :
    k0_pay2 (F := Ideal) (iblk m c 0 t) (iblk m c 1 t)
      = (outsAt0 m c (t.val - 1) (Nat.lt_of_le_of_lt (Nat.sub_le _ _) t.isLt)).2.2.2 := by
  rw [scratch_rows m c ⟨t.val - 1, Nat.lt_of_le_of_lt (Nat.sub_le _ _) t.isLt⟩]
  funext j
  idx_vars j
  rw [rows_at, rows_at]

/-- The gate columns of a point, -/
theorem gate_at (c : Dev nD) (t : Fin cfg0.N) (r : Fin 32) (q : Fin 512) :
    k0_pay3 (F := Ideal) (k0_pay2 (F := Ideal) (iblk m c 0 t) (iblk m c 1 t)) (iblk m c 2 t) (ix2 r q)
      = half 0 (by omega) (proj (aX m c) (aG m c) (aW m c) r) (col t.val t.isLt q) := by
  rw [← half_proj]
  refine (dot_at _ _ _ _).trans (Finset.sum_congr rfl fun k _ => ?_)
  exact congrArg₂ (· * ·) (rows_at m c t r k) (read2 m c t k q)

/-- and the up columns. -/
theorem up_at (c : Dev nD) (t : Fin cfg0.N) (r : Fin 32) (q : Fin 512) :
    k0_pay4 (F := Ideal) (k0_pay2 (F := Ideal) (iblk m c 0 t) (iblk m c 1 t)) (iblk m c 3 t) (ix2 r q)
      = half 5504 (by omega) (proj (aX m c) (aG m c) (aW m c) r) (col t.val t.isLt q) := by
  rw [← half_proj]
  refine (dot_at _ _ _ _).trans (Finset.sum_congr rfl fun k _ => ?_)
  exact congrArg₂ (· * ·) (rows_at m c t r k) (read3 m c t k q)

/-- The gate columns a point writes, -/
theorem gateOut_at (c : Dev nD) (t : Fin cfg0.N) (r : Fin 32) (q : Fin 512) :
    (outsAt0 m c t.val t.isLt).2.1 (ix2 r q) = half 0 (by omega) (proj (aX m c) (aG m c) (aW m c) r) (col t.val t.isLt q) := by
  rw [← gate_at]
  by_cases h : t.val % 11 = 0
  · rw [outsAt0_A m c t h]; frame_out
  · rw [outsAt0_B m c t h]; frame_out
    rw [read_unread_whole, ← kept m c t h]

/-- and the up columns. -/
theorem upOut_at (c : Dev nD) (t : Fin cfg0.N) (r : Fin 32) (q : Fin 512) :
    (outsAt0 m c t.val t.isLt).2.2.1 (ix2 r q) = half 5504 (by omega) (proj (aX m c) (aG m c) (aW m c) r) (col t.val t.isLt q) := by
  rw [← up_at]
  by_cases h : t.val % 11 = 0
  · rw [outsAt0_A m c t h]; frame_out
  · rw [outsAt0_B m c t h]; frame_out
    rw [read_unread_whole, ← kept m c t h]

/-- The convolved gate columns of a point, -/
theorem gateTaps_at (c : Dev nD) (t : Fin cfg0.N) (r : Fin 32) (q : Fin 512) :
    taps (iblk m c 6 t) (iblk m c 4 t) (iblk m c 9 t) (iblk m c 10 t)
      (k0_pay3 (F := Ideal) (k0_pay2 (F := Ideal) (iblk m c 0 t) (iblk m c 1 t)) (iblk m c 2 t)) r q
      = half 0 (by omega) (conv (aX m c) (aG m c) (aW m c) (aK m c) (aB m c) (aP m c) r) (col t.val t.isLt q) := by
  rw [← half_conv, ← read6 m c t 0 q, ← read4 m c t 0 q, ← read4 m c t 1 q, ← read4 m c t 2 q, ← read9 m c t r q,
    ← read10 m c t r q, ← gate_at]
  rfl

/-- and the convolved up columns. -/
theorem upTaps_at (c : Dev nD) (t : Fin cfg0.N) (r : Fin 32) (q : Fin 512) :
    taps (iblk m c 7 t) (iblk m c 5 t) (iblk m c 11 t) (iblk m c 12 t)
      (k0_pay4 (F := Ideal) (k0_pay2 (F := Ideal) (iblk m c 0 t) (iblk m c 1 t)) (iblk m c 3 t)) r q
      = half 5504 (by omega) (conv (aX m c) (aG m c) (aW m c) (aK m c) (aB m c) (aP m c) r) (col t.val t.isLt q) := by
  rw [← half_conv, ← read7 m c t 0 q, ← read5 m c t 0 q, ← read5 m c t 1 q, ← read5 m c t 2 q, ← read11 m c t r q,
    ← read12 m c t r q, ← up_at]
  rfl

/-- What the tile of columns `j` adds to the running sum. -/
def tile (c : Dev nD) (r : Fin 32) (d : Fin 2048) (j : ℕ) : EReal := ∑ q : Fin 512,
  term (aX m c) (aG m c) (aW m c) (aK m c) (aB m c) (aD m c) (aP m c) r d (j * 512 + q.val)

/-- A point's sum over its columns is that. -/
theorem tile_eq (c : Dev nD) (t : Fin cfg0.N) (r : Fin 32) (d : Fin 2048) :
    (∑ q : Fin 512, taps (iblk m c 6 t) (iblk m c 4 t) (iblk m c 9 t) (iblk m c 10 t)
        (k0_pay3 (F := Ideal) (k0_pay2 (F := Ideal) (iblk m c 0 t) (iblk m c 1 t)) (iblk m c 2 t)) r q
      * Ideal.logistic (taps (iblk m c 6 t) (iblk m c 4 t) (iblk m c 9 t) (iblk m c 10 t)
        (k0_pay3 (F := Ideal) (k0_pay2 (F := Ideal) (iblk m c 0 t) (iblk m c 1 t)) (iblk m c 2 t)) r q)
      * taps (iblk m c 7 t) (iblk m c 5 t) (iblk m c 11 t) (iblk m c 12 t)
        (k0_pay4 (F := Ideal) (k0_pay2 (F := Ideal) (iblk m c 0 t) (iblk m c 1 t)) (iblk m c 3 t)) r q
      * (show FVec Ideal S512x2048 .bf16 from iblk m c 8 t) (ix2 q d)) = tile m c r d t.val := by
  unfold tile
  refine Finset.sum_congr rfl fun q _ => ?_
  rw [gateTaps_at, upTaps_at, read8]
  exact half_term _ _ _ _ _ _ _ r d (col t.val t.isLt q)

/-- What the first point leaves in the first output block, -/
theorem first_at (c : Dev nD) (t : Fin cfg0.N) (h : t.val % 11 = 0) (r : Fin 32) (d : Fin 2048) :
    (outsAt0 m c t.val t.isLt).1 (ix2 r d) = aX m c (ix2 r d) + tile m c r d t.val := by
  rw [outsAt0_A m c t h]
  frame_out
  exact (add_at _ _ _ _ _ _ _ _ _ _ _ _ r d).trans (congrArg₂ (· + ·) (read0 m c t r d) (tile_eq m c t r d))

/-- and what a later point leaves, over what the point before left. -/
theorem later_at (c : Dev nD) (t : Fin cfg0.N) (h : ¬t.val % 11 = 0) (r : Fin 32) (d : Fin 2048) :
    (outsAt0 m c t.val t.isLt).1 (ix2 r d)
      = (outsAt0 m c (t.val - 1) (Nat.lt_of_le_of_lt (Nat.sub_le _ _) t.isLt)).1 (ix2 r d) + tile m c r d t.val := by
  rw [outsAt0_B m c t h]
  frame_out
  rw [read_unread_whole, ← kept m c t h]
  exact (add_at _ _ _ _ _ _ _ _ _ _ _ _ r d).trans (congrArg (_ + ·) (tile_eq m c t r d))

/-- The running sum after a point: the input and the tiles of columns up to the point's. -/
theorem sum_at (c : Dev nD) (r : Fin 32) (d : Fin 2048) : (n : ℕ) → (hn : n < cfg0.N) →
    (outsAt0 m c n hn).1 (ix2 r d) = aX m c (ix2 r d) + ∑ j ∈ Finset.range (n + 1), tile m c r d j
  | 0, hn => by
    rw [Finset.sum_range_one]
    exact first_at m c ⟨0, hn⟩ rfl r d
  | n + 1, hn => by
    have h : n + 1 < 11 := Nat.lt_of_lt_of_eq hn N_0
    rw [Finset.sum_range_succ, ← add_assoc, ← sum_at c r d n (Nat.lt_of_succ_lt hn)]
    exact later_at m c ⟨n + 1, hn⟩ (by show ¬(n + 1) % 11 = 0; omega) r d

/-! ## The three arrays after the run -/

/-- The first array is the reference's first result. -/
theorem array13_eq (c : Dev nD) : (dats m 0 c).arrAt 13 cfg0.N
    = Cert.Reference11Ideal.Read.val_main_v45 (F := Ideal) (aX m c) (aG m c) (aW m c) (aK m c) (aB m c) (aD m c) (aP m c) := by
  refine (dats m 0 c).arrAt_eq_of_covers 13 _ (by decide +kernel) fun t ht y => ?_
  have hf : t.val = 10 := (by decide +kernel : ∀ t : Fin cfg0.N, (cfg0.win 13).flush t = true → t.val = 10) t ht
  blk_simp
  rw [after0_13]
  have hi := idx t
  idx_bounds
  have h0 : ((((cfg0.win 13).blk t).view.emb y) 0).val = (y 0).val := by blk_simp [idx t]
  have h1 : ((((cfg0.win 13).blk t).view.emb y) 1).val = (y 1).val := by blk_simp [idx t]
  generalize ((cfg0.win 13).blk t).view.emb y = j at h0 h1 ⊢
  idx_vars j
  idx_vars y
  have e0 : y0 = j0 := Fin.ext h0.symm
  have e1 : y1 = j1 := Fin.ext h1.symm
  refine (sum_at m c y0 y1 t.val t.isLt).trans ((?_ : _ = _).trans (ref_out_at _ _ _ _ _ _ _ _ _).symm)
  rw [e0, e1, hf]
  exact congrArg (_ + ·) (sum_tiles _ _ _ _ _ _ _ _ _)

/-- The second array is the reference's second result. -/
theorem array14_eq (c : Dev nD) : (dats m 0 c).arrAt 14 cfg0.N
    = Cert.Reference11Ideal.Read.val_main_v48 (F := Ideal) (aX m c) (aG m c) (aW m c) := by
  refine (dats m 0 c).arrAt_eq_of_covers 14 _ (by decide +kernel) fun t ht y => ?_
  blk_simp
  rw [after0_14]
  have hi := idx t
  idx_bounds
  have h0 : ((((cfg0.win 14).blk t).view.emb y) 0).val = (y 0).val := by blk_simp [idx t]
  have h1 : ((((cfg0.win 14).blk t).view.emb y) 1).val = t.val * 512 + (y 1).val := by blk_simp [idx t]
  generalize ((cfg0.win 14).blk t).view.emb y = j at h0 h1 ⊢
  idx_vars j
  idx_vars y
  have e0 : y0 = j0 := Fin.ext h0.symm
  have e1 : col t.val t.isLt y1 = j1 := Fin.ext h1.symm
  refine (gateOut_at m c t y0 y1).trans (Eq.trans ?_ (ref_gate_at _ _ _ _ _).symm)
  rw [e0, e1]

/-- The third array is the reference's third result. -/
theorem array15_eq (c : Dev nD) : (dats m 0 c).arrAt 15 cfg0.N
    = Cert.Reference11Ideal.Read.val_main_v51 (F := Ideal) (aX m c) (aG m c) (aW m c) := by
  refine (dats m 0 c).arrAt_eq_of_covers 15 _ (by decide +kernel) fun t ht y => ?_
  blk_simp
  rw [after0_15]
  have hi := idx t
  idx_bounds
  have h0 : ((((cfg0.win 15).blk t).view.emb y) 0).val = (y 0).val := by blk_simp [idx t]
  have h1 : ((((cfg0.win 15).blk t).view.emb y) 1).val = t.val * 512 + (y 1).val := by blk_simp [idx t]
  generalize ((cfg0.win 15).blk t).view.emb y = j at h0 h1 ⊢
  idx_vars j
  idx_vars y
  have e0 : y0 = j0 := Fin.ext h0.symm
  have e1 : col t.val t.isLt y1 = j1 := Fin.ext h1.symm
  refine (upOut_at m c t y0 y1).trans (Eq.trans ?_ (ref_up_at _ _ _ _ _).symm)
  rw [e0, e1]

end Cert.FfnStep

end
-- ==== Proof.FfnStepClaim.lean ====
module

public import proofs.«01_k».proof.Defs
public import proofs.«01_k».proof.Proof.FfnStepArray

@[expose] public section

set_option maxRecDepth 16384

noncomputable section

open Idealize.ShloMosaic Idealize.ShloMosaic.TcCoe Idealize.SL.Sem
open Idealize.ShloMosaic.Pipeline (Dat)

namespace Cert.FfnStep

open Cert.Kernel11Ideal.Gen

/-- The sample group's feed-forward call returns the reference's three arrays, from the same arguments. -/
theorem claim : Cert.algebraic_Kernel11Ideal_Reference11Ideal := by
  intro m g m' g' _ hagree
  refine ⟨fun c => Cert.Reference11Ideal.Read.val_main_v45 (F := Ideal) (aX m c) (aG m c) (aW m c) (aK m c) (aB m c) (aD m c) (aP m c),
    fun c => Cert.Reference11Ideal.Read.val_main_v48 (F := Ideal) (aX m c) (aG m c) (aW m c),
    fun c => Cert.Reference11Ideal.Read.val_main_v51 (F := Ideal) (aX m c) (aG m c) (aW m c), ?_, ?_⟩
  · exact (θ_run Cert.Kernel11Ideal.defs _ _).mono
      (fun _ h c => ⟨(h c).1.trans (array13_eq m c), (h c).2.1.trans (array14_eq m c), (h c).2.2.1.trans (array15_eq m c),
        (h c).2.2.2⟩) (Cert.Kernel11Ideal.Value.run_blocks m g)
  · refine (θ_run Cert.Reference11Ideal.defs _ _).mono (fun _ h c => ⟨(h c).1.trans ?_, (h c).2.1.trans ?_, (h c).2.2.1.trans ?_, (h c).2.2.2⟩)
      (Cert.Reference11Ideal.Value.run m' g')
    all_goals obtain ⟨e0, e1, e2, e3, e4, e5, e6⟩ := hagree c
    · rw [Cert.Reference11Ideal.Read.val_main_v45_eq, e0, e1, e2, e3, e4, e5, e6]; rfl
    · rw [Cert.Reference11Ideal.Read.val_main_v48_eq, e0, e1, e2]; rfl
    · rw [Cert.Reference11Ideal.Read.val_main_v51_eq, e0, e1, e2]; rfl

end Cert.FfnStep

end
-- ==== Proof.StepOut.lean ====
module

public import proofs.«01_k».proof.Proof.Gen.Kernel12Ideal.Value
public import proofs.«01_k».proof.Proof.Gen.Reference12Ideal.Read
public import proofs.«01_k».proof.Proof.OutProj
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.StepOut

open Cert.Kernel12Ideal Cert.Kernel12Ideal.Gen Cert.Reference12Ideal.Read

variable (m : (ℓ : Loc nD τ sig) → Buf (Elt Ideal) ℓ)

/-- Which block each window stages at grid point `t`: the row block is `t / 4`, which is 0, the column block `t % 4`; the three
    weight windows stage the rows of the three mixers. -/
theorem idx : ∀ t : Fin cfg0.N, win0_0.index t = ![t.val / 4, 0] ∧ win0_1.index t = ![t.val / 4, 0]
    ∧ win0_2.index t = ![t.val / 4, 0] ∧ win0_3.index t = ![0, t.val % 4] ∧ win0_4.index t = ![2, t.val % 4]
    ∧ win0_5.index t = ![3, t.val % 4] ∧ win0_6.index t = ![t.val / 4, t.val % 4]
    ∧ win0_7.index t = ![t.val / 4, t.val % 4] :=
  (by decide +kernel : ∀ t : Fin grid0.N, _)

/-- The joined outputs of the three mixers at row `i` and column `k`. -/
def joined (A : FVec Ideal S32x1024 .f32) (B : FVec Ideal S32x512 .f32) (C : FVec Ideal S32x512 .f32)
    (i : Fin 32) (k : Fin 2048) : EReal :=
  if h0 : k.val < 1024 then A (ix2 i ⟨k.val, h0⟩)
  else if h1 : k.val < 1536 then B (ix2 i ⟨k.val - 1024, by omega⟩)
  else C (ix2 i ⟨k.val - 1536, by omega⟩)

/-- The reference's joined array at an index. -/
theorem joined_at (A : FVec Ideal S32x1024 .f32) (B : FVec Ideal S32x512 .f32) (C : FVec Ideal S32x512 .f32)
    (i : Fin 32) (k : Fin 2048) : val_main_v0 (F := Ideal) A B C (ix2 i k) = joined A B C i k := by
  pointwise [val_main_v0]
  unfold joined
  repeat' split
  all_goals first
    | (exfalso; omega)
    | rfl

/-- An element of the reference's result: the residual plus the three mixers' shares of the product. -/
theorem result_at (A : FVec Ideal S32x1024 .f32) (B : FVec Ideal S32x512 .f32) (C : FVec Ideal S32x512 .f32)
    (W : FVec Ideal S2048x2048 .f32) (X : FVec Ideal S32x2048 .f32) (i : Fin 32) (l : Fin 2048) :
    val_main_v2 (F := Ideal) A B C W X (ix2 i l) = X (ix2 i l)
      + (((∑ k : Fin 1024, A (ix2 i k) * W (ix2 ⟨k.val, by omega⟩ l))
          + ∑ k : Fin 512, B (ix2 i k) * W (ix2 ⟨k.val + 1024, by omega⟩ l))
        + ∑ k : Fin 512, C (ix2 i k) * W (ix2 ⟨k.val + 1536, by omega⟩ l)) := by
  have h : val_main_v2 (F := Ideal) A B C W X (ix2 i l)
      = X (ix2 i l) + ∑ k : Fin 2048, joined A B C i k * W (ix2 k l) := by
    simp only [← joined_at]
    pointwise [val_main_v2, val_main_v1]
  rw [h, Cert.OutProj.sum_three]
  refine congrArg₂ (· + ·) rfl (congrArg₂ (· + ·) (congrArg₂ (· + ·) ?_ ?_) ?_) <;>
    refine Finset.sum_congr rfl fun k _ => congrArg (· * _) ?_
  · unfold joined
    rw [dif_pos (show k.val < 1024 from k.isLt)]
  · unfold joined
    rw [dif_neg (show ¬ k.val + 1024 < 1024 by omega), dif_pos (show k.val + 1024 < 1536 by omega)]
    exact congrArg (fun q => B (ix2 i q)) (Fin.ext (Nat.add_sub_cancel k.val 1024))
  · unfold joined
    rw [dif_neg (show ¬ k.val + 1536 < 1024 by omega), dif_neg (show ¬ k.val + 1536 < 1536 by omega)]
    exact congrArg (fun q => C (ix2 i q)) (Fin.ext (Nat.add_sub_cancel k.val 1536))

/-- An element of what one grid point computes from its seven blocks. -/
theorem block_at (A : FVec Ideal S32x1024 .f32) (Wa : FVec Ideal S1024x512 .bf16) (B : FVec Ideal S32x512 .f32)
    (Wb : FVec Ideal S512x512 .bf16) (C : FVec Ideal S32x512 .f32) (Wc : FVec Ideal S512x512 .bf16)
    (X : FVec Ideal S32x512 .f32) (j) : k0_pay1 (F := Ideal) A Wa B Wb C Wc X j = X (ix2 (j 0) (j 1))
      + (((∑ k : Fin 1024, A (ix2 (j 0) k) * Wa (ix2 k (j 1))) + ∑ k : Fin 512, B (ix2 (j 0) k) * Wb (ix2 k (j 1)))
        + ∑ k : Fin 512, C (ix2 (j 0) k) * Wc (ix2 k (j 1))) := by
  idx_vars j
  pointwise [k0_pay1]

/-- The weight the call stages, at an index: the argument's element. -/
theorem weight_at (c : Dev nD) (k l : Fin 2048) :
    (show FVec Ideal S2048x2048 .bf16 from V m c main_v0) (ix2 k l) = m ((c : Thread nD τ).loc main_arg3) (ix2 k l) := by
  have h : (show FVec Ideal S2048x2048 .bf16 from V m c main_v0)
      = truncf .bf16 (m ((c : Thread nD τ).loc main_arg3)) bitsLt_bf16_f32 := by
    unfold V
    after_results_simp <;> rfl
  rw [h]
  pointwise

/-- The array after the run is the reference's result over the same arguments. -/
theorem array_eq (c : Dev nD) : (dats m 0 c).arrAt 7 cfg0.N
    = val_main_v2 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  frame_out
  rw [block_at]
  obtain ⟨e0, e1, e2, e3, e4, e5, e6, e7⟩ := idx t
  idx_bounds
  have h0 : ((((cfg0.win 7).blk t).view.emb y) 0).val = t.val / 4 * 32 + (y 0).val := by blk_simp [idx t]
  have h1 : ((((cfg0.win 7).blk t).view.emb y) 1).val = t.val % 4 * 512 + (y 1).val := by blk_simp [idx t]
  generalize ((cfg0.win 7).blk t).view.emb y = j at h0 h1 ⊢
  idx_vars j
  refine Eq.trans ?_ (result_at _ _ _ _ _ _ _).symm
  have r0 : ∀ x : Fin 1024, (show FVec Ideal S32x1024 .f32 from iblk m c 0 t) (ix2 (y 0) x)
      = m ((c : Thread nD τ).loc main_arg0) (ix2 j0 x) := fun x => by blk_ext [iblk, V, idx t]
  have r1 : ∀ x : Fin 512, (show FVec Ideal S32x512 .f32 from iblk m c 1 t) (ix2 (y 0) x)
      = m ((c : Thread nD τ).loc main_arg1) (ix2 j0 x) := fun x => by blk_ext [iblk, V, idx t]
  have r2 : ∀ x : Fin 512, (show FVec Ideal S32x512 .f32 from iblk m c 2 t) (ix2 (y 0) x)
      = m ((c : Thread nD τ).loc main_arg2) (ix2 j0 x) := fun x => by blk_ext [iblk, V, idx t]
  have r3 : ∀ x : Fin 1024, (show FVec Ideal S1024x512 .bf16 from iblk m c 3 t) (ix2 x (y 1))
      = m ((c : Thread nD τ).loc main_arg3) (ix2 ⟨x.val, by omega⟩ j1) := fun x => by
    refine Eq.trans ?_ (weight_at m c _ _)
    blk_ext [iblk, idx t]
  have r4 : ∀ x : Fin 512, (show FVec Ideal S512x512 .bf16 from iblk m c 4 t) (ix2 x (y 1))
      = m ((c : Thread nD τ).loc main_arg3) (ix2 ⟨x.val + 1024, by omega⟩ j1) := fun x => by
    refine Eq.trans ?_ (weight_at m c _ _)
    blk_ext [iblk, idx t]
  have r5 : ∀ x : Fin 512, (show FVec Ideal S512x512 .bf16 from iblk m c 5 t) (ix2 x (y 1))
      = m ((c : Thread nD τ).loc main_arg3) (ix2 ⟨x.val + 1536, by omega⟩ j1) := fun x => by
    refine Eq.trans ?_ (weight_at m c _ _)
    blk_ext [iblk, idx t]
  have r6 : (show FVec Ideal S32x512 .f32 from iblk m c 6 t) (ix2 (y 0) (y 1))
      = m ((c : Thread nD τ).loc main_arg4) (ix2 j0 j1) := by blk_ext [iblk, V, idx t]
  simp only [r0, r1, r2, r3, r4, r5, r6]

end Cert.StepOut

end
-- ==== Proof.StepOutClaim.lean ====
module

public import proofs.«01_k».proof.Defs
public import proofs.«01_k».proof.Proof.StepOut

@[expose] public section

noncomputable section

open Idealize.ShloMosaic Idealize.ShloMosaic.TcCoe Idealize.SL.Sem

namespace Cert.StepOut

/-- The sample group's output projection returns the reference's array, from the same arguments. -/
theorem claim : Cert.algebraic_Kernel12Ideal_Reference12Ideal := by
  intro m g m' g' _ hagree
  refine ⟨fun c => Cert.Reference12Ideal.Read.val_main_v2 (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg3))
    (m ((c.tc : Thread Cert.Kernel12Ideal.nD Cert.Kernel12Ideal.τ).loc Cert.Kernel12Ideal.main_arg4)), ?_, ?_⟩
  · exact (θ_run Cert.Kernel12Ideal.defs _ _).mono
      (fun _ h c => ⟨(h c).1.trans (array_eq m c), (h c).2⟩) (Cert.Kernel12Ideal.Value.run_blocks m g)
  · refine (θ_run Cert.Reference12Ideal.defs _ _).mono (fun _ h c => ⟨(h c).1.trans ?_, (h c).2⟩)
      (Cert.Reference12Ideal.Value.run m' g')
    obtain ⟨e0, e1, e2, e3, e4⟩ := hagree c
    rw [Cert.Reference12Ideal.Read.val_main_v2_eq, e0, e1, e2, e3, e4]

end Cert.StepOut

end
-- ==== Proof.MemQuery.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemQuery

open Cert.Kernel13Ideal Cert.Kernel13Ideal.Gen Cert.Reference13Ideal.Read

variable (m : (ℓ : Loc nD τ sig) → Buf (Elt Ideal) ℓ)

/-- The one grid point stages whole arrays. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- What the point leaves in the output block: the normalised rows times the weight. -/
theorem block (c : Dev nD) (t : Fin cfg0.N) :
    outsAt0 m c t = k0_pay2 (F := Ideal) (k0_pay1 (F := Ideal) (iblk m c 0 t) (iblk m c 1 t)) (iblk m c 2 t) := by
  unfold outsAt0
  frame_out

/-- Row `i` of the normalised input. -/
def hrow (X : FVec Ideal S32x2048 .f32) (G : FVec Ideal S2048 .f32) (i : Fin 32) (k : Fin 2048) : EReal :=
  X (ix2 i k) * Ideal.rsqrt (Ideal.div (∑ x, X (ix2 i x) * X (ix2 i x)) (Ideal.ofBits .f32 1157627904#32)
    + Ideal.ofBits .f32 897988541#32) * G (ix1 k)

/-- An element of the reference's product: a normalised row times a column of the projection. -/
theorem product_at (X : FVec Ideal S32x2048 .f32) (G : FVec Ideal S2048 .f32) (W : FVec Ideal S2048x512 .f32)
    (i : Fin 32) (l : Fin 512) :
    val_main_v13 (F := Ideal) X G W (ix2 i l) = ∑ k : Fin 2048, hrow X G i k * W (ix2 k l) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The weight the call stages, at an index: the argument's element. -/
theorem weight_at (c : Dev nD) (k : Fin 2048) (l : Fin 512) :
    (show FVec Ideal S2048x512 .bf16 from V m c main_v0) (ix2 k l) = m ((c : Thread nD τ).loc main_arg2) (ix2 k l) := by
  have h : (show FVec Ideal S2048x512 .bf16 from V m c main_v0)
      = truncf .bf16 (m ((c : Thread nD τ).loc main_arg2)) bitsLt_bf16_f32 := by
    unfold V
    after_results_simp <;> rfl
  rw [h]
  pointwise

/-- An element of a block: the block's normalised row times a column of the staged block. -/
theorem block_at (X : FVec Ideal S32x2048 .f32) (G : FVec Ideal S1x2048 .f32) (W : FVec Ideal S2048x512 .bf16) (j) :
    k0_pay2 (F := Ideal) (k0_pay1 (F := Ideal) X G) W j
      = ∑ k : Fin 2048, X (ix2 (j 0) k) * Ideal.rsqrt (Ideal.div (∑ x, X (ix2 (j 0) x) * X (ix2 (j 0) x))
          (Ideal.ofBits .f32 0x45000000#32) + Ideal.ofBits .f32 0x358637BD#32) * G (ix2 0 k) * W (ix2 k (j 1)) := by
  idx_vars j
  pointwise [k0_pay2, k0_pay1]

/-- The gain the call stages, at an index: the argument's element. -/
theorem gain_at (c : Dev nD) (k : Fin 2048) :
    (show FVec Ideal S1x2048 .f32 from V m c main_v1) (ix2 0 k) = m ((c : Thread nD τ).loc main_arg1) (ix1 k) := by
  have h : (show FVec Ideal S1x2048 .f32 from V m c main_v1)
      = shapeCast S1x2048 (m ((c : Thread nD τ).loc main_arg1)) shapeCasts_S2048_S1x2048 := by
    unfold V
    after_results_simp <;> rfl
  rw [h]
  pointwise

/-- The array after the run is the reference's result over the same arguments. -/
theorem array_eq (c : Dev nD) : (dats m 0 c).arrAt 3 cfg0.N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, block, block_at]
  obtain ⟨e0, e1, e2, e3⟩ := idx t
  idx_bounds
  have h0 : ((((cfg0.win 3).blk t).view.emb y) 0).val = (y 0).val := by blk_simp [idx t]
  have h1 : ((((cfg0.win 3).blk t).view.emb y) 1).val = (y 1).val := by blk_simp [idx t]
  generalize ((cfg0.win 3).blk t).view.emb y = j at h0 h1 ⊢
  idx_vars j
  refine Eq.trans ?_ (product_at _ _ _ _ _).symm
  have r0 : ∀ x : Fin 2048, (show FVec Ideal S32x2048 .f32 from iblk m c 0 t) (ix2 (y 0) x)
      = m ((c : Thread nD τ).loc main_arg0) (ix2 j0 x) := fun x => by blk_ext [iblk, V, idx t]
  have r1 : ∀ x : Fin 2048, (show FVec Ideal S1x2048 .f32 from iblk m c 1 t) (ix2 0 x)
      = m ((c : Thread nD τ).loc main_arg1) (ix1 x) := fun x => by
    blk_simp [iblk, idx t]
    entry_read
    pointwise
    blk_ext [idx t]
  have r2 : ∀ x : Fin 2048, (show FVec Ideal S2048x512 .bf16 from iblk m c 2 t) (ix2 x (y 1))
      = m ((c : Thread nD τ).loc main_arg2) (ix2 x j1) := fun x => by
    refine Eq.trans ?_ (weight_at m c _ _)
    blk_ext [iblk, idx t]
  simp only [r0, r1, r2]
  rfl

end Cert.MemQuery

end
-- ==== Proof.MemQueryClaim.lean ====
module

public import proofs.«01_k».proof.Defs
public import proofs.«01_k».proof.Proof.MemQuery

@[expose] public section

noncomputable section

open Idealize.ShloMosaic Idealize.ShloMosaic.TcCoe Idealize.SL.Sem

namespace Cert.MemQuery

/-- The sample group's memory queries' call returns the reference's array, from the same arguments. -/
theorem claim : Cert.algebraic_Kernel13Ideal_Reference13Ideal := by
  intro m g m' g' _ hagree
  refine ⟨fun c => Cert.Reference13Ideal.Read.val_main_v13 (F := Ideal)
    (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1))
    (m ((c.tc : Thread Cert.Kernel13Ideal.nD Cert.Kernel13Ideal.τ).loc Cert.Kernel13Ideal.main_arg2)), ?_, ?_⟩
  · exact (θ_run Cert.Kernel13Ideal.defs _ _).mono
      (fun _ h c => ⟨(h c).1.trans (array_eq m c), (h c).2⟩) (Cert.Kernel13Ideal.Value.run_blocks m g)
  · refine (θ_run Cert.Reference13Ideal.defs _ _).mono (fun _ h c => ⟨(h c).1.trans ?_, (h c).2⟩)
      (Cert.Reference13Ideal.Value.run m' g')
    obtain ⟨e0, e1, e2⟩ := hagree c
    rw [Cert.Reference13Ideal.Read.val_main_v13_eq, e0, e1, e2]

end Cert.MemQuery

end
-- ==== Proof.MemOut.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ValueKit.Held
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MemOut

open Cert.Kernel14Ideal Cert.Kernel14Ideal.Gen Cert.Reference14Ideal.Read

variable (m : (ℓ : Loc nD τ sig) → Buf (Elt Ideal) ℓ)

/-- Which block each window stages at grid point `t`: the row block is `t / 4`, which is 0, the column block `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- An element of the reference's result: the residual plus the product. -/
theorem result_at (A : FVec Ideal S32x512 .f32) (W : FVec Ideal S512x2048 .f32) (X : FVec Ideal S32x2048 .f32)
    (i : Fin 32) (l : Fin 2048) :
    val_main_v1 (F := Ideal) A W X (ix2 i l) = X (ix2 i l) + ∑ k : Fin 512, A (ix2 i k) * W (ix2 k l) := by
  pointwise [val_main_v1, val_main_v0]

/-- An element of what one grid point computes from its three blocks. -/
theorem block_at (A : FVec Ideal S32x512 .bf16) (W : FVec Ideal S512x512 .bf16) (X : FVec Ideal S32x512 .f32) (j) :
    k0_pay1 (F := Ideal) X A W j = X (ix2 (j 0) (j 1)) + ∑ k : Fin 512, A (ix2 (j 0) k) * W (ix2 k (j 1)) := by
  idx_vars j
  pointwise [k0_pay1]

/-- The heads the call stages, at an index: the argument's element. -/
theorem heads_at (c : Dev nD) (k : Fin 32) (l : Fin 512) :
    (show FVec Ideal S32x512 .bf16 from V m c main_v0) (ix2 k l) = m ((c : Thread nD τ).loc main_arg0) (ix2 k l) := by
  have h : (show FVec Ideal S32x512 .bf16 from V m c main_v0)
      = truncf .bf16 (m ((c : Thread nD τ).loc main_arg0)) bitsLt_bf16_f32 := by
    unfold V
    after_results_simp <;> rfl
  rw [h]
  pointwise

/-- The weight the call stages, at an index: the argument's element. -/
theorem weight_at (c : Dev nD) (k : Fin 512) (l : Fin 2048) :
    (show FVec Ideal S512x2048 .bf16 from V m c main_v1) (ix2 k l) = m ((c : Thread nD τ).loc main_arg1) (ix2 k l) := by
  have h : (show FVec Ideal S512x2048 .bf16 from V m c main_v1)
      = truncf .bf16 (m ((c : Thread nD τ).loc main_arg1)) bitsLt_bf16_f32 := by
    unfold V
    after_results_simp <;> rfl
  rw [h]
  pointwise

/-- The array after the run is the reference's result over the same arguments. -/
theorem array_eq (c : Dev nD) : (dats m 0 c).arrAt 3 cfg0.N
    = val_main_v1 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  rw [block_at]
  obtain ⟨e0, e1, e2, e3⟩ := idx t
  idx_bounds
  have h0 : ((((cfg0.win 3).blk t).view.emb y) 0).val = t.val / 4 * 32 + (y 0).val := by blk_simp [idx t]
  have h1 : ((((cfg0.win 3).blk t).view.emb y) 1).val = t.val % 4 * 512 + (y 1).val := by blk_simp [idx t]
  generalize ((cfg0.win 3).blk t).view.emb y = j at h0 h1 ⊢
  idx_vars j
  refine Eq.trans ?_ (result_at _ _ _ _ _).symm
  have r0 : ∀ x : Fin 512, (show FVec Ideal S32x512 .bf16 from iblk m c 0 t) (ix2 (y 0) x)
      = m ((c : Thread nD τ).loc main_arg0) (ix2 j0 x) := fun x => by
    refine Eq.trans ?_ (heads_at m c _ _)
    blk_ext [iblk, idx t]
  have r1 : ∀ x : Fin 512, (show FVec Ideal S512x512 .bf16 from iblk m c 1 t) (ix2 x (y 1))
      = m ((c : Thread nD τ).loc main_arg1) (ix2 x j1) := fun x => by
    refine Eq.trans ?_ (weight_at m c _ _)
    blk_ext [iblk, idx t]
  have r2 : (show FVec Ideal S32x512 .f32 from iblk m c 2 t) (ix2 (y 0) (y 1))
      = m ((c : Thread nD τ).loc main_arg2) (ix2 j0 j1) := by blk_ext [iblk, V, idx t]
  simp only [r0, r1, r2]

end Cert.MemOut

end
-- ==== Proof.MemOutClaim.lean ====
module

public import proofs.«01_k».proof.Defs
public import proofs.«01_k».proof.Proof.MemOut

@[expose] public section

noncomputable section

open Idealize.ShloMosaic Idealize.ShloMosaic.TcCoe Idealize.SL.Sem

namespace Cert.MemOut

/-- The sample group's memory output projection returns the reference's array, from the same arguments. -/
theorem claim : Cert.algebraic_Kernel14Ideal_Reference14Ideal := by
  intro m g m' g' _ hagree
  refine ⟨fun c => Cert.Reference14Ideal.Read.val_main_v1 (F := Ideal)
    (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1))
    (m ((c.tc : Thread Cert.Kernel14Ideal.nD Cert.Kernel14Ideal.τ).loc Cert.Kernel14Ideal.main_arg2)), ?_, ?_⟩
  · exact (θ_run Cert.Kernel14Ideal.defs _ _).mono
      (fun _ h c => ⟨(h c).1.trans (array_eq m c), (h c).2⟩) (Cert.Kernel14Ideal.Value.run_blocks m g)
  · refine (θ_run Cert.Reference14Ideal.defs _ _).mono (fun _ h c => ⟨(h c).1.trans ?_, (h c).2⟩)
      (Cert.Reference14Ideal.Value.run m' g')
    obtain ⟨e0, e1, e2⟩ := hagree c
    rw [Cert.Reference14Ideal.Read.val_main_v1_eq, e0, e1, e2]

end Cert.MemOut

end
-- ==== Proof.StepMemMath.lean ====
module

public import proofs.«01_k».proof.Kernel15Ideal
public import proofs.«01_k».proof.Proof.MemMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepMem

open Cert.Kernel15Ideal
open Cert.Mem

/-! ## The heads side by side, with the other heads' rows masked -/

/-- A sum over the rows of four heads side by side, when only those of head `h` count. -/
theorem sum_own (f : Fin 1024 → EReal) (h : Fin 4) (hz : ∀ j, j.val % 4 ≠ h.val → f j = 0) :
    ∑ j, f j = ∑ x : Fin 256, f ⟨x.val * 4 + h.val, by omega⟩ := by
  refine (Fintype.sum_of_injective (fun x : Fin 256 => (⟨x.val * 4 + h.val, by omega⟩ : Fin 1024)) ?_ _ _ ?_ fun _ => rfl).symm
  · intro x y e
    have e' := congrArg Fin.val e
    dsimp only at e'
    exact Fin.ext (by omega)
  · intro j hj
    refine hz j fun e => hj ⟨⟨j.val / 4, by omega⟩, Fin.ext ?_⟩
    dsimp only
    omega

/-- The largest of them, when the others' rows hold the least value. -/
theorem max_own (S : Fin 1024 → EReal) (h : Fin 4) (hz : ∀ j, j.val % 4 ≠ h.val → S j = ⊥) :
    Finset.univ.fold max ⊥ S = Finset.univ.fold max ⊥ fun x : Fin 256 => S ⟨x.val * 4 + h.val, by omega⟩ := by
  apply le_antisymm
  · refine (Finset.fold_max_le _).2 ⟨bot_le, fun j _ => ?_⟩
    by_cases e : j.val % 4 = h.val
    · refine (Finset.le_fold_max _).2 (.inr ⟨⟨j.val / 4, by omega⟩, Finset.mem_univ _, le_of_eq (congrArg S (Fin.ext ?_))⟩)
      dsimp only
      omega
    · rw [hz j e]; exact bot_le
  · exact (Finset.fold_max_le _).2 ⟨bot_le, fun x _ => (Finset.le_fold_max _).2 (.inr ⟨_, Finset.mem_univ _, le_rfl⟩)⟩

/-- Attending to all rows with the other heads' masked is attending to the head's own, when its scores are real. -/
theorem masked_eq (s v : Fin 256 → EReal) (S V : Fin 1024 → EReal) (h : Fin 4) (hs : ∀ x, IsReal (s x))
    (hS : ∀ x : Fin 256, S ⟨x.val * 4 + h.val, by omega⟩ = s x) (hV : ∀ x : Fin 256, V ⟨x.val * 4 + h.val, by omega⟩ = v x)
    (hz : ∀ j, j.val % 4 ≠ h.val → S j = ⊥) :
    ∑ j, Ideal.div (weight S j) (∑ z, weight S z) * V j = attendR s v := by
  have hM : Finset.univ.fold max (Ideal.ofBits .f32 0xFF800000#32) S
      = Finset.univ.fold max (Ideal.ofBits .f32 0xFF800000#32) s := by
    rw [start_bot, max_own S h hz, funext hS]
  have hR : IsReal (Finset.univ.fold max (Ideal.ofBits .f32 0xFF800000#32) s) := by
    rw [start_bot]; exact fold_max_real s hs
  have hw : ∀ x : Fin 256, weight S ⟨x.val * 4 + h.val, by omega⟩ = weight s x := fun x => by
    unfold weight
    rw [hM, hS]
  have h0 : ∀ j, j.val % 4 ≠ h.val → weight S j = 0 := fun j hj => by
    unfold weight
    rw [hM, hz j hj, sub_eq_add_neg, EReal.bot_add]
    rfl
  have hsum : ∑ z, weight S z = ∑ x, weight s x := by
    rw [sum_own _ h h0]
    exact Finset.sum_congr rfl fun x _ => hw x
  obtain ⟨T, hT, e⟩ := sum_pos (fun x => weight s x) fun x => exp_pos ((hs x).sub hR)
  have hne : (T : EReal) ≠ 0 := fun h => hT.ne' (EReal.coe_eq_zero.1 h)
  rw [hsum, sum_own _ h fun j hj => by rw [h0 j hj, e]; simp only [Ideal.div, if_neg hne, zero_mul]]
  unfold attendR
  exact Finset.sum_congr rfl fun x _ => by rw [hw, hV, mul_comm]

/-- The literal that scales the scores is a nonnegative real. -/
theorem scale_nonneg : ∃ c : ℝ, 0 ≤ c ∧ Ideal.ofBits .f32 0x3DB504F3#32 = (c : EReal) := by
  refine ⟨_, ?_, by simp [Ideal.ofBits, Ideal.ieee]; rfl⟩
  positivity

/-- Scaling the query scales the score. -/
theorem scaled_score (q k : Fin 128 → EReal) : ∑ y, q y * Ideal.ofBits .f32 0x3DB504F3#32 * k y
    = (∑ y, q y * k y) * Ideal.ofBits .f32 0x3DB504F3#32 := by
  obtain ⟨c, hc, e⟩ := scale_nonneg
  rw [e, sum_mul_real _ _ c hc]
  exact Finset.sum_congr rfl fun y _ => mul_right_comm _ _ _

/-! ## The queries, keys and values, head by head -/

/-- Row `r` of sequence `b`'s queries: a head's for the first four, zero for the four that fill the block. -/
def qrow (Q : FVec Ideal S32x512 .f32) (b : Fin 32) (r : Fin 8) (y : Fin 128) : EReal :=
  if h : r.val < 4 then Q (ix2 b ⟨r.val * 128 + y.val, by omega⟩) else 0

/-- The head of row `r`. -/
def headR (r : Fin 8) : Fin 4 := ⟨r.val % 4, by omega⟩

/-- The scores of row `r` of sequence `b` against the memory. -/
def scores (Q : FVec Ideal S32x512 .f32) (K : FVec Ideal S32x256x4x128 .f32) (b : Fin 32) (r : Fin 8) : Fin 256 → EReal :=
  score (qrow Q b r) fun x y => K (ix4 b x (headR r) y)

/-- They are real when the queries and the keys are. -/
theorem scores_real (Q : FVec Ideal S32x512 .f32) (K : FVec Ideal S32x256x4x128 .f32) (hQ : ∀ i, IsReal (Q i))
    (hK : ∀ i, IsReal (K i)) (b : Fin 32) (r : Fin 8) (x : Fin 256) : IsReal (scores Q K b r x) := by
  refine score_real _ _ (fun y => ?_) (fun x y => hK _) x
  unfold qrow
  split
  · exact hQ _
  · exact ⟨0, rfl⟩

end Cert.StepMem

end
-- ==== Proof.StepMemBlock.lean ====
module

public import proofs.«01_k».proof.Proof.StepMemMath
public import proofs.«01_k».proof.Proof.Gen.Kernel15Ideal.Value
public import Idealize.ShloMosaic.Lib.Pipeline.ValueKit
public import Idealize.ShloMosaic.Lib.Pipeline.ValueKit.Held
public import Idealize.ShloMosaic.Lib.Claim
public import Idealize.ShloMosaic.Lib.Pipeline.ReadBack
public import Idealize.ShloMosaic.Lib.KernelVsHost
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.StepMem

open Cert.Kernel15Ideal Cert.Kernel15Ideal.Gen
open Cert.Mem

/-! ## What one grid point computes -/

/-- The masked scores of row `r` of one sequence. -/
def mscore (Q : Vec Ideal S1x8x128 .bf16) (K : Vec Ideal S1x1024x128 .f32) (r : Fin 8) (j : Fin 1024) : EReal :=
  if j.val % 4 = r.val % 4 then ∑ y : Fin 128, Q (ix3 0 r y) * K (ix3 0 j y) else Ideal.ofBits .f32 0xFF800000#32

/-- A selection by the mask: where the row and the key have the same head. -/
theorem select_at (r : Fin 8) (j : Fin 1024) (a b : EReal) :
    Scalar.select (k0_pay3 (ix2 r j)) a b = if j.val % 4 = r.val % 4 then a else b := by
  have h : ∀ n : ℕ, n < 1024 → IntOp.andi (BitVec.ofNat 32 n) 3#32 = BitVec.ofNat 32 (n % 4) := fun n hn => by
    apply BitVec.eq_of_toNat_eq
    show (BitVec.ofNat 32 n &&& 3#32).toNat = _
    rw [BitVec.toNat_and, BitVec.toNat_ofNat, BitVec.toNat_ofNat, BitVec.toNat_ofNat, Nat.mod_eq_of_lt (by omega),
      Nat.mod_eq_of_lt (a := n % 4) (by omega)]
    exact Nat.and_two_pow_sub_one_eq_mod n 2
  have e : k0_pay3 (ix2 r j) = IntOp.cmpi .eq (BitVec.ofNat 32 (j.val % 4)) (BitVec.ofNat 32 (r.val % 4)) := by
    rw [← h j.val j.isLt, ← h r.val (by omega)]
    pointwise [k0_pay3]
  have c : IntOp.cmpi .eq (BitVec.ofNat 32 (j.val % 4)) (BitVec.ofNat 32 (r.val % 4)) = 1#1 ↔ j.val % 4 = r.val % 4 := by
    word_cmp
  rw [e]
  by_cases hj : j.val % 4 = r.val % 4
  · exact (if_pos (c.2 hj)).trans (if_pos hj).symm
  · exact (if_neg fun h => hj (c.1 h)).trans (if_neg hj).symm

/-- What the point computes for one sequence: each row attends to all keys, masked. -/
theorem heads_at (Q : Vec Ideal S1x8x128 .bf16) (K V : Vec Ideal S1x1024x128 .f32) (r : Fin 8) (d : Fin 128) :
    k0_pay4 (F := Ideal) Q K V (ix3 0 r d)
      = ∑ j : Fin 1024, Ideal.div (weight (mscore Q K r) j) (∑ z, weight (mscore Q K r) z) * V (ix3 0 j d) := by
  pointwise [k0_pay4]
  simp only [select_at]
  rfl

/-- The block of a sequence and of its keys and values. -/
abbrev qslab (b : Fin 8) (h : ∀ a, (![b.val, 0, 0] : Fin 3 → ℕ) a + S1x8x128.size a ≤ S8x8x128.size a) : Rect S8x8x128 :=
  Rect.unit (s := S8x8x128) ![b.val, 0, 0] S1x8x128.size h

abbrev kslab (b : Fin 8) (h : ∀ a, (![b.val, 0, 0] : Fin 3 → ℕ) a + S1x1024x128.size a ≤ S8x1024x128.size a) : Rect S8x1024x128 :=
  Rect.unit (s := S8x1024x128) ![b.val, 0, 0] S1x1024x128.size h

/-- The masked scores of row `r` of sequence `b` of a block. -/
def bscore (Q : Vec Ideal S8x8x128 .bf16) (K : Vec Ideal S8x1024x128 .f32) (b r : Fin 8) (j : Fin 1024) : EReal :=
  if j.val % 4 = r.val % 4 then ∑ y : Fin 128, Q (ix3 b r y) * K (ix3 b j y) else Ideal.ofBits .f32 0xFF800000#32

/-- What the point computes for eight sequences. -/
def blockOut (Q : Vec Ideal S8x8x128 .bf16) (K V : Vec Ideal S8x1024x128 .f32) : Vec Ideal S8x8x128 .f32 := fun i =>
  ∑ j : Fin 1024, Ideal.div (weight (bscore Q K (i 0) (i 1)) j) (∑ z, weight (bscore Q K (i 0) (i 1)) z) * V (ix3 (i 0) j (i 2))

/-- An entry of a sequence's block lies in the block of eight at the sequence's place: queries, -/
theorem qslab_emb (b : Fin 8) (h) (r : Fin 8) (y : Fin 128) : (qslab b h).emb (ix3 0 r y) = ix3 b r y := by
  funext a
  fin_cases a <;> apply Fin.ext <;> blk_simp <;> rfl

/-- and keys or values. -/
theorem kslab_emb (b : Fin 8) (h) (j : Fin 1024) (y : Fin 128) : (kslab b h).emb (ix3 0 j y) = ix3 b j y := by
  funext a
  fin_cases a <;> apply Fin.ext <;> blk_simp <;> rfl

/-- What it stores for sequence `b`. -/
theorem slab_at (Q : Vec Ideal S8x8x128 .bf16) (K V : Vec Ideal S8x1024x128 .f32) (b : Fin 8) (hq) (hk) (x : S1x8x128.Idx) :
    k0_pay4 (F := Ideal) (View.ld Q (qslab b hq)) (View.ld K (kslab b hk)) (View.ld V (kslab b hk)) x
      = blockOut Q K V ((qslab b hq).emb x) := by
  idx_vars x
  have h0 : x0 = 0 := Fin.ext (by omega)
  subst h0
  rw [qslab_emb]
  refine (heads_at _ _ _ _ _).trans ?_
  have eq : ∀ (r : Fin 8) (y : Fin 128), View.ld Q (qslab b hq) (ix3 0 r y) = Q (ix3 b r y) :=
    fun r y => congrArg Q (qslab_emb b hq r y)
  have ek : ∀ (j : Fin 1024) (y : Fin 128), View.ld K (kslab b hk) (ix3 0 j y) = K (ix3 b j y) :=
    fun j y => congrArg K (kslab_emb b hk j y)
  have ev : ∀ (j : Fin 1024) (y : Fin 128), View.ld V (kslab b hk) (ix3 0 j y) = V (ix3 b j y) :=
    fun j y => congrArg V (kslab_emb b hk j y)
  have es : mscore (View.ld Q (qslab b hq)) (View.ld K (kslab b hk)) x1 = bscore Q K b x1 := by
    funext j
    unfold mscore bscore
    simp only [eq, ek]
  rw [es]
  simp only [ev]
  rfl

/-- The eight stores, whole. -/
theorem out_at (Q : Vec Ideal S8x8x128 .bf16) (K V : Vec Ideal S8x1024x128 .f32) (i : S8x8x128.Idx) :
    out0_3 (F := Ideal) Q K V i = blockOut Q K V i := by
  refine View.canon_apply_of_pieces (blockOut Q K V) _ ?_ i (cover0_3 _ _ _ _ _ _ _ _ i)
  simp only [List.forall_mem_cons, List.not_mem_nil, false_imp_iff, implies_true, and_true]
  exact ⟨slab_at Q K V 7 _ _, slab_at Q K V 6 _ _, slab_at Q K V 5 _ _, slab_at Q K V 4 _ _, slab_at Q K V 3 _ _,
    slab_at Q K V 2 _ _, slab_at Q K V 1 _ _, slab_at Q K V 0 _ _⟩

end Cert.StepMem

end
-- ==== Proof.StepMemRef.lean ====
module

public import proofs.«01_k».proof.Proof.StepMemMath
public import proofs.«01_k».proof.Proof.FfnMath
public import proofs.«01_k».proof.Proof.Gen.Reference15Ideal.Read
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.StepMem

open Cert.Reference15Ideal Cert.Reference15Ideal.Gen Cert.Reference15Ideal.Read
open Cert.Mem
open Cert.Ffn (fill_zero)

variable (Q : FVec Ideal S32x512 .f32) (K V : FVec Ideal S32x256x4x128 .f32)

/-- The reference's queries. -/
theorem query_at (b : Fin 32) (r : Fin 8) (y : Fin 128) : val_main_v1 (F := Ideal) Q (ix4 b 0 r y) = qrow Q b r y := by
  pointwise [val_main_v1, val_main_v0, val_main_call0_v0, val_main_c]
  rw [fill_zero]
  rfl

/-- The reference's keys, repeated for the rows that fill, -/
theorem key_at (b : Fin 32) (x : Fin 256) (r : Fin 8) (y : Fin 128) :
    val_main_v2 (F := Ideal) K (ix4 b x r y) = K (ix4 b x (headR r) y) := by
  pointwise [val_main_v2]
  unfold headR
  split
  · exact congrArg (fun h => K (ix4 b x h y)) (Fin.ext (Nat.mod_eq_of_lt (by omega)).symm)
  · exact congrArg (fun h => K (ix4 b x h y)) (Fin.ext (by dsimp only; omega))

/-- and its values. -/
theorem value_at (b : Fin 32) (x : Fin 256) (r : Fin 8) (y : Fin 128) :
    val_main_v3 (F := Ideal) V (ix4 b x r y) = V (ix4 b x (headR r) y) := key_at V b x r y

/-- The reference's score at an index. -/
theorem scores_at (b : Fin 32) (r : Fin 8) (x : Fin 256) :
    val_main_v6 (F := Ideal) Q K (ix4 b r 0 x) = scores Q K b r x := by
  pointwise [val_main_v6, val_main_v5, val_main_v4, val_main_cst]
  simp only [query_at, key_at]
  rfl

/-- The largest score of a row. -/
theorem max_at (S : FVec Ideal S32x8x1x256 .f32) (b : Fin 32) (r : Fin 8) :
    Host.reduce FloatOps.maximumf S (constant S_ .f32 0xFF800000#32) reducesTo_S32x8x1x256_S32x8x1_d3 h_S_ (ix3 b r 0)
      = Finset.univ.fold max (Ideal.ofBits .f32 0xFF800000#32) fun x => S (ix4 b r 0 x) := by
  pointwise

/-- The largest score, repeated along its row. -/
theorem spread_at (M : FVec Ideal S32x8x1 .f32) (b : Fin 32) (r : Fin 8) (x : Fin 256) :
    (broadcastInDim S32x8x1x256 ![0, 1, 2, 3] bcast_S32x8x1x1_S32x8x1x256_0_1_2_3
      (broadcastInDim S32x8x1x1 ![0, 1, 2] bcast_S32x8x1_S32x8x1x1_0_1_2
        (maximumf (val_main_v8 (F := Ideal)) M)) : FVec Ideal S32x8x1x256 .f32) (ix4 b r 0 x)
      = max (Ideal.ofBits .f32 0xFF800000#32) (M (ix3 b r 0)) := by
  pointwise [val_main_v8, val_main_cst_1]

/-- The reference's exponential of a score less the largest. -/
theorem weight_at (b : Fin 32) (r : Fin 8) (x : Fin 256) :
    val_main_v13 (F := Ideal) Q K (ix4 b r 0 x) = weight (scores Q K b r) x := by
  unfold weight
  rw [val_main_v13_apply, val_main_v12_apply, ← funext (scores_at Q K b r)]
  refine congrArg (fun M => Ideal.exp (val_main_v6 (F := Ideal) Q K (ix4 b r 0 x) - M)) ?_
  unfold val_main_v11 val_main_v10 val_main_v9
  rw [spread_at]
  unfold val_main_v7 val_main_cst_0
  rw [max_at, start_bot, max_bot_left]

/-- The reference's result at an index. -/
theorem result_at (b : Fin 32) (r : Fin 8) (d : Fin 128) : val_main_v20 (F := Ideal) Q K V (ix3 b r d)
    = attendR (scores Q K b r) fun x => V (ix4 b x (headR r) d) := by
  pointwise [val_main_v20, val_main_v19, val_main_v18, val_main_v17, val_main_v16, val_main_v15, val_main_v14, val_main_cst_2]
  simp only [weight_at, value_at]
  rfl

end Cert.StepMem

end
-- ==== Proof.StepMemArray.lean ====
module

public import proofs.«01_k».proof.Proof.StepMemBlock
public import proofs.«01_k».proof.Proof.StepMemRef
public import proofs.«01_k».proof.Proof.FfnMath
public import proofs.«01_k».proof.Proof.Gen.Kernel15Ideal.Value
public import Idealize.ShloMosaic.Lib.Pipeline.ValueKit
public import Idealize.ShloMosaic.Lib.Pipeline.ValueKit.Held
public import Idealize.ShloMosaic.Lib.Claim
public import Idealize.ShloMosaic.Lib.Pipeline.ReadBack
public import Idealize.ShloMosaic.Lib.KernelVsHost
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.StepMem

open Cert.Kernel15Ideal Cert.Kernel15Ideal.Gen Cert.Reference15Ideal.Read
open Cert.Mem
open Cert.Ffn (fill_zero)

variable (m : (ℓ : Loc nD τ sig) → Buf (Elt Ideal) ℓ)

/-- The arguments: the queries, -/
def aQ (c : Dev nD) : FVec Ideal S32x512 .f32 := m ((c : Thread nD τ).loc main_arg0)
/-- the keys, -/
def aK (c : Dev nD) : FVec Ideal S32x256x4x128 .f32 := m ((c : Thread nD τ).loc main_arg1)
/-- and the values. -/
def aV (c : Dev nD) : FVec Ideal S32x256x4x128 .f32 := m ((c : Thread nD τ).loc main_arg2)

/-- Which block each window stages at grid point `t`: the sequences' block is `t`. -/
theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-! ## The arrays the call is given -/

/-- The queries: scaled, and filled to eight rows with zeros. -/
theorem query_in (c : Dev nD) (b : Fin 32) (r : Fin 8) (y : Fin 128) :
    (show FVec Ideal S32x8x128 .bf16 from V m c main_v6) (ix3 b r y) = qrow (aQ m c) b r y * Ideal.ofBits .f32 0x3DB504F3#32 := by
  have h : (show FVec Ideal S32x8x128 .bf16 from V m c main_v6) = truncf .bf16 (pad S32x8x128 ![0, 0, 0] ![0, 4, 0] ![0, 0, 0]
      (shapeCast S32x4x128 (mulf (aQ m c) (broadcastInDim S32x512 ![] bcast_S_S32x512 (constant S_ .f32 0x3DB504F3#32)))
        shapeCasts_S32x512_S32x4x128) (sitofp .f32 (constantI S_ 32 0#32)) pads_S32x4x128_S32x8x128_000_040_000 h_S_)
      bitsLt_bf16_f32 := by
    simp only [V, List.flatten_cons, List.flatten_nil, List.append_nil, StableHlo.after_append]
    after_reads_simp
    rfl
  rw [h]
  pointwise
  rw [fill_zero]
  unfold qrow aQ
  split
  · rfl
  · rw [zero_mul]

/-- The keys, a row for each key and head, -/
theorem key_in (c : Dev nD) (b : Fin 32) (j : Fin 1024) (y : Fin 128) :
    (show FVec Ideal S32x1024x128 .f32 from V m c main_v0) (ix3 b j y) = aK m c (ix4 b ⟨j.val / 4, by omega⟩ ⟨j.val % 4, by omega⟩ y) := by
  have h : (show FVec Ideal S32x1024x128 .f32 from V m c main_v0) = shapeCast S32x1024x128 (aK m c) rfl := by
    simp only [V, List.flatten_cons, List.flatten_nil, List.append_nil, StableHlo.after_append]
    after_reads_simp
    rfl
  rw [h]
  pointwise

/-- and the values. -/
theorem value_in (c : Dev nD) (b : Fin 32) (j : Fin 1024) (y : Fin 128) :
    (show FVec Ideal S32x1024x128 .f32 from V m c main_v1) (ix3 b j y) = aV m c (ix4 b ⟨j.val / 4, by omega⟩ ⟨j.val % 4, by omega⟩ y) := by
  have h : (show FVec Ideal S32x1024x128 .f32 from V m c main_v1) = shapeCast S32x1024x128 (aV m c) rfl := by
    simp only [V, List.flatten_cons, List.flatten_nil, List.append_nil, StableHlo.after_append]
    after_reads_simp
    rfl
  rw [h]
  pointwise

/-! ## The array after the run -/

/-- One row of a block against the same row of the arrays: the reference's, when each block's elements are the arrays'. -/
theorem row_eq (Q : Vec Ideal S8x8x128 .bf16) (K W : Vec Ideal S8x1024x128 .f32)
    (Q' : FVec Ideal S32x512 .f32) (K' W' : FVec Ideal S32x256x4x128 .f32) (hQ : ∀ i, IsReal (Q' i)) (hK : ∀ i, IsReal (K' i))
    (b : Fin 8) (b' : Fin 32) (r : Fin 8) (d : Fin 128)
    (r0 : ∀ y, Q (ix3 b r y) = qrow Q' b' r y * Ideal.ofBits .f32 0x3DB504F3#32)
    (r1 : ∀ j y, K (ix3 b j y) = K' (ix4 b' ⟨j.val / 4, by omega⟩ ⟨j.val % 4, by omega⟩ y))
    (r2 : ∀ j, W (ix3 b j d) = W' (ix4 b' ⟨j.val / 4, by omega⟩ ⟨j.val % 4, by omega⟩ d)) :
    ∑ j : Fin 1024, Ideal.div (weight (bscore Q K b r) j) (∑ z, weight (bscore Q K b r) z) * W (ix3 b j d)
      = attendR (scores Q' K' b' r) fun x => W' (ix4 b' x (headR r) d) := by
  have ex : ∀ x : Fin 256, (⟨(x.val * 4 + (headR r).val) / 4, by unfold headR; omega⟩ : Fin 256) = x := fun x =>
    Fin.ext (by unfold headR; dsimp only; omega)
  have eh : ∀ x : Fin 256, (⟨(x.val * 4 + (headR r).val) % 4, by omega⟩ : Fin 4) = headR r := fun x =>
    Fin.ext (by unfold headR; dsimp only; omega)
  refine masked_eq _ _ _ (fun j => W (ix3 b j d)) (headR r) (scores_real Q' K' hQ hK b' r) (fun x => ?_) (fun x => ?_) fun j hj => ?_
  · unfold bscore
    rw [if_pos (by unfold headR; dsimp only; omega)]
    simp only [r0, r1, ex, eh]
    exact scaled_score _ _
  · simp only [r2, ex, eh]
  · unfold bscore
    rw [if_neg (by simpa [headR] using hj), start_bot]

/-- The array after the run is the reference's result over the same arguments. -/
theorem array_eq (c : Dev nD) (hQ : ∀ i, IsReal (aQ m c i)) (hK : ∀ i, IsReal (aK m c i)) : (dats m 0 c).arrAt 3 cfg0.N
    = val_main_v20 (F := Ideal) (aQ m c) (aK m c) (aV m c) := by
  refine (dats m 0 c).arrAt_eq_of_covers 3 _ (by decide +kernel) fun t _ y => ?_
  blk_simp
  rw [after0_3]
  obtain ⟨e0, e1, e2, e3⟩ := idx t
  idx_bounds
  have h0 : ((((cfg0.win 3).blk t).view.emb y) 0).val = t.val * 8 + (y 0).val := by blk_simp [idx t]
  have h1 : ((((cfg0.win 3).blk t).view.emb y) 1).val = (y 1).val := by blk_simp [idx t]
  have h2 : ((((cfg0.win 3).blk t).view.emb y) 2).val = (y 2).val := by blk_simp [idx t]
  generalize ((cfg0.win 3).blk t).view.emb y = j at h0 h1 h2 ⊢
  idx_vars j
  obtain rfl : j1 = y 1 := Fin.ext h1
  obtain rfl : j2 = y 2 := Fin.ext h2
  refine Eq.trans ?_ (result_at _ _ _ _ _ _).symm
  refine (out_at (iblk m c 0 t) (iblk m c 1 t) (iblk m c 2 t) y).trans ?_
  refine row_eq (iblk m c 0 t) (iblk m c 1 t) (iblk m c 2 t) _ _ _ hQ hK (y 0) j0 (y 1) (y 2) (fun x => ?_) (fun k x => ?_) fun k => ?_
  · refine Eq.trans ?_ (query_in m c _ _ _)
    blk_ext [iblk, idx t]
  · refine Eq.trans ?_ (key_in m c _ _ _)
    blk_ext [iblk, idx t]
  · refine Eq.trans ?_ (value_in m c _ _ _)
    blk_ext [iblk, idx t]

end Cert.StepMem

end
-- ==== Proof.StepMemPre.lean ====
module

public import proofs.«01_k».proof.Defs
public import proofs.«01_k».proof.Proof.Gen.Pre_finite15
public import proofs.«01_k».proof.Proof.MemPre
public import Idealize.ShloMosaic.Lib.ReduceAll
public import Idealize.ShloMosaic.Lib.Pipeline.ValueKit

@[expose] public section

noncomputable section

open Idealize.ShloMosaic Idealize.ShloMosaic.TcCoe Idealize.SL.Sem

namespace Cert.StepMem

open Cert.Pre_finite15 Cert.Pre_finite15.Facts
open Cert.Mem

/-- The precondition says that the queries and the keys are real, element by element. -/
theorem real_of_pre (q : FVec Ideal S32x512 .f32) (k v : FVec Ideal S32x256x4x128 .f32)
    (h : Cert.Pre_finite15.fn (F := Ideal) q k v = fun _ => 1#1) : (∀ i, IsReal (q i)) ∧ ∀ i, IsReal (k i) := by
  have h0 := congrFun h (fun a => a.elim0)
  obtain ⟨hq, hk⟩ := IntOp.andi_eq_one.1 h0
  haveI : Subsingleton S_.Idx := ⟨fun a b => funext fun i => i.elim0⟩
  exact ⟨fun i => real_of_lt (Host.reduce_andi_all _ _ _ _ _ hq i),
    fun i => real_of_lt (Host.reduce_andi_all _ _ _ _ _ hk i)⟩

end Cert.StepMem

end
-- ==== Proof.StepMemClaim.lean ====
module

public import proofs.«01_k».proof.Defs
public import proofs.«01_k».proof.Proof.StepMemArray
public import proofs.«01_k».proof.Proof.StepMemPre

@[expose] public section

noncomputable section

open Idealize.ShloMosaic Idealize.ShloMosaic.TcCoe Idealize.SL.Sem

namespace Cert.StepMem

/-- The sample group's memory attention: its call returns the reference's array, from the same arguments, when the
    queries and the keys are real. -/
theorem claim : Cert.algebraic_Kernel15Ideal_Reference15Ideal_pre_finite15 := by
  intro m g m' g' hpre hagree
  have real := fun c => real_of_pre _ _ _ (hpre c)
  refine ⟨fun c => Cert.Reference15Ideal.Read.val_main_v20 (F := Ideal) (aQ m c) (aK m c) (aV m c), ?_, ?_⟩
  · exact (θ_run Cert.Kernel15Ideal.defs _ _).mono
      (fun _ h c => ⟨(h c).1.trans (array_eq m c (real c).1 (real c).2), (h c).2⟩) (Cert.Kernel15Ideal.Value.run_blocks m g)
  · refine (θ_run Cert.Reference15Ideal.defs _ _).mono (fun _ h c => ⟨(h c).1.trans ?_, (h c).2⟩)
      (Cert.Reference15Ideal.Value.run m' g')
    obtain ⟨e0, e1, e2⟩ := hagree c
    unfold aQ aK aV
    rw [Cert.Reference15Ideal.Read.val_main_v20_eq, e0, e1, e2]

end Cert.StepMem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.KernelIdeal.Value
public import proofs.«01_k».proof.Proof.Gen.Kernel3Ideal.Value
public import proofs.«01_k».proof.Proof.Gen.ReferenceIdeal.Run
public import proofs.«01_k».proof.Proof.Gen.Reference3Ideal.Run
public import proofs.«01_k».proof.Proof.Gen.Reference3Ideal.Read
public import proofs.«01_k».proof.Proof.MixClaim
public import proofs.«01_k».proof.Proof.InProjClaim
public import proofs.«01_k».proof.Proof.FfnBitsFrame
public import proofs.«01_k».proof.Proof.FfnClaim
public import proofs.«01_k».proof.Proof.OutProjClaim
public import proofs.«01_k».proof.Proof.Gen.Pre_finite5
public import proofs.«01_k».proof.Proof.Gen.Pre_finite15
public import proofs.«01_k».proof.Proof.MemClaim
public import proofs.«01_k».proof.Proof.MemKvClaim
public import proofs.«01_k».proof.Proof.FinalNormClaim
public import proofs.«01_k».proof.Proof.StepProjClaim
public import proofs.«01_k».proof.Proof.StepMixClaim
public import proofs.«01_k».proof.Proof.StepNormClaim
public import proofs.«01_k».proof.Proof.FfnStepClaim
public import proofs.«01_k».proof.Proof.StepOutClaim
public import proofs.«01_k».proof.Proof.MemQueryClaim
public import proofs.«01_k».proof.Proof.MemOutClaim
public import proofs.«01_k».proof.Proof.StepMemClaim
public import Idealize.ShloMosaic.Adequacy
public import Idealize.ShloMosaic.Init

@[expose] public section

noncomputable section

namespace Cert.Proof

open Idealize.ShloMosaic Idealize.SL.Sem Cert.Kernel

/-- The mixers' reference leaves its arguments as they were. -/
theorem frame_reference : Cert.quiescent_ReferenceIdeal := by
  intro m g _
  exact (θ_run Cert.ReferenceIdeal.defs _ _).mono
    (fun r h => ⟨fun c => (h c).2.2.2.2, sem_eq_zero_of_no_sems (by decide) r.2⟩) (Cert.ReferenceIdeal.Value.run m g)

/-- The feed-forward block's reference leaves its arguments as they were. -/
theorem frame_reference2 : Cert.quiescent_Reference2Ideal := by
  intro m g _
  exact (θ_run Cert.Reference2Ideal.defs _ _).mono
    (fun r h => ⟨fun c => (h c).2.2.2, sem_eq_zero_of_no_sems (by decide) r.2⟩) (Cert.Reference2Ideal.Value.run m g)

/-- The input projection's reference leaves its arguments as they were. -/
theorem frame_reference3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

/-- The output projection's reference leaves its arguments as they were. -/
theorem frame_reference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

/-- The memory attention's reference leaves its arguments as they were. -/
theorem frame_reference5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- The memory's keys and values: their reference leaves its arguments as they were. -/
theorem frame_reference6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

/-- The final norm's reference leaves its arguments as they were. -/
theorem frame_reference7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

/-- The sample group's input projection: its reference leaves its arguments as they were. -/
theorem frame_reference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The sample group's mixers: their reference leaves its arguments as they were. -/
theorem frame_reference9 : Cert.quiescent_Reference9Ideal := by
  intro m g _
  exact (θ_run Cert.Reference9Ideal.defs _ _).mono (fun r h => ⟨fun c => (h c).2.2.2.2, sem_eq_zero_of_no_sems (by decide) r.2⟩)
    (Cert.Reference9Ideal.Value.run m g)

/-- The sample group's final norm: its reference leaves its arguments as they were. -/
theorem frame_reference10 : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

/-- The sample group's feed-forward: its reference leaves its arguments as they were. -/
theorem frame_reference11 : Cert.quiescent_Reference11Ideal := by
  intro m g _
  exact (θ_run Cert.Reference11Ideal.defs _ _).mono (fun r h => ⟨fun c => (h c).2.2.2, sem_eq_zero_of_no_sems (by decide) r.2⟩)
    (Cert.Reference11Ideal.Value.run m g)

/-- The sample group's output projection: its reference leaves its arguments as they were. -/
theorem frame_reference12 : Cert.quiescent_Reference12Ideal := by
  intro m g _
  exact (θ_run Cert.Reference12Ideal.defs _ _).mono (fun r h => ⟨fun c => (h c).2, sem_eq_zero_of_no_sems (by decide) r.2⟩)
    (Cert.Reference12Ideal.Value.run m g)

/-- The sample group's memory queries: their reference leaves its arguments as they were. -/
theorem frame_reference13 : Cert.quiescent_Reference13Ideal := by
  intro m g _
  exact (θ_run Cert.Reference13Ideal.defs _ _).mono (fun r h => ⟨fun c => (h c).2, sem_eq_zero_of_no_sems (by decide) r.2⟩)
    (Cert.Reference13Ideal.Value.run m g)

/-- The sample group's memory output projection: its reference leaves its arguments as they were. -/
theorem frame_reference14 : Cert.quiescent_Reference14Ideal := by
  intro m g _
  exact (θ_run Cert.Reference14Ideal.defs _ _).mono (fun r h => ⟨fun c => (h c).2, sem_eq_zero_of_no_sems (by decide) r.2⟩)
    (Cert.Reference14Ideal.Value.run m g)

/-- The sample group's memory attention: its reference leaves its arguments as they were. -/
theorem frame_reference15 : Cert.quiescent_Reference15Ideal := by
  intro m g _
  exact (θ_run Cert.Reference15Ideal.defs _ _).mono (fun r h => ⟨fun c => (h c).2, sem_eq_zero_of_no_sems (by decide) r.2⟩)
    (Cert.Reference15Ideal.Value.run m g)

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite5.Gen.facts, Cert.Pre_finite15.Gen.facts,
  fun m ρ _ => Cert.Kernel.Gen.frame m ρ, fun m ρ _ => Cert.KernelIdeal.Gen.frame m ρ, frame_reference,
  fun m ρ _ => Cert.FfnBits.frame m ρ, fun m ρ _ => Cert.Ffn.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ,
  fun m ρ _ => Cert.Kernel5Ideal.Gen.frame m ρ, frame_reference5, fun m ρ _ => frame_reference5 m ρ trivial,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ,
  fun m ρ _ => Cert.Kernel15Ideal.Gen.frame m ρ, frame_reference15, fun m ρ _ => frame_reference15 m ρ trivial,
  trivial, Cert.Mix.claim, trivial, Cert.Ffn.claim, trivial, Cert.InProj.claim, trivial, Cert.OutProj.claim,
  trivial, Cert.Mem.claim, trivial, Cert.MemKv.claim, trivial, Cert.FinalNorm.claim, trivial, Cert.StepProj.claim,
  trivial, Cert.StepMix.claim, trivial, Cert.StepNorm.claim, trivial, Cert.FfnStep.claim,
  trivial, Cert.StepOut.claim, trivial, Cert.MemQuery.claim, trivial, Cert.MemOut.claim,
  trivial, Cert.StepMem.claim⟩

end Cert.Proof

end
